-- ==== Defs.lean ====
def Pre_Kernel [hPre_rows_laid_out : Cert.Pre_rows_laid_out.Facts] (m : (ℓ : Loc Cert.Kernel.nD Cert.Kernel.τ Cert.Kernel.sig) → Buf (Elt Bits) ℓ) : Prop :=
  ∀ c : Dev Cert.Kernel.nD,
    (Cert.Pre_rows_laid_out.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_laid_out : Cert.Pre_rows_laid_out.Facts] (m : (ℓ : Loc Cert.KernelIdeal.nD Cert.KernelIdeal.τ Cert.KernelIdeal.sig) → Buf (Elt Ideal) ℓ) : Prop :=
  ∀ c : Dev Cert.KernelIdeal.nD,
    (Cert.Pre_rows_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_rows_laid_out : Cert.Pre_rows_laid_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_blocks_named : Cert.Pre_blocks_named.Facts] (m : (ℓ : Loc Cert.Kernel2.nD Cert.Kernel2.τ Cert.Kernel2.sig) → Buf (Elt Bits) ℓ) : Prop :=
  ∀ c : Dev Cert.Kernel2.nD,
    (Cert.Pre_blocks_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_blocks_named : Cert.Pre_blocks_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_blocks_named : Cert.Pre_blocks_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_rows_laid_out : Cert.Pre_rows_laid_out.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_laid_out : Cert.Pre_rows_laid_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_rows_laid_out : Cert.Pre_rows_laid_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_blocks_named : Cert.Pre_blocks_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_blocks_named : Cert.Pre_blocks_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_blocks_named : Cert.Pre_blocks_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_laid_out : Cert.Pre_rows_laid_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_blocks_named : Cert.Pre_blocks_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_rows_laid_out : Cert.Pre_rows_laid_out.Facts) (hPre_blocks_named : Cert.Pre_blocks_named.Facts),
    quiescent_Kernel (hKernel := hKernel) (hPre_rows_laid_out := hPre_rows_laid_out)
    ∧ quiescent_KernelIdeal (hKernelIdeal := hKernelIdeal) (hPre_rows_laid_out := hPre_rows_laid_out)
    ∧ quiescent_ReferenceIdeal (hReferenceIdeal := hReferenceIdeal) (hPre_rows_laid_out := hPre_rows_laid_out)
    ∧ quiescent_Kernel2 (hKernel2 := hKernel2) (hPre_blocks_named := hPre_blocks_named)
    ∧ quiescent_Kernel2Ideal (hKernel2Ideal := hKernel2Ideal) (hPre_blocks_named := hPre_blocks_named)
    ∧ quiescent_Reference2Ideal (hReference2Ideal := hReference2Ideal) (hPre_blocks_named := hPre_blocks_named)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal) (hPre_rows_laid_out := hPre_rows_laid_out)
    ∧ preserves_Kernel2_Kernel2Ideal
    ∧ algebraic_Kernel2Ideal_Reference2Ideal (hKernel2Ideal := hKernel2Ideal) (hReference2Ideal := hReference2Ideal) (hPre_blocks_named := hPre_blocks_named)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_blocks_named.lean ====
abbrev S304 : Shape := ⟨1, ![304]⟩
abbrev S305 : Shape := ⟨1, ![305]⟩
abbrev S155648x2048 : Shape := ⟨2, ![155648, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S1 : Shape := ⟨1, ![1]⟩
abbrev S_ : Shape := ⟨0, ![]⟩

class Facts : Prop where
  slices_S305_S1_0 : S305.Slices ![0] S1
  shapeCasts_S1_S_ : S1.ShapeCasts S_
  bcast_S_S304 : S_.BroadcastsInDim S304 (![] : Fin 0 → Fin S304.rank)
  reducesTo_S304_S_d0 : S304.ReducesTo [0] S_
  h_S_ : 0 < S_.numel

variable [Facts]

def fn {F : FTy → Type} [FloatOps F] (main_arg0 : IVec S304 32) (main_arg1 : IVec S305 32) (main_arg2 : FVec F S155648x2048 .f32) (main_arg3 : FVec F S32x2048x4096 .f32) (main_arg4 : FVec F S32x4096 .f32) (main_arg5 : FVec F S32x2048x2048 .f32) (main_arg6 : FVec F S32x2048 .f32) : IVec S_ 1 :=
  let main_v0 : IVec S1 32 := (extractStridedSlice S1 ![0] · slices_S305_S1_0) main_arg1
  let main_v1 : IVec S_ 32 := shapeCast S_ main_v0 shapeCasts_S1_S_
  let main_c : IVec S_ 32 := constantI S_ 32 0#32
  let main_v2 : IVec S304 32 := broadcastInDim S304 ![] bcast_S_S304 main_c
  let main_v3 : IVec S304 1 := cmpi .sge main_arg0 main_v2
  let main_c_0 : IVec S_ 32 := constantI S_ 32 32#32
  let main_v4 : IVec S304 32 := broadcastInDim S304 ![] bcast_S_S304 main_c_0
  let main_v5 : IVec S304 1 := cmpi .slt main_arg0 main_v4
  let main_v6 : IVec S304 1 := andi main_v3 main_v5
  let main_v7 : IVec S304 32 := iotaInDim S304 32 0
  let main_v8 : IVec S304 32 := broadcastInDim S304 ![] bcast_S_S304 main_v1
  let main_v9 : IVec S304 1 := cmpi .sge main_v7 main_v8
  let main_v10 : IVec S304 1 := ori main_v6 main_v9
  let main_c_1 : IVec S_ 1 := constantI S_ 1 1#1
  let main_v11 : IVec S_ 1 := (fun x v => Host.reduce IntOp.andi x v reducesTo_S304_S_d0 h_S_) main_v10 main_c_1
  let main_c_2 : IVec S_ 32 := constantI S_ 32 1#32
  let main_v12 : IVec S_ 1 := cmpi .sge main_v1 main_c_2
  let main_v13 : IVec S_ 1 := andi main_v11 main_v12
  main_v13
-- ==== Pre_rows_laid_out.lean ====
abbrev S33 : Shape := ⟨1, ![33]⟩
abbrev S139264 : Shape := ⟨1, ![139264]⟩
abbrev S2048 : Shape := ⟨1, ![2048]⟩
abbrev S32768x2048 : Shape := ⟨2, ![32768, 2048]⟩
abbrev S2048x2048 : Shape := ⟨2, ![2048, 2048]⟩
abbrev S155648 : Shape := ⟨1, ![155648]⟩
abbrev S32 : Shape := ⟨1, ![32]⟩
abbrev S_ : Shape := ⟨0, ![]⟩
abbrev S139264x1 : Shape := ⟨2, ![139264, 1]⟩
abbrev S1 : Shape := ⟨1, ![1]⟩
abbrev S32x1 : Shape := ⟨2, ![32, 1]⟩
abbrev S1x32 : Shape := ⟨2, ![1, 32]⟩
abbrev S32x32 : Shape := ⟨2, ![32, 32]⟩
abbrev S155648x1 : Shape := ⟨2, ![155648, 1]⟩
abbrev S155648x32 : Shape := ⟨2, ![155648, 32]⟩

class Facts : Prop where
  slices_S33_S32_0 : S33.Slices ![0] S32
  bcast_S_S155648 : S_.BroadcastsInDim S155648 (![] : Fin 0 → Fin S155648.rank)
  bcast_S_S139264 : S_.BroadcastsInDim S139264 (![] : Fin 0 → Fin S139264.rank)
  bcast_S139264_S139264x1_0 : S139264.BroadcastsInDim S139264x1 (![0] : Fin 1 → Fin S139264x1.rank)
  reducesTo_S139264_S_d0 : S139264.ReducesTo [0] S_
  h_S_ : 0 < S_.numel
  bcast_S_S32 : S_.BroadcastsInDim S32 (![] : Fin 0 → Fin S32.rank)
  slices_S33_S1_32 : S33.Slices ![32] S1
  bcast_S_S1 : S_.BroadcastsInDim S1 (![] : Fin 0 → Fin S1.rank)
  bcast_S1_S32_0 : S1.BroadcastsInDim S32 (![0] : Fin 1 → Fin S32.rank)
  reducesTo_S32_S_d0 : S32.ReducesTo [0] S_
  bcast_S32_S32x1_0 : S32.BroadcastsInDim S32x1 (![0] : Fin 1 → Fin S32x1.rank)
  bcast_S_S32x1 : S_.BroadcastsInDim S32x1 (![] : Fin 0 → Fin S32x1.rank)
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  reducesTo_S32x32_S_d0_1 : S32x32.ReducesTo [0, 1] S_
  bcast_S155648_S155648x1_0 : S155648.BroadcastsInDim S155648x1 (![0] : Fin 1 → Fin S155648x1.rank)
  bcast_S_S1x32 : S_.BroadcastsInDim S1x32 (![] : Fin 0 → Fin S1x32.rank)
  bcast_S1x32_S155648x32_0_1 : S1x32.BroadcastsInDim S155648x32 (![0, 1] : Fin 2 → Fin S155648x32.rank)
  bcast_S155648x1_S155648x32_0_1 : S155648x1.BroadcastsInDim S155648x32 (![0, 1] : Fin 2 → Fin S155648x32.rank)
  reducesTo_S155648x32_S155648_d1 : S155648x32.ReducesTo [1] S155648
  bcast_S1_S155648_0 : S1.BroadcastsInDim S155648 (![0] : Fin 1 → Fin S155648.rank)
  reducesTo_S155648_S_d0 : S155648.ReducesTo [0] S_
  scatter_S155648_S139264x1_S139264_n_0_0_1_wf : ScatterDims.WF S155648 S139264x1 S139264 [] [0] [0] 1
  gather_S155648_S139264x1_S139264_n_0_n_n_0_1_1_wf : GatherDims.WF S155648 S139264x1 S139264 [] [0] [] [0] [] 1 ![1]
  gather_S139264_S155648x1_S155648_n_0_n_n_0_1_1_wf : GatherDims.WF S139264 S155648x1 S155648 [] [0] [] [0] [] 1 ![1]

variable [Facts]

def scatter_S155648_S139264x1_S139264_n_0_0_1 : ScatterDims S155648 S139264x1 S139264 where
  updateWindowDims := []
  insertedWindowDims := [0]
  scatterDimsToOperandDims := [0]
  indexVectorDim := 1
  wf := scatter_S155648_S139264x1_S139264_n_0_0_1_wf
def gather_S155648_S139264x1_S139264_n_0_n_n_0_1_1 : GatherDims S155648 S139264x1 S139264 where
  offsetDims := []
  collapsedSliceDims := [0]
  operandBatchingDims := []
  startIndicesBatchingDims := []
  startIndexMap := [0]
  indexVectorDim := 1
  sliceSizes := ![1]
  wf := gather_S155648_S139264x1_S139264_n_0_n_n_0_1_1_wf
def gather_S139264_S155648x1_S155648_n_0_n_n_0_1_1 : GatherDims S139264 S155648x1 S155648 where
  offsetDims := []
  collapsedSliceDims := [0]
  operandBatchingDims := []
  startIndicesBatchingDims := []
  startIndexMap := [0]
  indexVectorDim := 1
  sliceSizes := ![1]
  wf := gather_S139264_S155648x1_S155648_n_0_n_n_0_1_1_wf
def fn_part5 {F : FTy → Type} [FloatOps F] (main_v1 : IVec S155648 32) (main_v17 : IVec S_ 1) (main_v26 : IVec S_ 1) (main_v40 : IVec S_ 1) (main_v57 : IVec S_ 1) (main_v64 : IVec S1 1) (main_v92 : IVec S155648 1) (main_v95 : IVec S1 32) : IVec S1 1 :=
  let main_v96 : IVec S155648 32 := broadcastInDim S155648 ![0] bcast_S1_S155648_0 main_v95
  let main_v97 : IVec S155648 1 := cmpi .sge main_v1 main_v96
  let main_v98 : IVec S155648 1 := ori main_v92 main_v97
  let main_c_23 : IVec S_ 1 := constantI S_ 1 1#1
  let main_v99 : IVec S_ 1 := (fun x v => Host.reduce IntOp.andi x v reducesTo_S155648_S_d0 h_S_) main_v98 main_c_23
  let main_v100 : IVec S_ 1 := andi main_v17 main_v26
  let main_v101 : IVec S_ 1 := andi main_v100 main_v40
  let main_v102 : IVec S_ 1 := andi main_v101 main_v57
  let main_v103 : IVec S1 1 := broadcastInDim S1 ![] bcast_S_S1 main_v102
  let main_v104 : IVec S1 1 := andi main_v103 main_v64
  let main_v105 : IVec S1 1 := broadcastInDim S1 ![] bcast_S_S1 main_v99
  let main_v106 : IVec S1 1 := andi main_v104 main_v105
  main_v106

def fn_part4 {F : FTy → Type} [FloatOps F] (main_arg0 : IVec S33 32) (main_v1 : IVec S155648 32) (main_v3 : IVec S32 32) (main_v17 : IVec S_ 1) (main_v26 : IVec S_ 1) (main_v40 : IVec S_ 1) (main_v57 : IVec S_ 1) (main_v64 : IVec S1 1) (main_v72 : IVec S155648 1) (main_v73 : IVec S1x32 32) (main_v74 : IVec S1x32 32) : IVec S1 1 :=
  let main_v75 : IVec S1x32 1 := cmpi .sge main_v73 main_v74
  let main_v76 : IVec S1x32 32 := broadcastInDim S1x32 ![1] bcast_S32_S1x32_1 main_v3
  let main_v77 : IVec S155648x1 32 := broadcastInDim S155648x1 ![0] bcast_S155648_S155648x1_0 main_v1
  let main_v78 : IVec S155648x32 32 := broadcastInDim S155648x32 ![0, 1] bcast_S1x32_S155648x32_0_1 main_v76
  let main_v79 : IVec S155648x32 32 := broadcastInDim S155648x32 ![0, 1] bcast_S155648x1_S155648x32_0_1 main_v77
  let main_v80 : IVec S155648x32 1 := cmpi .sle main_v78 main_v79
  let main_v81 : IVec S155648x32 1 := broadcastInDim S155648x32 ![0, 1] bcast_S1x32_S155648x32_0_1 main_v75
  let main_v82 : IVec S155648x32 1 := andi main_v81 main_v80
  let main_v83 : IVec S155648x1 32 := broadcastInDim S155648x1 ![0] bcast_S155648_S155648x1_0 main_v1
  let main_v84 : IVec S1x32 32 := broadcastInDim S1x32 ![1] bcast_S32_S1x32_1 main_v3
  let main_c_20 : IVec S_ 32 := constantI S_ 32 512#32
  let main_v85 : IVec S1x32 32 := broadcastInDim S1x32 ![] bcast_S_S1x32 main_c_20
  let main_v86 : IVec S1x32 32 := addi main_v84 main_v85
  let main_v87 : IVec S155648x32 32 := broadcastInDim S155648x32 ![0, 1] bcast_S155648x1_S155648x32_0_1 main_v83
  let main_v88 : IVec S155648x32 32 := broadcastInDim S155648x32 ![0, 1] bcast_S1x32_S155648x32_0_1 main_v86
  let main_v89 : IVec S155648x32 1 := cmpi .slt main_v87 main_v88
  let main_v90 : IVec S155648x32 1 := andi main_v82 main_v89
  let main_c_21 : IVec S_ 1 := constantI S_ 1 0#1
  let main_v91 : IVec S155648 1 := (fun x v => Host.reduce IntOp.ori x v reducesTo_S155648x32_S155648_d1 h_S_) main_v90 main_c_21
  let main_v92 : IVec S155648 1 := ori main_v72 main_v91
  let main_v93 : IVec S1 32 := (extractStridedSlice S1 ![32] · slices_S33_S1_32) main_arg0
  let main_c_22 : IVec S_ 32 := constantI S_ 32 512#32
  let main_v94 : IVec S1 32 := broadcastInDim S1 ![] bcast_S_S1 main_c_22
  let main_v95 : IVec S1 32 := muli main_v93 main_v94
  fn_part5 (F := F) main_v1 main_v17 main_v26 main_v40 main_v57 main_v64 main_v92 main_v95

def fn_part3 {F : FTy → Type} [FloatOps F] (main_arg0 : IVec S33 32) (main_arg1 : IVec S139264 32) (main_v1 : IVec S155648 32) (main_v3 : IVec S32 32) (main_v11 : IVec S155648 32) (main_v17 : IVec S_ 1) (main_v26 : IVec S_ 1) (main_v40 : IVec S_ 1) (main_v56 : IVec S32x32 1) : IVec S1 1 :=
  let main_c_14 : IVec S_ 1 := constantI S_ 1 1#1
  let main_v57 : IVec S_ 1 := (fun x v => Host.reduce IntOp.andi x v reducesTo_S32x32_S_d0_1 h_S_) main_v56 main_c_14
  let main_v58 : IVec S1 32 := (extractStridedSlice S1 ![32] · slices_S33_S1_32) main_arg0
  let main_c_15 : IVec S_ 32 := constantI S_ 32 0#32
  let main_v59 : IVec S1 32 := broadcastInDim S1 ![] bcast_S_S1 main_c_15
  let main_v60 : IVec S1 1 := cmpi .sge main_v58 main_v59
  let main_v61 : IVec S1 32 := (extractStridedSlice S1 ![32] · slices_S33_S1_32) main_arg0
  let main_c_16 : IVec S_ 32 := constantI S_ 32 304#32
  let main_v62 : IVec S1 32 := broadcastInDim S1 ![] bcast_S_S1 main_c_16
  let main_v63 : IVec S1 1 := cmpi .sle main_v61 main_v62
  let main_v64 : IVec S1 1 := andi main_v60 main_v63
  let main_c_17 : IVec S_ 32 := constantI S_ 32 0#32
  let main_v65 : IVec S155648 32 := broadcastInDim S155648 ![] bcast_S_S155648 main_c_17
  let main_v66 : IVec S155648 1 := cmpi .slt main_v11 main_v65
  let main_c_18 : IVec S_ 32 := constantI S_ 32 139264#32
  let main_v67 : IVec S155648 32 := broadcastInDim S155648 ![] bcast_S_S155648 main_c_18
  let main_v68 : IVec S155648 32 := addi main_v11 main_v67
  let main_v69 : IVec S155648 32 := select main_v66 main_v68 main_v11
  let main_v70 : IVec S155648x1 32 := broadcastInDim S155648x1 ![0] bcast_S155648_S155648x1_0 main_v69
  let main_v71 : IVec S155648 32 := (fun x i => Host.gather gather_S139264_S155648x1_S155648_n_0_n_n_0_1_1 x i) main_arg1 main_v70
  let main_v72 : IVec S155648 1 := cmpi .eq main_v71 main_v1
  let main_v73 : IVec S1x32 32 := broadcastInDim S1x32 ![1] bcast_S32_S1x32_1 main_v3
  let main_c_19 : IVec S_ 32 := constantI S_ 32 0#32
  let main_v74 : IVec S1x32 32 := broadcastInDim S1x32 ![] bcast_S_S1x32 main_c_19
  fn_part4 (F := F) main_arg0 main_v1 main_v3 main_v17 main_v26 main_v40 main_v57 main_v64 main_v72 main_v73 main_v74

def fn_part2 {F : FTy → Type} [FloatOps F] (main_arg0 : IVec S33 32) (main_arg1 : IVec S139264 32) (main_v1 : IVec S155648 32) (main_v2 : IVec S32 32) (main_v3 : IVec S32 32) (main_v11 : IVec S155648 32) (main_v17 : IVec S_ 1) (main_v26 : IVec S_ 1) (main_v28 : IVec S32 1) (main_v32 : IVec S32 1) (main_v33 : IVec S1 32) (main_v34 : IVec S1 32) : IVec S1 1 :=
  let main_v35 : IVec S1 32 := muli main_v33 main_v34
  let main_v36 : IVec S32 32 := broadcastInDim S32 ![0] bcast_S1_S32_0 main_v35
  let main_v37 : IVec S32 1 := cmpi .slt main_v3 main_v36
  let main_v38 : IVec S32 1 := andi main_v32 main_v37
  let main_v39 : IVec S32 1 := ori main_v28 main_v38
  let main_c_12 : IVec S_ 1 := constantI S_ 1 1#1
  let main_v40 : IVec S_ 1 := (fun x v => Host.reduce IntOp.andi x v reducesTo_S32_S_d0 h_S_) main_v39 main_c_12
  let main_v41 : IVec S32x1 32 := broadcastInDim S32x1 ![0] bcast_S32_S32x1_0 main_v3
  let main_c_13 : IVec S_ 32 := constantI S_ 32 0#32
  let main_v42 : IVec S32x1 32 := broadcastInDim S32x1 ![] bcast_S_S32x1 main_c_13
  let main_v43 : IVec S32x1 1 := cmpi .slt main_v41 main_v42
  let main_v44 : IVec S32x1 32 := broadcastInDim S32x1 ![0] bcast_S32_S32x1_0 main_v3
  let main_v45 : IVec S1x32 32 := broadcastInDim S1x32 ![1] bcast_S32_S1x32_1 main_v3
  let main_v46 : IVec S32x32 32 := broadcastInDim S32x32 ![0, 1] bcast_S32x1_S32x32_0_1 main_v44
  let main_v47 : IVec S32x32 32 := broadcastInDim S32x32 ![0, 1] bcast_S1x32_S32x32_0_1 main_v45
  let main_v48 : IVec S32x32 1 := cmpi .ne main_v46 main_v47
  let main_v49 : IVec S32x32 1 := broadcastInDim S32x32 ![0, 1] bcast_S32x1_S32x32_0_1 main_v43
  let main_v50 : IVec S32x32 1 := ori main_v49 main_v48
  let main_v51 : IVec S32x1 32 := broadcastInDim S32x1 ![0] bcast_S32_S32x1_0 main_v2
  let main_v52 : IVec S1x32 32 := broadcastInDim S1x32 ![1] bcast_S32_S1x32_1 main_v2
  let main_v53 : IVec S32x32 32 := broadcastInDim S32x32 ![0, 1] bcast_S32x1_S32x32_0_1 main_v51
  let main_v54 : IVec S32x32 32 := broadcastInDim S32x32 ![0, 1] bcast_S1x32_S32x32_0_1 main_v52
  let main_v55 : IVec S32x32 1 := cmpi .eq main_v53 main_v54
  let main_v56 : IVec S32x32 1 := ori main_v50 main_v55
  fn_part3 (F := F) main_arg0 main_arg1 main_v1 main_v3 main_v11 main_v17 main_v26 main_v40 main_v56

def fn_part1 {F : FTy → Type} [FloatOps F] (main_arg0 : IVec S33 32) (main_arg1 : IVec S139264 32) (main_v0 : IVec S139264 32) (main_v1 : IVec S155648 32) (main_v2 : IVec S32 32) (main_v3 : IVec S32 32) (main_v11 : IVec S155648 32) (main_v17 : IVec S_ 1) : IVec S1 1 :=
  let main_c_5 : IVec S_ 32 := constantI S_ 32 0#32
  let main_v18 : IVec S139264 32 := broadcastInDim S139264 ![] bcast_S_S139264 main_c_5
  let main_v19 : IVec S139264 1 := cmpi .slt main_arg1 main_v18
  let main_c_6 : IVec S_ 32 := constantI S_ 32 155648#32
  let main_v20 : IVec S139264 32 := broadcastInDim S139264 ![] bcast_S_S139264 main_c_6
  let main_v21 : IVec S139264 32 := addi main_arg1 main_v20
  let main_v22 : IVec S139264 32 := select main_v19 main_v21 main_arg1
  let main_v23 : IVec S139264x1 32 := broadcastInDim S139264x1 ![0] bcast_S139264_S139264x1_0 main_v22
  let main_v24 : IVec S139264 32 := (fun x i => Host.gather gather_S155648_S139264x1_S139264_n_0_n_n_0_1_1 x i) main_v11 main_v23
  let main_v25 : IVec S139264 1 := cmpi .eq main_v24 main_v0
  let main_c_7 : IVec S_ 1 := constantI S_ 1 1#1
  let main_v26 : IVec S_ 1 := (fun x v => Host.reduce IntOp.andi x v reducesTo_S139264_S_d0 h_S_) main_v25 main_c_7
  let main_c_8 : IVec S_ 32 := constantI S_ 32 0#32
  let main_v27 : IVec S32 32 := broadcastInDim S32 ![] bcast_S_S32 main_c_8
  let main_v28 : IVec S32 1 := cmpi .slt main_v3 main_v27
  let main_c_9 : IVec S_ 32 := constantI S_ 32 511#32
  let main_v29 : IVec S32 32 := broadcastInDim S32 ![] bcast_S_S32 main_c_9
  let main_v30 : IVec S32 32 := andi main_v3 main_v29
  let main_c_10 : IVec S_ 32 := constantI S_ 32 0#32
  let main_v31 : IVec S32 32 := broadcastInDim S32 ![] bcast_S_S32 main_c_10
  let main_v32 : IVec S32 1 := cmpi .eq main_v30 main_v31
  let main_v33 : IVec S1 32 := (extractStridedSlice S1 ![32] · slices_S33_S1_32) main_arg0
  let main_c_11 : IVec S_ 32 := constantI S_ 32 512#32
  let main_v34 : IVec S1 32 := broadcastInDim S1 ![] bcast_S_S1 main_c_11
  fn_part2 (F := F) main_arg0 main_arg1 main_v1 main_v2 main_v3 main_v11 main_v17 main_v26 main_v28 main_v32 main_v33 main_v34

def fn {F : FTy → Type} [FloatOps F] (main_arg0 : IVec S33 32) (main_arg1 : IVec S139264 32) (main_arg2 : FVec F S2048 .f32) (main_arg3 : FVec F S32768x2048 .f32) (main_arg4 : FVec F S2048x2048 .f32) : IVec S1 1 :=
  let main_v0 : IVec S139264 32 := iotaInDim S139264 32 0
  let main_v1 : IVec S155648 32 := iotaInDim S155648 32 0
  let main_v2 : IVec S32 32 := iotaInDim S32 32 0
  let main_v3 : IVec S32 32 := (extractStridedSlice S32 ![0] · slices_S33_S32_0) main_arg0
  let main_c : IVec S_ 32 := constantI S_ 32 0#32
  let main_v4 : IVec S155648 32 := broadcastInDim S155648 ![] bcast_S_S155648 main_c
  let main_c_0 : IVec S_ 32 := constantI S_ 32 0#32
  let main_v5 : IVec S139264 32 := broadcastInDim S139264 ![] bcast_S_S139264 main_c_0
  let main_v6 : IVec S139264 1 := cmpi .slt main_arg1 main_v5
  let main_c_1 : IVec S_ 32 := constantI S_ 32 155648#32
  let main_v7 : IVec S139264 32 := broadcastInDim S139264 ![] bcast_S_S139264 main_c_1
  let main_v8 : IVec S139264 32 := addi main_arg1 main_v7
  let main_v9 : IVec S139264 32 := select main_v6 main_v8 main_arg1
  let main_v10 : IVec S139264x1 32 := broadcastInDim S139264x1 ![0] bcast_S139264_S139264x1_0 main_v9
  let main_v11 : IVec S155648 32 := (fun x i u => Host.scatter scatter_S155648_S139264x1_S139264_n_0_0_1 (fun _ b => b) x i u) main_v4 main_v10 main_v0
  let main_c_2 : IVec S_ 32 := constantI S_ 32 0#32
  let main_v12 : IVec S139264 32 := broadcastInDim S139264 ![] bcast_S_S139264 main_c_2
  let main_v13 : IVec S139264 1 := cmpi .sge main_arg1 main_v12
  let main_c_3 : IVec S_ 32 := constantI S_ 32 155648#32
  let main_v14 : IVec S139264 32 := broadcastInDim S139264 ![] bcast_S_S139264 main_c_3
  let main_v15 : IVec S139264 1 := cmpi .slt main_arg1 main_v14
  let main_v16 : IVec S139264 1 := andi main_v13 main_v15
  let main_c_4 : IVec S_ 1 := constantI S_ 1 1#1
  let main_v17 : IVec S_ 1 := (fun x v => Host.reduce IntOp.andi x v reducesTo_S139264_S_d0 h_S_) main_v16 main_c_4
  fn_part1 (F := F) main_arg0 main_arg1 main_v0 main_v1 main_v2 main_v3 main_v11 main_v17
-- ==== Kernel.lean ====
abbrev S33 : Shape := ⟨1, ![33]⟩
abbrev S139264 : Shape := ⟨1, ![139264]⟩
abbrev S2048 : Shape := ⟨1, ![2048]⟩
abbrev S32768x2048 : Shape := ⟨2, ![32768, 2048]⟩
abbrev S2048x2048 : Shape := ⟨2, ![2048, 2048]⟩
abbrev S1x2048 : Shape := ⟨2, ![1, 2048]⟩
abbrev S155648x2048 : Shape := ⟨2, ![155648, 2048]⟩
abbrev S512x2048 : Shape := ⟨2, ![512, 2048]⟩
abbrev S2x512x2048 : Shape := ⟨3, ![2, 512, 2048]⟩
abbrev S2 : Shape := ⟨1, ![2]⟩
abbrev S_ : Shape := ⟨0, ![]⟩
abbrev S1 : Shape := ⟨1, ![1]⟩
abbrev S512 : Shape := ⟨1, ![512]⟩
abbrev S512x1 : Shape := ⟨2, ![512, 1]⟩
abbrev S1x512x2048 : Shape := ⟨3, ![1, 512, 2048]⟩
abbrev S1x1x2048 : Shape := ⟨3, ![1, 1, 2048]⟩

abbrev nBuf : Space → Nat
  | .hbm => 7
  | .vmem => 7
  | .smem => 3
  | _ => 0

abbrev bufTy : (tb : Table) → Fin (tcTables nBuf tb) → BufTy
  | .hbm, ⟨0, _⟩ => ⟨S33, .i32⟩
  | .hbm, ⟨1, _⟩ => ⟨S139264, .i32⟩
  | .hbm, ⟨2, _⟩ => ⟨S2048, .f32⟩
  | .hbm, ⟨3, _⟩ => ⟨S32768x2048, .f32⟩
  | .hbm, ⟨4, _⟩ => ⟨S2048x2048, .f32⟩
  | .hbm, ⟨5, _⟩ => ⟨S1x2048, .f32⟩
  | .hbm, ⟨6, _⟩ => ⟨S155648x2048, .f32⟩
  | .local _ .vmem, ⟨0, _⟩ => ⟨S1x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2x512x2048, .f32⟩
  | .local _ .smem, ⟨0, _⟩ => ⟨S33, .i32⟩
  | .local _ .smem, ⟨1, _⟩ => ⟨S2048, .i32⟩
  | .local _ .smem, ⟨2, _⟩ => ⟨S2048, .i32⟩
  | _, _ => ⟨S33, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_stg1_0 : Ref sig .tc := ⟨.smem, 1, rfl⟩
abbrev cc0_stg1_1 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![68], ![false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let v11 : BitVec 32 := Scalar.extui v10
  let c0_i32_4 : BitVec 32 := 0#32
  let v12 : BitVec 1 := Scalar.cmpi .ne v11 c0_i32_4
  v12

def k0_mult1 (v303 : BitVec 32) : BitVec 32 :=
  v303
def k0_cond2 (v35 : BitVec 32) : BitVec 1 :=
  let c0_i32_17 : BitVec 32 := 0#32
  let v36 : BitVec 1 := Scalar.cmpi .sge v35 c0_i32_17
  let v37 : BitVec 32 := Scalar.extui v36
  let c0_i32_18 : BitVec 32 := 0#32
  let v38 : BitVec 1 := Scalar.cmpi .ne v37 c0_i32_18
  v38

def k0_off1 (v303 : BitVec 32) : Fin 2 → Nat :=
  let v304 : BitVec 32 := v303
  let c0_i32_188 : BitVec 32 := 0#32
  ![v304.toNat, 0]

def k0_chk1 (i : grid0.Coords) (v35 : BitVec 32) (v303 : BitVec 32) : Prop :=
  (∀ (k0_h1 : k0_cond1 i = 1#1), ∀ (k0_h2 : k0_cond2 v35 = 1#1), 512 ∣ (k0_mult1 v303).toNat) ∧
  (∀ (k0_h1 : k0_cond1 i = 1#1), ∀ (k0_h2 : k0_cond2 v35 = 1#1), ∀ a, (k0_off1 v303) a + S512x2048.size a ≤ S155648x2048.size a)
theorem k0_mult1_dvd : ∀ (i : grid0.Coords) (v35 : BitVec 32) (v303 : BitVec 32) (k0_hw1 : k0_chk1 i v35 v303), ∀ (k0_h1 : k0_cond1 i = 1#1), ∀ (k0_h2 : k0_cond2 v35 = 1#1), 512 ∣ (k0_mult1 v303).toNat := fun i v35 v303 k0_hw1 k0_h1 k0_h2 => k0_hw1.1 k0_h1 k0_h2
theorem k0_off1_inb : ∀ (i : grid0.Coords) (v35 : BitVec 32) (v303 : BitVec 32) (k0_hw1 : k0_chk1 i v35 v303), ∀ (k0_h1 : k0_cond1 i = 1#1), ∀ (k0_h2 : k0_cond2 v35 = 1#1), ∀ a, (k0_off1 v303) a + S512x2048.size a ≤ S155648x2048.size a := fun i v35 v303 k0_hw1 k0_h1 k0_h2 => k0_hw1.2 k0_h1 k0_h2

def k0_mult2 (v303 : BitVec 32) : BitVec 32 :=
  v303
def k0_cond3 (v39 : BitVec 32) : BitVec 1 :=
  let c0_i32_19 : BitVec 32 := 0#32
  let v40 : BitVec 1 := Scalar.cmpi .sge v39 c0_i32_19
  let v41 : BitVec 32 := Scalar.extui v40
  let c0_i32_20 : BitVec 32 := 0#32
  let v42 : BitVec 1 := Scalar.cmpi .ne v41 c0_i32_20
  v42

def k0_off2 (v303 : BitVec 32) : Fin 2 → Nat :=
  let v304 : BitVec 32 := v303
  let c0_i32_188 : BitVec 32 := 0#32
  ![v304.toNat, 0]

def k0_chk2 (i : grid0.Coords) (v39 : BitVec 32) (v303 : BitVec 32) : Prop :=
  (∀ (k0_h1 : k0_cond1 i = 1#1), ∀ (k0_h3 : k0_cond3 v39 = 1#1), 512 ∣ (k0_mult2 v303).toNat) ∧
  (∀ (k0_h1 : k0_cond1 i = 1#1), ∀ (k0_h3 : k0_cond3 v39 = 1#1), ∀ a, (k0_off2 v303) a + S512x2048.size a ≤ S155648x2048.size a)
theorem k0_mult2_dvd : ∀ (i : grid0.Coords) (v39 : BitVec 32) (v303 : BitVec 32) (k0_hw2 : k0_chk2 i v39 v303), ∀ (k0_h1 : k0_cond1 i = 1#1), ∀ (k0_h3 : k0_cond3 v39 = 1#1), 512 ∣ (k0_mult2 v303).toNat := fun i v39 v303 k0_hw2 k0_h1 k0_h3 => k0_hw2.1 k0_h1 k0_h3
theorem k0_off2_inb : ∀ (i : grid0.Coords) (v39 : BitVec 32) (v303 : BitVec 32) (k0_hw2 : k0_chk2 i v39 v303), ∀ (k0_h1 : k0_cond1 i = 1#1), ∀ (k0_h3 : k0_cond3 v39 = 1#1), ∀ a, (k0_off2 v303) a + S512x2048.size a ≤ S155648x2048.size a := fun i v39 v303 k0_hw2 k0_h1 k0_h3 => k0_hw2.2 k0_h1 k0_h3

def k0_mult3 (v303 : BitVec 32) : BitVec 32 :=
  v303
def k0_cond4 (v43 : BitVec 32) : BitVec 1 :=
  let c0_i32_21 : BitVec 32 := 0#32
  let v44 : BitVec 1 := Scalar.cmpi .sge v43 c0_i32_21
  let v45 : BitVec 32 := Scalar.extui v44
  let c0_i32_22 : BitVec 32 := 0#32
  let v46 : BitVec 1 := Scalar.cmpi .ne v45 c0_i32_22
  v46

def k0_off3 (v303 : BitVec 32) : Fin 2 → Nat :=
  let v304 : BitVec 32 := v303
  let c0_i32_188 : BitVec 32 := 0#32
  ![v304.toNat, 0]

def k0_chk3 (i : grid0.Coords) (v43 : BitVec 32) (v303 : BitVec 32) : Prop :=
  (∀ (k0_h1 : k0_cond1 i = 1#1), ∀ (k0_h4 : k0_cond4 v43 = 1#1), 512 ∣ (k0_mult3 v303).toNat) ∧
  (∀ (k0_h1 : k0_cond1 i = 1#1), ∀ (k0_h4 : k0_cond4 v43 = 1#1), ∀ a, (k0_off3 v303) a + S512x2048.size a ≤ S155648x2048.size a)
theorem k0_mult3_dvd : ∀ (i : grid0.Coords) (v43 : BitVec 32) (v303 : BitVec 32) (k0_hw3 : k0_chk3 i v43 v303), ∀ (k0_h1 : k0_cond1 i = 1#1), ∀ (k0_h4 : k0_cond4 v43 = 1#1), 512 ∣ (k0_mult3 v303).toNat := fun i v43 v303 k0_hw3 k0_h1 k0_h4 => k0_hw3.1 k0_h1 k0_h4
theorem k0_off3_inb : ∀ (i : grid0.Coords) (v43 : BitVec 32) (v303 : BitVec 32) (k0_hw3 : k0_chk3 i v43 v303), ∀ (k0_h1 : k0_cond1 i = 1#1), ∀ (k0_h4 : k0_cond4 v43 = 1#1), ∀ a, (k0_off3 v303) a + S512x2048.size a ≤ S155648x2048.size a := fun i v43 v303 k0_hw3 k0_h1 k0_h4 => k0_hw3.2 k0_h1 k0_h4

def k0_mult4 (v303 : BitVec 32) : BitVec 32 :=
  v303
def k0_cond5 (v47 : BitVec 32) : BitVec 1 :=
  let c0_i32_23 : BitVec 32 := 0#32
  let v48 : BitVec 1 := Scalar.cmpi .sge v47 c0_i32_23
  let v49 : BitVec 32 := Scalar.extui v48
  let c0_i32_24 : BitVec 32 := 0#32
  let v50 : BitVec 1 := Scalar.cmpi .ne v49 c0_i32_24
  v50

def k0_off4 (v303 : BitVec 32) : Fin 2 → Nat :=
  let v304 : BitVec 32 := v303
  let c0_i32_188 : BitVec 32 := 0#32
  ![v304.toNat, 0]

def k0_chk4 (i : grid0.Coords) (v47 : BitVec 32) (v303 : BitVec 32) : Prop :=
  (∀ (k0_h1 : k0_cond1 i = 1#1), ∀ (k0_h5 : k0_cond5 v47 = 1#1), 512 ∣ (k0_mult4 v303).toNat) ∧
  (∀ (k0_h1 : k0_cond1 i = 1#1), ∀ (k0_h5 : k0_cond5 v47 = 1#1), ∀ a, (k0_off4 v303) a + S512x2048.size a ≤ S155648x2048.size a)
theorem k0_mult4_dvd : ∀ (i : grid0.Coords) (v47 : BitVec 32) (v303 : BitVec 32) (k0_hw4 : k0_chk4 i v47 v303), ∀ (k0_h1 : k0_cond1 i = 1#1), ∀ (k0_h5 : k0_cond5 v47 = 1#1), 512 ∣ (k0_mult4 v303).toNat := fun i v47 v303 k0_hw4 k0_h1 k0_h5 => k0_hw4.1 k0_h1 k0_h5
theorem k0_off4_inb : ∀ (i : grid0.Coords) (v47 : BitVec 32) (v303 : BitVec 32) (k0_hw4 : k0_chk4 i v47 v303), ∀ (k0_h1 : k0_cond1 i = 1#1), ∀ (k0_h5 : k0_cond5 v47 = 1#1), ∀ a, (k0_off4 v303) a + S512x2048.size a ≤ S155648x2048.size a := fun i v47 v303 k0_hw4 k0_h1 k0_h5 => k0_hw4.2 k0_h1 k0_h5

def k0_mult5 (v303 : BitVec 32) : BitVec 32 :=
  v303
def k0_cond6 (v51 : BitVec 32) : BitVec 1 :=
  let c0_i32_25 : BitVec 32 := 0#32
  let v52 : BitVec 1 := Scalar.cmpi .sge v51 c0_i32_25
  let v53 : BitVec 32 := Scalar.extui v52
  let c0_i32_26 : BitVec 32 := 0#32
  let v54 : BitVec 1 := Scalar.cmpi .ne v53 c0_i32_26
  v54

def k0_off5 (v303 : BitVec 32) : Fin 2 → Nat :=
  let v304 : BitVec 32 := v303
  let c0_i32_188 : BitVec 32 := 0#32
  ![v304.toNat, 0]

def k0_chk5 (i : grid0.Coords) (v51 : BitVec 32) (v303 : BitVec 32) : Prop :=
  (∀ (k0_h1 : k0_cond1 i = 1#1), ∀ (k0_h6 : k0_cond6 v51 = 1#1), 512 ∣ (k0_mult5 v303).toNat) ∧
  (∀ (k0_h1 : k0_cond1 i = 1#1), ∀ (k0_h6 : k0_cond6 v51 = 1#1), ∀ a, (k0_off5 v303) a + S512x2048.size a ≤ S155648x2048.size a)
theorem k0_mult5_dvd : ∀ (i : grid0.Coords) (v51 : BitVec 32) (v303 : BitVec 32) (k0_hw5 : k0_chk5 i v51 v303), ∀ (k0_h1 : k0_cond1 i = 1#1), ∀ (k0_h6 : k0_cond6 v51 = 1#1), 512 ∣ (k0_mult5 v303).toNat := fun i v51 v303 k0_hw5 k0_h1 k0_h6 => k0_hw5.1 k0_h1 k0_h6
theorem k0_off5_inb : ∀ (i : grid0.Coords) (v51 : BitVec 32) (v303 : BitVec 32) (k0_hw5 : k0_chk5 i v51 v303), ∀ (k0_h1 : k0_cond1 i = 1#1), ∀ (k0_h6 : k0_cond6 v51 = 1#1), ∀ a, (k0_off5 v303) a + S512x2048.size a ≤ S155648x2048.size a := fun i v51 v303 k0_hw5 k0_h1 k0_h6 => k0_hw5.2 k0_h1 k0_h6

def k0_mult6 (v303 : BitVec 32) : BitVec 32 :=
  v303
def k0_cond7 (v55 : BitVec 32) : BitVec 1 :=
  let c0_i32_27 : BitVec 32 := 0#32
  let v56 : BitVec 1 := Scalar.cmpi .sge v55 c0_i32_27
  let v57 : BitVec 32 := Scalar.extui v56
  let c0_i32_28 : BitVec 32 := 0#32
  let v58 : BitVec 1 := Scalar.cmpi .ne v57 c0_i32_28
  v58

def k0_off6 (v303 : BitVec 32) : Fin 2 → Nat :=
  let v304 : BitVec 32 := v303
  let c0_i32_188 : BitVec 32 := 0#32
  ![v304.toNat, 0]

def k0_chk6 (i : grid0.Coords) (v55 : BitVec 32) (v303 : BitVec 32) : Prop :=
  (∀ (k0_h1 : k0_cond1 i = 1#1), ∀ (k0_h7 : k0_cond7 v55 = 1#1), 512 ∣ (k0_mult6 v303).toNat) ∧
  (∀ (k0_h1 : k0_cond1 i = 1#1), ∀ (k0_h7 : k0_cond7 v55 = 1#1), ∀ a, (k0_off6 v303) a + S512x2048.size a ≤ S155648x2048.size a)
theorem k0_mult6_dvd : ∀ (i : grid0.Coords) (v55 : BitVec 32) (v303 : BitVec 32) (k0_hw6 : k0_chk6 i v55 v303), ∀ (k0_h1 : k0_cond1 i = 1#1), ∀ (k0_h7 : k0_cond7 v55 = 1#1), 512 ∣ (k0_mult6 v303).toNat := fun i v55 v303 k0_hw6 k0_h1 k0_h7 => k0_hw6.1 k0_h1 k0_h7
theorem k0_off6_inb : ∀ (i : grid0.Coords) (v55 : BitVec 32) (v303 : BitVec 32) (k0_hw6 : k0_chk6 i v55 v303), ∀ (k0_h1 : k0_cond1 i = 1#1), ∀ (k0_h7 : k0_cond7 v55 = 1#1), ∀ a, (k0_off6 v303) a + S512x2048.size a ≤ S155648x2048.size a := fun i v55 v303 k0_hw6 k0_h1 k0_h7 => k0_hw6.2 k0_h1 k0_h7

def k0_mult7 (v303 : BitVec 32) : BitVec 32 :=
  v303
def k0_cond8 (v59 : BitVec 32) : BitVec 1 :=
  let c0_i32_29 : BitVec 32 := 0#32
  let v60 : BitVec 1 := Scalar.cmpi .sge v59 c0_i32_29
  let v61 : BitVec 32 := Scalar.extui v60
  let c0_i32_30 : BitVec 32 := 0#32
  let v62 : BitVec 1 := Scalar.cmpi .ne v61 c0_i32_30
  v62

def k0_off7 (v303 : BitVec 32) : Fin 2 → Nat :=
  let v304 : BitVec 32 := v303
  let c0_i32_188 : BitVec 32 := 0#32
  ![v304.toNat, 0]

def k0_chk7 (i : grid0.Coords) (v59 : BitVec 32) (v303 : BitVec 32) : Prop :=
  (∀ (k0_h1 : k0_cond1 i = 1#1), ∀ (k0_h8 : k0_cond8 v59 = 1#1), 512 ∣ (k0_mult7 v303).toNat) ∧
  (∀ (k0_h1 : k0_cond1 i = 1#1), ∀ (k0_h8 : k0_cond8 v59 = 1#1), ∀ a, (k0_off7 v303) a + S512x2048.size a ≤ S155648x2048.size a)
theorem k0_mult7_dvd : ∀ (i : grid0.Coords) (v59 : BitVec 32) (v303 : BitVec 32) (k0_hw7 : k0_chk7 i v59 v303), ∀ (k0_h1 : k0_cond1 i = 1#1), ∀ (k0_h8 : k0_cond8 v59 = 1#1), 512 ∣ (k0_mult7 v303).toNat := fun i v59 v303 k0_hw7 k0_h1 k0_h8 => k0_hw7.1 k0_h1 k0_h8
theorem k0_off7_inb : ∀ (i : grid0.Coords) (v59 : BitVec 32) (v303 : BitVec 32) (k0_hw7 : k0_chk7 i v59 v303), ∀ (k0_h1 : k0_cond1 i = 1#1), ∀ (k0_h8 : k0_cond8 v59 = 1#1), ∀ a, (k0_off7 v303) a + S512x2048.size a ≤ S155648x2048.size a := fun i v59 v303 k0_hw7 k0_h1 k0_h8 => k0_hw7.2 k0_h1 k0_h8

def k0_mult8 (v303 : BitVec 32) : BitVec 32 :=
  v303
def k0_cond9 (v63 : BitVec 32) : BitVec 1 :=
  let c0_i32_31 : BitVec 32 := 0#32
  let v64 : BitVec 1 := Scalar.cmpi .sge v63 c0_i32_31
  let v65 : BitVec 32 := Scalar.extui v64
  let c0_i32_32 : BitVec 32 := 0#32
  let v66 : BitVec 1 := Scalar.cmpi .ne v65 c0_i32_32
  v66

def k0_off8 (v303 : BitVec 32) : Fin 2 → Nat :=
  let v304 : BitVec 32 := v303
  let c0_i32_188 : BitVec 32 := 0#32
  ![v304.toNat, 0]

def k0_chk8 (i : grid0.Coords) (v63 : BitVec 32) (v303 : BitVec 32) : Prop :=
  (∀ (k0_h1 : k0_cond1 i = 1#1), ∀ (k0_h9 : k0_cond9 v63 = 1#1), 512 ∣ (k0_mult8 v303).toNat) ∧
  (∀ (k0_h1 : k0_cond1 i = 1#1), ∀ (k0_h9 : k0_cond9 v63 = 1#1), ∀ a, (k0_off8 v303) a + S512x2048.size a ≤ S155648x2048.size a)
theorem k0_mult8_dvd : ∀ (i : grid0.Coords) (v63 : BitVec 32) (v303 : BitVec 32) (k0_hw8 : k0_chk8 i v63 v303), ∀ (k0_h1 : k0_cond1 i = 1#1), ∀ (k0_h9 : k0_cond9 v63 = 1#1), 512 ∣ (k0_mult8 v303).toNat := fun i v63 v303 k0_hw8 k0_h1 k0_h9 => k0_hw8.1 k0_h1 k0_h9
theorem k0_off8_inb : ∀ (i : grid0.Coords) (v63 : BitVec 32) (v303 : BitVec 32) (k0_hw8 : k0_chk8 i v63 v303), ∀ (k0_h1 : k0_cond1 i = 1#1), ∀ (k0_h9 : k0_cond9 v63 = 1#1), ∀ a, (k0_off8 v303) a + S512x2048.size a ≤ S155648x2048.size a := fun i v63 v303 k0_hw8 k0_h1 k0_h9 => k0_hw8.2 k0_h1 k0_h9

def k0_mult9 (v303 : BitVec 32) : BitVec 32 :=
  v303
def k0_cond10 (v67 : BitVec 32) : BitVec 1 :=
  let c0_i32_33 : BitVec 32 := 0#32
  let v68 : BitVec 1 := Scalar.cmpi .sge v67 c0_i32_33
  let v69 : BitVec 32 := Scalar.extui v68
  let c0_i32_34 : BitVec 32 := 0#32
  let v70 : BitVec 1 := Scalar.cmpi .ne v69 c0_i32_34
  v70

def k0_off9 (v303 : BitVec 32) : Fin 2 → Nat :=
  let v304 : BitVec 32 := v303
  let c0_i32_188 : BitVec 32 := 0#32
  ![v304.toNat, 0]

def k0_chk9 (i : grid0.Coords) (v67 : BitVec 32) (v303 : BitVec 32) : Prop :=
  (∀ (k0_h1 : k0_cond1 i = 1#1), ∀ (k0_h10 : k0_cond10 v67 = 1#1), 512 ∣ (k0_mult9 v303).toNat) ∧
  (∀ (k0_h1 : k0_cond1 i = 1#1), ∀ (k0_h10 : k0_cond10 v67 = 1#1), ∀ a, (k0_off9 v303) a + S512x2048.size a ≤ S155648x2048.size a)
theorem k0_mult9_dvd : ∀ (i : grid0.Coords) (v67 : BitVec 32) (v303 : BitVec 32) (k0_hw9 : k0_chk9 i v67 v303), ∀ (k0_h1 : k0_cond1 i = 1#1), ∀ (k0_h10 : k0_cond10 v67 = 1#1), 512 ∣ (k0_mult9 v303).toNat := fun i v67 v303 k0_hw9 k0_h1 k0_h10 => k0_hw9.1 k0_h1 k0_h10
theorem k0_off9_inb : ∀ (i : grid0.Coords) (v67 : BitVec 32) (v303 : BitVec 32) (k0_hw9 : k0_chk9 i v67 v303), ∀ (k0_h1 : k0_cond1 i = 1#1), ∀ (k0_h10 : k0_cond10 v67 = 1#1), ∀ a, (k0_off9 v303) a + S512x2048.size a ≤ S155648x2048.size a := fun i v67 v303 k0_hw9 k0_h1 k0_h10 => k0_hw9.2 k0_h1 k0_h10

def k0_mult10 (v303 : BitVec 32) : BitVec 32 :=
  v303
def k0_cond11 (v71 : BitVec 32) : BitVec 1 :=
  let c0_i32_35 : BitVec 32 := 0#32
  let v72 : BitVec 1 := Scalar.cmpi .sge v71 c0_i32_35
  let v73 : BitVec 32 := Scalar.extui v72
  let c0_i32_36 : BitVec 32 := 0#32
  let v74 : BitVec 1 := Scalar.cmpi .ne v73 c0_i32_36
  v74

def k0_off10 (v303 : BitVec 32) : Fin 2 → Nat :=
  let v304 : BitVec 32 := v303
  let c0_i32_188 : BitVec 32 := 0#32
  ![v304.toNat, 0]

def k0_chk10 (i : grid0.Coords) (v71 : BitVec 32) (v303 : BitVec 32) : Prop :=
  (∀ (k0_h1 : k0_cond1 i = 1#1), ∀ (k0_h11 : k0_cond11 v71 = 1#1), 512 ∣ (k0_mult10 v303).toNat) ∧
  (∀ (k0_h1 : k0_cond1 i = 1#1), ∀ (k0_h11 : k0_cond11 v71 = 1#1), ∀ a, (k0_off10 v303) a + S512x2048.size a ≤ S155648x2048.size a)
theorem k0_mult10_dvd : ∀ (i : grid0.Coords) (v71 : BitVec 32) (v303 : BitVec 32) (k0_hw10 : k0_chk10 i v71 v303), ∀ (k0_h1 : k0_cond1 i = 1#1), ∀ (k0_h11 : k0_cond11 v71 = 1#1), 512 ∣ (k0_mult10 v303).toNat := fun i v71 v303 k0_hw10 k0_h1 k0_h11 => k0_hw10.1 k0_h1 k0_h11
theorem k0_off10_inb : ∀ (i : grid0.Coords) (v71 : BitVec 32) (v303 : BitVec 32) (k0_hw10 : k0_chk10 i v71 v303), ∀ (k0_h1 : k0_cond1 i = 1#1), ∀ (k0_h11 : k0_cond11 v71 = 1#1), ∀ a, (k0_off10 v303) a + S512x2048.size a ≤ S155648x2048.size a := fun i v71 v303 k0_hw10 k0_h1 k0_h11 => k0_hw10.2 k0_h1 k0_h11

def k0_mult11 (v303 : BitVec 32) : BitVec 32 :=
  v303
def k0_cond12 (v75 : BitVec 32) : BitVec 1 :=
  let c0_i32_37 : BitVec 32 := 0#32
  let v76 : BitVec 1 := Scalar.cmpi .sge v75 c0_i32_37
  let v77 : BitVec 32 := Scalar.extui v76
  let c0_i32_38 : BitVec 32 := 0#32
  let v78 : BitVec 1 := Scalar.cmpi .ne v77 c0_i32_38
  v78

def k0_off11 (v303 : BitVec 32) : Fin 2 → Nat :=
  let v304 : BitVec 32 := v303
  let c0_i32_188 : BitVec 32 := 0#32
  ![v304.toNat, 0]

def k0_chk11 (i : grid0.Coords) (v75 : BitVec 32) (v303 : BitVec 32) : Prop :=
  (∀ (k0_h1 : k0_cond1 i = 1#1), ∀ (k0_h12 : k0_cond12 v75 = 1#1), 512 ∣ (k0_mult11 v303).toNat) ∧
  (∀ (k0_h1 : k0_cond1 i = 1#1), ∀ (k0_h12 : k0_cond12 v75 = 1#1), ∀ a, (k0_off11 v303) a + S512x2048.size a ≤ S155648x2048.size a)
theorem k0_mult11_dvd : ∀ (i : grid0.Coords) (v75 : BitVec 32) (v303 : BitVec 32) (k0_hw11 : k0_chk11 i v75 v303), ∀ (k0_h1 : k0_cond1 i = 1#1), ∀ (k0_h12 : k0_cond12 v75 = 1#1), 512 ∣ (k0_mult11 v303).toNat := fun i v75 v303 k0_hw11 k0_h1 k0_h12 => k0_hw11.1 k0_h1 k0_h12
theorem k0_off11_inb : ∀ (i : grid0.Coords) (v75 : BitVec 32) (v303 : BitVec 32) (k0_hw11 : k0_chk11 i v75 v303), ∀ (k0_h1 : k0_cond1 i = 1#1), ∀ (k0_h12 : k0_cond12 v75 = 1#1), ∀ a, (k0_off11 v303) a + S512x2048.size a ≤ S155648x2048.size a := fun i v75 v303 k0_hw11 k0_h1 k0_h12 => k0_hw11.2 k0_h1 k0_h12

def k0_mult12 (v303 : BitVec 32) : BitVec 32 :=
  v303
def k0_cond13 (v79 : BitVec 32) : BitVec 1 :=
  let c0_i32_39 : BitVec 32 := 0#32
  let v80 : BitVec 1 := Scalar.cmpi .sge v79 c0_i32_39
  let v81 : BitVec 32 := Scalar.extui v80
  let c0_i32_40 : BitVec 32 := 0#32
  let v82 : BitVec 1 := Scalar.cmpi .ne v81 c0_i32_40
  v82

def k0_off12 (v303 : BitVec 32) : Fin 2 → Nat :=
  let v304 : BitVec 32 := v303
  let c0_i32_188 : BitVec 32 := 0#32
  ![v304.toNat, 0]

def k0_chk12 (i : grid0.Coords) (v79 : BitVec 32) (v303 : BitVec 32) : Prop :=
  (∀ (k0_h1 : k0_cond1 i = 1#1), ∀ (k0_h13 : k0_cond13 v79 = 1#1), 512 ∣ (k0_mult12 v303).toNat) ∧
  (∀ (k0_h1 : k0_cond1 i = 1#1), ∀ (k0_h13 : k0_cond13 v79 = 1#1), ∀ a, (k0_off12 v303) a + S512x2048.size a ≤ S155648x2048.size a)
theorem k0_mult12_dvd : ∀ (i : grid0.Coords) (v79 : BitVec 32) (v303 : BitVec 32) (k0_hw12 : k0_chk12 i v79 v303), ∀ (k0_h1 : k0_cond1 i = 1#1), ∀ (k0_h13 : k0_cond13 v79 = 1#1), 512 ∣ (k0_mult12 v303).toNat := fun i v79 v303 k0_hw12 k0_h1 k0_h13 => k0_hw12.1 k0_h1 k0_h13
theorem k0_off12_inb : ∀ (i : grid0.Coords) (v79 : BitVec 32) (v303 : BitVec 32) (k0_hw12 : k0_chk12 i v79 v303), ∀ (k0_h1 : k0_cond1 i = 1#1), ∀ (k0_h13 : k0_cond13 v79 = 1#1), ∀ a, (k0_off12 v303) a + S512x2048.size a ≤ S155648x2048.size a := fun i v79 v303 k0_hw12 k0_h1 k0_h13 => k0_hw12.2 k0_h1 k0_h13

def k0_mult13 (v303 : BitVec 32) : BitVec 32 :=
  v303
def k0_cond14 (v83 : BitVec 32) : BitVec 1 :=
  let c0_i32_41 : BitVec 32 := 0#32
  let v84 : BitVec 1 := Scalar.cmpi .sge v83 c0_i32_41
  let v85 : BitVec 32 := Scalar.extui v84
  let c0_i32_42 : BitVec 32 := 0#32
  let v86 : BitVec 1 := Scalar.cmpi .ne v85 c0_i32_42
  v86

def k0_off13 (v303 : BitVec 32) : Fin 2 → Nat :=
  let v304 : BitVec 32 := v303
  let c0_i32_188 : BitVec 32 := 0#32
  ![v304.toNat, 0]

def k0_chk13 (i : grid0.Coords) (v83 : BitVec 32) (v303 : BitVec 32) : Prop :=
  (∀ (k0_h1 : k0_cond1 i = 1#1), ∀ (k0_h14 : k0_cond14 v83 = 1#1), 512 ∣ (k0_mult13 v303).toNat) ∧
  (∀ (k0_h1 : k0_cond1 i = 1#1), ∀ (k0_h14 : k0_cond14 v83 = 1#1), ∀ a, (k0_off13 v303) a + S512x2048.size a ≤ S155648x2048.size a)
theorem k0_mult13_dvd : ∀ (i : grid0.Coords) (v83 : BitVec 32) (v303 : BitVec 32) (k0_hw13 : k0_chk13 i v83 v303), ∀ (k0_h1 : k0_cond1 i = 1#1), ∀ (k0_h14 : k0_cond14 v83 = 1#1), 512 ∣ (k0_mult13 v303).toNat := fun i v83 v303 k0_hw13 k0_h1 k0_h14 => k0_hw13.1 k0_h1 k0_h14
theorem k0_off13_inb : ∀ (i : grid0.Coords) (v83 : BitVec 32) (v303 : BitVec 32) (k0_hw13 : k0_chk13 i v83 v303), ∀ (k0_h1 : k0_cond1 i = 1#1), ∀ (k0_h14 : k0_cond14 v83 = 1#1), ∀ a, (k0_off13 v303) a + S512x2048.size a ≤ S155648x2048.size a := fun i v83 v303 k0_hw13 k0_h1 k0_h14 => k0_hw13.2 k0_h1 k0_h14

def k0_mult14 (v303 : BitVec 32) : BitVec 32 :=
  v303
def k0_cond15 (v87 : BitVec 32) : BitVec 1 :=
  let c0_i32_43 : BitVec 32 := 0#32
  let v88 : BitVec 1 := Scalar.cmpi .sge v87 c0_i32_43
  let v89 : BitVec 32 := Scalar.extui v88
  let c0_i32_44 : BitVec 32 := 0#32
  let v90 : BitVec 1 := Scalar.cmpi .ne v89 c0_i32_44
  v90

def k0_off14 (v303 : BitVec 32) : Fin 2 → Nat :=
  let v304 : BitVec 32 := v303
  let c0_i32_188 : BitVec 32 := 0#32
  ![v304.toNat, 0]

def k0_chk14 (i : grid0.Coords) (v87 : BitVec 32) (v303 : BitVec 32) : Prop :=
  (∀ (k0_h1 : k0_cond1 i = 1#1), ∀ (k0_h15 : k0_cond15 v87 = 1#1), 512 ∣ (k0_mult14 v303).toNat) ∧
  (∀ (k0_h1 : k0_cond1 i = 1#1), ∀ (k0_h15 : k0_cond15 v87 = 1#1), ∀ a, (k0_off14 v303) a + S512x2048.size a ≤ S155648x2048.size a)
theorem k0_mult14_dvd : ∀ (i : grid0.Coords) (v87 : BitVec 32) (v303 : BitVec 32) (k0_hw14 : k0_chk14 i v87 v303), ∀ (k0_h1 : k0_cond1 i = 1#1), ∀ (k0_h15 : k0_cond15 v87 = 1#1), 512 ∣ (k0_mult14 v303).toNat := fun i v87 v303 k0_hw14 k0_h1 k0_h15 => k0_hw14.1 k0_h1 k0_h15
theorem k0_off14_inb : ∀ (i : grid0.Coords) (v87 : BitVec 32) (v303 : BitVec 32) (k0_hw14 : k0_chk14 i v87 v303), ∀ (k0_h1 : k0_cond1 i = 1#1), ∀ (k0_h15 : k0_cond15 v87 = 1#1), ∀ a, (k0_off14 v303) a + S512x2048.size a ≤ S155648x2048.size a := fun i v87 v303 k0_hw14 k0_h1 k0_h15 => k0_hw14.2 k0_h1 k0_h15

def k0_mult15 (v303 : BitVec 32) : BitVec 32 :=
  v303
def k0_cond16 (v91 : BitVec 32) : BitVec 1 :=
  let c0_i32_45 : BitVec 32 := 0#32
  let v92 : BitVec 1 := Scalar.cmpi .sge v91 c0_i32_45
  let v93 : BitVec 32 := Scalar.extui v92
  let c0_i32_46 : BitVec 32 := 0#32
  let v94 : BitVec 1 := Scalar.cmpi .ne v93 c0_i32_46
  v94

def k0_off15 (v303 : BitVec 32) : Fin 2 → Nat :=
  let v304 : BitVec 32 := v303
  let c0_i32_188 : BitVec 32 := 0#32
  ![v304.toNat, 0]

def k0_chk15 (i : grid0.Coords) (v91 : BitVec 32) (v303 : BitVec 32) : Prop :=
  (∀ (k0_h1 : k0_cond1 i = 1#1), ∀ (k0_h16 : k0_cond16 v91 = 1#1), 512 ∣ (k0_mult15 v303).toNat) ∧
  (∀ (k0_h1 : k0_cond1 i = 1#1), ∀ (k0_h16 : k0_cond16 v91 = 1#1), ∀ a, (k0_off15 v303) a + S512x2048.size a ≤ S155648x2048.size a)
theorem k0_mult15_dvd : ∀ (i : grid0.Coords) (v91 : BitVec 32) (v303 : BitVec 32) (k0_hw15 : k0_chk15 i v91 v303), ∀ (k0_h1 : k0_cond1 i = 1#1), ∀ (k0_h16 : k0_cond16 v91 = 1#1), 512 ∣ (k0_mult15 v303).toNat := fun i v91 v303 k0_hw15 k0_h1 k0_h16 => k0_hw15.1 k0_h1 k0_h16
theorem k0_off15_inb : ∀ (i : grid0.Coords) (v91 : BitVec 32) (v303 : BitVec 32) (k0_hw15 : k0_chk15 i v91 v303), ∀ (k0_h1 : k0_cond1 i = 1#1), ∀ (k0_h16 : k0_cond16 v91 = 1#1), ∀ a, (k0_off15 v303) a + S512x2048.size a ≤ S155648x2048.size a := fun i v91 v303 k0_hw15 k0_h1 k0_h16 => k0_hw15.2 k0_h1 k0_h16

def k0_mult16 (v303 : BitVec 32) : BitVec 32 :=
  v303
def k0_cond17 (v95 : BitVec 32) : BitVec 1 :=
  let c0_i32_47 : BitVec 32 := 0#32
  let v96 : BitVec 1 := Scalar.cmpi .sge v95 c0_i32_47
  let v97 : BitVec 32 := Scalar.extui v96
  let c0_i32_48 : BitVec 32 := 0#32
  let v98 : BitVec 1 := Scalar.cmpi .ne v97 c0_i32_48
  v98

def k0_off16 (v303 : BitVec 32) : Fin 2 → Nat :=
  let v304 : BitVec 32 := v303
  let c0_i32_188 : BitVec 32 := 0#32
  ![v304.toNat, 0]

def k0_chk16 (i : grid0.Coords) (v95 : BitVec 32) (v303 : BitVec 32) : Prop :=
  (∀ (k0_h1 : k0_cond1 i = 1#1), ∀ (k0_h17 : k0_cond17 v95 = 1#1), 512 ∣ (k0_mult16 v303).toNat) ∧
  (∀ (k0_h1 : k0_cond1 i = 1#1), ∀ (k0_h17 : k0_cond17 v95 = 1#1), ∀ a, (k0_off16 v303) a + S512x2048.size a ≤ S155648x2048.size a)
theorem k0_mult16_dvd : ∀ (i : grid0.Coords) (v95 : BitVec 32) (v303 : BitVec 32) (k0_hw16 : k0_chk16 i v95 v303), ∀ (k0_h1 : k0_cond1 i = 1#1), ∀ (k0_h17 : k0_cond17 v95 = 1#1), 512 ∣ (k0_mult16 v303).toNat := fun i v95 v303 k0_hw16 k0_h1 k0_h17 => k0_hw16.1 k0_h1 k0_h17
theorem k0_off16_inb : ∀ (i : grid0.Coords) (v95 : BitVec 32) (v303 : BitVec 32) (k0_hw16 : k0_chk16 i v95 v303), ∀ (k0_h1 : k0_cond1 i = 1#1), ∀ (k0_h17 : k0_cond17 v95 = 1#1), ∀ a, (k0_off16 v303) a + S512x2048.size a ≤ S155648x2048.size a := fun i v95 v303 k0_hw16 k0_h1 k0_h17 => k0_hw16.2 k0_h1 k0_h17

def k0_mult17 (v303 : BitVec 32) : BitVec 32 :=
  v303
def k0_cond18 (v99 : BitVec 32) : BitVec 1 :=
  let c0_i32_49 : BitVec 32 := 0#32
  let v100 : BitVec 1 := Scalar.cmpi .sge v99 c0_i32_49
  let v101 : BitVec 32 := Scalar.extui v100
  let c0_i32_50 : BitVec 32 := 0#32
  let v102 : BitVec 1 := Scalar.cmpi .ne v101 c0_i32_50
  v102

def k0_off17 (v303 : BitVec 32) : Fin 2 → Nat :=
  let v304 : BitVec 32 := v303
  let c0_i32_188 : BitVec 32 := 0#32
  ![v304.toNat, 0]

def k0_chk17 (i : grid0.Coords) (v99 : BitVec 32) (v303 : BitVec 32) : Prop :=
  (∀ (k0_h1 : k0_cond1 i = 1#1), ∀ (k0_h18 : k0_cond18 v99 = 1#1), 512 ∣ (k0_mult17 v303).toNat) ∧
  (∀ (k0_h1 : k0_cond1 i = 1#1), ∀ (k0_h18 : k0_cond18 v99 = 1#1), ∀ a, (k0_off17 v303) a + S512x2048.size a ≤ S155648x2048.size a)
theorem k0_mult17_dvd : ∀ (i : grid0.Coords) (v99 : BitVec 32) (v303 : BitVec 32) (k0_hw17 : k0_chk17 i v99 v303), ∀ (k0_h1 : k0_cond1 i = 1#1), ∀ (k0_h18 : k0_cond18 v99 = 1#1), 512 ∣ (k0_mult17 v303).toNat := fun i v99 v303 k0_hw17 k0_h1 k0_h18 => k0_hw17.1 k0_h1 k0_h18
theorem k0_off17_inb : ∀ (i : grid0.Coords) (v99 : BitVec 32) (v303 : BitVec 32) (k0_hw17 : k0_chk17 i v99 v303), ∀ (k0_h1 : k0_cond1 i = 1#1), ∀ (k0_h18 : k0_cond18 v99 = 1#1), ∀ a, (k0_off17 v303) a + S512x2048.size a ≤ S155648x2048.size a := fun i v99 v303 k0_hw17 k0_h1 k0_h18 => k0_hw17.2 k0_h1 k0_h18

def k0_mult18 (v303 : BitVec 32) : BitVec 32 :=
  v303
def k0_cond19 (v103 : BitVec 32) : BitVec 1 :=
  let c0_i32_51 : BitVec 32 := 0#32
  let v104 : BitVec 1 := Scalar.cmpi .sge v103 c0_i32_51
  let v105 : BitVec 32 := Scalar.extui v104
  let c0_i32_52 : BitVec 32 := 0#32
  let v106 : BitVec 1 := Scalar.cmpi .ne v105 c0_i32_52
  v106

def k0_off18 (v303 : BitVec 32) : Fin 2 → Nat :=
  let v304 : BitVec 32 := v303
  let c0_i32_188 : BitVec 32 := 0#32
  ![v304.toNat, 0]

def k0_chk18 (i : grid0.Coords) (v103 : BitVec 32) (v303 : BitVec 32) : Prop :=
  (∀ (k0_h1 : k0_cond1 i = 1#1), ∀ (k0_h19 : k0_cond19 v103 = 1#1), 512 ∣ (k0_mult18 v303).toNat) ∧
  (∀ (k0_h1 : k0_cond1 i = 1#1), ∀ (k0_h19 : k0_cond19 v103 = 1#1), ∀ a, (k0_off18 v303) a + S512x2048.size a ≤ S155648x2048.size a)
theorem k0_mult18_dvd : ∀ (i : grid0.Coords) (v103 : BitVec 32) (v303 : BitVec 32) (k0_hw18 : k0_chk18 i v103 v303), ∀ (k0_h1 : k0_cond1 i = 1#1), ∀ (k0_h19 : k0_cond19 v103 = 1#1), 512 ∣ (k0_mult18 v303).toNat := fun i v103 v303 k0_hw18 k0_h1 k0_h19 => k0_hw18.1 k0_h1 k0_h19
theorem k0_off18_inb : ∀ (i : grid0.Coords) (v103 : BitVec 32) (v303 : BitVec 32) (k0_hw18 : k0_chk18 i v103 v303), ∀ (k0_h1 : k0_cond1 i = 1#1), ∀ (k0_h19 : k0_cond19 v103 = 1#1), ∀ a, (k0_off18 v303) a + S512x2048.size a ≤ S155648x2048.size a := fun i v103 v303 k0_hw18 k0_h1 k0_h19 => k0_hw18.2 k0_h1 k0_h19

def k0_mult19 (v303 : BitVec 32) : BitVec 32 :=
  v303
def k0_cond20 (v107 : BitVec 32) : BitVec 1 :=
  let c0_i32_53 : BitVec 32 := 0#32
  let v108 : BitVec 1 := Scalar.cmpi .sge v107 c0_i32_53
  let v109 : BitVec 32 := Scalar.extui v108
  let c0_i32_54 : BitVec 32 := 0#32
  let v110 : BitVec 1 := Scalar.cmpi .ne v109 c0_i32_54
  v110

def k0_off19 (v303 : BitVec 32) : Fin 2 → Nat :=
  let v304 : BitVec 32 := v303
  let c0_i32_188 : BitVec 32 := 0#32
  ![v304.toNat, 0]

def k0_chk19 (i : grid0.Coords) (v107 : BitVec 32) (v303 : BitVec 32) : Prop :=
  (∀ (k0_h1 : k0_cond1 i = 1#1), ∀ (k0_h20 : k0_cond20 v107 = 1#1), 512 ∣ (k0_mult19 v303).toNat) ∧
  (∀ (k0_h1 : k0_cond1 i = 1#1), ∀ (k0_h20 : k0_cond20 v107 = 1#1), ∀ a, (k0_off19 v303) a + S512x2048.size a ≤ S155648x2048.size a)
theorem k0_mult19_dvd : ∀ (i : grid0.Coords) (v107 : BitVec 32) (v303 : BitVec 32) (k0_hw19 : k0_chk19 i v107 v303), ∀ (k0_h1 : k0_cond1 i = 1#1), ∀ (k0_h20 : k0_cond20 v107 = 1#1), 512 ∣ (k0_mult19 v303).toNat := fun i v107 v303 k0_hw19 k0_h1 k0_h20 => k0_hw19.1 k0_h1 k0_h20
theorem k0_off19_inb : ∀ (i : grid0.Coords) (v107 : BitVec 32) (v303 : BitVec 32) (k0_hw19 : k0_chk19 i v107 v303), ∀ (k0_h1 : k0_cond1 i = 1#1), ∀ (k0_h20 : k0_cond20 v107 = 1#1), ∀ a, (k0_off19 v303) a + S512x2048.size a ≤ S155648x2048.size a := fun i v107 v303 k0_hw19 k0_h1 k0_h20 => k0_hw19.2 k0_h1 k0_h20

def k0_mult20 (v303 : BitVec 32) : BitVec 32 :=
  v303
def k0_cond21 (v111 : BitVec 32) : BitVec 1 :=
  let c0_i32_55 : BitVec 32 := 0#32
  let v112 : BitVec 1 := Scalar.cmpi .sge v111 c0_i32_55
  let v113 : BitVec 32 := Scalar.extui v112
  let c0_i32_56 : BitVec 32 := 0#32
  let v114 : BitVec 1 := Scalar.cmpi .ne v113 c0_i32_56
  v114

def k0_off20 (v303 : BitVec 32) : Fin 2 → Nat :=
  let v304 : BitVec 32 := v303
  let c0_i32_188 : BitVec 32 := 0#32
  ![v304.toNat, 0]

def k0_chk20 (i : grid0.Coords) (v111 : BitVec 32) (v303 : BitVec 32) : Prop :=
  (∀ (k0_h1 : k0_cond1 i = 1#1), ∀ (k0_h21 : k0_cond21 v111 = 1#1), 512 ∣ (k0_mult20 v303).toNat) ∧
  (∀ (k0_h1 : k0_cond1 i = 1#1), ∀ (k0_h21 : k0_cond21 v111 = 1#1), ∀ a, (k0_off20 v303) a + S512x2048.size a ≤ S155648x2048.size a)
theorem k0_mult20_dvd : ∀ (i : grid0.Coords) (v111 : BitVec 32) (v303 : BitVec 32) (k0_hw20 : k0_chk20 i v111 v303), ∀ (k0_h1 : k0_cond1 i = 1#1), ∀ (k0_h21 : k0_cond21 v111 = 1#1), 512 ∣ (k0_mult20 v303).toNat := fun i v111 v303 k0_hw20 k0_h1 k0_h21 => k0_hw20.1 k0_h1 k0_h21
theorem k0_off20_inb : ∀ (i : grid0.Coords) (v111 : BitVec 32) (v303 : BitVec 32) (k0_hw20 : k0_chk20 i v111 v303), ∀ (k0_h1 : k0_cond1 i = 1#1), ∀ (k0_h21 : k0_cond21 v111 = 1#1), ∀ a, (k0_off20 v303) a + S512x2048.size a ≤ S155648x2048.size a := fun i v111 v303 k0_hw20 k0_h1 k0_h21 => k0_hw20.2 k0_h1 k0_h21

def k0_mult21 (v303 : BitVec 32) : BitVec 32 :=
  v303
def k0_cond22 (v115 : BitVec 32) : BitVec 1 :=
  let c0_i32_57 : BitVec 32 := 0#32
  let v116 : BitVec 1 := Scalar.cmpi .sge v115 c0_i32_57
  let v117 : BitVec 32 := Scalar.extui v116
  let c0_i32_58 : BitVec 32 := 0#32
  let v118 : BitVec 1 := Scalar.cmpi .ne v117 c0_i32_58
  v118

def k0_off21 (v303 : BitVec 32) : Fin 2 → Nat :=
  let v304 : BitVec 32 := v303
  let c0_i32_188 : BitVec 32 := 0#32
  ![v304.toNat, 0]

def k0_chk21 (i : grid0.Coords) (v115 : BitVec 32) (v303 : BitVec 32) : Prop :=
  (∀ (k0_h1 : k0_cond1 i = 1#1), ∀ (k0_h22 : k0_cond22 v115 = 1#1), 512 ∣ (k0_mult21 v303).toNat) ∧
  (∀ (k0_h1 : k0_cond1 i = 1#1), ∀ (k0_h22 : k0_cond22 v115 = 1#1), ∀ a, (k0_off21 v303) a + S512x2048.size a ≤ S155648x2048.size a)
theorem k0_mult21_dvd : ∀ (i : grid0.Coords) (v115 : BitVec 32) (v303 : BitVec 32) (k0_hw21 : k0_chk21 i v115 v303), ∀ (k0_h1 : k0_cond1 i = 1#1), ∀ (k0_h22 : k0_cond22 v115 = 1#1), 512 ∣ (k0_mult21 v303).toNat := fun i v115 v303 k0_hw21 k0_h1 k0_h22 => k0_hw21.1 k0_h1 k0_h22
theorem k0_off21_inb : ∀ (i : grid0.Coords) (v115 : BitVec 32) (v303 : BitVec 32) (k0_hw21 : k0_chk21 i v115 v303), ∀ (k0_h1 : k0_cond1 i = 1#1), ∀ (k0_h22 : k0_cond22 v115 = 1#1), ∀ a, (k0_off21 v303) a + S512x2048.size a ≤ S155648x2048.size a := fun i v115 v303 k0_hw21 k0_h1 k0_h22 => k0_hw21.2 k0_h1 k0_h22

def k0_mult22 (v303 : BitVec 32) : BitVec 32 :=
  v303
def k0_cond23 (v119 : BitVec 32) : BitVec 1 :=
  let c0_i32_59 : BitVec 32 := 0#32
  let v120 : BitVec 1 := Scalar.cmpi .sge v119 c0_i32_59
  let v121 : BitVec 32 := Scalar.extui v120
  let c0_i32_60 : BitVec 32 := 0#32
  let v122 : BitVec 1 := Scalar.cmpi .ne v121 c0_i32_60
  v122

def k0_off22 (v303 : BitVec 32) : Fin 2 → Nat :=
  let v304 : BitVec 32 := v303
  let c0_i32_188 : BitVec 32 := 0#32
  ![v304.toNat, 0]

def k0_chk22 (i : grid0.Coords) (v119 : BitVec 32) (v303 : BitVec 32) : Prop :=
  (∀ (k0_h1 : k0_cond1 i = 1#1), ∀ (k0_h23 : k0_cond23 v119 = 1#1), 512 ∣ (k0_mult22 v303).toNat) ∧
  (∀ (k0_h1 : k0_cond1 i = 1#1), ∀ (k0_h23 : k0_cond23 v119 = 1#1), ∀ a, (k0_off22 v303) a + S512x2048.size a ≤ S155648x2048.size a)
theorem k0_mult22_dvd : ∀ (i : grid0.Coords) (v119 : BitVec 32) (v303 : BitVec 32) (k0_hw22 : k0_chk22 i v119 v303), ∀ (k0_h1 : k0_cond1 i = 1#1), ∀ (k0_h23 : k0_cond23 v119 = 1#1), 512 ∣ (k0_mult22 v303).toNat := fun i v119 v303 k0_hw22 k0_h1 k0_h23 => k0_hw22.1 k0_h1 k0_h23
theorem k0_off22_inb : ∀ (i : grid0.Coords) (v119 : BitVec 32) (v303 : BitVec 32) (k0_hw22 : k0_chk22 i v119 v303), ∀ (k0_h1 : k0_cond1 i = 1#1), ∀ (k0_h23 : k0_cond23 v119 = 1#1), ∀ a, (k0_off22 v303) a + S512x2048.size a ≤ S155648x2048.size a := fun i v119 v303 k0_hw22 k0_h1 k0_h23 => k0_hw22.2 k0_h1 k0_h23

def k0_mult23 (v303 : BitVec 32) : BitVec 32 :=
  v303
def k0_cond24 (v123 : BitVec 32) : BitVec 1 :=
  let c0_i32_61 : BitVec 32 := 0#32
  let v124 : BitVec 1 := Scalar.cmpi .sge v123 c0_i32_61
  let v125 : BitVec 32 := Scalar.extui v124
  let c0_i32_62 : BitVec 32 := 0#32
  let v126 : BitVec 1 := Scalar.cmpi .ne v125 c0_i32_62
  v126

def k0_off23 (v303 : BitVec 32) : Fin 2 → Nat :=
  let v304 : BitVec 32 := v303
  let c0_i32_188 : BitVec 32 := 0#32
  ![v304.toNat, 0]

def k0_chk23 (i : grid0.Coords) (v123 : BitVec 32) (v303 : BitVec 32) : Prop :=
  (∀ (k0_h1 : k0_cond1 i = 1#1), ∀ (k0_h24 : k0_cond24 v123 = 1#1), 512 ∣ (k0_mult23 v303).toNat) ∧
  (∀ (k0_h1 : k0_cond1 i = 1#1), ∀ (k0_h24 : k0_cond24 v123 = 1#1), ∀ a, (k0_off23 v303) a + S512x2048.size a ≤ S155648x2048.size a)
theorem k0_mult23_dvd : ∀ (i : grid0.Coords) (v123 : BitVec 32) (v303 : BitVec 32) (k0_hw23 : k0_chk23 i v123 v303), ∀ (k0_h1 : k0_cond1 i = 1#1), ∀ (k0_h24 : k0_cond24 v123 = 1#1), 512 ∣ (k0_mult23 v303).toNat := fun i v123 v303 k0_hw23 k0_h1 k0_h24 => k0_hw23.1 k0_h1 k0_h24
theorem k0_off23_inb : ∀ (i : grid0.Coords) (v123 : BitVec 32) (v303 : BitVec 32) (k0_hw23 : k0_chk23 i v123 v303), ∀ (k0_h1 : k0_cond1 i = 1#1), ∀ (k0_h24 : k0_cond24 v123 = 1#1), ∀ a, (k0_off23 v303) a + S512x2048.size a ≤ S155648x2048.size a := fun i v123 v303 k0_hw23 k0_h1 k0_h24 => k0_hw23.2 k0_h1 k0_h24

def k0_mult24 (v303 : BitVec 32) : BitVec 32 :=
  v303
def k0_cond25 (v127 : BitVec 32) : BitVec 1 :=
  let c0_i32_63 : BitVec 32 := 0#32
  let v128 : BitVec 1 := Scalar.cmpi .sge v127 c0_i32_63
  let v129 : BitVec 32 := Scalar.extui v128
  let c0_i32_64 : BitVec 32 := 0#32
  let v130 : BitVec 1 := Scalar.cmpi .ne v129 c0_i32_64
  v130

def k0_off24 (v303 : BitVec 32) : Fin 2 → Nat :=
  let v304 : BitVec 32 := v303
  let c0_i32_188 : BitVec 32 := 0#32
  ![v304.toNat, 0]

def k0_chk24 (i : grid0.Coords) (v127 : BitVec 32) (v303 : BitVec 32) : Prop :=
  (∀ (k0_h1 : k0_cond1 i = 1#1), ∀ (k0_h25 : k0_cond25 v127 = 1#1), 512 ∣ (k0_mult24 v303).toNat) ∧
  (∀ (k0_h1 : k0_cond1 i = 1#1), ∀ (k0_h25 : k0_cond25 v127 = 1#1), ∀ a, (k0_off24 v303) a + S512x2048.size a ≤ S155648x2048.size a)
theorem k0_mult24_dvd : ∀ (i : grid0.Coords) (v127 : BitVec 32) (v303 : BitVec 32) (k0_hw24 : k0_chk24 i v127 v303), ∀ (k0_h1 : k0_cond1 i = 1#1), ∀ (k0_h25 : k0_cond25 v127 = 1#1), 512 ∣ (k0_mult24 v303).toNat := fun i v127 v303 k0_hw24 k0_h1 k0_h25 => k0_hw24.1 k0_h1 k0_h25
theorem k0_off24_inb : ∀ (i : grid0.Coords) (v127 : BitVec 32) (v303 : BitVec 32) (k0_hw24 : k0_chk24 i v127 v303), ∀ (k0_h1 : k0_cond1 i = 1#1), ∀ (k0_h25 : k0_cond25 v127 = 1#1), ∀ a, (k0_off24 v303) a + S512x2048.size a ≤ S155648x2048.size a := fun i v127 v303 k0_hw24 k0_h1 k0_h25 => k0_hw24.2 k0_h1 k0_h25

def k0_mult25 (v303 : BitVec 32) : BitVec 32 :=
  v303
def k0_cond26 (v131 : BitVec 32) : BitVec 1 :=
  let c0_i32_65 : BitVec 32 := 0#32
  let v132 : BitVec 1 := Scalar.cmpi .sge v131 c0_i32_65
  let v133 : BitVec 32 := Scalar.extui v132
  let c0_i32_66 : BitVec 32 := 0#32
  let v134 : BitVec 1 := Scalar.cmpi .ne v133 c0_i32_66
  v134

def k0_off25 (v303 : BitVec 32) : Fin 2 → Nat :=
  let v304 : BitVec 32 := v303
  let c0_i32_188 : BitVec 32 := 0#32
  ![v304.toNat, 0]

def k0_chk25 (i : grid0.Coords) (v131 : BitVec 32) (v303 : BitVec 32) : Prop :=
  (∀ (k0_h1 : k0_cond1 i = 1#1), ∀ (k0_h26 : k0_cond26 v131 = 1#1), 512 ∣ (k0_mult25 v303).toNat) ∧
  (∀ (k0_h1 : k0_cond1 i = 1#1), ∀ (k0_h26 : k0_cond26 v131 = 1#1), ∀ a, (k0_off25 v303) a + S512x2048.size a ≤ S155648x2048.size a)
theorem k0_mult25_dvd : ∀ (i : grid0.Coords) (v131 : BitVec 32) (v303 : BitVec 32) (k0_hw25 : k0_chk25 i v131 v303), ∀ (k0_h1 : k0_cond1 i = 1#1), ∀ (k0_h26 : k0_cond26 v131 = 1#1), 512 ∣ (k0_mult25 v303).toNat := fun i v131 v303 k0_hw25 k0_h1 k0_h26 => k0_hw25.1 k0_h1 k0_h26
theorem k0_off25_inb : ∀ (i : grid0.Coords) (v131 : BitVec 32) (v303 : BitVec 32) (k0_hw25 : k0_chk25 i v131 v303), ∀ (k0_h1 : k0_cond1 i = 1#1), ∀ (k0_h26 : k0_cond26 v131 = 1#1), ∀ a, (k0_off25 v303) a + S512x2048.size a ≤ S155648x2048.size a := fun i v131 v303 k0_hw25 k0_h1 k0_h26 => k0_hw25.2 k0_h1 k0_h26

def k0_mult26 (v303 : BitVec 32) : BitVec 32 :=
  v303
def k0_cond27 (v135 : BitVec 32) : BitVec 1 :=
  let c0_i32_67 : BitVec 32 := 0#32
  let v136 : BitVec 1 := Scalar.cmpi .sge v135 c0_i32_67
  let v137 : BitVec 32 := Scalar.extui v136
  let c0_i32_68 : BitVec 32 := 0#32
  let v138 : BitVec 1 := Scalar.cmpi .ne v137 c0_i32_68
  v138

def k0_off26 (v303 : BitVec 32) : Fin 2 → Nat :=
  let v304 : BitVec 32 := v303
  let c0_i32_188 : BitVec 32 := 0#32
  ![v304.toNat, 0]

def k0_chk26 (i : grid0.Coords) (v135 : BitVec 32) (v303 : BitVec 32) : Prop :=
  (∀ (k0_h1 : k0_cond1 i = 1#1), ∀ (k0_h27 : k0_cond27 v135 = 1#1), 512 ∣ (k0_mult26 v303).toNat) ∧
  (∀ (k0_h1 : k0_cond1 i = 1#1), ∀ (k0_h27 : k0_cond27 v135 = 1#1), ∀ a, (k0_off26 v303) a + S512x2048.size a ≤ S155648x2048.size a)
theorem k0_mult26_dvd : ∀ (i : grid0.Coords) (v135 : BitVec 32) (v303 : BitVec 32) (k0_hw26 : k0_chk26 i v135 v303), ∀ (k0_h1 : k0_cond1 i = 1#1), ∀ (k0_h27 : k0_cond27 v135 = 1#1), 512 ∣ (k0_mult26 v303).toNat := fun i v135 v303 k0_hw26 k0_h1 k0_h27 => k0_hw26.1 k0_h1 k0_h27
theorem k0_off26_inb : ∀ (i : grid0.Coords) (v135 : BitVec 32) (v303 : BitVec 32) (k0_hw26 : k0_chk26 i v135 v303), ∀ (k0_h1 : k0_cond1 i = 1#1), ∀ (k0_h27 : k0_cond27 v135 = 1#1), ∀ a, (k0_off26 v303) a + S512x2048.size a ≤ S155648x2048.size a := fun i v135 v303 k0_hw26 k0_h1 k0_h27 => k0_hw26.2 k0_h1 k0_h27

def k0_mult27 (v303 : BitVec 32) : BitVec 32 :=
  v303
def k0_cond28 (v139 : BitVec 32) : BitVec 1 :=
  let c0_i32_69 : BitVec 32 := 0#32
  let v140 : BitVec 1 := Scalar.cmpi .sge v139 c0_i32_69
  let v141 : BitVec 32 := Scalar.extui v140
  let c0_i32_70 : BitVec 32 := 0#32
  let v142 : BitVec 1 := Scalar.cmpi .ne v141 c0_i32_70
  v142

def k0_off27 (v303 : BitVec 32) : Fin 2 → Nat :=
  let v304 : BitVec 32 := v303
  let c0_i32_188 : BitVec 32 := 0#32
  ![v304.toNat, 0]

def k0_chk27 (i : grid0.Coords) (v139 : BitVec 32) (v303 : BitVec 32) : Prop :=
  (∀ (k0_h1 : k0_cond1 i = 1#1), ∀ (k0_h28 : k0_cond28 v139 = 1#1), 512 ∣ (k0_mult27 v303).toNat) ∧
  (∀ (k0_h1 : k0_cond1 i = 1#1), ∀ (k0_h28 : k0_cond28 v139 = 1#1), ∀ a, (k0_off27 v303) a + S512x2048.size a ≤ S155648x2048.size a)
theorem k0_mult27_dvd : ∀ (i : grid0.Coords) (v139 : BitVec 32) (v303 : BitVec 32) (k0_hw27 : k0_chk27 i v139 v303), ∀ (k0_h1 : k0_cond1 i = 1#1), ∀ (k0_h28 : k0_cond28 v139 = 1#1), 512 ∣ (k0_mult27 v303).toNat := fun i v139 v303 k0_hw27 k0_h1 k0_h28 => k0_hw27.1 k0_h1 k0_h28
theorem k0_off27_inb : ∀ (i : grid0.Coords) (v139 : BitVec 32) (v303 : BitVec 32) (k0_hw27 : k0_chk27 i v139 v303), ∀ (k0_h1 : k0_cond1 i = 1#1), ∀ (k0_h28 : k0_cond28 v139 = 1#1), ∀ a, (k0_off27 v303) a + S512x2048.size a ≤ S155648x2048.size a := fun i v139 v303 k0_hw27 k0_h1 k0_h28 => k0_hw27.2 k0_h1 k0_h28

def k0_mult28 (v303 : BitVec 32) : BitVec 32 :=
  v303
def k0_cond29 (v143 : BitVec 32) : BitVec 1 :=
  let c0_i32_71 : BitVec 32 := 0#32
  let v144 : BitVec 1 := Scalar.cmpi .sge v143 c0_i32_71
  let v145 : BitVec 32 := Scalar.extui v144
  let c0_i32_72 : BitVec 32 := 0#32
  let v146 : BitVec 1 := Scalar.cmpi .ne v145 c0_i32_72
  v146

def k0_off28 (v303 : BitVec 32) : Fin 2 → Nat :=
  let v304 : BitVec 32 := v303
  let c0_i32_188 : BitVec 32 := 0#32
  ![v304.toNat, 0]

def k0_chk28 (i : grid0.Coords) (v143 : BitVec 32) (v303 : BitVec 32) : Prop :=
  (∀ (k0_h1 : k0_cond1 i = 1#1), ∀ (k0_h29 : k0_cond29 v143 = 1#1), 512 ∣ (k0_mult28 v303).toNat) ∧
  (∀ (k0_h1 : k0_cond1 i = 1#1), ∀ (k0_h29 : k0_cond29 v143 = 1#1), ∀ a, (k0_off28 v303) a + S512x2048.size a ≤ S155648x2048.size a)
theorem k0_mult28_dvd : ∀ (i : grid0.Coords) (v143 : BitVec 32) (v303 : BitVec 32) (k0_hw28 : k0_chk28 i v143 v303), ∀ (k0_h1 : k0_cond1 i = 1#1), ∀ (k0_h29 : k0_cond29 v143 = 1#1), 512 ∣ (k0_mult28 v303).toNat := fun i v143 v303 k0_hw28 k0_h1 k0_h29 => k0_hw28.1 k0_h1 k0_h29
theorem k0_off28_inb : ∀ (i : grid0.Coords) (v143 : BitVec 32) (v303 : BitVec 32) (k0_hw28 : k0_chk28 i v143 v303), ∀ (k0_h1 : k0_cond1 i = 1#1), ∀ (k0_h29 : k0_cond29 v143 = 1#1), ∀ a, (k0_off28 v303) a + S512x2048.size a ≤ S155648x2048.size a := fun i v143 v303 k0_hw28 k0_h1 k0_h29 => k0_hw28.2 k0_h1 k0_h29

def k0_mult29 (v303 : BitVec 32) : BitVec 32 :=
  v303
def k0_cond30 (v147 : BitVec 32) : BitVec 1 :=
  let c0_i32_73 : BitVec 32 := 0#32
  let v148 : BitVec 1 := Scalar.cmpi .sge v147 c0_i32_73
  let v149 : BitVec 32 := Scalar.extui v148
  let c0_i32_74 : BitVec 32 := 0#32
  let v150 : BitVec 1 := Scalar.cmpi .ne v149 c0_i32_74
  v150

def k0_off29 (v303 : BitVec 32) : Fin 2 → Nat :=
  let v304 : BitVec 32 := v303
  let c0_i32_188 : BitVec 32 := 0#32
  ![v304.toNat, 0]

def k0_chk29 (i : grid0.Coords) (v147 : BitVec 32) (v303 : BitVec 32) : Prop :=
  (∀ (k0_h1 : k0_cond1 i = 1#1), ∀ (k0_h30 : k0_cond30 v147 = 1#1), 512 ∣ (k0_mult29 v303).toNat) ∧
  (∀ (k0_h1 : k0_cond1 i = 1#1), ∀ (k0_h30 : k0_cond30 v147 = 1#1), ∀ a, (k0_off29 v303) a + S512x2048.size a ≤ S155648x2048.size a)
theorem k0_mult29_dvd : ∀ (i : grid0.Coords) (v147 : BitVec 32) (v303 : BitVec 32) (k0_hw29 : k0_chk29 i v147 v303), ∀ (k0_h1 : k0_cond1 i = 1#1), ∀ (k0_h30 : k0_cond30 v147 = 1#1), 512 ∣ (k0_mult29 v303).toNat := fun i v147 v303 k0_hw29 k0_h1 k0_h30 => k0_hw29.1 k0_h1 k0_h30
theorem k0_off29_inb : ∀ (i : grid0.Coords) (v147 : BitVec 32) (v303 : BitVec 32) (k0_hw29 : k0_chk29 i v147 v303), ∀ (k0_h1 : k0_cond1 i = 1#1), ∀ (k0_h30 : k0_cond30 v147 = 1#1), ∀ a, (k0_off29 v303) a + S512x2048.size a ≤ S155648x2048.size a := fun i v147 v303 k0_hw29 k0_h1 k0_h30 => k0_hw29.2 k0_h1 k0_h30

def k0_mult30 (v303 : BitVec 32) : BitVec 32 :=
  v303
def k0_cond31 (v151 : BitVec 32) : BitVec 1 :=
  let c0_i32_75 : BitVec 32 := 0#32
  let v152 : BitVec 1 := Scalar.cmpi .sge v151 c0_i32_75
  let v153 : BitVec 32 := Scalar.extui v152
  let c0_i32_76 : BitVec 32 := 0#32
  let v154 : BitVec 1 := Scalar.cmpi .ne v153 c0_i32_76
  v154

def k0_off30 (v303 : BitVec 32) : Fin 2 → Nat :=
  let v304 : BitVec 32 := v303
  let c0_i32_188 : BitVec 32 := 0#32
  ![v304.toNat, 0]

def k0_chk30 (i : grid0.Coords) (v151 : BitVec 32) (v303 : BitVec 32) : Prop :=
  (∀ (k0_h1 : k0_cond1 i = 1#1), ∀ (k0_h31 : k0_cond31 v151 = 1#1), 512 ∣ (k0_mult30 v303).toNat) ∧
  (∀ (k0_h1 : k0_cond1 i = 1#1), ∀ (k0_h31 : k0_cond31 v151 = 1#1), ∀ a, (k0_off30 v303) a + S512x2048.size a ≤ S155648x2048.size a)
theorem k0_mult30_dvd : ∀ (i : grid0.Coords) (v151 : BitVec 32) (v303 : BitVec 32) (k0_hw30 : k0_chk30 i v151 v303), ∀ (k0_h1 : k0_cond1 i = 1#1), ∀ (k0_h31 : k0_cond31 v151 = 1#1), 512 ∣ (k0_mult30 v303).toNat := fun i v151 v303 k0_hw30 k0_h1 k0_h31 => k0_hw30.1 k0_h1 k0_h31
theorem k0_off30_inb : ∀ (i : grid0.Coords) (v151 : BitVec 32) (v303 : BitVec 32) (k0_hw30 : k0_chk30 i v151 v303), ∀ (k0_h1 : k0_cond1 i = 1#1), ∀ (k0_h31 : k0_cond31 v151 = 1#1), ∀ a, (k0_off30 v303) a + S512x2048.size a ≤ S155648x2048.size a := fun i v151 v303 k0_hw30 k0_h1 k0_h31 => k0_hw30.2 k0_h1 k0_h31

def k0_mult31 (v303 : BitVec 32) : BitVec 32 :=
  v303
def k0_cond32 (v155 : BitVec 32) : BitVec 1 :=
  let c0_i32_77 : BitVec 32 := 0#32
  let v156 : BitVec 1 := Scalar.cmpi .sge v155 c0_i32_77
  let v157 : BitVec 32 := Scalar.extui v156
  let c0_i32_78 : BitVec 32 := 0#32
  let v158 : BitVec 1 := Scalar.cmpi .ne v157 c0_i32_78
  v158

def k0_off31 (v303 : BitVec 32) : Fin 2 → Nat :=
  let v304 : BitVec 32 := v303
  let c0_i32_188 : BitVec 32 := 0#32
  ![v304.toNat, 0]

def k0_chk31 (i : grid0.Coords) (v155 : BitVec 32) (v303 : BitVec 32) : Prop :=
  (∀ (k0_h1 : k0_cond1 i = 1#1), ∀ (k0_h32 : k0_cond32 v155 = 1#1), 512 ∣ (k0_mult31 v303).toNat) ∧
  (∀ (k0_h1 : k0_cond1 i = 1#1), ∀ (k0_h32 : k0_cond32 v155 = 1#1), ∀ a, (k0_off31 v303) a + S512x2048.size a ≤ S155648x2048.size a)
theorem k0_mult31_dvd : ∀ (i : grid0.Coords) (v155 : BitVec 32) (v303 : BitVec 32) (k0_hw31 : k0_chk31 i v155 v303), ∀ (k0_h1 : k0_cond1 i = 1#1), ∀ (k0_h32 : k0_cond32 v155 = 1#1), 512 ∣ (k0_mult31 v303).toNat := fun i v155 v303 k0_hw31 k0_h1 k0_h32 => k0_hw31.1 k0_h1 k0_h32
theorem k0_off31_inb : ∀ (i : grid0.Coords) (v155 : BitVec 32) (v303 : BitVec 32) (k0_hw31 : k0_chk31 i v155 v303), ∀ (k0_h1 : k0_cond1 i = 1#1), ∀ (k0_h32 : k0_cond32 v155 = 1#1), ∀ a, (k0_off31 v303) a + S512x2048.size a ≤ S155648x2048.size a := fun i v155 v303 k0_hw31 k0_h1 k0_h32 => k0_hw31.2 k0_h1 k0_h32

def k0_mult32 (v303 : BitVec 32) : BitVec 32 :=
  v303
def k0_cond33 (v159 : BitVec 32) : BitVec 1 :=
  let c0_i32_79 : BitVec 32 := 0#32
  let v160 : BitVec 1 := Scalar.cmpi .sge v159 c0_i32_79
  let v161 : BitVec 32 := Scalar.extui v160
  let c0_i32_80 : BitVec 32 := 0#32
  let v162 : BitVec 1 := Scalar.cmpi .ne v161 c0_i32_80
  v162

def k0_off32 (v303 : BitVec 32) : Fin 2 → Nat :=
  let v304 : BitVec 32 := v303
  let c0_i32_188 : BitVec 32 := 0#32
  ![v304.toNat, 0]

def k0_chk32 (i : grid0.Coords) (v159 : BitVec 32) (v303 : BitVec 32) : Prop :=
  (∀ (k0_h1 : k0_cond1 i = 1#1), ∀ (k0_h33 : k0_cond33 v159 = 1#1), 512 ∣ (k0_mult32 v303).toNat) ∧
  (∀ (k0_h1 : k0_cond1 i = 1#1), ∀ (k0_h33 : k0_cond33 v159 = 1#1), ∀ a, (k0_off32 v303) a + S512x2048.size a ≤ S155648x2048.size a)
theorem k0_mult32_dvd : ∀ (i : grid0.Coords) (v159 : BitVec 32) (v303 : BitVec 32) (k0_hw32 : k0_chk32 i v159 v303), ∀ (k0_h1 : k0_cond1 i = 1#1), ∀ (k0_h33 : k0_cond33 v159 = 1#1), 512 ∣ (k0_mult32 v303).toNat := fun i v159 v303 k0_hw32 k0_h1 k0_h33 => k0_hw32.1 k0_h1 k0_h33
theorem k0_off32_inb : ∀ (i : grid0.Coords) (v159 : BitVec 32) (v303 : BitVec 32) (k0_hw32 : k0_chk32 i v159 v303), ∀ (k0_h1 : k0_cond1 i = 1#1), ∀ (k0_h33 : k0_cond33 v159 = 1#1), ∀ a, (k0_off32 v303) a + S512x2048.size a ≤ S155648x2048.size a := fun i v159 v303 k0_hw32 k0_h1 k0_h33 => k0_hw32.2 k0_h1 k0_h33

@[reducible] def k0_t1_loop (v291 : BitVec 32) : Scf.Loop 32 :=
  let c304_i32 : BitVec 32 := 304#32
  let v292 : BitVec 32 := Scalar.subi c304_i32 v291
  let c1_i32_178 : BitVec 32 := 1#32
  let v294 : BitVec 32 := Scalar.divsi v292 c1_i32_178
  let v295 : BitVec 32 := Scalar.muli v294 c1_i32_178
  let v296 : BitVec 32 := Scalar.addi v291 v295
  let c1_i32_179 : BitVec 32 := 1#32
  ⟨v291, v296, c1_i32_179⟩

def k0_mult33 (v291 : BitVec 32) (k0_t1 : Fin (k0_t1_loop v291).trips) : BitVec 32 :=
  let c1_i32_179 : BitVec 32 := 1#32
  let arg11 : BitVec 32 := Scf.iv v291 c1_i32_179 k0_t1
  let c512_i32 : BitVec 32 := 512#32
  let v303 : BitVec 32 := Scalar.muli arg11 c512_i32
  v303
def k0_off33 (v291 : BitVec 32) (k0_t1 : Fin (k0_t1_loop v291).trips) : Fin 2 → Nat :=
  let c1_i32_179 : BitVec 32 := 1#32
  let arg11 : BitVec 32 := Scf.iv v291 c1_i32_179 k0_t1
  let c512_i32 : BitVec 32 := 512#32
  let v303 : BitVec 32 := Scalar.muli arg11 c512_i32
  let v304 : BitVec 32 := v303
  let c0_i32_187 : BitVec 32 := 0#32
  ![v304.toNat, 0]
@[reducible] def k0_t2_loop (v291 : BitVec 32) : Scf.Loop 32 :=
  let c304_i32 : BitVec 32 := 304#32
  let v292 : BitVec 32 := Scalar.subi c304_i32 v291
  let c1_i32_178 : BitVec 32 := 1#32
  let v294 : BitVec 32 := Scalar.divsi v292 c1_i32_178
  let v295 : BitVec 32 := Scalar.muli v294 c1_i32_178
  let v296 : BitVec 32 := Scalar.addi v291 v295
  let v293 : BitVec 32 := Scalar.addi v291 v292
  let c1_i32_180 : BitVec 32 := 1#32
  ⟨v296, v293, c1_i32_180⟩
def k0_mult34 (v291 : BitVec 32) (k0_t2 : Fin (k0_t2_loop v291).trips) : BitVec 32 :=
  let c304_i32 : BitVec 32 := 304#32
  let v292 : BitVec 32 := Scalar.subi c304_i32 v291
  let c1_i32_178 : BitVec 32 := 1#32
  let v294 : BitVec 32 := Scalar.divsi v292 c1_i32_178
  let v295 : BitVec 32 := Scalar.muli v294 c1_i32_178
  let v296 : BitVec 32 := Scalar.addi v291 v295
  let c1_i32_180 : BitVec 32 := 1#32
  let arg11 : BitVec 32 := Scf.iv v296 c1_i32_180 k0_t2
  let c512_i32 : BitVec 32 := 512#32
  let v303 : BitVec 32 := Scalar.muli arg11 c512_i32
  v303
def k0_off34 (v291 : BitVec 32) (k0_t2 : Fin (k0_t2_loop v291).trips) : Fin 2 → Nat :=
  let c304_i32 : BitVec 32 := 304#32
  let v292 : BitVec 32 := Scalar.subi c304_i32 v291
  let c1_i32_178 : BitVec 32 := 1#32
  let v294 : BitVec 32 := Scalar.divsi v292 c1_i32_178
  let v295 : BitVec 32 := Scalar.muli v294 c1_i32_178
  let v296 : BitVec 32 := Scalar.addi v291 v295
  let c1_i32_180 : BitVec 32 := 1#32
  let arg11 : BitVec 32 := Scf.iv v296 c1_i32_180 k0_t2
  let c512_i32 : BitVec 32 := 512#32
  let v303 : BitVec 32 := Scalar.muli arg11 c512_i32
  let v304 : BitVec 32 := v303
  let c0_i32_187 : BitVec 32 := 0#32
  ![v304.toNat, 0]

def k0_chk33 (i : grid0.Coords) (v291 : BitVec 32) : Prop :=
  (∀ (k0_h1 : k0_cond1 i = 1#1), (k0_t1_loop v291).OK) ∧
  (∀ k0_t1 : Fin (k0_t1_loop v291).trips, ∀ (k0_h1 : k0_cond1 i = 1#1), 512 ∣ (k0_mult33 v291 k0_t1).toNat) ∧
  (∀ k0_t1 : Fin (k0_t1_loop v291).trips, ∀ (k0_h1 : k0_cond1 i = 1#1), ∀ a, (k0_off33 v291 k0_t1) a + S512x2048.size a ≤ S155648x2048.size a) ∧
  (∀ (k0_h1 : k0_cond1 i = 1#1), (k0_t2_loop v291).OK) ∧
  (∀ k0_t2 : Fin (k0_t2_loop v291).trips, ∀ (k0_h1 : k0_cond1 i = 1#1), 512 ∣ (k0_mult34 v291 k0_t2).toNat) ∧
  (∀ k0_t2 : Fin (k0_t2_loop v291).trips, ∀ (k0_h1 : k0_cond1 i = 1#1), ∀ a, (k0_off34 v291 k0_t2) a + S512x2048.size a ≤ S155648x2048.size a)
theorem k0_t1_ok : ∀ (i : grid0.Coords) (v291 : BitVec 32) (k0_hw33 : k0_chk33 i v291), ∀ (k0_h1 : k0_cond1 i = 1#1), (k0_t1_loop v291).OK := fun i v291 k0_hw33 k0_h1 => k0_hw33.1 k0_h1
theorem k0_mult33_dvd : ∀ (i : grid0.Coords) (v291 : BitVec 32) (k0_hw33 : k0_chk33 i v291) (k0_t1 : Fin (k0_t1_loop v291).trips), ∀ (k0_h1 : k0_cond1 i = 1#1), 512 ∣ (k0_mult33 v291 k0_t1).toNat := fun i v291 k0_hw33 k0_t1 k0_h1 => k0_hw33.2.1 k0_t1 k0_h1
theorem k0_off33_inb : ∀ (i : grid0.Coords) (v291 : BitVec 32) (k0_hw33 : k0_chk33 i v291) (k0_t1 : Fin (k0_t1_loop v291).trips), ∀ (k0_h1 : k0_cond1 i = 1#1), ∀ a, (k0_off33 v291 k0_t1) a + S512x2048.size a ≤ S155648x2048.size a := fun i v291 k0_hw33 k0_t1 k0_h1 => k0_hw33.2.2.1 k0_t1 k0_h1
theorem k0_t2_ok : ∀ (i : grid0.Coords) (v291 : BitVec 32) (k0_hw33 : k0_chk33 i v291), ∀ (k0_h1 : k0_cond1 i = 1#1), (k0_t2_loop v291).OK := fun i v291 k0_hw33 k0_h1 => k0_hw33.2.2.2.1 k0_h1
theorem k0_mult34_dvd : ∀ (i : grid0.Coords) (v291 : BitVec 32) (k0_hw33 : k0_chk33 i v291) (k0_t2 : Fin (k0_t2_loop v291).trips), ∀ (k0_h1 : k0_cond1 i = 1#1), 512 ∣ (k0_mult34 v291 k0_t2).toNat := fun i v291 k0_hw33 k0_t2 k0_h1 => k0_hw33.2.2.2.2.1 k0_t2 k0_h1
theorem k0_off34_inb : ∀ (i : grid0.Coords) (v291 : BitVec 32) (k0_hw33 : k0_chk33 i v291) (k0_t2 : Fin (k0_t2_loop v291).trips), ∀ (k0_h1 : k0_cond1 i = 1#1), ∀ a, (k0_off34 v291 k0_t2) a + S512x2048.size a ≤ S155648x2048.size a := fun i v291 k0_hw33 k0_t2 k0_h1 => k0_hw33.2.2.2.2.2 k0_t2 k0_h1

@[reducible] def k0_t3_loop (v297 : BitVec 32) : Scf.Loop 32 :=
  let c304_i32_183 : BitVec 32 := 304#32
  let v298 : BitVec 32 := Scalar.subi c304_i32_183 v297
  let c1_i32_184 : BitVec 32 := 1#32
  let v300 : BitVec 32 := Scalar.divsi v298 c1_i32_184
  let v301 : BitVec 32 := Scalar.muli v300 c1_i32_184
  let v302 : BitVec 32 := Scalar.addi v297 v301
  let c1_i32_185 : BitVec 32 := 1#32
  ⟨v297, v302, c1_i32_185⟩

@[reducible] def k0_t4_loop (v297 : BitVec 32) : Scf.Loop 32 :=
  let c304_i32_183 : BitVec 32 := 304#32
  let v298 : BitVec 32 := Scalar.subi c304_i32_183 v297
  let c1_i32_184 : BitVec 32 := 1#32
  let v300 : BitVec 32 := Scalar.divsi v298 c1_i32_184
  let v301 : BitVec 32 := Scalar.muli v300 c1_i32_184
  let v302 : BitVec 32 := Scalar.addi v297 v301
  let v299 : BitVec 32 := Scalar.addi v297 v298
  let c1_i32_186 : BitVec 32 := 1#32
  ⟨v302, v299, c1_i32_186⟩

def k0_chk34 (i : grid0.Coords) (v297 : BitVec 32) : Prop :=
  (∀ (k0_h1 : k0_cond1 i = 1#1), (k0_t3_loop v297).OK) ∧
  (∀ (k0_h1 : k0_cond1 i = 1#1), (k0_t4_loop v297).OK)
theorem k0_t3_ok : ∀ (i : grid0.Coords) (v297 : BitVec 32) (k0_hw34 : k0_chk34 i v297), ∀ (k0_h1 : k0_cond1 i = 1#1), (k0_t3_loop v297).OK := fun i v297 k0_hw34 k0_h1 => k0_hw34.1 k0_h1
theorem k0_t4_ok : ∀ (i : grid0.Coords) (v297 : BitVec 32) (k0_hw34 : k0_chk34 i v297), ∀ (k0_h1 : k0_cond1 i = 1#1), (k0_t4_loop v297).OK := fun i v297 k0_hw34 k0_h1 => k0_hw34.2 k0_h1

def k0_cond66 (i : grid0.Coords) : BitVec 1 :=
  let arg0 : BitVec 32 := BitVec.ofNat 32 (i 0).val
  let c64_i32 : BitVec 32 := 64#32
  let v13 : BitVec 1 := Scalar.cmpi .slt arg0 c64_i32
  let v14 : BitVec 32 := Scalar.extui v13
  let c0_i32_5 : BitVec 32 := 0#32
  let v15 : BitVec 1 := Scalar.cmpi .ne v14 c0_i32_5
  v15

def k0_off35 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : Index := Scalar.indexCast v9
  let c0_20 : Index := 0#32
  let c0_21 : Index := 0#32
  ![v46.toNat, 0, 0]
def k0_cond67 (i : grid0.Coords) : BitVec 1 :=
  let arg0 : BitVec 32 := BitVec.ofNat 32 (i 0).val
  let c64_i32_6 : BitVec 32 := 64#32
  let v16 : BitVec 1 := Scalar.cmpi .sge arg0 c64_i32_6
  let v17 : BitVec 32 := Scalar.extui v16
  let c0_i32_7 : BitVec 32 := 0#32
  let v18 : BitVec 1 := Scalar.cmpi .ne v17 c0_i32_7
  v18

def k0_off36 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : Index := Scalar.indexCast v9
  let c0_20 : Index := 0#32
  let c0_21 : Index := 0#32
  ![v46.toNat, 0, 0]
def k0_cond68 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_8 : BitVec 32 := 0#32
  let v19 : BitVec 1 := Scalar.cmpi .eq v9 c0_i32_8
  let v20 : BitVec 32 := Scalar.extui v19
  let c0_i32_9 : BitVec 32 := 0#32
  let v21 : BitVec 1 := Scalar.cmpi .ne v20 c0_i32_9
  v21

@[reducible] def k0_t5_loop : Scf.Loop 32 :=
  let c0_i32_15 : BitVec 32 := 0#32
  let c512_i32 : BitVec 32 := 512#32
  let v31 : BitVec 32 := Scalar.addi c0_i32_15 c512_i32
  let c1_i32_16 : BitVec 32 := 1#32
  ⟨c0_i32_15, v31, c1_i32_16⟩
def k0_off37 (k0_t5 : Fin k0_t5_loop.trips) : Fin 1 → Nat :=
  let c0_i32_15 : BitVec 32 := 0#32
  let c1_i32_16 : BitVec 32 := 1#32
  let arg11 : BitVec 32 := Scf.iv c0_i32_15 c1_i32_16 k0_t5
  let c4_i32 : BitVec 32 := 4#32
  let v32 : BitVec 32 := Scalar.muli arg11 c4_i32
  let c0_i32_18 : BitVec 32 := 0#32
  let v33 : BitVec 32 := Scalar.addi v32 c0_i32_18
  let v34 : Index := Scalar.indexCast v33
  ![v34.toNat]
def k0_off38 (v35 : BitVec 32) : Fin 2 → Nat :=
  let c0_i32_21 : BitVec 32 := 0#32
  ![v35.toNat, 0]

def k0_chk35 (i : grid0.Coords) (v35 : BitVec 32) : Prop :=
  (∀ (k0_h68 : k0_cond68 i = 1#1), ∀ a, (k0_off38 v35) a + S1x2048.size a ≤ S155648x2048.size a)
theorem k0_off38_inb : ∀ (i : grid0.Coords) (v35 : BitVec 32) (k0_hw35 : k0_chk35 i v35), ∀ (k0_h68 : k0_cond68 i = 1#1), ∀ a, (k0_off38 v35) a + S1x2048.size a ≤ S155648x2048.size a := fun i v35 k0_hw35 k0_h68 => k0_hw35 k0_h68

def k0_off39 (k0_t5 : Fin k0_t5_loop.trips) : Fin 3 → Nat :=
  let c0_i32_19 : BitVec 32 := 0#32
  let c0_i32_15 : BitVec 32 := 0#32
  let c1_i32_16 : BitVec 32 := 1#32
  let arg11 : BitVec 32 := Scf.iv c0_i32_15 c1_i32_16 k0_t5
  let c0_i32_22 : BitVec 32 := 0#32
  ![0, arg11.toNat, 0]
def k0_off40 (k0_t5 : Fin k0_t5_loop.trips) : Fin 1 → Nat :=
  let c0_i32_15 : BitVec 32 := 0#32
  let c1_i32_16 : BitVec 32 := 1#32
  let arg11 : BitVec 32 := Scf.iv c0_i32_15 c1_i32_16 k0_t5
  let c4_i32_23 : BitVec 32 := 4#32
  let v41 : BitVec 32 := Scalar.muli arg11 c4_i32_23
  let c1_i32_24 : BitVec 32 := 1#32
  let v42 : BitVec 32 := Scalar.addi v41 c1_i32_24
  let v43 : Index := Scalar.indexCast v42
  ![v43.toNat]
def k0_off41 (v44 : BitVec 32) : Fin 2 → Nat :=
  let c0_i32_27 : BitVec 32 := 0#32
  ![v44.toNat, 0]

def k0_chk36 (i : grid0.Coords) (v44 : BitVec 32) : Prop :=
  (∀ (k0_h68 : k0_cond68 i = 1#1), ∀ a, (k0_off41 v44) a + S1x2048.size a ≤ S155648x2048.size a)
theorem k0_off41_inb : ∀ (i : grid0.Coords) (v44 : BitVec 32) (k0_hw36 : k0_chk36 i v44), ∀ (k0_h68 : k0_cond68 i = 1#1), ∀ a, (k0_off41 v44) a + S1x2048.size a ≤ S155648x2048.size a := fun i v44 k0_hw36 k0_h68 => k0_hw36 k0_h68

def k0_off42 (k0_t5 : Fin k0_t5_loop.trips) : Fin 3 → Nat :=
  let c0_i32_25 : BitVec 32 := 0#32
  let c0_i32_15 : BitVec 32 := 0#32
  let c1_i32_16 : BitVec 32 := 1#32
  let arg11 : BitVec 32 := Scf.iv c0_i32_15 c1_i32_16 k0_t5
  let c0_i32_28 : BitVec 32 := 0#32
  ![0, arg11.toNat, 0]
def k0_off43 (k0_t5 : Fin k0_t5_loop.trips) : Fin 1 → Nat :=
  let c0_i32_15 : BitVec 32 := 0#32
  let c1_i32_16 : BitVec 32 := 1#32
  let arg11 : BitVec 32 := Scf.iv c0_i32_15 c1_i32_16 k0_t5
  let c4_i32_29 : BitVec 32 := 4#32
  let v50 : BitVec 32 := Scalar.muli arg11 c4_i32_29
  let c2_i32_30 : BitVec 32 := 2#32
  let v51 : BitVec 32 := Scalar.addi v50 c2_i32_30
  let v52 : Index := Scalar.indexCast v51
  ![v52.toNat]
def k0_off44 (v53 : BitVec 32) : Fin 2 → Nat :=
  let c0_i32_33 : BitVec 32 := 0#32
  ![v53.toNat, 0]

def k0_chk37 (i : grid0.Coords) (v53 : BitVec 32) : Prop :=
  (∀ (k0_h68 : k0_cond68 i = 1#1), ∀ a, (k0_off44 v53) a + S1x2048.size a ≤ S155648x2048.size a)
theorem k0_off44_inb : ∀ (i : grid0.Coords) (v53 : BitVec 32) (k0_hw37 : k0_chk37 i v53), ∀ (k0_h68 : k0_cond68 i = 1#1), ∀ a, (k0_off44 v53) a + S1x2048.size a ≤ S155648x2048.size a := fun i v53 k0_hw37 k0_h68 => k0_hw37 k0_h68

def k0_off45 (k0_t5 : Fin k0_t5_loop.trips) : Fin 3 → Nat :=
  let c0_i32_31 : BitVec 32 := 0#32
  let c0_i32_15 : BitVec 32 := 0#32
  let c1_i32_16 : BitVec 32 := 1#32
  let arg11 : BitVec 32 := Scf.iv c0_i32_15 c1_i32_16 k0_t5
  let c0_i32_34 : BitVec 32 := 0#32
  ![0, arg11.toNat, 0]
def k0_off46 (k0_t5 : Fin k0_t5_loop.trips) : Fin 1 → Nat :=
  let c0_i32_15 : BitVec 32 := 0#32
  let c1_i32_16 : BitVec 32 := 1#32
  let arg11 : BitVec 32 := Scf.iv c0_i32_15 c1_i32_16 k0_t5
  let c4_i32_35 : BitVec 32 := 4#32
  let v59 : BitVec 32 := Scalar.muli arg11 c4_i32_35
  let c3_i32 : BitVec 32 := 3#32
  let v60 : BitVec 32 := Scalar.addi v59 c3_i32
  let v61 : Index := Scalar.indexCast v60
  ![v61.toNat]
def k0_off47 (v62 : BitVec 32) : Fin 2 → Nat :=
  let c0_i32_38 : BitVec 32 := 0#32
  ![v62.toNat, 0]

def k0_chk38 (i : grid0.Coords) (v62 : BitVec 32) : Prop :=
  (∀ (k0_h68 : k0_cond68 i = 1#1), ∀ a, (k0_off47 v62) a + S1x2048.size a ≤ S155648x2048.size a)
theorem k0_off47_inb : ∀ (i : grid0.Coords) (v62 : BitVec 32) (k0_hw38 : k0_chk38 i v62), ∀ (k0_h68 : k0_cond68 i = 1#1), ∀ a, (k0_off47 v62) a + S1x2048.size a ≤ S155648x2048.size a := fun i v62 k0_hw38 k0_h68 => k0_hw38 k0_h68

def k0_off48 (k0_t5 : Fin k0_t5_loop.trips) : Fin 3 → Nat :=
  let c0_i32_36 : BitVec 32 := 0#32
  let c0_i32_15 : BitVec 32 := 0#32
  let c1_i32_16 : BitVec 32 := 1#32
  let arg11 : BitVec 32 := Scf.iv c0_i32_15 c1_i32_16 k0_t5
  let c0_i32_39 : BitVec 32 := 0#32
  ![0, arg11.toNat, 0]
def k0_cond69 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_10 : BitVec 32 := 1#32
  let v22 : BitVec 1 := Scalar.cmpi .eq v9 c1_i32_10
  let v23 : BitVec 32 := Scalar.extui v22
  let c0_i32_11 : BitVec 32 := 0#32
  let v24 : BitVec 1 := Scalar.cmpi .ne v23 c0_i32_11
  v24

@[reducible] def k0_t6_loop : Scf.Loop 32 :=
  let c0_i32_15 : BitVec 32 := 0#32
  let c512_i32 : BitVec 32 := 512#32
  let v31 : BitVec 32 := Scalar.addi c0_i32_15 c512_i32
  let c1_i32_16 : BitVec 32 := 1#32
  ⟨c0_i32_15, v31, c1_i32_16⟩
def k0_off49 (k0_t6 : Fin k0_t6_loop.trips) : Fin 1 → Nat :=
  let c0_i32_15 : BitVec 32 := 0#32
  let c1_i32_16 : BitVec 32 := 1#32
  let arg11 : BitVec 32 := Scf.iv c0_i32_15 c1_i32_16 k0_t6
  let c4_i32 : BitVec 32 := 4#32
  let v32 : BitVec 32 := Scalar.muli arg11 c4_i32
  let c0_i32_18 : BitVec 32 := 0#32
  let v33 : BitVec 32 := Scalar.addi v32 c0_i32_18
  let v34 : Index := Scalar.indexCast v33
  ![v34.toNat]
def k0_off50 (v35 : BitVec 32) : Fin 2 → Nat :=
  let c0_i32_21 : BitVec 32 := 0#32
  ![v35.toNat, 0]

def k0_chk39 (i : grid0.Coords) (v35 : BitVec 32) : Prop :=
  (∀ (k0_h69 : k0_cond69 i = 1#1), ∀ a, (k0_off50 v35) a + S1x2048.size a ≤ S155648x2048.size a)
theorem k0_off50_inb : ∀ (i : grid0.Coords) (v35 : BitVec 32) (k0_hw39 : k0_chk39 i v35), ∀ (k0_h69 : k0_cond69 i = 1#1), ∀ a, (k0_off50 v35) a + S1x2048.size a ≤ S155648x2048.size a := fun i v35 k0_hw39 k0_h69 => k0_hw39 k0_h69

def k0_off51 (k0_t6 : Fin k0_t6_loop.trips) : Fin 3 → Nat :=
  let c1_i32_19 : BitVec 32 := 1#32
  let c0_i32_15 : BitVec 32 := 0#32
  let c1_i32_16 : BitVec 32 := 1#32
  let arg11 : BitVec 32 := Scf.iv c0_i32_15 c1_i32_16 k0_t6
  let c0_i32_22 : BitVec 32 := 0#32
  ![1, arg11.toNat, 0]
def k0_off52 (k0_t6 : Fin k0_t6_loop.trips) : Fin 1 → Nat :=
  let c0_i32_15 : BitVec 32 := 0#32
  let c1_i32_16 : BitVec 32 := 1#32
  let arg11 : BitVec 32 := Scf.iv c0_i32_15 c1_i32_16 k0_t6
  let c4_i32_23 : BitVec 32 := 4#32
  let v41 : BitVec 32 := Scalar.muli arg11 c4_i32_23
  let c1_i32_24 : BitVec 32 := 1#32
  let v42 : BitVec 32 := Scalar.addi v41 c1_i32_24
  let v43 : Index := Scalar.indexCast v42
  ![v43.toNat]
def k0_off53 (v44 : BitVec 32) : Fin 2 → Nat :=
  let c0_i32_27 : BitVec 32 := 0#32
  ![v44.toNat, 0]

def k0_chk40 (i : grid0.Coords) (v44 : BitVec 32) : Prop :=
  (∀ (k0_h69 : k0_cond69 i = 1#1), ∀ a, (k0_off53 v44) a + S1x2048.size a ≤ S155648x2048.size a)
theorem k0_off53_inb : ∀ (i : grid0.Coords) (v44 : BitVec 32) (k0_hw40 : k0_chk40 i v44), ∀ (k0_h69 : k0_cond69 i = 1#1), ∀ a, (k0_off53 v44) a + S1x2048.size a ≤ S155648x2048.size a := fun i v44 k0_hw40 k0_h69 => k0_hw40 k0_h69

def k0_off54 (k0_t6 : Fin k0_t6_loop.trips) : Fin 3 → Nat :=
  let c1_i32_25 : BitVec 32 := 1#32
  let c0_i32_15 : BitVec 32 := 0#32
  let c1_i32_16 : BitVec 32 := 1#32
  let arg11 : BitVec 32 := Scf.iv c0_i32_15 c1_i32_16 k0_t6
  let c0_i32_28 : BitVec 32 := 0#32
  ![1, arg11.toNat, 0]
def k0_off55 (k0_t6 : Fin k0_t6_loop.trips) : Fin 1 → Nat :=
  let c0_i32_15 : BitVec 32 := 0#32
  let c1_i32_16 : BitVec 32 := 1#32
  let arg11 : BitVec 32 := Scf.iv c0_i32_15 c1_i32_16 k0_t6
  let c4_i32_29 : BitVec 32 := 4#32
  let v50 : BitVec 32 := Scalar.muli arg11 c4_i32_29
  let c2_i32_30 : BitVec 32 := 2#32
  let v51 : BitVec 32 := Scalar.addi v50 c2_i32_30
  let v52 : Index := Scalar.indexCast v51
  ![v52.toNat]
def k0_off56 (v53 : BitVec 32) : Fin 2 → Nat :=
  let c0_i32_33 : BitVec 32 := 0#32
  ![v53.toNat, 0]

def k0_chk41 (i : grid0.Coords) (v53 : BitVec 32) : Prop :=
  (∀ (k0_h69 : k0_cond69 i = 1#1), ∀ a, (k0_off56 v53) a + S1x2048.size a ≤ S155648x2048.size a)
theorem k0_off56_inb : ∀ (i : grid0.Coords) (v53 : BitVec 32) (k0_hw41 : k0_chk41 i v53), ∀ (k0_h69 : k0_cond69 i = 1#1), ∀ a, (k0_off56 v53) a + S1x2048.size a ≤ S155648x2048.size a := fun i v53 k0_hw41 k0_h69 => k0_hw41 k0_h69

def k0_off57 (k0_t6 : Fin k0_t6_loop.trips) : Fin 3 → Nat :=
  let c1_i32_31 : BitVec 32 := 1#32
  let c0_i32_15 : BitVec 32 := 0#32
  let c1_i32_16 : BitVec 32 := 1#32
  let arg11 : BitVec 32 := Scf.iv c0_i32_15 c1_i32_16 k0_t6
  let c0_i32_34 : BitVec 32 := 0#32
  ![1, arg11.toNat, 0]
def k0_off58 (k0_t6 : Fin k0_t6_loop.trips) : Fin 1 → Nat :=
  let c0_i32_15 : BitVec 32 := 0#32
  let c1_i32_16 : BitVec 32 := 1#32
  let arg11 : BitVec 32 := Scf.iv c0_i32_15 c1_i32_16 k0_t6
  let c4_i32_35 : BitVec 32 := 4#32
  let v59 : BitVec 32 := Scalar.muli arg11 c4_i32_35
  let c3_i32 : BitVec 32 := 3#32
  let v60 : BitVec 32 := Scalar.addi v59 c3_i32
  let v61 : Index := Scalar.indexCast v60
  ![v61.toNat]
def k0_off59 (v62 : BitVec 32) : Fin 2 → Nat :=
  let c0_i32_38 : BitVec 32 := 0#32
  ![v62.toNat, 0]

def k0_chk42 (i : grid0.Coords) (v62 : BitVec 32) : Prop :=
  (∀ (k0_h69 : k0_cond69 i = 1#1), ∀ a, (k0_off59 v62) a + S1x2048.size a ≤ S155648x2048.size a)
theorem k0_off59_inb : ∀ (i : grid0.Coords) (v62 : BitVec 32) (k0_hw42 : k0_chk42 i v62), ∀ (k0_h69 : k0_cond69 i = 1#1), ∀ a, (k0_off59 v62) a + S1x2048.size a ≤ S155648x2048.size a := fun i v62 k0_hw42 k0_h69 => k0_hw42 k0_h69

def k0_off60 (k0_t6 : Fin k0_t6_loop.trips) : Fin 3 → Nat :=
  let c1_i32_36 : BitVec 32 := 1#32
  let c0_i32_15 : BitVec 32 := 0#32
  let c1_i32_16 : BitVec 32 := 1#32
  let arg11 : BitVec 32 := Scf.iv c0_i32_15 c1_i32_16 k0_t6
  let c0_i32_39 : BitVec 32 := 0#32
  ![1, arg11.toNat, 0]
def k0_cond70 (i : grid0.Coords) : BitVec 1 :=
  let arg0 : BitVec 32 := BitVec.ofNat 32 (i 0).val
  let c0_i32_12 : BitVec 32 := 0#32
  let v25 : BitVec 1 := Scalar.cmpi .sgt arg0 c0_i32_12
  let v26 : BitVec 32 := Scalar.extui v25
  let c0_i32_13 : BitVec 32 := 0#32
  let v27 : BitVec 1 := Scalar.cmpi .ne v26 c0_i32_13
  v27

@[reducible] def k0_t7_loop : Scf.Loop 32 :=
  let c0_i32_16 : BitVec 32 := 0#32
  let c512_i32 : BitVec 32 := 512#32
  let v32 : BitVec 32 := Scalar.addi c0_i32_16 c512_i32
  let c1_i32_17 : BitVec 32 := 1#32
  ⟨c0_i32_16, v32, c1_i32_17⟩
def k0_off61 (i : grid0.Coords) : Fin 1 → Nat :=
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v31 : BitVec 32 := Scalar.subi c1_i32_15 v9
  ![v31.toNat]
def k0_off62 (i : grid0.Coords) (k0_t7 : Fin k0_t7_loop.trips) : Fin 3 → Nat :=
  let c1_i32_15 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v31 : BitVec 32 := Scalar.subi c1_i32_15 v9
  let c0_i32_16 : BitVec 32 := 0#32
  let c1_i32_17 : BitVec 32 := 1#32
  let arg11 : BitVec 32 := Scf.iv c0_i32_16 c1_i32_17 k0_t7
  let c0_i32_21 : BitVec 32 := 0#32
  ![v31.toNat, arg11.toNat, 0]
def k0_cond71 (i : grid0.Coords) : BitVec 1 :=
  let arg0 : BitVec 32 := BitVec.ofNat 32 (i 0).val
  let c67_i32 : BitVec 32 := 67#32
  let v28 : BitVec 1 := Scalar.cmpi .eq arg0 c67_i32
  let v29 : BitVec 32 := Scalar.extui v28
  let c0_i32_14 : BitVec 32 := 0#32
  let v30 : BitVec 1 := Scalar.cmpi .ne v29 c0_i32_14
  v30

@[reducible] def k0_t8_loop : Scf.Loop 32 :=
  let c0_i32_15 : BitVec 32 := 0#32
  let c512_i32 : BitVec 32 := 512#32
  let v31 : BitVec 32 := Scalar.addi c0_i32_15 c512_i32
  let c1_i32_16 : BitVec 32 := 1#32
  ⟨c0_i32_15, v31, c1_i32_16⟩
def k0_off63 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off64 (i : grid0.Coords) (k0_t8 : Fin k0_t8_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_15 : BitVec 32 := 0#32
  let c1_i32_16 : BitVec 32 := 1#32
  let arg11 : BitVec 32 := Scf.iv c0_i32_15 c1_i32_16 k0_t8
  let c0_i32_20 : BitVec 32 := 0#32
  ![v9.toNat, arg11.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .smem S33 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .smem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S33 : Shape := ⟨1, ![33]⟩
abbrev S139264 : Shape := ⟨1, ![139264]⟩
abbrev S2048 : Shape := ⟨1, ![2048]⟩
abbrev S32768x2048 : Shape := ⟨2, ![32768, 2048]⟩
abbrev S2048x2048 : Shape := ⟨2, ![2048, 2048]⟩
abbrev S34816x2048 : Shape := ⟨2, ![34816, 2048]⟩
abbrev S_ : Shape := ⟨0, ![]⟩
abbrev S34816 : Shape := ⟨1, ![34816]⟩
abbrev S34816x1 : Shape := ⟨2, ![34816, 1]⟩
abbrev S1x2048 : Shape := ⟨2, ![1, 2048]⟩
abbrev S155648x2048 : Shape := ⟨2, ![155648, 2048]⟩
abbrev S34816x4x2048 : Shape := ⟨3, ![34816, 4, 2048]⟩
abbrev S139264x2048 : Shape := ⟨2, ![139264, 2048]⟩
abbrev S139264x1 : Shape := ⟨2, ![139264, 1]⟩

abbrev nBuf : Space → Nat
  | .hbm => 35
  | .vmem => 0
  | .smem => 0
  | _ => 0

abbrev bufTy : (tb : Table) → Fin (tcTables nBuf tb) → BufTy
  | .hbm, ⟨0, _⟩ => ⟨S33, .i32⟩
  | .hbm, ⟨1, _⟩ => ⟨S139264, .i32⟩
  | .hbm, ⟨2, _⟩ => ⟨S2048, .f32⟩
  | .hbm, ⟨3, _⟩ => ⟨S32768x2048, .f32⟩
  | .hbm, ⟨4, _⟩ => ⟨S2048x2048, .f32⟩
  | .hbm, ⟨5, _⟩ => ⟨S34816x2048, .f32⟩
  | .hbm, ⟨6, _⟩ => ⟨S34816x2048, .f32⟩
  | .hbm, ⟨7, _⟩ => ⟨S_, .f32⟩
  | .hbm, ⟨8, _⟩ => ⟨S34816, .f32⟩
  | .hbm, ⟨9, _⟩ => ⟨S34816x1, .f32⟩
  | .hbm, ⟨10, _⟩ => ⟨S_, .f32⟩
  | .hbm, ⟨11, _⟩ => ⟨S34816x1, .f32⟩
  | .hbm, ⟨12, _⟩ => ⟨S34816x1, .f32⟩
  | .hbm, ⟨13, _⟩ => ⟨S_, .f32⟩
  | .hbm, ⟨14, _⟩ => ⟨S34816x1, .f32⟩
  | .hbm, ⟨15, _⟩ => ⟨S34816x1, .f32⟩
  | .hbm, ⟨16, _⟩ => ⟨S34816x1, .f32⟩
  | .hbm, ⟨17, _⟩ => ⟨S34816x2048, .f32⟩
  | .hbm, ⟨18, _⟩ => ⟨S34816x2048, .f32⟩
  | .hbm, ⟨19, _⟩ => ⟨S1x2048, .f32⟩
  | .hbm, ⟨20, _⟩ => ⟨S34816x2048, .f32⟩
  | .hbm, ⟨21, _⟩ => ⟨S34816x2048, .f32⟩
  | .hbm, ⟨22, _⟩ => ⟨S_, .f32⟩
  | .hbm, ⟨23, _⟩ => ⟨S155648x2048, .f32⟩
  | .hbm, ⟨24, _⟩ => ⟨S34816x4x2048, .f32⟩
  | .hbm, ⟨25, _⟩ => ⟨S139264x2048, .f32⟩
  | .hbm, ⟨26, _⟩ => ⟨S_, .i32⟩
  | .hbm, ⟨27, _⟩ => ⟨S139264, .i32⟩
  | .hbm, ⟨28, _⟩ => ⟨S139264, .i1⟩
  | .hbm, ⟨29, _⟩ => ⟨S_, .i32⟩
  | .hbm, ⟨30, _⟩ => ⟨S139264, .i32⟩
  | .hbm, ⟨31, _⟩ => ⟨S139264, .i32⟩
  | .hbm, ⟨32, _⟩ => ⟨S139264, .i32⟩
  | .hbm, ⟨33, _⟩ => ⟨S139264x1, .i32⟩
  | .hbm, ⟨34, _⟩ => ⟨S155648x2048, .f32⟩
  | _, _ => ⟨S33, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel2.lean ====
abbrev S304 : Shape := ⟨1, ![304]⟩
abbrev S305 : Shape := ⟨1, ![305]⟩
abbrev S155648x2048 : Shape := ⟨2, ![155648, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x1x4096 : Shape := ⟨3, ![32, 1, 4096]⟩
abbrev S32x1x2048 : Shape := ⟨3, ![32, 1, 2048]⟩
abbrev S1 : Shape := ⟨1, ![1]⟩
abbrev S_ : Shape := ⟨0, ![]⟩
abbrev S304x1 : Shape := ⟨2, ![304, 1]⟩
abbrev S512x2048 : Shape := ⟨2, ![512, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S2048x1024 : Shape := ⟨2, ![2048, 1024]⟩
abbrev S512x1024 : Shape := ⟨2, ![512, 1024]⟩
abbrev S1x1024 : Shape := ⟨2, ![1, 1024]⟩
abbrev S1024x2048 : Shape := ⟨2, ![1024, 2048]⟩
abbrev S1x2048 : Shape := ⟨2, ![1, 2048]⟩
abbrev S256x2048 : Shape := ⟨2, ![256, 2048]⟩
abbrev S256x1024 : Shape := ⟨2, ![256, 1024]⟩

abbrev nBuf : Space → Nat
  | .hbm => 24
  | .vmem => 18
  | .smem => 2
  | _ => 0

abbrev bufTy : (tb : Table) → Fin (tcTables nBuf tb) → BufTy
  | .hbm, ⟨0, _⟩ => ⟨S304, .i32⟩
  | .hbm, ⟨1, _⟩ => ⟨S155648x2048, .f32⟩
  | .hbm, ⟨2, _⟩ => ⟨S32x2048x4096, .f32⟩
  | .hbm, ⟨3, _⟩ => ⟨S32x4096, .f32⟩
  | .hbm, ⟨4, _⟩ => ⟨S32x2048x2048, .f32⟩
  | .hbm, ⟨5, _⟩ => ⟨S32x2048, .f32⟩
  | .hbm, ⟨6, _⟩ => ⟨S32x1x4096, .f32⟩
  | .hbm, ⟨7, _⟩ => ⟨S32x1x2048, .f32⟩
  | .hbm, ⟨8, _⟩ => ⟨S304, .i32⟩
  | .hbm, ⟨9, _⟩ => ⟨S1, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S304, .i32⟩
  | .hbm, ⟨14, _⟩ => ⟨S304, .i32⟩
  | .hbm, ⟨15, _⟩ => ⟨S_, .i32⟩
  | .hbm, ⟨16, _⟩ => ⟨S304, .i32⟩
  | .hbm, ⟨17, _⟩ => ⟨S304, .i1⟩
  | .hbm, ⟨18, _⟩ => ⟨S_, .i32⟩
  | .hbm, ⟨19, _⟩ => ⟨S304, .i32⟩
  | .hbm, ⟨20, _⟩ => ⟨S304, .i32⟩
  | .hbm, ⟨21, _⟩ => ⟨S304, .i32⟩
  | .hbm, ⟨22, _⟩ => ⟨S304x1, .i32⟩
  | .hbm, ⟨23, _⟩ => ⟨S155648x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .f32⟩
  | .local _ .vmem, ⟨3, _⟩ => ⟨S1x2048x1024, .f32⟩
  | .local _ .vmem, ⟨4, _⟩ => ⟨S1x2048x1024, .f32⟩
  | .local _ .vmem, ⟨5, _⟩ => ⟨S1x2048x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .f32⟩
  | .local _ .vmem, ⟨11, _⟩ => ⟨S1x1024x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | .local _ .smem, ⟨0, _⟩ => ⟨S304, .i32⟩
  | .local _ .smem, ⟨1, _⟩ => ⟨S305, .i32⟩
  | _, _ => ⟨S304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v15 : Ref sig .tc := ⟨.hbm, 23, rfl⟩
abbrev main_v14 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![304, 2], ![false, false]⟩

abbrev pre0 : Pipeline.Prefetch sig := ⟨2, ![main_v14.idx, main_arg1.idx], fun | 0 => main_v14.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let c1_i32 : BitVec 32 := 1#32
  let arg0 : BitVec 32 := BitVec.ofNat 32 (i 0).val
  let v2 : BitVec 32 := Scalar.addi c1_i32 arg0
  let v3 : Index := Scalar.indexCast v2
  ![v3.toNat]
def k0_cond1 (i : grid0.Coords) (v0 : BitVec 32) (v4 : BitVec 32) : BitVec 1 :=
  let arg0 : BitVec 32 := BitVec.ofNat 32 (i 0).val
  let v1 : BitVec 1 := Scalar.cmpi .slt arg0 v0
  let c1_i32_0 : BitVec 32 := 1#32
  let v5 : BitVec 1 := Scalar.cmpi .eq v4 c1_i32_0
  let v_true : BitVec 1 := 1#1
  let v6 : BitVec 1 := Scalar.xori v5 v_true
  let v7 : BitVec 1 := Scalar.andi v1 v6
  let v8 : BitVec 32 := Scalar.extui v7
  let c0_i32 : BitVec 32 := 0#32
  let v9 : BitVec 1 := Scalar.cmpi .ne v8 c0_i32
  v9

def k0_cond3 (i : grid0.Coords) : BitVec 1 :=
  let arg1 : BitVec 32 := BitVec.ofNat 32 (i 1).val
  let c1_i32_35 : BitVec 32 := 1#32
  let v58 : BitVec 1 := Scalar.cmpi .eq arg1 c1_i32_35
  let v59 : BitVec 32 := Scalar.extui v58
  let c0_i32_36 : BitVec 32 := 0#32
  let v60 : BitVec 1 := Scalar.cmpi .ne v59 c0_i32_36
  v60

def k0_cond4 (i : grid0.Coords) (v0 : BitVec 32) (v4 : BitVec 32) : BitVec 1 :=
  let arg0 : BitVec 32 := BitVec.ofNat 32 (i 0).val
  let v1 : BitVec 1 := Scalar.cmpi .slt arg0 v0
  let c1_i32_0 : BitVec 32 := 1#32
  let v5 : BitVec 1 := Scalar.cmpi .eq v4 c1_i32_0
  let v10 : BitVec 1 := Scalar.andi v1 v5
  let v11 : BitVec 32 := Scalar.extui v10
  let c0_i32_1 : BitVec 32 := 0#32
  let v12 : BitVec 1 := Scalar.cmpi .ne v11 c0_i32_1
  v12

def k0_cond6 (i : grid0.Coords) : BitVec 1 :=
  let arg1 : BitVec 32 := BitVec.ofNat 32 (i 1).val
  let c1_i32_35 : BitVec 32 := 1#32
  let v58 : BitVec 1 := Scalar.cmpi .eq arg1 c1_i32_35
  let v59 : BitVec 32 := Scalar.extui v58
  let c0_i32_36 : BitVec 32 := 0#32
  let v60 : BitVec 1 := Scalar.cmpi .ne v59 c0_i32_36
  v60

def k0_cond7 (i : grid0.Coords) : BitVec 1 :=
  let arg1 : BitVec 32 := BitVec.ofNat 32 (i 1).val
  let c1_i32_37 : BitVec 32 := 1#32
  let v61 : BitVec 1 := Scalar.cmpi .eq arg1 c1_i32_37
  let v62 : BitVec 32 := Scalar.extui v61
  let c0_i32_38 : BitVec 32 := 0#32
  let v63 : BitVec 1 := Scalar.cmpi .ne v62 c0_i32_38
  v63

def k0_cond8 (i : grid0.Coords) (v0 : BitVec 32) : BitVec 1 :=
  let arg0 : BitVec 32 := BitVec.ofNat 32 (i 0).val
  let v1 : BitVec 1 := Scalar.cmpi .slt arg0 v0
  let true_2 : BitVec 1 := 1#1
  let v13 : BitVec 1 := Scalar.xori v1 true_2
  let arg1 : BitVec 32 := BitVec.ofNat 32 (i 1).val
  let c0_i32_3 : BitVec 32 := 0#32
  let v14 : BitVec 1 := Scalar.cmpi .eq arg1 c0_i32_3
  let v15 : BitVec 1 := Scalar.andi v13 v14
  let v16 : BitVec 32 := Scalar.extui v15
  let c0_i32_4 : BitVec 32 := 0#32
  let v17 : BitVec 1 := Scalar.cmpi .ne v16 c0_i32_4
  v17

def cc0_transform_0 (inb_S305_S1_0 : ∀ a, (![0] : Fin 1 → Nat) a + S1.size a ≤ S305.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S305) ![0] S1.size inb_S305_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S304.size a) (numel1_S1 : S1.numel = 1) (inb_S305_S1_0 : ∀ a, (![0] : Fin 1 → Nat) a + S1.size a ≤ S305.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S304) ![v0.toNat] S1.size (k0_off1_inb i)) numel1_S1
  let c0 : Index := 0#32
  let v2 : BitVec 32 := pf.at 1 (Rect.unit (s := S305) ![0] S1.size inb_S305_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S304.size a) (numel1_S1 : S1.numel = 1) (inb_S305_S1_0 : ∀ a, (![0] : Fin 1 → Nat) a + S1.size a ≤ S305.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S304) ![v0.toNat] S1.size (k0_off1_inb i)) numel1_S1
  let c0 : Index := 0#32
  let v2 : BitVec 32 := pf.at 1 (Rect.unit (s := S305) ![0] S1.size inb_S305_S1_0) numel1_S1
  let v3 : BitVec 1 := Scalar.cmpi .slt arg0 v2
  let c1_i32 : BitVec 32 := 1#32
  let v4 : BitVec 32 := Scalar.select v3 arg1 c1_i32
  let c2_i32 : BitVec 32 := 2#32
  let v5 : BitVec 32 := Scalar.addi c2_i32 v4
  let c0_i32 : BitVec 32 := 0#32
  let c0_i32_0 : BitVec 32 := 0#32
  ![v1.toNat, c0_i32.toNat, v5.toNat]

def cc0_transform_3 (k0_off1_inb : ∀ i : grid0.Coords, ∀ a, (k0_off1 i) a + S1.size a ≤ S304.size a) (numel1_S1 : S1.numel = 1) (inb_S305_S1_0 : ∀ a, (![0] : Fin 1 → Nat) a + S1.size a ≤ S305.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S304) ![v0.toNat] S1.size (k0_off1_inb i)) numel1_S1
  let c0 : Index := 0#32
  let v2 : BitVec 32 := pf.at 1 (Rect.unit (s := S305) ![0] S1.size inb_S305_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S304.size a) (numel1_S1 : S1.numel = 1) (inb_S305_S1_0 : ∀ a, (![0] : Fin 1 → Nat) a + S1.size a ≤ S305.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S304) ![v0.toNat] S1.size (k0_off1_inb i)) numel1_S1
  let c0 : Index := 0#32
  let v2 : BitVec 32 := pf.at 1 (Rect.unit (s := S305) ![0] S1.size inb_S305_S1_0) numel1_S1
  let v3 : BitVec 1 := Scalar.cmpi .slt arg0 v2
  let c1_i32 : BitVec 32 := 1#32
  let v4 : BitVec 32 := Scalar.select v3 arg1 c1_i32
  let c2_i32 : BitVec 32 := 2#32
  let v5 : BitVec 32 := Scalar.addi c2_i32 v4
  let c0_i32 : BitVec 32 := 0#32
  let c0_i32_0 : BitVec 32 := 0#32
  ![v1.toNat, c0_i32.toNat, v5.toNat]

def cc0_transform_5 (k0_off1_inb : ∀ i : grid0.Coords, ∀ a, (k0_off1 i) a + S1.size a ≤ S304.size a) (numel1_S1 : S1.numel = 1) (inb_S305_S1_0 : ∀ a, (![0] : Fin 1 → Nat) a + S1.size a ≤ S305.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S304) ![v0.toNat] S1.size (k0_off1_inb i)) numel1_S1
  let c0 : Index := 0#32
  let v2 : BitVec 32 := pf.at 1 (Rect.unit (s := S305) ![0] S1.size inb_S305_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S304 : Shape := ⟨1, ![304]⟩
abbrev S305 : Shape := ⟨1, ![305]⟩
abbrev S155648x2048 : Shape := ⟨2, ![155648, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S304x512x2048 : Shape := ⟨3, ![304, 512, 2048]⟩
abbrev S_ : Shape := ⟨0, ![]⟩
abbrev S304x1 : Shape := ⟨2, ![304, 1]⟩
abbrev S304x2048x4096 : Shape := ⟨3, ![304, 2048, 4096]⟩
abbrev S304x512x4096 : Shape := ⟨3, ![304, 512, 4096]⟩
abbrev S304x4096 : Shape := ⟨2, ![304, 4096]⟩
abbrev S304x1x4096 : Shape := ⟨3, ![304, 1, 4096]⟩
abbrev S304x2048x2048 : Shape := ⟨3, ![304, 2048, 2048]⟩
abbrev S304x2048 : Shape := ⟨2, ![304, 2048]⟩
abbrev S304x1x2048 : Shape := ⟨3, ![304, 1, 2048]⟩
abbrev S1 : Shape := ⟨1, ![1]⟩
abbrev S512 : Shape := ⟨1, ![512]⟩
abbrev S1x512 : Shape := ⟨2, ![1, 512]⟩
abbrev S304x512 : Shape := ⟨2, ![304, 512]⟩
abbrev S304x512x1 : Shape := ⟨3, ![304, 512, 1]⟩

abbrev nBuf : Space → Nat
  | .hbm => 112
  | .vmem => 0
  | .smem => 0
  | _ => 0

abbrev bufTy : (tb : Table) → Fin (tcTables nBuf tb) → BufTy
  | .hbm, ⟨0, _⟩ => ⟨S304, .i32⟩
  | .hbm, ⟨1, _⟩ => ⟨S305, .i32⟩
  | .hbm, ⟨2, _⟩ => ⟨S155648x2048, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S304x512x2048, .f32⟩
  | .hbm, ⟨8, _⟩ => ⟨S_, .i32⟩
  | .hbm, ⟨9, _⟩ => ⟨S304, .i32⟩
  | .hbm, ⟨10, _⟩ => ⟨S304, .i1⟩
  | .hbm, ⟨11, _⟩ => ⟨S_, .i32⟩
  | .hbm, ⟨12, _⟩ => ⟨S304, .i32⟩
  | .hbm, ⟨13, _⟩ => ⟨S304, .i32⟩
  | .hbm, ⟨14, _⟩ => ⟨S304, .i32⟩
  | .hbm, ⟨15, _⟩ => ⟨S304x1, .i32⟩
  | .hbm, ⟨16, _⟩ => ⟨S304x2048x4096, .f32⟩
  | .hbm, ⟨17, _⟩ => ⟨S304x512x4096, .f32⟩
  | .hbm, ⟨18, _⟩ => ⟨S_, .i32⟩
  | .hbm, ⟨19, _⟩ => ⟨S304, .i32⟩
  | .hbm, ⟨20, _⟩ => ⟨S304, .i1⟩
  | .hbm, ⟨21, _⟩ => ⟨S_, .i32⟩
  | .hbm, ⟨22, _⟩ => ⟨S304, .i32⟩
  | .hbm, ⟨23, _⟩ => ⟨S304, .i32⟩
  | .hbm, ⟨24, _⟩ => ⟨S304, .i32⟩
  | .hbm, ⟨25, _⟩ => ⟨S304x1, .i32⟩
  | .hbm, ⟨26, _⟩ => ⟨S304x4096, .f32⟩
  | .hbm, ⟨27, _⟩ => ⟨S304x1x4096, .f32⟩
  | .hbm, ⟨28, _⟩ => ⟨S304x512x4096, .f32⟩
  | .hbm, ⟨29, _⟩ => ⟨S304x512x4096, .f32⟩
  | .hbm, ⟨30, _⟩ => ⟨S304x512x2048, .f32⟩
  | .hbm, ⟨31, _⟩ => ⟨S304x512x2048, .f32⟩
  | .hbm, ⟨32, _⟩ => ⟨S_, .f32⟩
  | .hbm, ⟨33, _⟩ => ⟨S304x512x2048, .f32⟩
  | .hbm, ⟨34, _⟩ => ⟨S304x512x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S304x512x2048, .f32⟩
  | .hbm, ⟨39, _⟩ => ⟨S304x512x2048, .f32⟩
  | .hbm, ⟨40, _⟩ => ⟨S_, .f32⟩
  | .hbm, ⟨41, _⟩ => ⟨S304x512x2048, .f32⟩
  | .hbm, ⟨42, _⟩ => ⟨S304x512x2048, .f32⟩
  | .hbm, ⟨43, _⟩ => ⟨S_, .f32⟩
  | .hbm, ⟨44, _⟩ => ⟨S304x512x2048, .f32⟩
  | .hbm, ⟨45, _⟩ => ⟨S304x512x2048, .f32⟩
  | .hbm, ⟨46, _⟩ => ⟨S304x512x2048, .f32⟩
  | .hbm, ⟨47, _⟩ => ⟨S_, .f32⟩
  | .hbm, ⟨48, _⟩ => ⟨S304x512x2048, .f32⟩
  | .hbm, ⟨49, _⟩ => ⟨S304x512x2048, .f32⟩
  | .hbm, ⟨50, _⟩ => ⟨S304x512x2048, .f32⟩
  | .hbm, ⟨51, _⟩ => ⟨S304x512x2048, .f32⟩
  | .hbm, ⟨52, _⟩ => ⟨S_, .f32⟩
  | .hbm, ⟨53, _⟩ => ⟨S304x512x2048, .f32⟩
  | .hbm, ⟨54, _⟩ => ⟨S304x512x2048, .f32⟩
  | .hbm, ⟨55, _⟩ => ⟨S_, .f32⟩
  | .hbm, ⟨56, _⟩ => ⟨S304x512x2048, .f32⟩
  | .hbm, ⟨57, _⟩ => ⟨S304x512x2048, .f32⟩
  | .hbm, ⟨58, _⟩ => ⟨S304x512x2048, .f32⟩
  | .hbm, ⟨59, _⟩ => ⟨S_, .i32⟩
  | .hbm, ⟨60, _⟩ => ⟨S304, .i32⟩
  | .hbm, ⟨61, _⟩ => ⟨S304, .i1⟩
  | .hbm, ⟨62, _⟩ => ⟨S_, .i32⟩
  | .hbm, ⟨63, _⟩ => ⟨S304, .i32⟩
  | .hbm, ⟨64, _⟩ => ⟨S304, .i32⟩
  | .hbm, ⟨65, _⟩ => ⟨S304, .i32⟩
  | .hbm, ⟨66, _⟩ => ⟨S304x1, .i32⟩
  | .hbm, ⟨67, _⟩ => ⟨S304x2048x2048, .f32⟩
  | .hbm, ⟨68, _⟩ => ⟨S304x512x2048, .f32⟩
  | .hbm, ⟨69, _⟩ => ⟨S_, .i32⟩
  | .hbm, ⟨70, _⟩ => ⟨S304, .i32⟩
  | .hbm, ⟨71, _⟩ => ⟨S304, .i1⟩
  | .hbm, ⟨72, _⟩ => ⟨S_, .i32⟩
  | .hbm, ⟨73, _⟩ => ⟨S304, .i32⟩
  | .hbm, ⟨74, _⟩ => ⟨S304, .i32⟩
  | .hbm, ⟨75, _⟩ => ⟨S304, .i32⟩
  | .hbm, ⟨76, _⟩ => ⟨S304x1, .i32⟩
  | .hbm, ⟨77, _⟩ => ⟨S304x2048, .f32⟩
  | .hbm, ⟨78, _⟩ => ⟨S304x1x2048, .f32⟩
  | .hbm, ⟨79, _⟩ => ⟨S304x512x2048, .f32⟩
  | .hbm, ⟨80, _⟩ => ⟨S304x512x2048, .f32⟩
  | .hbm, ⟨81, _⟩ => ⟨S304, .i32⟩
  | .hbm, ⟨82, _⟩ => ⟨S1, .i32⟩
  | .hbm, ⟨83, _⟩ => ⟨S_, .i32⟩
  | .hbm, ⟨84, _⟩ => ⟨S304, .i32⟩
  | .hbm, ⟨85, _⟩ => ⟨S304, .i1⟩
  | .hbm, ⟨86, _⟩ => ⟨S304, .i32⟩
  | .hbm, ⟨87, _⟩ => ⟨S_, .i32⟩
  | .hbm, ⟨88, _⟩ => ⟨S304, .i32⟩
  | .hbm, ⟨89, _⟩ => ⟨S304, .i1⟩
  | .hbm, ⟨90, _⟩ => ⟨S_, .i32⟩
  | .hbm, ⟨91, _⟩ => ⟨S_, .i32⟩
  | .hbm, ⟨92, _⟩ => ⟨S304, .i32⟩
  | .hbm, ⟨93, _⟩ => ⟨S304, .i32⟩
  | .hbm, ⟨94, _⟩ => ⟨S304, .i32⟩
  | .hbm, ⟨95, _⟩ => ⟨S_, .i32⟩
  | .hbm, ⟨96, _⟩ => ⟨S304, .i32⟩
  | .hbm, ⟨97, _⟩ => ⟨S304, .i32⟩
  | .hbm, ⟨98, _⟩ => ⟨S512, .i32⟩
  | .hbm, ⟨99, _⟩ => ⟨S1x512, .i32⟩
  | .hbm, ⟨100, _⟩ => ⟨S304x1, .i32⟩
  | .hbm, ⟨101, _⟩ => ⟨S304x1, .i32⟩
  | .hbm, ⟨102, _⟩ => ⟨S304x512, .i32⟩
  | .hbm, ⟨103, _⟩ => ⟨S304x512, .i32⟩
  | .hbm, ⟨104, _⟩ => ⟨S304x512, .i1⟩
  | .hbm, ⟨105, _⟩ => ⟨S304x512x1, .i1⟩
  | .hbm, ⟨106, _⟩ => ⟨S_, .f32⟩
  | .hbm, ⟨107, _⟩ => ⟨S_, .f32⟩
  | .hbm, ⟨108, _⟩ => ⟨S304x512x2048, .i1⟩
  | .hbm, ⟨109, _⟩ => ⟨S304x512x2048, .f32⟩
  | .hbm, ⟨110, _⟩ => ⟨S304x512x2048, .f32⟩
  | .hbm, ⟨111, _⟩ => ⟨S155648x2048, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_c_15 : Ref sig .tc := ⟨.hbm, 91, rfl⟩
abbrev main_call1_v0 : Ref sig .tc := ⟨.hbm, 92, rfl⟩
abbrev main_call1_v1 : Ref sig .tc := ⟨.hbm, 93, rfl⟩
abbrev main_v62 : Ref sig .tc := ⟨.hbm, 94, rfl⟩
abbrev main_c_16 : Ref sig .tc := ⟨.hbm, 95, rfl⟩
abbrev main_call2_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_17 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v72 : Ref sig .tc := ⟨.hbm, 110, rfl⟩
abbrev main_v73 : Ref sig .tc := ⟨.hbm, 111, rfl⟩

abbrev nD : Nat := 1
abbrev τ : Topo := Topo.v7x

variable {F : FTy → Type} [FloatOps F]
-- ==== Kernel3.lean ====
abbrev S32768x2048 : Shape := ⟨2, ![32768, 2048]⟩
abbrev S2048x10248 : Shape := ⟨2, ![2048, 10248]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S2048x10248, .bf16⟩
  | .hbm, ⟨3, _⟩ => ⟨S2048x1024, .bf16⟩
  | .hbm, ⟨4, _⟩ => ⟨S32768x1024, .f32⟩
  | .hbm, ⟨5, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel3Ideal.lean ====
abbrev S32768x2048 : Shape := ⟨2, ![32768, 2048]⟩
abbrev S2048x10248 : Shape := ⟨2, ![2048, 10248]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S2048x10248, .bf16⟩
  | .hbm, ⟨3, _⟩ => ⟨S2048x1024, .bf16⟩
  | .hbm, ⟨4, _⟩ => ⟨S32768x1024, .f32⟩
  | .hbm, ⟨5, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32768x2048 : Shape := ⟨2, ![32768, 2048]⟩
abbrev S2048x10248 : Shape := ⟨2, ![2048, 10248]⟩
abbrev S32768x10248 : Shape := ⟨2, ![32768, 10248]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S32768x2048, .f32⟩
  | .hbm, ⟨3, _⟩ => ⟨S32768x10248, .f32⟩
  | .hbm, ⟨4, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x2048 : Shape := ⟨2, ![32768, 2048]⟩
abbrev S2048x10248 : Shape := ⟨2, ![2048, 10248]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S2048x10248, .bf16⟩
  | .hbm, ⟨3, _⟩ => ⟨S2048x1024, .bf16⟩
  | .hbm, ⟨4, _⟩ => ⟨S32768x1024, .f32⟩
  | .hbm, ⟨5, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel4Ideal.lean ====
abbrev S32768x2048 : Shape := ⟨2, ![32768, 2048]⟩
abbrev S2048x10248 : Shape := ⟨2, ![2048, 10248]⟩
abbrev S2048x1024 : Shape := ⟨2, ![2048, 1024]⟩
abbrev S32768x1024 : Shape := ⟨2, ![32768, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S2048x10248, .bf16⟩
  | .hbm, ⟨3, _⟩ => ⟨S2048x1024, .bf16⟩
  | .hbm, ⟨4, _⟩ => ⟨S32768x1024, .f32⟩
  | .hbm, ⟨5, _⟩ => ⟨S32768x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x2048 : Shape := ⟨2, ![32768, 2048]⟩
abbrev S2048x10248 : Shape := ⟨2, ![2048, 10248]⟩
abbrev S32768x10248 : Shape := ⟨2, ![32768, 10248]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S32768x2048, .f32⟩
  | .hbm, ⟨3, _⟩ => ⟨S32768x10248, .f32⟩
  | .hbm, ⟨4, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S2048x2048 : Shape := ⟨2, ![2048, 2048]⟩
abbrev S2048x10248 : Shape := ⟨2, ![2048, 10248]⟩
abbrev S2048x1024 : Shape := ⟨2, ![2048, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x10248, .f32⟩
  | .hbm, ⟨2, _⟩ => ⟨S2048x10248, .bf16⟩
  | .hbm, ⟨3, _⟩ => ⟨S2048x1024, .bf16⟩
  | .hbm, ⟨4, _⟩ => ⟨S2048x1024, .f32⟩
  | .hbm, ⟨5, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2048x2048 : Shape := ⟨2, ![2048, 2048]⟩
abbrev S2048x10248 : Shape := ⟨2, ![2048, 10248]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10248, .f32⟩
  | .hbm, ⟨2, _⟩ => ⟨S2048x2048, .f32⟩
  | .hbm, ⟨3, _⟩ => ⟨S2048x10248, .f32⟩
  | .hbm, ⟨4, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x2048 : Shape := ⟨2, ![2048, 2048]⟩
abbrev S2048x10248 : Shape := ⟨2, ![2048, 10248]⟩
abbrev S2048x1024 : Shape := ⟨2, ![2048, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x10248, .f32⟩
  | .hbm, ⟨2, _⟩ => ⟨S2048x10248, .bf16⟩
  | .hbm, ⟨3, _⟩ => ⟨S2048x1024, .bf16⟩
  | .hbm, ⟨4, _⟩ => ⟨S2048x1024, .f32⟩
  | .hbm, ⟨5, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S2048x2048 : Shape := ⟨2, ![2048, 2048]⟩
abbrev S2048x10248 : Shape := ⟨2, ![2048, 10248]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x10248, .f32⟩
  | .hbm, ⟨2, _⟩ => ⟨S2048x2048, .f32⟩
  | .hbm, ⟨3, _⟩ => ⟨S2048x10248, .f32⟩
  | .hbm, ⟨4, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Scatter.lean ====
/-
  A batch of copies into disjoint blocks of the result, on one DMA cell: what is held while the first `j` of `n` are issued,
  the step that issues the next one, the wait for one copy's amount, and what comes back when all amounts are consumed.
  The blocks, what they are to hold and the shares the copies read through are parameters.
-/
module

public import proofs.«01_k».proof.Proof.Gen.KernelIdeal.Launch
public import Idealize.ShloMosaic.Lib.Pipeline.FrameBody
public import Idealize.ShloMosaic.Lib.Batch
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (Batch pending issued)

variable {F : FTy → Type} [FloatOps F]

/-- The proof's algebra: the pipeline library's beside the transfers' counters. -/
local notation "𝕄" => MT nD τ sig Unit (Elt F) ℕ (Pipeline.UD sig nD τ) ℕ

abbrev oM : Memref sig .tc .hbm S155648x2048 .f32 := Memref.whole main_v1
abbrev OIdx : Type := S155648x2048.Idx
abbrev OBuf (F : FTy → Type) : Type := S155648x2048.Idx → Elt F .f32

/-- The result's elements `S` held at `f`. -/
abbrev oPt (c : Dev nD) (S : Finset OIdx) (f : OBuf F) : sProp 𝕄 :=
  oM.view.loc (c : Thread nD τ) ↦[S]{fullShare} f

theorem oPt_congr (c : Dev nD) {S : Finset OIdx} {f g : OBuf F} (h : ∀ i ∈ S, f i = g i) : (oPt c S f : sProp 𝕄) = oPt c S g :=
  pointsTo_congr h

theorem oPt_biUnion (c : Dev nD) {T : Type} (S : Finset T) (K : T → Finset OIdx) (f : OBuf F)
    (h : ∀ t ∈ S, ∀ t' ∈ S, t ≠ t' → Disjoint (K t) (K t')) : (oPt c (S.biUnion K) f : sProp 𝕄) = bigSep S fun t => oPt c (K t) f :=
  pointsTo_biUnion (ℓ := oM.view.loc (c : Thread nD τ)) (q := fullShare) (f := f) S K h

/-- A window of the result. -/
abbrev oWin {sz : Fin 2 → ℕ} (off : Fin 2 → ℕ) (inb : ∀ a, off a + sz a ≤ S155648x2048.size a) :
    Memref sig .tc .hbm ⟨2, sz⟩ .f32 :=
  oM.slice (Rect.unit (s := S155648x2048) off sz inb) (fun _ => rfl)

variable {n : ℕ}

/-- What copy `t` hands back: its block as wanted, and the share it read through. -/
def deliv (c : Dev nD) (bs : Fin n → Finset OIdx) (T : OBuf F) (sP : Fin n → sProp 𝕄) (t : Fin n) : sProp 𝕄 :=
  iprop(oPt c (bs t) T ∗ sP t)

instance deliv_storable (c : Dev nD) (bs : Fin n → Finset OIdx) (T : OBuf F) (sP : Fin n → sProp 𝕄)
    [∀ t, Storable (upEmb : UEmb _ 𝕄) (sP t)] (t : Fin n) : Storable (upEmb : UEmb _ 𝕄) (deliv c bs T sP t) := by
  unfold deliv; infer_instance

/-- The first `j` of the `n` copies issued and `u` units consumed. -/
def Flying (c : Dev nD) (sm : SemLoc sig) (N : ℕ) (bs : Fin n → Finset OIdx) (T : OBuf F) (sP : Fin n → sProp 𝕄) (j u : ℕ) :
    sProp 𝕄 :=
  Batch (countersEmb (U := Pipeline.UD sig nD τ)) (c : Thread nD τ) sm () N (deliv c bs T sP) j u

/-- The first `j` copies issued, the blocks of the others still here at `f` with the rest of `S`, and their shares. -/
def Issuing (c : Dev nD) (sm : SemLoc sig) (N : ℕ) (bs : Fin n → Finset OIdx) (T : OBuf F) (sP : Fin n → sProp 𝕄)
    (S : Finset OIdx) (f : OBuf F) (j : ℕ) : sProp 𝕄 :=
  iprop(Flying c sm N bs T sP j 0 ∗ oPt c (S \ (issued j).biUnion bs) f ∗ bigSep (pending j) sP)

theorem issuing_start (c : Dev nD) (sm : SemLoc sig) (N : ℕ) (bs : Fin n → Finset OIdx) (T : OBuf F) (sP : Fin n → sProp 𝕄)
    [∀ t, Storable (upEmb : UEmb _ 𝕄) (sP t)] (S : Finset OIdx) (f : OBuf F) :
    iprop(semVal ((c : Thread nD τ), sm) 0 ∗ oPt c S f ∗ bigSep Finset.univ sP)
      ⊢ (iprop(|={Set.univ}=> Issuing c sm N bs T sP S f 0) : sProp 𝕄) := by
  unfold Issuing Flying
  iintro ⟨Hs, Ho, HP⟩
  imod (Transfers.batch_alloc' (Lvl := ℕ) (countersEmb (U := Pipeline.UD sig nD τ)) (c : Thread nD τ) () N (deliv c bs T sP) (sm := sm) (E := Set.univ)) $$ Hs with HB
  imodintro
  rw [Transfers.issued_zero, Finset.biUnion_empty, Finset.sdiff_empty, Transfers.pending_zero]
  isplitl [HB]; · iexact HB
  isplitl [Ho]; · iexact Ho
  iexact HP

/-- The next copy, of `src` into the window at `off`. -/
theorem wp_issue (c : Dev nD) {α : Type} {Q : α → sProp 𝕄} {sm : SemLoc sig} {N : ℕ} {bs : Fin n → Finset OIdx} {T : OBuf F}
    {sP : Fin n → sProp 𝕄} {S : Finset OIdx} {f : OBuf F} {j : ℕ} (hj : j < n)
    (hdis : ∀ t t', t ≠ t' → Disjoint (bs t) (bs t')) (hS : bs ⟨j, hj⟩ ⊆ S)
    {sp : Space} {sz : Fin 2 → ℕ} {off : Fin 2 → ℕ} {inb : ∀ a, off a + sz a ≤ S155648x2048.size a}
    {src : Memref sig .tc sp ⟨2, sz⟩ .f32} {q : PosShare TreeShare} (fs : Buf (Elt F) (src.view.loc (c : Thread nD τ)))
    {hsrc : src.view.WordExact} {hdst : (oWin off inb).view.WordExact} {hsem : DmaTarget.Typed (nD := nD) sp sm (.here (oWin off inb) : DmaTarget nD τ sig (Dev.tc c : Thread nD τ).2 .hbm ⟨2, sz⟩ .f32)}
    {k : PUnit → Prog (TpuEff nD τ sig (Elt F) Λ₀ .tc) α}
    (hN : (oWin off inb).view.amount sm = N)
    (hbs : bs ⟨j, hj⟩ = (oWin off inb).view.set)
    (hT : ∀ x, T ((oWin off inb).view.emb x) = src.view.read (Elt F) fs x)
    (hsP : sP ⟨j, hj⟩ = (src.view.loc (c : Thread nD τ) ↦[src.view.set]{q} fs)) :
    Issuing c sm N bs T sP S f j
      ⊢ iprop((Issuing c sm N bs T sP S f (j + 1) -∗ wp frame (wpE (defs₀ (F := F)) Variants.none c none) Set.univ (k ⟨⟩) Q)
          -∗ wp frame (wpE (defs₀ (F := F)) Variants.none c none) Set.univ (.op (.enqueueDmaAs src (.here (oWin off inb)) ReadAs.same sm hsrc hdst hsem) k) Q) := by
  have hsub : bs ⟨j, hj⟩ ⊆ S \ (issued j).biUnion bs := by
    intro i hi
    refine Finset.mem_sdiff.mpr ⟨hS hi, fun h => ?_⟩
    obtain ⟨t, ht, hit⟩ := Finset.mem_biUnion.mp h
    have hne : t ≠ ⟨j, hj⟩ := fun e => Transfers.not_mem_issued hj (e ▸ ht)
    exact Finset.disjoint_left.mp (hdis t _ hne) hit hi
  have hnext : (S \ (issued j).biUnion bs) \ bs ⟨j, hj⟩ = S \ (issued (m := n) (j + 1)).biUnion bs := by
    rw [Transfers.issued_succ hj, Finset.biUnion_insert]
    ext i; simp only [Finset.mem_sdiff, Finset.mem_union]; tauto
  unfold Issuing Flying
  iintro ⟨HB, Ho, HP⟩ Hk
  ihave HP' := (show bigSep (pending j) sP ⊢ iprop(sP ⟨j, hj⟩ ∗ bigSep (pending (j + 1)) sP)
    from Entails.of_eq (Transfers.bigSep_pending_step sP j hj)) $$ HP
  icases HP' with ⟨Hs, HP⟩
  ihave Ho' := (pointsTo_split_subset hsub).1 $$ Ho
  icases Ho' with ⟨Hb, Ho⟩
  iapply (Transfers.wp_dmaBatch (countersEmb (U := Pipeline.UD sig nD τ)) Variants.none (c : Thread nD τ) none (src := src) (dst := oWin off inb)
    (via := ReadAs.same) (q := q) (fs := fs) (Sd := (oWin off inb).view.set) (fd := f) () N hN subset_rfl
    (D := deliv c bs T sP) (j := j) (u := 0) hj (Nat.zero_le _) (by
      unfold deliv
      rw [hsP, hbs]
      refine Entails.of_eq ?_
      congr 1
      refine pointsTo_congr fun i hi => ?_
      obtain ⟨x, -, rfl⟩ := Finset.mem_map.mp hi
      refine (View.write_emb_of_mem _ _ (Finset.mem_univ x)).trans ?_
      rw [hT]; rfl)) $$ [Hs Hb HB]
  · isplitl [Hs]; · rw [← hsP]; iexact Hs
    isplitl [Hb]; · rw [← hbs]; iexact Hb
    iexact HB
  iintro HB
  iapply Hk
  isplitl [HB]; · iexact HB
  isplitl [Ho]; · rw [← hnext]; iexact Ho
  iexact HP

/-- A wait for one copy's amount while all `n` are in flight. -/
theorem wp_await (c : Dev nD) {α : Type} {Q : α → sProp 𝕄} {sem : DmaSem sig} {N : ℕ} {bs : Fin n → Finset OIdx} {T : OBuf F}
    {sP : Fin n → sProp 𝕄} {w : ℕ} (hw : w < n) {sp sp' : Space} {s s' : Shape} {e e' : EltTy} {κ' : Kind}
    {srcw : Memref sig .tc sp' s' e'} {dstw : Memref sig κ' sp s e} {hsrc : srcw.view.WordExact} {hdst : dstw.view.WordExact}
    {k : PUnit → Prog (TpuEff nD τ sig (Elt F) Λ₀ .tc) α} (hJ : dstw.view.dmaCredit = N) {W : Waits sig Unit} :
    iprop(Flying c (.dma sem) N bs T sP n (N * w) ∗ owes (c : Thread nD τ) 0 W)
      ⊢ iprop((iprop(Flying c (.dma sem) N bs T sP n (N * (w + 1)) ∗ owes (c : Thread nD τ) 0 (insert (SemLoc.dma sem, ()) W))
            -∗ wp frame (wpE (defs₀ (F := F)) Variants.none c none) Set.univ (k ⟨⟩) Q)
          -∗ wp frame (wpE (defs₀ (F := F)) Variants.none c none) Set.univ (.op (.waitDma2 sem srcw dstw hsrc hdst) k) Q) := by
  unfold Flying
  have h := Transfers.wp_waitBatchMul (countersEmb (U := Pipeline.UD sig nD τ)) (defs := defs₀ (F := F)) Variants.none (c : Thread nD τ) none
    (Q := Q) (srcw := srcw) (dstw := dstw) (hsrc := hsrc) (hdst := hdst) (k := k) (sem := sem) () 1 (by rw [hJ, Nat.one_mul])
    (D := deliv c bs T sP) (j := n) (u := N * w) (by rw [Nat.one_mul, ← Nat.mul_succ]; exact Nat.mul_le_mul_left _ hw) (W := W)
  rw [Nat.one_mul, ← Nat.mul_succ] at h
  exact h

/-- All amounts consumed: the result's `S` at `g`, the wanted contents on the blocks and `f` off them; the shares; the cell at zero. -/
theorem collect (c : Dev nD) {sm : SemLoc sig} {N : ℕ} (hN : 0 < N) {bs : Fin n → Finset OIdx} {T : OBuf F}
    {sP : Fin n → sProp 𝕄} {S : Finset OIdx} {f : OBuf F} (g : OBuf F)
    (hdis : ∀ t t', t ≠ t' → Disjoint (bs t) (bs t')) (hS : ∀ t, bs t ⊆ S)
    (hg : ∀ t, ∀ i ∈ bs t, T i = g i) (hf : ∀ i ∈ S, (∀ t, i ∉ bs t) → f i = g i) :
    iprop(Flying c sm N bs T sP n (N * n) ∗ oPt c (S \ (Finset.univ : Finset (Fin n)).biUnion bs) f)
      ⊢ (iprop(|={Set.univ}=> (oPt c S g ∗ bigSep Finset.univ sP ∗ semVal ((c : Thread nD τ), sm) 0)) : sProp 𝕄) := by
  unfold Flying
  have h : Batch (countersEmb (U := Pipeline.UD sig nD τ)) (c : Thread nD τ) sm () N (deliv c bs T sP) n (N * n)
      ⊢ (iprop(|={Set.univ}=> (bigSep Finset.univ (deliv c bs T sP) ∗ semVal ((c : Thread nD τ), sm) 0)) : sProp 𝕄) :=
    Transfers.batch_collect' (countersEmb (U := Pipeline.UD sig nD τ)) (c : Thread nD τ) hN
  iintro ⟨HB, Ho⟩
  imod h $$ HB with ⟨HD, Hs⟩
  imodintro
  ihave HD' := (show bigSep Finset.univ (deliv c bs T sP) ⊢ (iprop(bigSep Finset.univ (fun t => oPt c (bs t) T) ∗ bigSep Finset.univ sP) : sProp 𝕄)
    from Entails.of_eq (BI.bigSep_sep Finset.univ _ _)) $$ HD
  icases HD' with ⟨Hb, HP⟩
  ihave Hb' := (show bigSep Finset.univ (fun t => oPt c (bs t) T) ⊢ (oPt c (Finset.univ.biUnion bs) g : sProp 𝕄)
    from Entails.of_eq (by
      rw [oPt_biUnion c Finset.univ bs g fun t _ t' _ h => hdis t t' h]
      exact congrArg _ (funext fun t => oPt_congr c fun i hi => hg t i hi))) $$ Hb
  isplitl [Hb' Ho]
  · iapply (pointsTo_split_subset (Finset.biUnion_subset.mpr fun t _ => hS t)).2
    isplitl [Hb']; · iexact Hb'
    rw [show (oM.view.loc (c : Thread nD τ) ↦[S \ Finset.univ.biUnion bs]{fullShare} g : sProp 𝕄) = oPt c (S \ Finset.univ.biUnion bs) f from
      (oPt_congr c fun i hi => hf i (Finset.mem_sdiff.mp hi).1
        fun t ht => (Finset.mem_sdiff.mp hi).2 (Finset.mem_biUnion.mpr ⟨t, Finset.mem_univ t, ht⟩)).symm]
    iexact Ho
  isplitl [HP]; · iexact HP
  iexact Hs

/-- A hand rule leaves its continuation applied. -/
theorem ret_bind' {E : Type → Type} {α β : Type} (a : α) (k : α → Prog E β) : (Prog.ret a).bind k = k a := rfl

end Cert.KernelIdeal.Hand

end
-- ==== Proof.Layout.lean ====
/-
  The layout's two arrays as numbers: where each assignment's row goes, which blocks of 512 rows are to be cleared, in the
  order the copies that clear them are issued, and the sets of the result's elements those copies write.
-/
module

public import proofs.«01_k».proof.Proof.Scatter

@[expose] public section

noncomputable section

namespace Cert.KernelIdeal.Hand

open Cert.KernelIdeal Cert.KernelIdeal.Gen
open Idealize.ShloMosaic Idealize.ShloMosaic.TcCoe

/-- The index of word `j` of a one-axis array. -/
def ix1 {n : ℕ} (j : ℕ) (h : j < n) : Shape.Idx ⟨1, ![n]⟩ := fun a => ⟨j, by fin_cases a; exact h⟩

theorem eq_ix1 {n : ℕ} (x : Shape.Idx ⟨1, ![n]⟩) : x = ix1 (x 0).val (x 0).isLt := by
  funext a; fin_cases a; rfl

/-- Word `e` of the block list. -/
def fw (fill : S33.Idx → BitVec 32) (e : ℕ) : BitVec 32 := if h : e < 33 then fill (ix1 e h) else 0
/-- The row of assignment `a`. -/
def dw (dest : S139264.Idx → BitVec 32) (a : ℕ) : ℕ := if h : a < 139264 then (dest (ix1 a h)).toNat else 0

/-- The number of blocks before the tail. -/
abbrev used (fill : S33.Idx → BitVec 32) : ℕ := (fw fill 32).toNat

/-- What the kernel relies on. -/
structure Good (fill : S33.Idx → BitVec 32) (dest : S139264.Idx → BitVec 32) : Prop where
  dest_lt : ∀ a < 139264, dw dest a < 155648
  dest_inj : ∀ a < 139264, ∀ b < 139264, dw dest a = dw dest b → a = b
  tail : used fill ≤ 304
  head : ∀ e < 32, 0 ≤ (fw fill e).toInt → 512 ∣ (fw fill e).toNat ∧ (fw fill e).toNat < 512 * used fill
  head_inj : ∀ e < 32, ∀ e' < 32, 0 ≤ (fw fill e).toInt → fw fill e = fw fill e' → e = e'

/-- Every row of the result is an assignment's, or in a block to be cleared. -/
def Covered (fill : S33.Idx → BitVec 32) (dest : S139264.Idx → BitVec 32) : Prop :=
  ∀ r < 155648, (∃ a < 139264, dw dest a = r)
    ∨ (∃ e < 32, 0 ≤ (fw fill e).toInt ∧ (fw fill e).toNat ≤ r ∧ r < (fw fill e).toNat + 512) ∨ 512 * used fill ≤ r

/-! ## The blocks to clear, in issue order -/

/-- The blocks named by the first `e` words. -/
def liveTo (fill : S33.Idx → BitVec 32) (e : ℕ) : List ℕ :=
  ((List.range e).filter fun e => decide (0 ≤ (fw fill e).toInt)).map fun e => (fw fill e).toNat / 512

/-- The blocks of the tail. -/
def tailOf (fill : S33.Idx → BitVec 32) : List ℕ := (List.range (304 - used fill)).map (used fill + ·)

/-- How many copies are issued before word `e` is looked at. -/
abbrev cnt (fill : S33.Idx → BitVec 32) (e : ℕ) : ℕ := (liveTo fill e).length

variable {fill : S33.Idx → BitVec 32} {dest : S139264.Idx → BitVec 32}

theorem cnt_zero : cnt fill 0 = 0 := rfl

theorem liveTo_succ_of_live {e : ℕ} (h : 0 ≤ (fw fill e).toInt) :
    liveTo fill (e + 1) = liveTo fill e ++ [(fw fill e).toNat / 512] := by
  simp [liveTo, List.range_succ, h]

theorem liveTo_succ_of_not {e : ℕ} (h : ¬ 0 ≤ (fw fill e).toInt) : liveTo fill (e + 1) = liveTo fill e := by
  simp [liveTo, List.range_succ]; simpa using h

theorem cnt_succ_of_live {e : ℕ} (h : 0 ≤ (fw fill e).toInt) : cnt fill (e + 1) = cnt fill e + 1 := by
  unfold cnt; rw [liveTo_succ_of_live h]; simp

theorem cnt_succ_of_not {e : ℕ} (h : ¬ 0 ≤ (fw fill e).toInt) : cnt fill (e + 1) = cnt fill e := by
  unfold cnt; rw [liveTo_succ_of_not h]

theorem liveTo_prefix (e k : ℕ) : liveTo fill e <+: liveTo fill (e + k) := by
  induction k with
  | zero => exact List.prefix_rfl
  | succ k ih =>
    refine ih.trans ?_
    rw [← Nat.add_assoc]
    by_cases h : 0 ≤ (fw fill (e + k)).toInt
    · rw [liveTo_succ_of_live h]; exact List.prefix_append _ _
    · rw [liveTo_succ_of_not h]

theorem head? {e : ℕ} (he : e < 32) (h : 0 ≤ (fw fill e).toInt) :
    (liveTo fill 32)[cnt fill e]? = some ((fw fill e).toNat / 512) := by
  have hp : liveTo fill (e + 1) <+: liveTo fill 32 := by
    have := liveTo_prefix (fill := fill) (e + 1) (32 - (e + 1))
    rwa [show e + 1 + (32 - (e + 1)) = 32 by omega] at this
  obtain ⟨l, hl⟩ := hp
  rw [← hl, liveTo_succ_of_live h]
  simp

theorem cnt_lt {e : ℕ} (he : e < 32) (h : 0 ≤ (fw fill e).toInt) : cnt fill e < (liveTo fill 32).length :=
  (List.getElem?_eq_some_iff.mp (head? he h)).1

theorem length_tailOf : (tailOf fill).length = 304 - used fill := by simp [tailOf]

theorem tail? {k : ℕ} (hk : k < 304 - used fill) : (tailOf fill)[k]? = some (used fill + k) := by
  simp [tailOf, hk]

theorem mem_tailOf {b : ℕ} : b ∈ tailOf fill ↔ used fill ≤ b ∧ b < 304 ∧ used fill ≤ 304 := by
  simp only [tailOf, List.mem_map, List.mem_range]
  constructor
  · rintro ⟨k, hk, rfl⟩; omega
  · rintro ⟨h1, h2, h3⟩; exact ⟨b - used fill, by omega, by omega⟩

theorem tailOf_nodup : (tailOf fill).Nodup :=
  List.Nodup.map (fun a b h => by simpa using h) List.nodup_range

theorem mem_liveTo {b e : ℕ} : b ∈ liveTo fill e ↔ ∃ e' < e, 0 ≤ (fw fill e').toInt ∧ (fw fill e').toNat / 512 = b := by
  simp only [liveTo, List.mem_map, List.mem_filter, List.mem_range, decide_eq_true_eq]
  constructor
  · rintro ⟨a, ⟨h1, h2⟩, h3⟩; exact ⟨a, h1, h2, h3⟩
  · rintro ⟨a, h1, h2, h3⟩; exact ⟨a, ⟨h1, h2⟩, h3⟩

theorem liveTo_nodup (hg : Good fill dest) : ∀ e, e ≤ 32 → (liveTo fill e).Nodup := by
  intro e
  induction e with
  | zero => intro _; exact List.nodup_nil
  | succ e ih =>
    intro he
    by_cases h : 0 ≤ (fw fill e).toInt
    · rw [liveTo_succ_of_live h]
      refine List.nodup_append.mpr ⟨ih (by omega), List.nodup_singleton _, ?_⟩
      intro a ha b hb heq
      rw [List.mem_singleton] at hb
      obtain ⟨e', h1, h2, h3⟩ := mem_liveTo.mp ha
      have d1 := (hg.head e (by omega) h).1
      have d2 := (hg.head e' (by omega) h2).1
      have : (fw fill e').toNat = (fw fill e).toNat := by omega
      have := hg.head_inj e' (by omega) e (by omega) h2 (BitVec.eq_of_toNat_eq this)
      omega
    · rw [liveTo_succ_of_not h]; exact ih (by omega)

/-! ## Sets of the result's elements -/

/-- Row `r` of the result. -/
def row (r : ℕ) : Finset OIdx := Finset.univ.filter fun y => (y 0).val = r
/-- Block `b` of 512 rows. -/
def blk (b : ℕ) : Finset OIdx := Finset.univ.filter fun y => 512 * b ≤ (y 0).val ∧ (y 0).val < 512 * b + 512

theorem mem_row {r : ℕ} {y : OIdx} : y ∈ row r ↔ (y 0).val = r := by simp [row]
theorem mem_blk {b : ℕ} {y : OIdx} : y ∈ blk b ↔ 512 * b ≤ (y 0).val ∧ (y 0).val < 512 * b + 512 := by simp [blk]

theorem set_oWin_row {off : Fin 2 → ℕ} {r : ℕ} {inb : ∀ a, off a + S1x2048.size a ≤ S155648x2048.size a}
    (h0 : off 0 = r) (h1 : off 1 = 0) : row r = (oWin (sz := S1x2048.size) off inb).view.set := by
  ext y
  have e : (oWin (sz := S1x2048.size) off inb).view.set = (Rect.unit (s := S155648x2048) off S1x2048.size inb).set :=
    View.set_slice_whole main_v1 _
  have hy : (y 1).val < 2048 := (y 1).isLt
  rw [e, mem_row]
  refine Iff.trans ?_ (Rect.mem_set_unit (s := S155648x2048) (off := off) (size := S1x2048.size) (inb := inb)).symm
  constructor
  · intro h a
    match a with
    | ⟨0, _⟩ => show off 0 ≤ (y 0).val ∧ (y 0).val < off 0 + 1; omega
    | ⟨1, _⟩ => show off 1 ≤ (y 1).val ∧ (y 1).val < off 1 + 2048; omega
  · intro h
    have := h 0
    have : off 0 ≤ (y 0).val ∧ (y 0).val < off 0 + 1 := this
    omega

theorem set_oWin_blk {off : Fin 2 → ℕ} {b : ℕ} {inb : ∀ a, off a + S512x2048.size a ≤ S155648x2048.size a}
    (h0 : off 0 = 512 * b) (h1 : off 1 = 0) : blk b = (oWin (sz := S512x2048.size) off inb).view.set := by
  ext y
  have e : (oWin (sz := S512x2048.size) off inb).view.set = (Rect.unit (s := S155648x2048) off S512x2048.size inb).set :=
    View.set_slice_whole main_v1 _
  have hy : (y 1).val < 2048 := (y 1).isLt
  rw [e, mem_blk]
  refine Iff.trans ?_ (Rect.mem_set_unit (s := S155648x2048) (off := off) (size := S512x2048.size) (inb := inb)).symm
  constructor
  · intro h a
    match a with
    | ⟨0, _⟩ => show off 0 ≤ (y 0).val ∧ (y 0).val < off 0 + 512; omega
    | ⟨1, _⟩ => show off 1 ≤ (y 1).val ∧ (y 1).val < off 1 + 2048; omega
  · intro h
    have : off 0 ≤ (y 0).val ∧ (y 0).val < off 0 + 512 := h 0
    omega

/-- The rows tile `t`'s copies write, by issue number. -/
def tileBs (dest : S139264.Idx → BitVec 32) (t : ℕ) (j : Fin 2048) : Finset OIdx := row (dw dest (2048 * t + j.val))

theorem tileBs_disjoint (hg : Good fill dest) {t : ℕ} (ht : t < 68) (j j' : Fin 2048) (h : j ≠ j') :
    Disjoint (tileBs dest t j) (tileBs dest t j') := by
  refine Finset.disjoint_left.mpr fun y h1 h2 => h ?_
  have a1 := mem_row.mp h1
  have a2 := mem_row.mp h2
  have := hg.dest_inj (2048 * t + j.val) (by omega) (2048 * t + j'.val) (by omega) (by omega)
  exact Fin.ext (by omega)

end Cert.KernelIdeal.Hand

end
-- ==== Proof.Clear.lean ====
/-
  Clearing blocks of the result: a batch of copies of the zeroed scratch buffer into disjoint blocks, read through shares of
  that buffer, and the steps of the kernel's first point that issue and await them — one look at the block list's word, and
  then the copy (or the wait) if the word is not negative.
-/
module

public import proofs.«01_k».proof.Proof.Layout
public import proofs.«01_k».proof.Proof.Gen.KernelIdeal.Skeleton
public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (Batch pending issued shareTok shareDrop)

variable {F : FTy → Type} [FloatOps F]

local notation "𝕄" => MT nD τ sig Unit (Elt F) ℕ (Pipeline.UD sig nD τ) ℕ

/-- The weakest precondition the body's rules are stated at. -/
abbrev Wp (c : Dev nD) {α : Type} (p : Prog (TpuEff nD τ sig (Elt F) Λ₀ .tc) α) (Q : α → sProp 𝕄) : sProp 𝕄 :=
  wp frame (wpE (defs₀ (F := F)) Variants.none c none) Set.univ p Q

/-- What the thread owes, at whatever waits have been counted. -/
def Owes (c : Dev nD) : sProp 𝕄 := iprop(∃ W, owes (c : Thread nD τ) 0 W)

/-! ## Words of the two index arrays -/

theorem wp_elt (c : Dev nD) {α : Type} {Q : α → sProp 𝕄} {sh : Shape} (m : Memref sig .tc .smem sh .i32) (q : PosShare TreeShare)
    (X : sh.Idx → Elt F .i32) (r : Rect sh) (hl : (m.access r).Loads) (x : r.shape.Idx)
    (k : Elt F .i32 → Prog (TpuEff nD τ sig (Elt F) Λ₀ .tc) α) :
    owns (c : Thread nD τ) m q X
      ⊢ (iprop((owns (c : Thread nD τ) m q X -∗ Wp c (k (X (r.emb x))) Q) -∗ Wp c (smemLoadElt m r hl x k) Q) : sProp 𝕄) := by
  have hs : (m.access r).set ⊆ m.view.set := by
    rw [View.set_slice]; exact View.setOn_subset_set _ _
  unfold owns
  iintro ⟨%f, %hf, Hf⟩ Hk
  iapply (wp_smemLoadElt Variants.none (c : Thread nD τ) none Set.univ hs) $$ Hf
  rw [show (m.access r).read (Elt F) f x = X (r.emb x) from congrFun hf (r.emb x)]
  iintro Hf
  iapply Hk
  iexists f
  isplitr
  · ipureintro; exact hf
  · iexact Hf

/-- Reading word `j` of an array of words held by the thread. -/
theorem wp_word (c : Dev nD) {α : Type} {Q : α → sProp 𝕄} {n : ℕ} {m : Memref sig .tc .smem ⟨1, ![n]⟩ .i32} {q : PosShare TreeShare}
    {X : Shape.Idx ⟨1, ![n]⟩ → Elt F .i32} {j : ℕ} (hj : j < n) {off : Fin 1 → ℕ} {inb : ∀ a, off a + S1.size a ≤ (⟨1, ![n]⟩ : Shape).size a}
    (ho : off 0 = j) {h1 : (Rect.unit (s := ⟨1, ![n]⟩) off S1.size inb).shape.numel = 1} {hp : (EltTy.i32).packing = 1}
    {k : Elt F .i32 → Prog (TpuEff nD τ sig (Elt F) Λ₀ .tc) α} {P R : sProp 𝕄}
    (hP : P ⊢ iprop(owns (c : Thread nD τ) m q X ∗ R))
    (h : iprop(owns (c : Thread nD τ) m q X ∗ R) ⊢ Wp c (k (X (ix1 j hj))) Q) :
    P ⊢ Wp c (smemLoad m (Rect.unit off S1.size inb) h1 hp >>= k) Q := by
  refine hP.trans ?_
  have hx : ∀ x : (Rect.unit (s := ⟨1, ![n]⟩) off S1.size inb).shape.Idx, (Rect.unit (s := ⟨1, ![n]⟩) off S1.size inb).emb x = ix1 j hj := by
    intro x
    funext a
    fin_cases a
    refine Fin.ext ?_
    show off 0 + 1 * (x 0).val = j
    have : (x 0).val < 1 := (x 0).isLt
    omega
  refine (show iprop(owns (c : Thread nD τ) m q X ∗ R) ⊢ Wp c (smemLoadElt m (Rect.unit off S1.size inb) (View.loads_smem_one hp h1)
      (Shape.Idx.first (h1.symm ▸ Nat.one_pos)) k) Q from ?_)
  iintro ⟨H, HR⟩
  iapply (wp_elt c m q X (Rect.unit off S1.size inb) (View.loads_smem_one hp h1) (Shape.Idx.first (h1.symm ▸ Nat.one_pos)) k) $$ H
  rw [hx]
  iintro H
  iapply h
  isplitl [H]
  · iexact H
  · iexact HR

/-! ## The batch -/

abbrev zM : Memref sig .tc .vmem S512x2048 .f32 := Memref.whole cc0_scratch0
abbrev fS : DmaSem sig := cc0_scratch3.sem
/-- The element the scratch buffer is filled with. -/
abbrev zv : Elt F .f32 := Scalar.ofBits (F := F) .f32 0x00000000#32
/-- One clearing copy's amount. -/
abbrev Nf : ℕ := (oWin (sz := S512x2048.size) ![0, 0] inb_S155648x2048_S512x2048_0_0).view.amount (.dma fS)

abbrev zPt (c : Dev nD) (q : PosShare TreeShare) : sProp 𝕄 :=
  zM.view.loc (c : Thread nD τ) ↦[zM.view.set]{q} (fun _ => zv (F := F))

/-- The blocks of a list, by issue number. -/
def blkBs (bl : List ℕ) (t : Fin bl.length) : Finset OIdx := blk (bl.get t)

theorem blkBs_disjoint {bl : List ℕ} (hn : bl.Nodup) (t t' : Fin bl.length) (h : t ≠ t') : Disjoint (blkBs bl t) (blkBs bl t') := by
  refine Finset.disjoint_left.mpr fun y h1 h2 => h ?_
  unfold blkBs at h1 h2
  rw [mem_blk] at h1 h2
  exact (List.nodup_iff_injective_get.mp hn) (by omega)

/-- The result with the blocks of a list cleared. -/
def cleared (bl : List ℕ) (f : OBuf F) : OBuf F := fun y => if (y 0).val / 512 ∈ bl then zv else f y

/-- While the clearing copies are being issued. -/
def Clearing (c : Dev nD) (bl : List ℕ) (f : OBuf F) (j : ℕ) : sProp 𝕄 :=
  Issuing c (.dma fS) Nf (blkBs bl) (fun _ => zv (F := F)) (fun t => zPt c (shareTok fullShare bl.length t)) Finset.univ f j

/-- While they are being awaited. -/
def Awaiting (c : Dev nD) (bl : List ℕ) (w : ℕ) : sProp 𝕄 :=
  iprop(Flying c (.dma fS) Nf (blkBs bl) (fun _ => zv (F := F)) (fun t => zPt c (shareTok fullShare bl.length t)) bl.length (Nf * w)
    ∗ Owes c)

/-- What is kept aside between the last issue and the last wait. -/
def ClearRest (c : Dev nD) (bl : List ℕ) (f : OBuf F) : sProp 𝕄 :=
  oPt c (Finset.univ \ (Finset.univ : Finset (Fin bl.length)).biUnion (blkBs bl)) f

theorem clearing_start (c : Dev nD) (bl : List ℕ) (f : OBuf F) :
    iprop(semVal ((c : Thread nD τ), SemLoc.dma fS) 0 ∗ oPt c Finset.univ f ∗ zPt c fullShare)
      ⊢ (iprop(|={Set.univ}=> (Clearing c bl f 0 ∗ zPt c (shareDrop fullShare bl.length))) : sProp 𝕄) := by
  iintro ⟨Hs, Ho, Hz⟩
  ihave Hz' := (Transfers.pointsTo_toks fullShare bl.length).1 $$ Hz
  icases Hz' with ⟨Hd, Ht⟩
  imod (issuing_start c (.dma fS) Nf (blkBs bl) (fun _ => zv (F := F)) (fun t => zPt c (shareTok fullShare bl.length t)) Finset.univ f) $$ [Hs Ho Ht] with HI
  · isplitl [Hs]; · iexact Hs
    isplitl [Ho]; · iexact Ho
    iexact Ht
  imodintro
  isplitl [HI]
  · unfold Clearing; iexact HI
  · iexact Hd

theorem clearing_all (c : Dev nD) (bl : List ℕ) (f : OBuf F) :
    iprop(Clearing c bl f bl.length ∗ Owes c) ⊢ (iprop(Awaiting c bl 0 ∗ ClearRest c bl f) : sProp 𝕄) := by
  unfold Clearing Issuing Awaiting ClearRest
  rw [Transfers.issued_all rfl, Nat.mul_zero]
  iintro ⟨⟨HF, Ho, HP⟩, HW⟩
  isplitl [HF HW]
  · isplitl [HF]
    · iexact HF
    · iexact HW
  · iexact Ho

theorem awaiting_done (c : Dev nD) {bl : List ℕ} (hn : bl.Nodup) (f : OBuf F) :
    iprop(Awaiting c bl bl.length ∗ ClearRest c bl f ∗ zPt c (shareDrop fullShare bl.length))
      ⊢ (iprop(|={Set.univ}=> (semVal ((c : Thread nD τ), SemLoc.dma fS) 0 ∗ oPt c Finset.univ (cleared bl f) ∗ zPt c fullShare ∗ Owes c)) : sProp 𝕄) := by
  unfold Awaiting ClearRest
  iintro ⟨⟨HF, HW⟩, Ho, Hd⟩
  imod (collect c (by decide : 0 < Nf) (bs := blkBs bl) (T := fun _ => zv (F := F)) (S := Finset.univ) (f := f) (cleared bl f)
      (blkBs_disjoint hn) (fun _ => Finset.subset_univ _)
      (fun t i hi => by
        unfold blkBs at hi; rw [mem_blk] at hi
        unfold cleared
        rw [if_pos]
        rw [show (i 0).val / 512 = bl.get t by omega]; exact List.get_mem _ _)
      (fun i _ hi => by
        unfold cleared
        rw [if_neg]
        intro hm
        obtain ⟨t, ht⟩ := List.get_of_mem hm
        refine hi t ?_
        unfold blkBs; rw [mem_blk]; omega)) $$ [HF Ho] with ⟨Ho, HP, Hs⟩
  · isplitl [HF]
    · iexact HF
    · iexact Ho
  imodintro
  isplitl [Hs]; · iexact Hs
  isplitl [Ho]; · iexact Ho
  isplitl [Hd HP]
  · iapply (Transfers.pointsTo_toks fullShare bl.length).2
    isplitl [Hd]
    · iexact Hd
    · iexact HP
  · iexact HW

/-- The next clearing copy. -/
theorem clear_issue (c : Dev nD) {α : Type} {Q : α → sProp 𝕄} {bl : List ℕ} (hn : bl.Nodup) {f : OBuf F} {j b : ℕ}
    (hb : bl[j]? = some b) {off : Fin 2 → ℕ} {inb : ∀ a, off a + S512x2048.size a ≤ S155648x2048.size a}
    (h0 : off 0 = 512 * b) (h1 : off 1 = 0)
    {hsrc : zM.view.WordExact} {hdst : (oWin off inb).view.WordExact} {hsem : DmaTarget.Typed (nD := nD) .vmem (.dma fS) (.here (oWin off inb) : DmaTarget nD τ sig (Dev.tc c : Thread nD τ).2 .hbm S512x2048 .f32)}
    {k : PUnit → Prog (TpuEff nD τ sig (Elt F) Λ₀ .tc) α} {R : sProp 𝕄}
    (h : iprop(Clearing c bl f (j + 1) ∗ R) ⊢ Wp c (k ⟨⟩) Q) :
    iprop(Clearing c bl f j ∗ R) ⊢ Wp c (Prog.lift (TpuEff.enqueueDma zM (.here (oWin off inb)) (.dma fS) hsrc hdst hsem) >>= k) Q := by
  obtain ⟨hj, hjb⟩ := List.getElem?_eq_some_iff.mp hb
  unfold Clearing at h ⊢
  iintro ⟨HI, HR⟩
  iapply (wp_issue c hj (blkBs_disjoint hn) (Finset.subset_univ _) (fun _ => zv (F := F)) (src := zM) (off := off) (inb := inb) rfl
    (by unfold blkBs; rw [List.get_eq_getElem, hjb]; exact set_oWin_blk h0 h1) (fun _ => rfl) rfl) $$ HI
  iintro HI
  iapply h
  isplitl [HI]
  · iexact HI
  · iexact HR

/-- The wait for one of them. -/
theorem clear_await (c : Dev nD) {α : Type} {Q : α → sProp 𝕄} {bl : List ℕ} {w : ℕ} (hw : w < bl.length)
    {hsrc : zM.view.WordExact} {hdst : (oWin (sz := S512x2048.size) ![0, 0] inb_S155648x2048_S512x2048_0_0).view.WordExact}
    {k : PUnit → Prog (TpuEff nD τ sig (Elt F) Λ₀ .tc) α} {R : sProp 𝕄}
    (h : iprop(Awaiting c bl (w + 1) ∗ R) ⊢ Wp c (k ⟨⟩) Q) :
    iprop(Awaiting c bl w ∗ R) ⊢ Wp c (Prog.lift (TpuEff.waitDma2 fS zM (oWin (sz := S512x2048.size) ![0, 0] inb_S155648x2048_S512x2048_0_0) hsrc hdst) >>= k) Q := by
  unfold Awaiting Owes at h ⊢
  iintro ⟨⟨HF, ⟨%W, HW⟩⟩, HR⟩
  iapply (wp_await c hw (W := W) rfl) $$ [HF HW]
  · isplitl [HF]
    · iexact HF
    · iexact HW
  iintro ⟨HF, HW⟩
  iapply h
  isplitr [HR]
  · isplitl [HF]
    · iexact HF
    · iexists _; iexact HW
  · iexact HR

/-! ## The guarded steps -/

variable {fill : S33.Idx → BitVec 32} {dest : S139264.Idx → BitVec 32}

/-- The word is not negative, as the kernel tests it. -/
abbrev live (v : BitVec 32) : BitVec 1 := Scalar.cmpi .ne (Scalar.extui (Scalar.cmpi .sge v 0#32)) 0#32

theorem live_iff (v : BitVec 32) : live v = 1#1 ↔ 0 ≤ v.toInt := by
  have h : Scalar.cmpi .sge v 0#32 = BitVec.ofBool (decide (0 ≤ v.toInt)) := by
    simp only [Scalar.cmpi, IntOp.cmpi, BitVec.sle, BitVec.toInt_zero]
  unfold live
  rw [h]
  by_cases h0 : 0 ≤ v.toInt
  · simp only [h0, decide_true, iff_true]; rfl
  · simp only [h0, decide_false, iff_false]; decide

theorem fw_eq {e : ℕ} (he : e < 33) : fill (ix1 e he) = fw fill e := by rw [fw, dif_pos he]

/-- One look at word `e` of the block list, already read: the branch `t` (a copy) if it names a block, else on with `J`. -/
theorem guard_issue (e : ℕ) (he : e < 32) {c : Dev nD} {α : Type} {Q : α → sProp 𝕄} {R : sProp 𝕄} {f : OBuf F}
    {cond : BitVec 1} (hc : cond = live (fill (ix1 e (he.trans (by decide))))) {dec : Decidable (cond = 1#1)}
    {J : Prog (TpuEff nD τ sig (Elt F) Λ₀ .tc) α} {t : cond = 1#1 → Prog (TpuEff nD τ sig (Elt F) Λ₀ .tc) α}
    (ht : ∀ hh, 0 ≤ (fw fill e).toInt → (iprop(Clearing c (liveTo fill 32) f (cnt fill e + 1) ∗ R) ⊢ Wp c J Q) →
      iprop(Clearing c (liveTo fill 32) f (cnt fill e) ∗ R) ⊢ Wp c (t hh) Q)
    (h : iprop(Clearing c (liveTo fill 32) f (cnt fill (e + 1)) ∗ R) ⊢ Wp c J Q) :
    iprop(Clearing c (liveTo fill 32) f (cnt fill e) ∗ R) ⊢ Wp c (dite (cond = 1#1) t (fun _ => J)) Q := by
  have hfe := fw_eq (fill := fill) (he.trans (by decide : 32 < 33))
  by_cases hh : cond = 1#1
  · have hl : 0 ≤ (fw fill e).toInt := by rw [← hfe, ← live_iff, ← hc]; exact hh
    rw [dif_pos hh]
    exact ht hh hl (cnt_succ_of_live hl ▸ h)
  · have hl : ¬ 0 ≤ (fw fill e).toInt := by rw [← hfe, ← live_iff, ← hc]; exact hh
    rw [cnt_succ_of_not hl] at h
    rw [dif_neg hh]
    exact h

theorem head_row (hg : Good fill dest) {e : ℕ} (he : e < 32) (hl : 0 ≤ (fw fill e).toInt) :
    512 ∣ (fill (ix1 e (he.trans (by decide)))).toNat ∧ (fill (ix1 e (he.trans (by decide)))).toNat + 512 ≤ 155648
      ∧ (fill (ix1 e (he.trans (by decide)))).toNat = 512 * ((fw fill e).toNat / 512) := by
  rw [fw_eq (fill := fill) (he.trans (by decide : 32 < 33))]
  obtain ⟨hd, hlt⟩ := hg.head e he hl
  have htail := hg.tail
  exact ⟨hd, by omega, by omega⟩

theorem inb_of_row {r : ℕ} (h : r + 512 ≤ 155648) : ∀ a, (![r, 0] : Fin 2 → ℕ) a + S512x2048.size a ≤ S155648x2048.size a := by
  intro a; fin_cases a
  · exact h
  · exact le_refl 2048

/-- One look at word `e`, already read: the branch `t` (a wait for one copy) if it names a block, else on with `J`. -/
theorem guard_await (e : ℕ) (he : e < 32) {c : Dev nD} {α : Type} {Q : α → sProp 𝕄} {R : sProp 𝕄}
    {cond : BitVec 1} (hc : cond = live (fill (ix1 e (he.trans (by decide))))) {dec : Decidable (cond = 1#1)}
    {J t : Prog (TpuEff nD τ sig (Elt F) Λ₀ .tc) α}
    (ht : cnt fill e < (liveTo fill 32).length → (iprop(Awaiting (F := F) c (liveTo fill 32) (cnt fill e + 1) ∗ R) ⊢ Wp c J Q) →
      iprop(Awaiting c (liveTo fill 32) (cnt fill e) ∗ R) ⊢ Wp c t Q)
    (h : iprop(Awaiting c (liveTo fill 32) (cnt fill (e + 1)) ∗ R) ⊢ Wp c J Q) :
    iprop(Awaiting c (liveTo fill 32) (cnt fill e) ∗ R) ⊢ Wp c (ite (cond = 1#1) t J) Q := by
  have hfe := fw_eq (fill := fill) (he.trans (by decide : 32 < 33))
  by_cases hh : cond = 1#1
  · have hl : 0 ≤ (fw fill e).toInt := by rw [← hfe, ← live_iff, ← hc]; exact hh
    rw [if_pos hh]
    exact ht (cnt_lt he hl) (cnt_succ_of_live hl ▸ h)
  · have hl : ¬ 0 ≤ (fw fill e).toInt := by rw [← hfe, ← live_iff, ← hc]; exact hh
    rw [cnt_succ_of_not hl] at h
    rw [if_neg hh]
    exact h

end Cert.KernelIdeal.Hand

end
-- ==== Proof.First.lean ====
/-
  The kernel's first point, part by part: the scratch buffer zeroed, the blocks the list names cleared, the tail cleared.
-/
module

public import proofs.«01_k».proof.Proof.Clear

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {fill : S33.Idx → BitVec 32} {dest : S139264.Idx → BitVec 32}
variable (i : grid0.Coords) (arg1 : Memref sig .tc .smem S33 .i32) (harg1 : arg1.IsWhole) (arg2 : Memref sig .tc .smem S2048 .i32) (harg2 : arg2.IsWhole)
  (arg3 : Memref sig .tc .vmem S1x2048 .f32) (harg3 : arg3.IsWhole) (arg4 : Memref sig .tc .vmem S512x2048 .f32) (harg4 : arg4.IsWhole)
  (arg5 : Memref sig .tc .vmem S512x2048 .f32) (harg5 : arg5.IsWhole) (harg6 : oM.IsWhole) (harg7 : zM.IsWhole)
  (arg8 : Memref sig .tc .vmem S2x512x2048 .f32) (harg8 : arg8.IsWhole)

abbrev fillOwn (c : Dev nD) (m : Memref sig .tc .smem S33 .i32) (fill : S33.Idx → BitVec 32) : sProp 𝕄 :=
  owns (c : Thread nD τ) m fullShare (fun x => fill x)

theorem swap3 {A B C : sProp 𝕄} : iprop(A ∗ B ∗ C) ⊢ iprop(B ∗ A ∗ C) := by
  iintro ⟨HA, HB, HC⟩
  isplitl [HB]; · iexact HB
  isplitl [HA]; · iexact HA
  iexact HC

theorem part2 (hg : Good fill dest) (c : Dev nD) (f : OBuf F) (h1 : k0_cond1 i = 1#1) {Q : PUnit → sProp 𝕄} {R : sProp 𝕄}
    (h : iprop(Clearing c (liveTo fill 32) f (cnt fill 14) ∗ fillOwn c arg1 fill ∗ R) ⊢ Q ⟨⟩) :
    iprop(Clearing c (liveTo fill 32) f (cnt fill 6) ∗ fillOwn c arg1 fill ∗ R)
      ⊢ Wp c (k0_part2 (F := F) i arg1 harg1 arg2 harg2 arg3 harg3 arg4 harg4 arg5 harg5 oM harg6 zM harg7 arg8 harg8 cc0_scratch2 cc0_scratch3 h1 (fill (ix1 6 (by decide))) (Scalar.cmpi .sge (fill (ix1 6 (by decide))) 0#32)) Q := by
  rw [k0_part2_eq_skeleton]
  unfold k0_part2_skel
  beta_reduce
  extract_lets
  refine guard_issue _ (by decide) rfl ?_ ?_
  rotate_left
  iterate 7
    refine wp_word (X := fill) c (by decide) rfl swap3 ?_
    refine swap3.trans ?_
    refine guard_issue _ (by decide) rfl ?_ ?_
    rotate_left
  exact h.trans (le_wp_ret _ _ _ _ _)
  all_goals
    intro hh hl hk
    refine wp_word (X := fill) c (by decide) rfl swap3 ?_
    have hr := head_row hg (by decide) hl
    refine BIBase.Entails.trans ?_ (wp_assume Variants.none (c : Thread nD τ) none Set.univ ⟨fun _ _ => hr.1, fun _ _ => inb_of_row hr.2.1⟩)
    refine swap3.trans ?_
    exact clear_issue c (liveTo_nodup hg 32 le_rfl) (head? (by decide) hl) hr.2.2 rfl hk

theorem part3 (hg : Good fill dest) (c : Dev nD) (f : OBuf F) (h1 : k0_cond1 i = 1#1) {Q : (Σ' (_ : Elt F .i32), BitVec 1) → sProp 𝕄} {R : sProp 𝕄}
    (h : iprop(Clearing c (liveTo fill 32) f (cnt fill 21) ∗ fillOwn c arg1 fill ∗ R) ⊢ Q ⟨(fill (ix1 21 (by decide))), (Scalar.cmpi .sge (fill (ix1 21 (by decide))) 0#32)⟩) :
    iprop(Clearing c (liveTo fill 32) f (cnt fill 14) ∗ fillOwn c arg1 fill ∗ R)
      ⊢ Wp c (k0_part3 (F := F) i arg1 harg1 arg2 harg2 arg3 harg3 arg4 harg4 arg5 harg5 oM harg6 zM harg7 arg8 harg8 cc0_scratch2 cc0_scratch3 h1) Q := by
  rw [k0_part3_eq_skeleton]
  unfold k0_part3_skel
  beta_reduce
  extract_lets
  iterate 7
    refine wp_word (X := fill) c (by decide) rfl swap3 ?_
    refine swap3.trans ?_
    refine guard_issue _ (by decide) rfl ?_ ?_
    rotate_left
  refine wp_word (X := fill) c (by decide) rfl swap3 ?_
  refine swap3.trans ?_
  exact h.trans (le_wp_ret _ _ _ _ _)
  all_goals
    intro hh hl hk
    refine wp_word (X := fill) c (by decide) rfl swap3 ?_
    have hr := head_row hg (by decide) hl
    refine BIBase.Entails.trans ?_ (wp_assume Variants.none (c : Thread nD τ) none Set.univ ⟨fun _ _ => hr.1, fun _ _ => inb_of_row hr.2.1⟩)
    refine swap3.trans ?_
    exact clear_issue c (liveTo_nodup hg 32 le_rfl) (head? (by decide) hl) hr.2.2 rfl hk

theorem part4 (hg : Good fill dest) (c : Dev nD) (f : OBuf F) (h1 : k0_cond1 i = 1#1) {Q : PUnit → sProp 𝕄} {R : sProp 𝕄}
    (h : iprop(Clearing c (liveTo fill 32) f (cnt fill 29) ∗ fillOwn c arg1 fill ∗ R) ⊢ Q ⟨⟩) :
    iprop(Clearing c (liveTo fill 32) f (cnt fill 21) ∗ fillOwn c arg1 fill ∗ R)
      ⊢ Wp c (k0_part4 (F := F) i arg1 harg1 arg2 harg2 arg3 harg3 arg4 harg4 arg5 harg5 oM harg6 zM harg7 arg8 harg8 cc0_scratch2 cc0_scratch3 h1 (fill (ix1 21 (by decide))) (Scalar.cmpi .sge (fill (ix1 21 (by decide))) 0#32)) Q := by
  rw [k0_part4_eq_skeleton]
  unfold k0_part4_skel
  beta_reduce
  extract_lets
  refine guard_issue _ (by decide) rfl ?_ ?_
  rotate_left
  iterate 7
    refine wp_word (X := fill) c (by decide) rfl swap3 ?_
    refine swap3.trans ?_
    refine guard_issue _ (by decide) rfl ?_ ?_
    rotate_left
  exact h.trans (le_wp_ret _ _ _ _ _)
  all_goals
    intro hh hl hk
    refine wp_word (X := fill) c (by decide) rfl swap3 ?_
    have hr := head_row hg (by decide) hl
    refine BIBase.Entails.trans ?_ (wp_assume Variants.none (c : Thread nD τ) none Set.univ ⟨fun _ _ => hr.1, fun _ _ => inb_of_row hr.2.1⟩)
    refine swap3.trans ?_
    exact clear_issue c (liveTo_nodup hg 32 le_rfl) (head? (by decide) hl) hr.2.2 rfl hk

theorem part6 (c : Dev nD) {Q : PUnit → sProp 𝕄} {R : sProp 𝕄}
    (h : iprop(Awaiting c (liveTo fill 32) (cnt fill 12) ∗ fillOwn c arg1 fill ∗ R) ⊢ Q ⟨⟩) :
    iprop(Awaiting c (liveTo fill 32) (cnt fill 4) ∗ fillOwn c arg1 fill ∗ R)
      ⊢ Wp c (k0_part6 (F := F) i arg1 harg1 arg2 harg2 arg3 harg3 arg4 harg4 arg5 harg5 oM harg6 zM harg7 arg8 harg8 cc0_scratch2 cc0_scratch3 (Scalar.cmpi .sge (fill (ix1 4 (by decide))) 0#32)) Q := by
  rw [k0_part6_eq_skeleton]
  unfold k0_part6_skel
  beta_reduce
  extract_lets
  refine guard_await _ (by decide) rfl ?_ ?_
  rotate_left
  iterate 7
    refine wp_word (X := fill) c (by decide) rfl swap3 ?_
    refine swap3.trans ?_
    refine guard_await _ (by decide) rfl ?_ ?_
    rotate_left
  exact h.trans (le_wp_ret _ _ _ _ _)
  all_goals exact fun hl hk => clear_await c hl hk

theorem part7 (c : Dev nD) {Q : BitVec 1 → sProp 𝕄} {R : sProp 𝕄}
    (h : iprop(Awaiting c (liveTo fill 32) (cnt fill 19) ∗ fillOwn c arg1 fill ∗ R) ⊢ Q (Scalar.cmpi .sge (fill (ix1 19 (by decide))) 0#32)) :
    iprop(Awaiting c (liveTo fill 32) (cnt fill 12) ∗ fillOwn c arg1 fill ∗ R)
      ⊢ Wp c (k0_part7 (F := F) i arg1 harg1 arg2 harg2 arg3 harg3 arg4 harg4 arg5 harg5 oM harg6 zM harg7 arg8 harg8 cc0_scratch2 cc0_scratch3 ) Q := by
  rw [k0_part7_eq_skeleton]
  unfold k0_part7_skel
  beta_reduce
  extract_lets
  iterate 7
    refine wp_word (X := fill) c (by decide) rfl swap3 ?_
    refine swap3.trans ?_
    refine guard_await _ (by decide) rfl ?_ ?_
    rotate_left
  refine wp_word (X := fill) c (by decide) rfl swap3 ?_
  refine swap3.trans ?_
  exact h.trans (le_wp_ret _ _ _ _ _)
  all_goals exact fun hl hk => clear_await c hl hk

theorem part8 (c : Dev nD) {Q : PUnit → sProp 𝕄} {R : sProp 𝕄}
    (h : iprop(Awaiting c (liveTo fill 32) (cnt fill 27) ∗ fillOwn c arg1 fill ∗ R) ⊢ Q ⟨⟩) :
    iprop(Awaiting c (liveTo fill 32) (cnt fill 19) ∗ fillOwn c arg1 fill ∗ R)
      ⊢ Wp c (k0_part8 (F := F) i arg1 harg1 arg2 harg2 arg3 harg3 arg4 harg4 arg5 harg5 oM harg6 zM harg7 arg8 harg8 cc0_scratch2 cc0_scratch3 (Scalar.cmpi .sge (fill (ix1 19 (by decide))) 0#32)) Q := by
  rw [k0_part8_eq_skeleton]
  unfold k0_part8_skel
  beta_reduce
  extract_lets
  refine guard_await _ (by decide) rfl ?_ ?_
  rotate_left
  iterate 7
    refine wp_word (X := fill) c (by decide) rfl swap3 ?_
    refine swap3.trans ?_
    refine guard_await _ (by decide) rfl ?_ ?_
    rotate_left
  exact h.trans (le_wp_ret _ _ _ _ _)
  all_goals exact fun hl hk => clear_await c hl hk

end Cert.KernelIdeal.Hand

end
-- ==== Proof.Words.lean ====
/-
  The kernel's loop bounds and offsets as numbers: the tail's two loops (and their empty remainders), the trip counts and
  the row and word offsets of the loops over a tile.
-/
module

public import proofs.«01_k».proof.Proof.Layout
public import proofs.«01_k».proof.Proof.Gen.KernelIdeal.Skeleton
public import Idealize.ShloMosaic.Lib.Affine
public import Idealize.ShloMosaic.Lib.LoopRemainder

@[expose] public section

noncomputable section

namespace Cert.KernelIdeal.Hand

open Cert.KernelIdeal Cert.KernelIdeal.Gen
open Idealize.ShloMosaic

theorem toInt_of_le {v : BitVec 32} (h : v.toNat ≤ 304) : v.toInt = v.toNat := by
  rw [BitVec.toInt_eq_toNat_cond, if_pos (by omega)]

theorem sub_div_mul (v : BitVec 32) : Scalar.muli (Scalar.divsi (Scalar.subi 304#32 v) 1#32) 1#32 = 304#32 - v :=
  Scalar.muli_divsi_one _

theorem t1_loop_eq (v : BitVec 32) : k0_t1_loop v = ⟨v, 304#32, 1#32⟩ := by
  have h : v + (304#32 - v) = 304#32 := by bv_omega
  show Scf.Loop.mk v (v + Scalar.muli (Scalar.divsi (Scalar.subi 304#32 v) 1#32) 1#32) 1#32 = _
  rw [sub_div_mul, h]

theorem t2_loop_eq (v : BitVec 32) : k0_t2_loop v = ⟨304#32, 304#32, 1#32⟩ := by
  have h : v + (304#32 - v) = 304#32 := by bv_omega
  show Scf.Loop.mk (v + Scalar.muli (Scalar.divsi (Scalar.subi 304#32 v) 1#32) 1#32) (v + (304#32 - v)) 1#32 = _
  rw [sub_div_mul, h]

theorem t3_loop_eq (v : BitVec 32) : k0_t3_loop v = ⟨v, 304#32, 1#32⟩ := t1_loop_eq v
theorem t4_loop_eq (v : BitVec 32) : k0_t4_loop v = ⟨304#32, 304#32, 1#32⟩ := t2_loop_eq v

theorem up_trips {v : BitVec 32} (h : v.toNat ≤ 304) : (Scf.Loop.mk v 304#32 1#32).trips = 304 - v.toNat := by
  unfold Scf.Loop.trips Scf.trips
  simp only [toInt_of_le h, show (304#32 : BitVec 32).toInt = 304 from rfl, show (1#32 : BitVec 32).toInt = 1 from rfl]
  omega

theorem up_ok {v : BitVec 32} (h : v.toNat ≤ 304) : (Scf.Loop.mk v 304#32 1#32).OK := by
  have ht := up_trips h
  unfold Scf.Loop.OK Scf.OK
  unfold Scf.Loop.trips at ht
  dsimp only at ht ⊢
  rw [ht, toInt_of_le h, show (1#32 : BitVec 32).toInt = 1 from rfl]
  omega

theorem t1_trips {v : BitVec 32} (h : v.toNat ≤ 304) : (k0_t1_loop v).trips = 304 - v.toNat := by rw [t1_loop_eq]; exact up_trips h
theorem t3_trips {v : BitVec 32} (h : v.toNat ≤ 304) : (k0_t3_loop v).trips = 304 - v.toNat := by rw [t3_loop_eq]; exact up_trips h
theorem t2_trips (v : BitVec 32) : (k0_t2_loop v).trips = 0 := by rw [t2_loop_eq]; rfl
theorem t4_trips (v : BitVec 32) : (k0_t4_loop v).trips = 0 := by rw [t4_loop_eq]; rfl
theorem t1_ok {v : BitVec 32} (h : v.toNat ≤ 304) : (k0_t1_loop v).OK := by rw [t1_loop_eq]; exact up_ok h
theorem t3_ok {v : BitVec 32} (h : v.toNat ≤ 304) : (k0_t3_loop v).OK := by rw [t3_loop_eq]; exact up_ok h
theorem t2_ok (v : BitVec 32) : (k0_t2_loop v).OK := by rw [t2_loop_eq]; exact ⟨by decide, by decide⟩
theorem t4_ok (v : BitVec 32) : (k0_t4_loop v).OK := by rw [t4_loop_eq]; exact ⟨by decide, by decide⟩

theorem t1_off {v : BitVec 32} (h : v.toNat ≤ 304) (k : Fin (k0_t1_loop v).trips) :
    (Scalar.muli (Scf.iv v 1#32 k.val) 512#32).toNat = 512 * (v.toNat + k.val) := by
  have hk : k.val < 304 - v.toNat := lt_of_lt_of_eq k.isLt (t1_trips h)
  show ((v + BitVec.ofNat 32 k.val * 1#32) * 512#32).toNat = _
  simp only [BitVec.toNat_mul, BitVec.toNat_add, BitVec.toNat_ofNat]
  omega

/-- The side condition the kernel takes on after reading the tail's first block. -/
theorem chk33 (i : grid0.Coords) {v : BitVec 32} (h : v.toNat ≤ 304) : k0_chk33 i v := by
  refine ⟨fun _ => t1_ok h, fun k _ => ?_, fun k _ => ?_, fun _ => t2_ok v, fun k => ?_, fun k => ?_⟩
  · show 512 ∣ (Scalar.muli (Scf.iv v 1#32 k.val) 512#32).toNat
    rw [t1_off h k]; exact ⟨_, rfl⟩
  · have hk : k.val < 304 - v.toNat := lt_of_lt_of_eq k.isLt (t1_trips h)
    intro a; fin_cases a
    · show (Scalar.muli (Scf.iv v 1#32 k.val) 512#32).toNat + 512 ≤ 155648
      rw [t1_off h k]; omega
    · exact le_refl 2048
  · exact absurd (lt_of_lt_of_eq k.isLt (t2_trips v)) (Nat.not_lt_zero _)
  · exact absurd (lt_of_lt_of_eq k.isLt (t2_trips v)) (Nat.not_lt_zero _)

theorem chk34 (i : grid0.Coords) {v : BitVec 32} (h : v.toNat ≤ 304) : k0_chk34 i v := ⟨fun _ => t3_ok h, fun _ => t4_ok v⟩

/-! ## Points -/

theorem cond1_iff (i : grid0.Coords) : k0_cond1 i = 1#1 ↔ (i 0).val = 0 := by
  unfold k0_cond1; generalize (i 0 : Fin 68) = t; revert t; decide
theorem cond66_iff (i : grid0.Coords) : k0_cond66 i = 1#1 ↔ (i 0).val < 64 := by
  unfold k0_cond66; generalize (i 0 : Fin 68) = t; revert t; decide
theorem cond67_iff (i : grid0.Coords) : k0_cond67 i = 1#1 ↔ 64 ≤ (i 0).val := by
  unfold k0_cond67; generalize (i 0 : Fin 68) = t; revert t; decide
theorem cond68_iff (i : grid0.Coords) : k0_cond68 i = 1#1 ↔ (i 0).val % 2 = 0 := by
  unfold k0_cond68; generalize (i 0 : Fin 68) = t; revert t; decide
theorem cond69_iff (i : grid0.Coords) : k0_cond69 i = 1#1 ↔ (i 0).val % 2 = 1 := by
  unfold k0_cond69; generalize (i 0 : Fin 68) = t; revert t; decide
theorem cond70_iff (i : grid0.Coords) : k0_cond70 i = 1#1 ↔ 0 < (i 0).val := by
  unfold k0_cond70; generalize (i 0 : Fin 68) = t; revert t; decide
theorem cond71_iff (i : grid0.Coords) : k0_cond71 i = 1#1 ↔ (i 0).val = 67 := by
  unfold k0_cond71; generalize (i 0 : Fin 68) = t; revert t; decide
theorem off35_slot (i : grid0.Coords) : k0_off35 i 0 = (i 0).val % 2 := by
  unfold k0_off35; generalize (i 0 : Fin 68) = t; revert t; decide
theorem off36_slot (i : grid0.Coords) : k0_off36 i 0 = (i 0).val % 2 := by
  unfold k0_off36; generalize (i 0 : Fin 68) = t; revert t; decide
theorem off61_slot (i : grid0.Coords) : k0_off61 i 0 = ((i 0).val + 1) % 2 := by
  unfold k0_off61; generalize (i 0 : Fin 68) = t; revert t; decide
theorem off63_slot (i : grid0.Coords) : k0_off63 i 0 = (i 0).val % 2 := by
  unfold k0_off63; generalize (i 0 : Fin 68) = t; revert t; decide

/-! ## Trips over a tile -/

theorem t5_trips : k0_t5_loop.trips = 512 := rfl
theorem t6_trips : k0_t6_loop.trips = 512 := rfl
theorem t7_trips : k0_t7_loop.trips = 512 := rfl
theorem t8_trips : k0_t8_loop.trips = 512 := rfl

theorem trip_row {k : ℕ} (hk : k < 512) : (Scf.iv 0#32 1#32 k).toNat = k := by
  show (0#32 + BitVec.ofNat 32 k * 1#32).toNat = k
  simp only [BitVec.toNat_mul, BitVec.toNat_add, BitVec.toNat_ofNat]
  omega

/-- The word holding copy `m` of trip `k`. -/
theorem trip_word {k : ℕ} (hk : k < 512) (m : ℕ) (hm : m < 4) :
    (Scalar.addi (Scalar.muli (Scf.iv 0#32 1#32 k) 4#32) (BitVec.ofNat 32 m)).toNat = 4 * k + m := by
  show ((0#32 + BitVec.ofNat 32 k * 1#32) * 4#32 + BitVec.ofNat 32 m).toNat = _
  simp only [BitVec.toNat_mul, BitVec.toNat_add, BitVec.toNat_ofNat]
  omega

end Cert.KernelIdeal.Hand

end
-- ==== Proof.Block.lean ====
/-
  The kernel's first point as a whole: the scratch buffer zeroed, the blocks the list names cleared, then the tail cleared.
-/
module

public import proofs.«01_k».proof.Proof.First
public import proofs.«01_k».proof.Proof.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (shareTok shareDrop)

variable {F : FTy → Type} [FloatOps F]

local notation "𝕄" => MT nD τ sig Unit (Elt F) ℕ (Pipeline.UD sig nD τ) ℕ

variable {fill : S33.Idx → BitVec 32} {dest : S139264.Idx → BitVec 32}
variable (i : grid0.Coords) (arg1 : Memref sig .tc .smem S33 .i32) (harg1 : arg1.IsWhole) (arg2 : Memref sig .tc .smem S2048 .i32) (harg2 : arg2.IsWhole)
  (arg3 : Memref sig .tc .vmem S1x2048 .f32) (harg3 : arg3.IsWhole) (arg4 : Memref sig .tc .vmem S512x2048 .f32) (harg4 : arg4.IsWhole)
  (arg5 : Memref sig .tc .vmem S512x2048 .f32) (harg5 : arg5.IsWhole) (harg6 : oM.IsWhole) (harg7 : zM.IsWhole)
  (arg8 : Memref sig .tc .vmem S2x512x2048 .f32) (harg8 : arg8.IsWhole)

theorem seq {c : Dev nD} {α β : Type} {p : Prog (TpuEff nD τ sig (Elt F) Λ₀ .tc) α} {k : α → Prog (TpuEff nD τ sig (Elt F) Λ₀ .tc) β}
    {P : sProp 𝕄} {Q' : α → sProp 𝕄} {Q : β → sProp 𝕄} (h1 : P ⊢ Wp c p Q') (h2 : ∀ x, Q' x ⊢ Wp c (k x) Q) : P ⊢ Wp c (p >>= k) Q := by
  show P ⊢ wp _ _ _ _ _
  rw [wp_bind]
  exact h1.trans (wp_mono _ _ _ h2)

theorem after {c : Dev nD} {α : Type} {p : Prog (TpuEff nD τ sig (Elt F) Λ₀ .tc) α} {P P' : sProp 𝕄} {Q : α → sProp 𝕄}
    (h1 : P ⊢ (iprop(|={Set.univ}=> P') : sProp 𝕄)) (h2 : P' ⊢ Wp c p Q) : P ⊢ Wp c p Q :=
  h1.trans ((fupd_mono h2).trans (fupd_wp _ _ _ _ _))

theorem ends (c : Dev nD) {α : Type} {x : α} {Q : α → sProp 𝕄} : Q x ⊢ Wp c (Prog.ret x) Q := le_wp_ret _ _ _ _ _

theorem wp_check (c : Dev nD) {α : Type} {p : Prop} {d : Decidable p} (h : p) {k : PLift p → Prog (TpuEff nD τ sig (Elt F) Λ₀ .tc) α}
    {P : sProp 𝕄} {Q : α → sProp 𝕄} (hk : P ⊢ Wp c (k ⟨h⟩) Q) : P ⊢ Wp c (Prog.lift (TpuEff.assume p d) >>= k) Q :=
  hk.trans (wp_assume Variants.none (c : Thread nD τ) none Set.univ h)

theorem use {A A' R W G : sProp 𝕄} (rule : A ⊢ iprop((A' -∗ W) -∗ G)) (h : iprop(A' ∗ R) ⊢ W) : iprop(A ∗ R) ⊢ G := by
  iintro ⟨H, HR⟩
  iapply rule $$ H
  iintro H
  iapply h
  isplitl [H]
  · iexact H
  · iexact HR

theorem wp_ld (c : Dev nD) {α : Type} {cs : CoreSpace} {sh : Shape} {e : EltTy} {m : Memref sig .tc cs sh e} {r : Rect sh} {hl : m.view.LoadsAt r.toLoadRect}
    {k : (r.shape.Idx → Elt F e) → Prog (TpuEff nD τ sig (Elt F) Λ₀ .tc) α} {S : Finset (Idx ((m.access r).loc (c : Thread nD τ)))} {q : PosShare TreeShare}
    {f : Buf (Elt F) ((m.access r).loc (c : Thread nD τ))} (hS : (m.access r).set ⊆ S) {R : sProp 𝕄} {Q : α → sProp 𝕄}
    (h : iprop(((m.access r).loc (c : Thread nD τ) ↦[S]{q} f) ∗ R) ⊢ Wp c (k ((m.access r).read (Elt F) f)) Q) :
    iprop(((m.access r).loc (c : Thread nD τ) ↦[S]{q} f) ∗ R) ⊢ Wp c (Prog.lift (TpuEff.load m r.toLoadRect hl) >>= k) Q := by
  exact use (wp_load_rect (defs := defs₀ (F := F)) Variants.none (c : Thread nD τ) none Set.univ (m := m) (r := r) (hl := hl) (k := k) (Q := Q) (q := q) (f := f) hS) h

theorem wp_st (c : Dev nD) {α : Type} {cs : CoreSpace} {sh : Shape} {e : EltTy} {m : Memref sig .tc cs sh e} {r : Rect sh} {w : r.shape.Idx → Elt F e}
    {hx : (m.access r).Stores Finset.univ} {hm : Finset.univ = (Finset.univ : Finset r.shape.Idx) ∨ ∀ a, r.stride a = 1}
    {k : PUnit → Prog (TpuEff nD τ sig (Elt F) Λ₀ .tc) α} {S : Finset (Idx ((m.access r).loc (c : Thread nD τ)))}
    {f : Buf (Elt F) ((m.access r).loc (c : Thread nD τ))} (hS : (m.access r).set ⊆ S) {R : sProp 𝕄} {Q : α → sProp 𝕄}
    (h : iprop(((m.access r).loc (c : Thread nD τ) ↦[S]{fullShare} (m.access r).write (Elt F) f w Finset.univ) ∗ R) ⊢ Wp c (k ⟨⟩) Q) :
    iprop(((m.access r).loc (c : Thread nD τ) ↦[S]{fullShare} f) ∗ R) ⊢ Wp c (Prog.lift (TpuEff.store m r w Finset.univ hx hm) >>= k) Q := by
  exact use (wp_store (defs := defs₀ (F := F)) Variants.none (c : Thread nD τ) none Set.univ (m := m) (r := r) (w := w) (hx := hx) (hm := hm) (k := k) (Q := Q) (f := f) hS) h

/-- A loop of `n` trips, by an invariant. -/
theorem loop (c : Dev nD) {l : Scf.Loop 32} {ok : l.OK} {body : Fin l.trips → PUnit → Prog (TpuEff nD τ sig (Elt F) Λ₀ .tc) PUnit} {n : ℕ}
    (hn : l.trips = n) (I : ℕ → sProp 𝕄) (hbody : ∀ k : Fin l.trips, I k.val ⊢ Wp c (body k ⟨⟩) (fun _ => I (k.val + 1))) :
    I 0 ⊢ Wp c (Scf.Loop.for l ok ⟨⟩ body) (fun _ => I n) := by
  subst hn
  iintro H
  iapply (Scf.wp_for frame (wpE (defs₀ (F := F)) Variants.none c none) Set.univ l.lb l.ub l.st ok ⟨⟩ body (fun k _ => I k) (fun k _ => hbody k))
  isplitl [H]
  · iexact H
  · iintro %acc H; iexact H

/-! ## The scratch buffer -/

abbrev zR : Rect S512x2048 := Rect.unit (s := S512x2048) ![0, 0] S512x2048.size inb_S512x2048_S512x2048_0_0

theorem zeroed (z : (zM.access zR).ty.Contents (Elt F)) (y : S512x2048.Idx) :
    (zM.access zR).write (Elt F) z (k0_pay3 (F := F)) Finset.univ y = zv := by
  have hx : zR.emb y = y := by
    funext a; refine Fin.ext ?_
    show (![0, 0] : Fin 2 → ℕ) a + 1 * (y a).val = (y a).val
    fin_cases a <;> simp
  have h := View.write_emb_of_mem (v := zM.access zR) z (k0_pay3 (F := F)) (Finset.mem_univ y)
  rw [show (zM.access zR).emb y = y from hx] at h
  exact h

theorem z_sub : (zM.access zR).set ⊆ zM.view.set := by rw [View.set_whole]; exact Finset.subset_univ _

theorem zeroed_pt (c : Dev nD) (z : Buf (Elt F) (zM.view.loc (c : Thread nD τ))) :
    ((zM.access zR).loc (c : Thread nD τ) ↦[zM.view.set]{fullShare} (zM.access zR).write (Elt F) z (k0_pay3 (F := F)) Finset.univ) ⊢ (zPt c fullShare : sProp 𝕄) :=
  .of_eq (pointsTo_congr fun y _ => zeroed z y)

theorem first_batch (c : Dev nD) (f : OBuf F) (bl : List ℕ) {j : ℕ} (hj : j = 0) {A R : sProp 𝕄} :
    iprop(zPt c fullShare ∗ semVal ((c : Thread nD τ), SemLoc.dma fS) 0 ∗ oPt c Finset.univ f ∗ A ∗ R)
      ⊢ (iprop(|={Set.univ}=> (Clearing c bl f j ∗ A ∗ zPt c (shareDrop fullShare bl.length) ∗ R)) : sProp 𝕄) := by
  subst hj
  iintro ⟨Hz, Hs, Ho, HA, HR⟩
  imod (clearing_start c bl f) $$ [Hz Hs Ho] with ⟨HC, Hz⟩
  · isplitl [Hs]; · iexact Hs
    isplitl [Ho]; · iexact Ho
    iexact Hz
  imodintro
  isplitl [HC]; · iexact HC
  isplitl [HA]; · iexact HA
  isplitl [Hz]; · iexact Hz
  iexact HR

theorem part1 (hg : Good fill dest) (c : Dev nD) (f : OBuf F) (z : Buf (Elt F) (zM.view.loc (c : Thread nD τ))) (h1 : k0_cond1 i = 1#1) {Q : (Σ' (_ : Elt F .i32), BitVec 1) → sProp 𝕄} {R : sProp 𝕄}
    (h : iprop(Clearing c (liveTo fill 32) f (cnt fill 6) ∗ fillOwn c arg1 fill ∗ zPt c (shareDrop fullShare (liveTo fill 32).length) ∗ R)
      ⊢ Q ⟨(fill (ix1 6 (by decide))), (Scalar.cmpi .sge (fill (ix1 6 (by decide))) 0#32)⟩) :
    iprop((zM.view.loc (c : Thread nD τ) ↦[zM.view.set]{fullShare} z) ∗ semVal ((c : Thread nD τ), SemLoc.dma fS) 0 ∗ oPt c Finset.univ f ∗ fillOwn c arg1 fill ∗ R)
      ⊢ Wp c (k0_part1 (F := F) i arg1 harg1 arg2 harg2 arg3 harg3 arg4 harg4 arg5 harg5 oM harg6 zM harg7 arg8 harg8 cc0_scratch2 cc0_scratch3 h1) Q := by
  rw [k0_part1_eq_skeleton]
  unfold k0_part1_skel
  beta_reduce
  extract_lets
  refine wp_ld c (m := zM) (r := zR) z_sub ?_
  refine wp_st c (m := zM) (r := zR) z_sub ?_
  refine after ((sep_mono_left (zeroed_pt c z)).trans (first_batch c f (liveTo fill 32) (cnt_zero : cnt fill 0 = 0))) ?_
  iterate 6
    refine wp_word (X := fill) c (by decide) rfl swap3 ?_
    refine swap3.trans ?_
    refine guard_issue _ (by decide) rfl ?_ ?_
    rotate_left
  refine wp_word (X := fill) c (by decide) rfl swap3 ?_
  refine swap3.trans ?_
  exact h.trans (le_wp_ret _ _ _ _ _)
  all_goals
    intro hh hl hk
    refine wp_word (X := fill) c (by decide) rfl swap3 ?_
    have hr := head_row hg (by decide) hl
    refine BIBase.Entails.trans ?_ (wp_assume Variants.none (c : Thread nD τ) none Set.univ ⟨fun _ _ => hr.1, fun _ _ => inb_of_row hr.2.1⟩)
    refine swap3.trans ?_
    exact clear_issue c (liveTo_nodup hg 32 le_rfl) (head? (by decide) hl) hr.2.2 rfl hk

/-- From the last copy issued to none awaited. -/
theorem all_issued (c : Dev nD) (bl : List ℕ) (f : OBuf F) {A R : sProp 𝕄} :
    iprop(Clearing c bl f bl.length ∗ A ∗ Owes c ∗ R) ⊢ (iprop(Awaiting c bl 0 ∗ A ∗ ClearRest c bl f ∗ R) : sProp 𝕄) := by
  iintro ⟨HC, HA, HO, HR⟩
  ihave H := (clearing_all c bl f) $$ [HC HO]
  · isplitl [HC]
    · iexact HC
    · iexact HO
  icases H with ⟨HW, HC⟩
  isplitl [HW]; · iexact HW
  isplitl [HA]; · iexact HA
  isplitl [HC]; · iexact HC
  iexact HR

theorem part5 (hg : Good fill dest) (c : Dev nD) (f : OBuf F) (h1 : k0_cond1 i = 1#1) {Q : BitVec 1 → sProp 𝕄} {R : sProp 𝕄}
    (h : iprop(Awaiting c (liveTo fill 32) (cnt fill 4) ∗ fillOwn c arg1 fill ∗ ClearRest c (liveTo fill 32) f ∗ R)
      ⊢ Q (Scalar.cmpi .sge (fill (ix1 4 (by decide))) 0#32)) :
    iprop(Clearing c (liveTo fill 32) f (cnt fill 29) ∗ fillOwn c arg1 fill ∗ Owes c ∗ R)
      ⊢ Wp c (k0_part5 (F := F) i arg1 harg1 arg2 harg2 arg3 harg3 arg4 harg4 arg5 harg5 oM harg6 zM harg7 arg8 harg8 cc0_scratch2 cc0_scratch3 h1) Q := by
  rw [k0_part5_eq_skeleton]
  unfold k0_part5_skel
  beta_reduce
  extract_lets
  iterate 3
    refine wp_word (X := fill) c (by decide) rfl swap3 ?_
    refine swap3.trans ?_
    refine guard_issue _ (by decide) rfl ?_ ?_
    rotate_left
  refine (all_issued c (liveTo fill 32) f).trans ?_
  refine (show iprop(Awaiting c (liveTo fill 32) (cnt fill 0) ∗ fillOwn c arg1 fill ∗ ClearRest c (liveTo fill 32) f ∗ R) ⊢ _ from ?_)
  iterate 4
    refine wp_word (X := fill) c (by decide) rfl swap3 ?_
    refine swap3.trans ?_
    refine guard_await _ (by decide) rfl (fun hl hk => clear_await c hl hk) ?_
  refine wp_word (X := fill) c (by decide) rfl swap3 ?_
  refine swap3.trans ?_
  exact h.trans (le_wp_ret _ _ _ _ _)
  all_goals
    intro hh hl hk
    refine wp_word (X := fill) c (by decide) rfl swap3 ?_
    have hr := head_row hg (by decide) hl
    refine BIBase.Entails.trans ?_ (wp_assume Variants.none (c : Thread nD τ) none Set.univ ⟨fun _ _ => hr.1, fun _ _ => inb_of_row hr.2.1⟩)
    refine swap3.trans ?_
    exact clear_issue c (liveTo_nodup hg 32 le_rfl) (head? (by decide) hl) hr.2.2 rfl hk

/-! ## The tail -/

theorem tail_issue (c : Dev nD) (f : OBuf F) (h1 : k0_cond1 i = 1#1) {v : BitVec 32} (hv : v.toNat = used fill) (hu : used fill ≤ 304)
    (hw : k0_chk33 i v) {ok : (k0_t1_loop v).OK} (R : sProp 𝕄) :
    iprop(Clearing c (tailOf fill) f 0 ∗ R)
      ⊢ Wp c (Scf.Loop.for (k0_t1_loop v) ok ⟨⟩ (k0_t1_body (F := F) i arg1 harg1 arg2 harg2 arg3 harg3 arg4 harg4 arg5 harg5 oM harg6 zM harg7 arg8 harg8 cc0_scratch2 cc0_scratch3 h1 v hw))
        (fun _ => iprop(Clearing c (tailOf fill) f (tailOf fill).length ∗ R)) := by
  refine loop c (n := (tailOf fill).length) (by rw [t1_trips (hv ▸ hu), length_tailOf, hv]) (fun k => iprop(Clearing c (tailOf fill) f k ∗ R)) fun k => ?_
  have hk : k.val < 304 - used fill := lt_of_lt_of_eq k.isLt (by rw [t1_trips (hv ▸ hu), hv])
  have ho := t1_off (hv ▸ hu : v.toNat ≤ 304) k
  rw [hv] at ho
  exact clear_issue c tailOf_nodup (tail? hk) ho rfl (ends c)

theorem tail_await (c : Dev nD) (h1 : k0_cond1 i = 1#1) {v : BitVec 32} (hv : v.toNat = used fill) (hu : used fill ≤ 304)
    (hw : k0_chk34 i v) {ok : (k0_t3_loop v).OK} (R : sProp 𝕄) :
    iprop(Awaiting c (tailOf fill) 0 ∗ R)
      ⊢ Wp c (Scf.Loop.for (k0_t3_loop v) ok ⟨⟩ (k0_t3_body (F := F) i arg1 harg1 arg2 harg2 arg3 harg3 arg4 harg4 arg5 harg5 oM harg6 zM harg7 arg8 harg8 cc0_scratch2 cc0_scratch3 h1 v hw))
        (fun _ => iprop(Awaiting c (tailOf fill) (tailOf fill).length ∗ R)) := by
  refine loop c (n := (tailOf fill).length) (by rw [t3_trips (hv ▸ hu), length_tailOf, hv]) (fun k => iprop(Awaiting c (tailOf fill) k ∗ R)) fun k => ?_
  have hk : k.val < (tailOf fill).length := lt_of_lt_of_eq k.isLt (by rw [t3_trips (hv ▸ hu), length_tailOf, hv])
  exact clear_await c hk (ends c)

/-- Between the two batches. -/
theorem next_batch (hg : Good fill dest) (c : Dev nD) (f : OBuf F) {A R : sProp 𝕄} :
    iprop(Awaiting c (liveTo fill 32) (cnt fill 32) ∗ A ∗ ClearRest c (liveTo fill 32) f ∗ zPt c (shareDrop fullShare (liveTo fill 32).length) ∗ R)
      ⊢ (iprop(|={Set.univ}=> (Clearing c (tailOf fill) (cleared (liveTo fill 32) f) 0 ∗ A ∗ zPt c (shareDrop fullShare (tailOf fill).length) ∗ Owes c ∗ R)) : sProp 𝕄) := by
  iintro ⟨HW, HA, HC, Hz, HR⟩
  imod (awaiting_done c (liveTo_nodup hg 32 le_rfl) f) $$ [HW HC Hz] with ⟨Hs, Ho, Hz, HO⟩
  · isplitl [HW]; · iexact HW
    isplitl [HC]; · iexact HC
    iexact Hz
  imod (clearing_start c (tailOf fill) (cleared (liveTo fill 32) f)) $$ [Hs Ho Hz] with ⟨HC, Hz⟩
  · isplitl [Hs]; · iexact Hs
    isplitl [Ho]; · iexact Ho
    iexact Hz
  imodintro
  isplitl [HC]; · iexact HC
  isplitl [HA]; · iexact HA
  isplitl [Hz]; · iexact Hz
  isplitl [HO]; · iexact HO
  iexact HR

theorem part9 (hg : Good fill dest) (c : Dev nD) (f : OBuf F) (h1 : k0_cond1 i = 1#1)
    {Q : (Σ' (v : Elt F .i32) (_ : k0_chk34 i v), BitVec 32) → sProp 𝕄} {R : sProp 𝕄}
    (h : ∀ hw, iprop(Clearing c (tailOf fill) (cleared (liveTo fill 32) f) (tailOf fill).length ∗ fillOwn c arg1 fill
        ∗ zPt c (shareDrop fullShare (tailOf fill).length) ∗ Owes c ∗ R) ⊢ Q ⟨fill (ix1 32 (by decide)), hw, 304#32⟩) :
    iprop(Awaiting c (liveTo fill 32) (cnt fill 27) ∗ fillOwn c arg1 fill ∗ ClearRest c (liveTo fill 32) f ∗ zPt c (shareDrop fullShare (liveTo fill 32).length) ∗ R)
      ⊢ Wp c (k0_part9 (F := F) i arg1 harg1 arg2 harg2 arg3 harg3 arg4 harg4 arg5 harg5 oM harg6 zM harg7 arg8 harg8 cc0_scratch2 cc0_scratch3 h1) Q := by
  have hv : (fill (ix1 32 (by decide))).toNat = used fill := by rw [fw_eq (fill := fill) (by decide : 32 < 33)]
  have hu : used fill ≤ 304 := hg.tail
  rw [k0_part9_eq_skeleton]
  unfold k0_part9_skel
  beta_reduce
  extract_lets
  iterate 5
    refine wp_word (X := fill) c (by decide) rfl swap3 ?_
    refine swap3.trans ?_
    refine guard_await _ (by decide) rfl (fun hl hk => clear_await c hl hk) ?_
  refine after (next_batch hg c f) ?_
  refine wp_word (X := fill) c (by decide) rfl swap3 ?_
  refine wp_check c (chk33 i (hv ▸ hu)) ?_
  refine swap3.trans ?_
  refine seq (tail_issue _ _ _ _ _ _ _ _ _ _ _ _ _ _ _ c _ h1 hv hu _ _) fun _ => ?_
  refine Scf.wp_for0_bind _ _ _ _ _ _ _ _ (t2_trips _) _ _ _ ?_
  refine wp_word (X := fill) c (by decide) rfl swap3 ?_
  refine wp_check c (chk34 i (hv ▸ hu)) ?_
  refine swap3.trans ?_
  exact (h _).trans (le_wp_ret _ _ _ _ _)

end Cert.KernelIdeal.Hand

end
-- ==== Proof.Tile.lean ====
/-
  One tile of 512 tokens: a slot of the row buffer filled, its rows sent to the rows the assignments name, the copies awaited.
-/
module

public import proofs.«01_k».proof.Proof.Block

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (shareTok shareDrop)

variable {F : FTy → Type} [FloatOps F]

local notation "𝕄" => MT nD τ sig Unit (Elt F) ℕ (Pipeline.UD sig nD τ) ℕ

variable {fill : S33.Idx → BitVec 32} {dest : S139264.Idx → BitVec 32}

abbrev rM : Memref sig .tc .vmem S2x512x2048 .f32 := Memref.whole cc0_scratch1
abbrev RBuf (F : FTy → Type) : Type := S2x512x2048.Idx → Elt F .f32

/-- The row buffer's elements `A` held at `f`. -/
abbrev rPt (c : Dev nD) (A : Finset S2x512x2048.Idx) (q : PosShare TreeShare) (f : RBuf F) : sProp 𝕄 :=
  rM.view.loc (c : Thread nD τ) ↦[A]{q} f

def slotSet (s : ℕ) : Finset S2x512x2048.Idx := Finset.univ.filter fun y => (y 0).val = s
def rowSet (s r : ℕ) : Finset S2x512x2048.Idx := Finset.univ.filter fun y => (y 0).val = s ∧ (y 1).val = r
theorem mem_slotSet {s : ℕ} {y : S2x512x2048.Idx} : y ∈ slotSet s ↔ (y 0).val = s := by simp [slotSet]
theorem mem_rowSet {s r : ℕ} {y : S2x512x2048.Idx} : y ∈ rowSet s r ↔ (y 0).val = s ∧ (y 1).val = r := by simp [rowSet]
theorem rowSet_sub (s r : ℕ) : rowSet s r ⊆ slotSet s := fun _ h => mem_slotSet.mpr (mem_rowSet.mp h).1

/-- The semaphore at an offset of the pair. -/
abbrev semAt (off : Fin 1 → ℕ) (inb : ∀ a, off a + S1.size a ≤ S2.size a) : DmaSem sig :=
  ((cc0_scratch2.slice (Rect.unit (s := S2) off S1.size inb)).squeeze S_ squeezes_S1_S_).sem

theorem inb_slot {s : ℕ} (hs : s < 2) : ∀ a, (![s] : Fin 1 → ℕ) a + S1.size a ≤ S2.size a := by
  intro a; fin_cases a; exact hs

/-- Slot `s`'s semaphore. -/
def sS (s : ℕ) (hs : s < 2) : DmaSem sig := semAt ![s] (inb_slot hs)

theorem semAt_eq {off : Fin 1 → ℕ} {inb : ∀ a, off a + S1.size a ≤ S2.size a} {s : ℕ} (hs : s < 2) (h : off 0 = s) : semAt off inb = sS s hs := by
  have : off = ![s] := by funext a; fin_cases a; exact h
  subst this; rfl

/-- One row's view of the row buffer, as the kernel slices it. -/
abbrev rWin (off : Fin 3 → ℕ) (inb : ∀ a, off a + S1x1x2048.size a ≤ S2x512x2048.size a) : Memref sig .tc .vmem S1x2048 .f32 :=
  (rM.slice (Rect.unit (s := S2x512x2048) off S1x1x2048.size inb) (fun _ => rfl)).squeeze S1x2048 squeezes_S1x1x2048_S1x2048

theorem set_rWin {off : Fin 3 → ℕ} {inb : ∀ a, off a + S1x1x2048.size a ≤ S2x512x2048.size a} {s r : ℕ}
    (h0 : off 0 = s) (h1 : off 1 = r) (h2 : off 2 = 0) : rowSet s r = (rWin off inb).view.set := by
  ext y
  have e : (rWin off inb).view.set = (Rect.unit (s := S2x512x2048) off S1x1x2048.size inb).set :=
    (View.set_reshape _ _).trans (View.set_slice_whole cc0_scratch1 _)
  have hy : (y 2).val < 2048 := (y 2).isLt
  rw [e, mem_rowSet]
  refine Iff.trans ?_ (Rect.mem_set_unit (s := S2x512x2048) (off := off) (size := S1x1x2048.size) (inb := inb)).symm
  constructor
  · rintro ⟨ha, hb⟩ a
    match a with
    | ⟨0, _⟩ => show off 0 ≤ (y 0).val ∧ (y 0).val < off 0 + 1; omega
    | ⟨1, _⟩ => show off 1 ≤ (y 1).val ∧ (y 1).val < off 1 + 1; omega
    | ⟨2, _⟩ => show off 2 ≤ (y 2).val ∧ (y 2).val < off 2 + 2048; omega
  · intro h
    have a0 : off 0 ≤ (y 0).val ∧ (y 0).val < off 0 + 1 := h 0
    have a1 : off 1 ≤ (y 1).val ∧ (y 1).val < off 1 + 1 := h 1
    omega

/-- Where the row's view reads. -/
theorem emb_rWin {off : Fin 3 → ℕ} {inb : ∀ a, off a + S1x1x2048.size a ≤ S2x512x2048.size a} {s r : ℕ}
    (h0 : off 0 = s) (h1 : off 1 = r) (h2 : off 2 = 0) (x : S1x2048.Idx) :
    (((rWin off inb).view.emb x) 0).val = s ∧ (((rWin off inb).view.emb x) 1).val = r ∧ (((rWin off inb).view.emb x) 2).val = (x 1).val := by
  have hx : Shape.reshapeEquiv squeezes_S1x1x2048_S1x2048.numel_eq x = (Fin.cons ⟨0, Nat.one_pos⟩ x : S1x1x2048.Idx) :=
    Shape.reshapeEquiv_cons_one (d := ![1, 2048]) _ x
  have hx0 : (x 0).val < 1 := (x 0).isLt
  have e : (rWin off inb).view.emb x = (Rect.unit (s := S2x512x2048) off S1x1x2048.size inb).emb (Shape.reshapeEquiv squeezes_S1x1x2048_S1x2048.numel_eq x) := rfl
  rw [e, hx]
  refine ⟨?_, ?_, ?_⟩
  · show off 0 + 1 * 0 = s; omega
  · show off 1 + 1 * (x 0).val = r; omega
  · show off 2 + 1 * (x 1).val = (x 1).val; omega

abbrev Nr : ℕ := (oWin (sz := S1x2048.size) ![0, 0] inb_S155648x2048_S1x2048_0_0).view.amount (.dma fS)

/-- The share copy `j` of a tile reads through. -/
abbrev part (c : Dev nD) (s : ℕ) (fs : RBuf F) (j : Fin 2048) : sProp 𝕄 := rPt c (rowSet s (j.val / 4)) (shareTok fullShare 2048 j) fs

/-- While tile `t`'s copies are being issued out of slot `s`. -/
def Sending (c : Dev nD) (dest : S139264.Idx → BitVec 32) (t s : ℕ) (hs : s < 2) (G : OBuf F) (fs : RBuf F) (S : Finset OIdx) (f : OBuf F) (j : ℕ) : sProp 𝕄 :=
  Issuing c (.dma (sS s hs)) Nr (tileBs dest t) G (part c s fs) S f j

/-- While they are being awaited. -/
def Landing (c : Dev nD) (dest : S139264.Idx → BitVec 32) (t s : ℕ) (hs : s < 2) (G : OBuf F) (fs : RBuf F) (w : ℕ) : sProp 𝕄 :=
  iprop(Flying c (.dma (sS s hs)) Nr (tileBs dest t) G (part c s fs) 2048 (Nr * w) ∗ Owes c)

/-- The shares of the slot no copy reads through. -/
def Kept (c : Dev nD) (s : ℕ) (fs : RBuf F) : sProp 𝕄 :=
  iprop(rPt c (slotSet s) (shareDrop fullShare 2048) fs
    ∗ bigSep (Finset.univ : Finset (Fin 2048)) fun j => rPt c (slotSet s \ rowSet s (j.val / 4)) (shareTok fullShare 2048 j) fs)

theorem lend (c : Dev nD) (s : ℕ) (fs : RBuf F) :
    rPt c (slotSet s) fullShare fs ⊣⊢ (iprop(bigSep (Finset.univ : Finset (Fin 2048)) (part c s fs) ∗ Kept c s fs) : sProp 𝕄) := by
  have e : (bigSep (Finset.univ : Finset (Fin 2048)) fun j => rPt c (slotSet s) (shareTok fullShare 2048 j) fs)
      = (iprop(bigSep (Finset.univ : Finset (Fin 2048)) (part c s fs) ∗ bigSep (Finset.univ : Finset (Fin 2048)) fun j => rPt c (slotSet s \ rowSet s (j.val / 4)) (shareTok fullShare 2048 j) fs) : sProp 𝕄) := by
    refine Eq.trans ?_ (BI.bigSep_sep Finset.univ _ _)
    refine BI.bigSep_congr fun j _ => ?_
    have hsp : (rPt c (slotSet s) (shareTok fullShare 2048 j) fs : sProp 𝕄) ⊣⊢
        (iprop(rPt c (rowSet s (j.val / 4)) (shareTok fullShare 2048 j) fs ∗ rPt c (slotSet s \ rowSet s (j.val / 4)) (shareTok fullShare 2048 j) fs) : sProp 𝕄) :=
      pointsTo_split_subset (ℓ := rM.view.loc (c : Thread nD τ)) (rowSet_sub s (j.val / 4))
    exact equiv_iff.mp ⟨hsp.1, hsp.2⟩
  refine (Transfers.pointsTo_toks fullShare 2048).trans ?_
  unfold Kept
  constructor
  · iintro ⟨Hd, Ht⟩
    ihave Ht := (BIBase.Entails.of_eq e) $$ Ht
    icases Ht with ⟨H1, H2⟩
    isplitl [H1]; · iexact H1
    isplitl [Hd]; · iexact Hd
    iexact H2
  · iintro ⟨H1, Hd, H2⟩
    isplitl [Hd]; · iexact Hd
    iapply (BIBase.Entails.of_eq e.symm)
    isplitl [H1]; · iexact H1
    iexact H2

/-- The next row sent. -/
theorem row_send (hg : Good fill dest) (c : Dev nD) {t s : ℕ} (ht : t < 68) (hs : s < 2) {G : OBuf F} {fs : RBuf F} {S : Finset OIdx} {f : OBuf F}
    (hS : ∀ j, tileBs dest t j ⊆ S)
    (hG : ∀ j < 2048, ∀ y : OIdx, (y 0).val = dw dest (2048 * t + j) → ∀ z : S2x512x2048.Idx, (z 0).val = s → (z 1).val = j / 4 → (z 2).val = (y 1).val → G y = fs z)
    {α : Type} {Q : α → sProp 𝕄} {j : ℕ} (hj : j < 2048)
    {off0 : Fin 1 → ℕ} {inb0 : ∀ a, off0 a + S1.size a ≤ S2.size a} (h0 : off0 0 = s)
    {off1 : Fin 2 → ℕ} {inb1 : ∀ a, off1 a + S1x2048.size a ≤ S155648x2048.size a} (h1 : off1 0 = dw dest (2048 * t + j)) (h1' : off1 1 = 0)
    {off2 : Fin 3 → ℕ} {inb2 : ∀ a, off2 a + S1x1x2048.size a ≤ S2x512x2048.size a} (h2 : off2 0 = s) (h2' : off2 1 = j / 4) (h2'' : off2 2 = 0)
    {hsrc : (rWin off2 inb2).view.WordExact} {hdst : (oWin (sz := S1x2048.size) off1 inb1).view.WordExact}
    {hsem : DmaTarget.Typed (nD := nD) .vmem (.dma (semAt off0 inb0)) (.here (oWin (sz := S1x2048.size) off1 inb1) : DmaTarget nD τ sig (Dev.tc c : Thread nD τ).2 .hbm S1x2048 .f32)}
    {k : PUnit → Prog (TpuEff nD τ sig (Elt F) Λ₀ .tc) α} {R : sProp 𝕄}
    (h : iprop(Sending c dest t s hs G fs S f (j + 1) ∗ R) ⊢ Wp c (k ⟨⟩) Q) :
    iprop(Sending c dest t s hs G fs S f j ∗ R)
      ⊢ Wp c (Prog.lift (TpuEff.enqueueDma (rWin off2 inb2) (.here (oWin (sz := S1x2048.size) off1 inb1)) (.dma (semAt off0 inb0)) hsrc hdst hsem) >>= k) Q := by
  have e0 : off0 = ![s] := by funext a; fin_cases a; exact h0
  subst e0
  unfold Sending at h ⊢
  exact use (wp_issue c hj (tileBs_disjoint hg ht) (hS ⟨j, hj⟩) fs (src := rWin off2 inb2) (off := off1) (inb := inb1) rfl
    (set_oWin_row h1 h1')
    (fun x => by
      have e := emb_rWin (inb := inb2) h2 h2' h2'' x
      have hx : (x 0).val < 1 := (x 0).isLt
      refine hG j hj _ ?_ _ e.1 e.2.1 (e.2.2.trans ?_)
      · show off1 0 + 1 * (x 0).val = _; omega
      · show (x 1).val = off1 1 + 1 * (x 1).val; omega)
    (by show rPt _ _ _ _ = _; rw [set_rWin (inb := inb2) h2 h2' h2''])) h

/-- The wait for one of them. -/
theorem row_await (c : Dev nD) {t s : ℕ} (hs : s < 2) {G : OBuf F} {fs : RBuf F} {α : Type} {Q : α → sProp 𝕄} {w : ℕ} (hw : w < 2048)
    {off0 : Fin 1 → ℕ} {inb0 : ∀ a, off0 a + S1.size a ≤ S2.size a} (h0 : off0 0 = s)
    {src : Memref sig .tc .vmem S1x2048 .f32}
    {hsrc : src.view.WordExact} {hdst : (oWin (sz := S1x2048.size) ![0, 0] inb_S155648x2048_S1x2048_0_0).view.WordExact}
    {k : PUnit → Prog (TpuEff nD τ sig (Elt F) Λ₀ .tc) α} {R : sProp 𝕄}
    (h : iprop(Landing c dest t s hs G fs (w + 1) ∗ R) ⊢ Wp c (k ⟨⟩) Q) :
    iprop(Landing c dest t s hs G fs w ∗ R)
      ⊢ Wp c (Prog.lift (TpuEff.waitDma2 (semAt off0 inb0) src (oWin (sz := S1x2048.size) ![0, 0] inb_S155648x2048_S1x2048_0_0) hsrc hdst) >>= k) Q := by
  have e0 : off0 = ![s] := by funext a; fin_cases a; exact h0
  subst e0
  unfold Landing Owes at h ⊢
  iintro ⟨⟨HF, ⟨%W, HW⟩⟩, HR⟩
  iapply (wp_await c hw (W := W) rfl) $$ [HF HW]
  · isplitl [HF]
    · iexact HF
    · iexact HW
  iintro ⟨HF, HW⟩
  iapply h
  isplitr [HR]
  · isplitl [HF]
    · iexact HF
    · iexists _; iexact HW
  · iexact HR

end Cert.KernelIdeal.Hand

end
-- ==== Proof.Send.lean ====
/-
  The loops over a tile: the rows sent out of either slot, and awaited.
-/
module

public import proofs.«01_k».proof.Proof.Tile

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (shareTok shareDrop)

variable {F : FTy → Type} [FloatOps F]

local notation "𝕄" => MT nD τ sig Unit (Elt F) ℕ (Pipeline.UD sig nD τ) ℕ

variable {fill : S33.Idx → BitVec 32} {dest : S139264.Idx → BitVec 32}
variable (i : grid0.Coords) (arg1 : Memref sig .tc .smem S33 .i32) (harg1 : arg1.IsWhole) (arg2 : Memref sig .tc .smem S2048 .i32) (harg2 : arg2.IsWhole)
  (arg3 : Memref sig .tc .vmem S1x2048 .f32) (harg3 : arg3.IsWhole) (arg4 : Memref sig .tc .vmem S512x2048 .f32) (harg4 : arg4.IsWhole)
  (arg5 : Memref sig .tc .vmem S512x2048 .f32) (harg5 : arg5.IsWhole) (harg6 : oM.IsWhole) (harg7 : zM.IsWhole) (harg8 : rM.IsWhole)

theorem within {c : Dev nD} {α β : Type} {p : Prog (TpuEff nD τ sig (Elt F) Λ₀ .tc) α} {k : α → Prog (TpuEff nD τ sig (Elt F) Λ₀ .tc) β}
    {P : sProp 𝕄} {Q : β → sProp 𝕄} (h : P ⊢ Wp c p (fun x => Wp c (k x) Q)) : P ⊢ Wp c (p >>= k) Q :=
  seq h fun _ => .rfl

theorem inb_line {r : ℕ} (h : r < 155648) : ∀ a, (![r, 0] : Fin 2 → ℕ) a + S1x2048.size a ≤ S155648x2048.size a := by
  intro a; fin_cases a
  · show r + 1 ≤ 155648; omega
  · exact le_refl 2048

theorem trip_lt {k : ℕ} (hk : k < 512) : 4 * k + 3 < 2048 := by omega

/-- The tile's words: the rows of its assignments. -/
def Words (dest : S139264.Idx → BitVec 32) (t : ℕ) (X : S2048.Idx → BitVec 32) : Prop :=
  ∀ j (hj : j < 2048), (X (ix1 j hj)).toNat = dw dest (2048 * t + j)

theorem Words.lt {t : ℕ} {X : S2048.Idx → BitVec 32} (hX : Words dest t X) (hg : Good fill dest) (ht : t < 68) (j : ℕ) (hj : j < 2048) :
    (X (ix1 j hj)).toNat < 155648 := by
  rw [hX j hj]; exact hg.dest_lt _ (by omega)

/-- What sending a tile out of slot `s` relies on: its rows are all to hand, and the slot holds what they are to hold. -/
structure Ready (dest : S139264.Idx → BitVec 32) (t s : ℕ) (G : OBuf F) (fs : RBuf F) (S : Finset OIdx) : Prop where
  sub : ∀ j, tileBs dest t j ⊆ S
  val : ∀ j < 2048, ∀ y : OIdx, (y 0).val = dw dest (2048 * t + j) → ∀ z : S2x512x2048.Idx, (z 0).val = s → (z 1).val = j / 4 → (z 2).val = (y 1).val → G y = fs z

abbrev wordOwn (c : Dev nD) (m : Memref sig .tc .smem S2048 .i32) (X : S2048.Idx → BitVec 32) : sProp 𝕄 :=
  owns (c : Thread nD τ) m fullShare (fun x => X x)

theorem part10 (hg : Good fill dest) (c : Dev nD) {t : ℕ} (ht : t < 68) {X : S2048.Idx → BitVec 32} (hX : Words dest t X) {G : OBuf F} {fs : RBuf F} {S : Finset OIdx} {f : OBuf F}
    (hr : Ready dest t 0 G fs S) (h68 : k0_cond68 i = 1#1) (k : Fin k0_t5_loop.trips) {Q : (Σ' (v : Elt F .i32), k0_chk38 i v) → sProp 𝕄} {R : sProp 𝕄}
    (h : ∀ hw, iprop(Sending c dest t 0 (by decide) G fs S f (4 * k.val + 3) ∗ wordOwn c arg2 X ∗ R) ⊢ Q ⟨X (ix1 (4 * k.val + 3) (trip_lt k.isLt)), hw⟩) :
    iprop(Sending c dest t 0 (by decide) G fs S f (4 * k.val) ∗ wordOwn c arg2 X ∗ R) ⊢ Wp c (k0_part10 (F := F) i arg1 harg1 arg2 harg2 arg3 harg3 arg4 harg4 arg5 harg5 oM harg6 zM harg7 rM harg8 cc0_scratch2 cc0_scratch3 h68 0#32 1#32 k) Q := by
  have hk : k.val < 512 := k.isLt
  rw [k0_part10_eq_skeleton]
  unfold k0_part10_skel
  beta_reduce
  extract_lets
  refine wp_word (X := X) c (j := 4 * k.val + 0) (by omega) (trip_word hk 0 (by decide)) swap3 ?_
  refine wp_check c (fun _ => inb_line (hX.lt hg ht _ _)) ?_
  refine swap3.trans ?_
  refine row_send hg c ht (by decide) hr.sub hr.val (j := 4 * k.val + 0) (by omega) rfl (hX _ _) rfl rfl ((trip_row hk).trans (by omega)) rfl ?_
  refine wp_word (X := X) c (j := 4 * k.val + 1) (by omega) (trip_word hk 1 (by decide)) swap3 ?_
  refine wp_check c (fun _ => inb_line (hX.lt hg ht _ _)) ?_
  refine swap3.trans ?_
  refine row_send hg c ht (by decide) hr.sub hr.val (j := 4 * k.val + 1) (by omega) rfl (hX _ _) rfl rfl ((trip_row hk).trans (by omega)) rfl ?_
  refine wp_word (X := X) c (j := 4 * k.val + 2) (by omega) (trip_word hk 2 (by decide)) swap3 ?_
  refine wp_check c (fun _ => inb_line (hX.lt hg ht _ _)) ?_
  refine swap3.trans ?_
  refine row_send hg c ht (by decide) hr.sub hr.val (j := 4 * k.val + 2) (by omega) rfl (hX _ _) rfl rfl ((trip_row hk).trans (by omega)) rfl ?_
  refine wp_word (X := X) c (j := 4 * k.val + 3) (by omega) (trip_word hk 3 (by decide)) swap3 ?_
  refine wp_check c (fun _ => inb_line (hX.lt hg ht _ _)) ?_
  refine swap3.trans ?_
  exact (h _).trans (ends c)

theorem send0 (hg : Good fill dest) (c : Dev nD) {t : ℕ} (ht : t < 68) {X : S2048.Idx → BitVec 32} (hX : Words dest t X) {G : OBuf F} {fs : RBuf F} {S : Finset OIdx} {f : OBuf F}
    (hr : Ready dest t 0 G fs S) (h68 : k0_cond68 i = 1#1) {ok : k0_t5_loop.OK} (R : sProp 𝕄) :
    iprop(Sending c dest t 0 (by decide) G fs S f 0 ∗ wordOwn c arg2 X ∗ R)
      ⊢ Wp c (Scf.Loop.for k0_t5_loop ok ⟨⟩ (k0_t5_body (F := F) i arg1 harg1 arg2 harg2 arg3 harg3 arg4 harg4 arg5 harg5 oM harg6 zM harg7 rM harg8 cc0_scratch2 cc0_scratch3 h68)) (fun _ => iprop(Sending c dest t 0 (by decide) G fs S f 2048 ∗ wordOwn c arg2 X ∗ R)) := by
  refine loop c (n := 512) rfl (fun k => iprop(Sending c dest t 0 (by decide) G fs S f (4 * k) ∗ wordOwn c arg2 X ∗ R)) fun k => ?_
  have hk : k.val < 512 := k.isLt
  unfold k0_t5_body
  refine within (part10 i arg1 harg1 arg2 harg2 arg3 harg3 arg4 harg4 arg5 harg5 harg6 harg7 harg8 hg c ht hX hr h68 k fun hw => ?_)
  exact row_send hg c ht (by decide) hr.sub hr.val (j := 4 * k.val + 3) (by omega) rfl (hX _ _) rfl rfl ((trip_row hk).trans (by omega)) rfl (ends c)

theorem part11 (hg : Good fill dest) (c : Dev nD) {t : ℕ} (ht : t < 68) {X : S2048.Idx → BitVec 32} (hX : Words dest t X) {G : OBuf F} {fs : RBuf F} {S : Finset OIdx} {f : OBuf F}
    (hr : Ready dest t 1 G fs S) (h69 : k0_cond69 i = 1#1) (k : Fin k0_t6_loop.trips) {Q : (Σ' (v : Elt F .i32), k0_chk42 i v) → sProp 𝕄} {R : sProp 𝕄}
    (h : ∀ hw, iprop(Sending c dest t 1 (by decide) G fs S f (4 * k.val + 3) ∗ wordOwn c arg2 X ∗ R) ⊢ Q ⟨X (ix1 (4 * k.val + 3) (trip_lt k.isLt)), hw⟩) :
    iprop(Sending c dest t 1 (by decide) G fs S f (4 * k.val) ∗ wordOwn c arg2 X ∗ R) ⊢ Wp c (k0_part11 (F := F) i arg1 harg1 arg2 harg2 arg3 harg3 arg4 harg4 arg5 harg5 oM harg6 zM harg7 rM harg8 cc0_scratch2 cc0_scratch3 h69 0#32 1#32 k) Q := by
  have hk : k.val < 512 := k.isLt
  rw [k0_part11_eq_skeleton]
  unfold k0_part11_skel
  beta_reduce
  extract_lets
  refine wp_word (X := X) c (j := 4 * k.val + 0) (by omega) (trip_word hk 0 (by decide)) swap3 ?_
  refine wp_check c (fun _ => inb_line (hX.lt hg ht _ _)) ?_
  refine swap3.trans ?_
  refine row_send hg c ht (by decide) hr.sub hr.val (j := 4 * k.val + 0) (by omega) rfl (hX _ _) rfl rfl ((trip_row hk).trans (by omega)) rfl ?_
  refine wp_word (X := X) c (j := 4 * k.val + 1) (by omega) (trip_word hk 1 (by decide)) swap3 ?_
  refine wp_check c (fun _ => inb_line (hX.lt hg ht _ _)) ?_
  refine swap3.trans ?_
  refine row_send hg c ht (by decide) hr.sub hr.val (j := 4 * k.val + 1) (by omega) rfl (hX _ _) rfl rfl ((trip_row hk).trans (by omega)) rfl ?_
  refine wp_word (X := X) c (j := 4 * k.val + 2) (by omega) (trip_word hk 2 (by decide)) swap3 ?_
  refine wp_check c (fun _ => inb_line (hX.lt hg ht _ _)) ?_
  refine swap3.trans ?_
  refine row_send hg c ht (by decide) hr.sub hr.val (j := 4 * k.val + 2) (by omega) rfl (hX _ _) rfl rfl ((trip_row hk).trans (by omega)) rfl ?_
  refine wp_word (X := X) c (j := 4 * k.val + 3) (by omega) (trip_word hk 3 (by decide)) swap3 ?_
  refine wp_check c (fun _ => inb_line (hX.lt hg ht _ _)) ?_
  refine swap3.trans ?_
  exact (h _).trans (ends c)

theorem send1 (hg : Good fill dest) (c : Dev nD) {t : ℕ} (ht : t < 68) {X : S2048.Idx → BitVec 32} (hX : Words dest t X) {G : OBuf F} {fs : RBuf F} {S : Finset OIdx} {f : OBuf F}
    (hr : Ready dest t 1 G fs S) (h69 : k0_cond69 i = 1#1) {ok : k0_t6_loop.OK} (R : sProp 𝕄) :
    iprop(Sending c dest t 1 (by decide) G fs S f 0 ∗ wordOwn c arg2 X ∗ R)
      ⊢ Wp c (Scf.Loop.for k0_t6_loop ok ⟨⟩ (k0_t6_body (F := F) i arg1 harg1 arg2 harg2 arg3 harg3 arg4 harg4 arg5 harg5 oM harg6 zM harg7 rM harg8 cc0_scratch2 cc0_scratch3 h69)) (fun _ => iprop(Sending c dest t 1 (by decide) G fs S f 2048 ∗ wordOwn c arg2 X ∗ R)) := by
  refine loop c (n := 512) rfl (fun k => iprop(Sending c dest t 1 (by decide) G fs S f (4 * k) ∗ wordOwn c arg2 X ∗ R)) fun k => ?_
  have hk : k.val < 512 := k.isLt
  unfold k0_t6_body
  refine within (part11 i arg1 harg1 arg2 harg2 arg3 harg3 arg4 harg4 arg5 harg5 harg6 harg7 harg8 hg c ht hX hr h69 k fun hw => ?_)
  exact row_send hg c ht (by decide) hr.sub hr.val (j := 4 * k.val + 3) (by omega) rfl (hX _ _) rfl rfl ((trip_row hk).trans (by omega)) rfl (ends c)

theorem await_prev (c : Dev nD) {t s : ℕ} (hs : s < 2) {G : OBuf F} {fs : RBuf F} (hc : k0_cond70 i = 1#1) (h0 : k0_off61 i 0 = s) {ok : k0_t7_loop.OK} (R : sProp 𝕄) :
    iprop(Landing c dest t s hs G fs 0 ∗ R)
      ⊢ Wp c (Scf.Loop.for k0_t7_loop ok ⟨⟩ (k0_t7_body (F := F) i arg1 harg1 arg2 harg2 arg3 harg3 arg4 harg4 arg5 harg5 oM harg6 zM harg7 rM harg8 cc0_scratch2 cc0_scratch3 hc)) (fun _ => iprop(Landing c dest t s hs G fs 2048 ∗ R)) := by
  refine loop c (n := 512) rfl (fun k => iprop(Landing c dest t s hs G fs (4 * k) ∗ R)) fun k => ?_
  have hk : k.val < 512 := k.isLt
  unfold k0_t7_body
  refine row_await c hs (w := 4 * k.val + 0) (by omega) h0 ?_
  refine row_await c hs (w := 4 * k.val + 1) (by omega) h0 ?_
  refine row_await c hs (w := 4 * k.val + 2) (by omega) h0 ?_
  exact row_await c hs (w := 4 * k.val + 3) (by omega) h0 (ends c)

theorem await_last (c : Dev nD) {t s : ℕ} (hs : s < 2) {G : OBuf F} {fs : RBuf F} (hc : k0_cond71 i = 1#1) (h0 : k0_off63 i 0 = s) {ok : k0_t8_loop.OK} (R : sProp 𝕄) :
    iprop(Landing c dest t s hs G fs 0 ∗ R)
      ⊢ Wp c (Scf.Loop.for k0_t8_loop ok ⟨⟩ (k0_t8_body (F := F) i arg1 harg1 arg2 harg2 arg3 harg3 arg4 harg4 arg5 harg5 oM harg6 zM harg7 rM harg8 cc0_scratch2 cc0_scratch3 hc)) (fun _ => iprop(Landing c dest t s hs G fs 2048 ∗ R)) := by
  refine loop c (n := 512) rfl (fun k => iprop(Landing c dest t s hs G fs (4 * k) ∗ R)) fun k => ?_
  have hk : k.val < 512 := k.isLt
  unfold k0_t8_body
  refine row_await c hs (w := 4 * k.val + 0) (by omega) h0 ?_
  refine row_await c hs (w := 4 * k.val + 1) (by omega) h0 ?_
  refine row_await c hs (w := 4 * k.val + 2) (by omega) h0 ?_
  exact row_await c hs (w := 4 * k.val + 3) (by omega) h0 (ends c)

end Cert.KernelIdeal.Hand

end
-- ==== Proof.Stage.lean ====
/-
  What the result holds after so many tiles, and the steps of one tile: its slot filled, its copies issued, the copies of a tile collected.
-/
module

public import proofs.«01_k».proof.Proof.Send

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (shareTok shareDrop)

variable {F : FTy → Type} [FloatOps F]

local notation "𝕄" => MT nD τ sig Unit (Elt F) ℕ (Pipeline.UD sig nD τ) ℕ

variable {fill : S33.Idx → BitVec 32} {dest : S139264.Idx → BitVec 32}

/-! ## The contents -/

/-- The index of row `r` and the given column of a tile's payload. -/
def px (r : ℕ) (hr : r < 512) (x : Fin 2048) : S1x512x2048.Idx := fun a =>
  match a with
  | ⟨0, _⟩ => ⟨0, Nat.one_pos⟩
  | ⟨1, _⟩ => ⟨r, hr⟩
  | ⟨2, _⟩ => x

theorem row_lt (a : ℕ) : a % 2048 / 4 < 512 := by omega

/-- The rows cleared first. -/
def base (fill : S33.Idx → BitVec 32) (V : OBuf F) : OBuf F := cleared (tailOf fill) (cleared (liveTo fill 32) V)

open Classical in
/-- The result: an assigned row holds its token's row of the payload of the token's tile, any other what it held. -/
def total (dest : S139264.Idx → BitVec 32) (B : OBuf F) (P : ℕ → S1x512x2048.Idx → Elt F .f32) : OBuf F := fun y =>
  if h : ∃ a < 139264, dw dest a = (y 0).val then P (Classical.choose h / 2048) (px (Classical.choose h % 2048 / 4) (row_lt _) (y 1)) else B y

theorem total_at (hg : Good fill dest) {B : OBuf F} {P : ℕ → S1x512x2048.Idx → Elt F .f32} {a : ℕ} (ha : a < 139264) {y : OIdx} (h : dw dest a = (y 0).val) :
    total dest B P y = P (a / 2048) (px (a % 2048 / 4) (row_lt a) (y 1)) := by
  have he : ∃ a < 139264, dw dest a = (y 0).val := ⟨a, ha, h⟩
  have e : Classical.choose he = a := hg.dest_inj _ (Classical.choose_spec he).1 _ ha ((Classical.choose_spec he).2.trans h.symm)
  unfold total
  rw [dif_pos he]
  have key : ∀ b, b = a → P (b / 2048) (px (b % 2048 / 4) (row_lt b) (y 1)) = P (a / 2048) (px (a % 2048 / 4) (row_lt a) (y 1)) := by
    rintro b rfl; rfl
  exact key _ e

theorem total_not {B : OBuf F} {P : ℕ → S1x512x2048.Idx → Elt F .f32} {y : OIdx} (h : ¬ ∃ a < 139264, dw dest a = (y 0).val) :
    total dest B P y = B y := dif_neg h

open Classical in
/-- The result after `n` tiles. -/
def acc (dest : S139264.Idx → BitVec 32) (B G : OBuf F) (n : ℕ) : OBuf F := fun y =>
  if ∃ a < 2048 * n, dw dest a = (y 0).val then G y else B y

theorem acc_zero (B G : OBuf F) : acc dest B G 0 = B := by
  funext y; exact if_neg (by rintro ⟨a, h, _⟩; omega)

theorem acc_done {B : OBuf F} {P : ℕ → S1x512x2048.Idx → Elt F .f32} : acc dest B (total dest B P) 68 = total dest B P := by
  funext y
  by_cases h : ∃ a < 2048 * 68, dw dest a = (y 0).val
  · exact if_pos h
  · exact (if_neg h).trans (total_not h).symm

theorem mem_tileBs {t : ℕ} {j : Fin 2048} {y : OIdx} : y ∈ tileBs dest t j ↔ (y 0).val = dw dest (2048 * t + j.val) := mem_row

theorem acc_of_mem {B G : OBuf F} {t : ℕ} {j : Fin 2048} {y : OIdx} (h : y ∈ tileBs dest t j) : G y = acc dest B G (t + 1) y :=
  (if_pos ⟨2048 * t + j.val, by have := j.isLt; omega, (mem_tileBs.mp h).symm⟩).symm

theorem acc_of_not {B G : OBuf F} {t : ℕ} {y : OIdx} (h : ∀ j, y ∉ tileBs dest t j) : acc dest B G t y = acc dest B G (t + 1) y := by
  unfold acc
  by_cases h1 : ∃ a < 2048 * t, dw dest a = (y 0).val
  · rw [if_pos h1, if_pos (by obtain ⟨a, ha, e⟩ := h1; exact ⟨a, by omega, e⟩)]
  · rw [if_neg h1, if_neg]
    rintro ⟨a, ha, e⟩
    by_cases hlt : a < 2048 * t
    · exact h1 ⟨a, hlt, e⟩
    · exact h ⟨a - 2048 * t, by omega⟩ (mem_tileBs.mpr (by rw [← e]; congr 1; show a = 2048 * t + (a - 2048 * t); omega))

/-- The rows of the tile before `t`. -/
def prevRows (dest : S139264.Idx → BitVec 32) : ℕ → Finset OIdx
  | 0 => ∅
  | t + 1 => Finset.univ.biUnion (tileBs dest t)

theorem mem_prevRows {t : ℕ} {y : OIdx} : y ∈ prevRows dest (t + 1) ↔ ∃ j, y ∈ tileBs dest t j := by simp [prevRows]

theorem prev_succ (t : ℕ) : prevRows dest (t + 1) = (Finset.univ : Finset (Fin 2048)).biUnion (tileBs dest t) := rfl

theorem prev_zero : (Finset.univ : Finset OIdx) \ prevRows dest 0 = Finset.univ := Finset.sdiff_empty

theorem not_mem_prev_zero (y : OIdx) : y ∉ prevRows dest 0 := Finset.notMem_empty y

attribute [irreducible] prevRows

theorem tile_sub_prev (hg : Good fill dest) {t : ℕ} (ht : t < 68) (j : Fin 2048) : tileBs dest t j ⊆ Finset.univ \ prevRows dest t := by
  intro y hy
  refine Finset.mem_sdiff.mpr ⟨Finset.mem_univ _, fun h => ?_⟩
  cases t with
  | zero => exact not_mem_prev_zero y h
  | succ t =>
    obtain ⟨j', h'⟩ := mem_prevRows.mp h
    have e := (mem_tileBs.mp hy).symm.trans (mem_tileBs.mp h')
    have hj := j.isLt; have hj' := j'.isLt
    have := hg.dest_inj (2048 * (t + 1) + j.val) (by omega) (2048 * t + j'.val) (by omega) e
    omega

theorem prev_sub_tile (hg : Good fill dest) {t : ℕ} (ht : t + 1 < 68) (j : Fin 2048) : tileBs dest t j ⊆ Finset.univ \ prevRows dest (t + 1 + 1) := by
  intro y hy
  refine Finset.mem_sdiff.mpr ⟨Finset.mem_univ y, fun h => ?_⟩
  obtain ⟨j', h'⟩ := mem_prevRows.mp h
  have e := (mem_tileBs.mp hy).symm.trans (mem_tileBs.mp h')
  have hj := j.isLt; have hj' := j'.isLt
  have := hg.dest_inj (2048 * t + j.val) (by omega) (2048 * (t + 1) + j'.val) (by omega) e
  omega

/-! ## The slot filled -/

/-- The slot holds the payload. -/
def Fills (s : ℕ) (P : S1x512x2048.Idx → Elt F .f32) (fs : RBuf F) : Prop :=
  ∀ (x : S1x512x2048.Idx) (z : S2x512x2048.Idx), (z 0).val = s → (z 1).val = (x 1).val → (z 2).val = (x 2).val → fs z = P x

theorem ready (hg : Good fill dest) {t s : ℕ} (ht : t < 68) {B : OBuf F} {P : ℕ → S1x512x2048.Idx → Elt F .f32} {fs : RBuf F} (hf : Fills s (P t) fs) :
    Ready dest t s (total dest B P) fs (Finset.univ \ prevRows dest t) where
  sub := tile_sub_prev hg ht
  val := fun j hj y hy z h0 h1 h2 => by
    rw [total_at hg (a := 2048 * t + j) (by omega) hy.symm]
    have e1 : (2048 * t + j) / 2048 = t := by omega
    have e2 : (2048 * t + j) % 2048 / 4 = j / 4 := by omega
    rw [e1]
    exact (hf _ z h0 (h1.trans e2.symm) h2).symm

theorem owns_ld (c : Dev nD) {α : Type} {cs : CoreSpace} {sh : Shape} {e : EltTy} {m : Memref sig .tc cs sh e} {r : Rect sh} {hl : m.view.LoadsAt r.toLoadRect}
    {k : (r.shape.Idx → Elt F e) → Prog (TpuEff nD τ sig (Elt F) Λ₀ .tc) α} {q : PosShare TreeShare} {X : sh.Idx → Elt F e} {Y : r.shape.Idx → Elt F e}
    (hY : ∀ x, X (r.emb x) = Y x) {R : sProp 𝕄} {Q : α → sProp 𝕄}
    (h : iprop(owns (c : Thread nD τ) m q X ∗ R) ⊢ Wp c (k Y) Q) :
    iprop(owns (c : Thread nD τ) m q X ∗ R) ⊢ Wp c (Prog.lift (TpuEff.load m r.toLoadRect hl) >>= k) Q := by
  unfold owns at h ⊢
  iintro ⟨⟨%f, %hf, Hf⟩, HR⟩
  have hs : (m.access r).set ⊆ m.view.set := View.set_slice m.view r ▸ View.setOn_subset_set _ _
  have hread : (m.access r).read (Elt F) f = Y := by
    funext x
    rw [← hY x, ← hf]; rfl
  have h' : iprop(((m.access r).loc (c : Thread nD τ) ↦[m.view.set]{q} f) ∗ R) ⊢ Wp c (k ((m.access r).read (Elt F) f)) Q := by
    rw [hread]
    refine .trans ?_ h
    iintro ⟨Hf, HR⟩
    isplitl [Hf]
    · iexists f
      isplitr [Hf]
      · ipureintro; exact hf
      · iexact Hf
    · iexact HR
  iapply (wp_ld c (m := m) (r := r) (hl := hl) hs h')
  isplitl [Hf]
  · iexact Hf
  · iexact HR

abbrev slotRect (off : Fin 3 → ℕ) (inb : ∀ a, off a + S1x512x2048.size a ≤ S2x512x2048.size a) : Rect S2x512x2048 :=
  Rect.unit (s := S2x512x2048) off S1x512x2048.size inb

theorem slot_sub {off : Fin 3 → ℕ} {inb : ∀ a, off a + S1x512x2048.size a ≤ S2x512x2048.size a} {s : ℕ} (h0 : off 0 = s) :
    (rM.access (slotRect off inb)).set ⊆ slotSet s := by
  intro y hy
  have hy' : y ∈ (slotRect off inb).set := by
    rw [← View.set_slice_whole cc0_scratch1 (slotRect off inb)]; exact hy
  have a0 : off 0 ≤ (y 0).val ∧ (y 0).val < off 0 + 1 := Rect.mem_set_unit.mp hy' 0
  exact mem_slotSet.mpr (by omega)

/-- The store that fills a slot. -/
theorem slot_st (c : Dev nD) {α : Type} {off : Fin 3 → ℕ} {inb : ∀ a, off a + S1x512x2048.size a ≤ S2x512x2048.size a} {s : ℕ} (h0 : off 0 = s) (h1 : off 1 = 0) (h2 : off 2 = 0)
    {w : S1x512x2048.Idx → Elt F .f32} {hx : (rM.access (slotRect off inb)).Stores Finset.univ}
    {hm : Finset.univ = (Finset.univ : Finset (slotRect off inb).shape.Idx) ∨ ∀ a, (slotRect off inb).stride a = 1}
    {k : PUnit → Prog (TpuEff nD τ sig (Elt F) Λ₀ .tc) α} {fs : RBuf F} {R : sProp 𝕄} {Q : α → sProp 𝕄}
    (h : ∀ fs', Fills s w fs' → iprop(rPt c (slotSet s) fullShare fs' ∗ R) ⊢ Wp c (k ⟨⟩) Q) :
    iprop(rPt c (slotSet s) fullShare fs ∗ R) ⊢ Wp c (Prog.lift (TpuEff.store rM (slotRect off inb) w Finset.univ hx hm) >>= k) Q := by
  refine wp_st c (m := rM) (r := slotRect off inb) (f := fs) (slot_sub h0) ?_
  refine h _ fun x z hz0 hz1 hz2 => ?_
  have hx0 : (x 0).val < 1 := (x 0).isLt
  have e : (slotRect off inb).emb x = z := by
    funext a; refine Fin.ext ?_
    match a with
    | ⟨0, _⟩ => show off 0 + 1 * (x 0).val = (z 0).val; omega
    | ⟨1, _⟩ => show off 1 + 1 * (x 1).val = (z 1).val; omega
    | ⟨2, _⟩ => show off 2 + 1 * (x 2).val = (z 2).val; omega
  have hw := View.write_emb_of_mem (v := rM.access (slotRect off inb)) (Val := Elt F) fs w (Finset.mem_univ x)
  rw [show (rM.access (slotRect off inb)).emb x = z from e] at hw
  exact hw

/-! ## A tile's copies as a whole -/

def Free (c : Dev nD) (s : ℕ) (hs : s < 2) : sProp 𝕄 :=
  iprop(semVal ((c : Thread nD τ), SemLoc.dma (sS s hs)) 0 ∗ ∃ fs, rPt (F := F) c (slotSet s) fullShare fs)

/-- Tile `t`'s copies in flight out of slot `s`. -/
def Air (c : Dev nD) (dest : S139264.Idx → BitVec 32) (t s : ℕ) (hs : s < 2) (G : OBuf F) : sProp 𝕄 :=
  iprop(∃ fs, Flying c (.dma (sS s hs)) Nr (tileBs dest t) G (part c s fs) 2048 0 ∗ Kept c s fs)

theorem sending_start (c : Dev nD) (t s : ℕ) (hs : s < 2) (G : OBuf F) (fs : RBuf F) (S : Finset OIdx) (f : OBuf F) {R : sProp 𝕄} :
    iprop(semVal ((c : Thread nD τ), SemLoc.dma (sS s hs)) 0 ∗ rPt c (slotSet s) fullShare fs ∗ oPt c S f ∗ R)
      ⊢ (iprop(|={Set.univ}=> (Sending c dest t s hs G fs S f 0 ∗ Kept c s fs ∗ R)) : sProp 𝕄) := by
  unfold Sending
  iintro ⟨Hs, Hr, Ho, HR⟩
  ihave Hr := (lend c s fs).1 $$ Hr
  icases Hr with ⟨Hp, Hk⟩
  imod (issuing_start c (.dma (sS s hs)) Nr (tileBs dest t) G (part c s fs) S f) $$ [Hs Ho Hp] with HI
  · isplitl [Hs]; · iexact Hs
    isplitl [Ho]; · iexact Ho
    iexact Hp
  imodintro
  isplitl [HI]; · iexact HI
  isplitl [Hk]; · iexact Hk
  iexact HR

theorem sending_all (c : Dev nD) (t s : ℕ) (hs : s < 2) (G : OBuf F) (fs : RBuf F) (S : Finset OIdx) (f : OBuf F) :
    iprop(Sending c dest t s hs G fs S f 2048 ∗ Kept c s fs) ⊢ (iprop(Air c dest t s hs G ∗ oPt c (S \ prevRows dest (t + 1)) f) : sProp 𝕄) := by
  unfold Sending Issuing Air
  rw [prev_succ, Transfers.issued_all rfl]
  iintro ⟨⟨HF, Ho, -⟩, Hk⟩
  isplitr [Ho]
  · iexists fs
    isplitl [HF]; · iexact HF
    iexact Hk
  iexact Ho

theorem collected (hg : Good fill dest) (c : Dev nD) {t s : ℕ} (ht : t < 68) (hs : s < 2) {B G : OBuf F} {fs : RBuf F} {S : Finset OIdx} (hS : ∀ j, tileBs dest t j ⊆ S) {R : sProp 𝕄} :
    iprop(Landing c dest t s hs G fs 2048 ∗ Kept c s fs ∗ oPt c (S \ prevRows dest (t + 1)) (acc dest B G t) ∗ R)
      ⊢ (iprop(|={Set.univ}=> (oPt c S (acc dest B G (t + 1)) ∗ Free c s hs ∗ Owes c ∗ R)) : sProp 𝕄) := by
  unfold Landing Free
  rw [prev_succ]
  iintro ⟨⟨HF, HW⟩, Hk, Ho, HR⟩
  imod (collect c (n := 2048) (sm := SemLoc.dma (sS s hs)) (N := Nr) (bs := tileBs dest t) (T := G) (sP := part c s fs) (S := S) (f := acc dest B G t) (by decide) (acc dest B G (t + 1)) (fun j j' h => tileBs_disjoint hg ht j j' h) hS (fun j y hy => acc_of_mem hy) (fun y _ hy => acc_of_not hy)) $$ [HF Ho] with ⟨Ho, Hp, Hs⟩
  · isplitl [HF]; · iexact HF
    iexact Ho
  imodintro
  isplitl [Ho]; · iexact Ho
  isplitl [Hs Hp Hk]
  · isplitl [Hs]; · iexact Hs
    iexists fs
    iapply (lend c s fs).2
    isplitl [Hp]; · iexact Hp
    iexact Hk
  isplitl [HW]; · iexact HW
  iexact HR

end Cert.KernelIdeal.Hand

end
-- ==== Proof.Body.lean ====
/-
  One point of the kernel: from the state before it to the state after it.
-/
module

public import proofs.«01_k».proof.Proof.Stage

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers (shareTok shareDrop)

variable {F : FTy → Type} [FloatOps F]

local notation "𝕄" => MT nD τ sig Unit (Elt F) ℕ (Pipeline.UD sig nD τ) ℕ

variable {fill : S33.Idx → BitVec 32} {dest : S139264.Idx → BitVec 32}
variable (i : grid0.Coords) (arg1 : Memref sig .tc .smem S33 .i32) (harg1 : arg1.IsWhole) (arg2 : Memref sig .tc .smem S2048 .i32) (harg2 : arg2.IsWhole)
  (arg3 : Memref sig .tc .vmem S1x2048 .f32) (harg3 : arg3.IsWhole) (arg4 : Memref sig .tc .vmem S512x2048 .f32) (harg4 : arg4.IsWhole)
  (arg5 : Memref sig .tc .vmem S512x2048 .f32) (harg5 : arg5.IsWhole) (harg6 : oM.IsWhole) (harg7 : zM.IsWhole) (harg8 : rM.IsWhole)

theorem stage {c : Dev nD} {α : Type} {cond : BitVec 1} {dec : Decidable (cond = 1#1)} {t : cond = 1#1 → Prog (TpuEff nD τ sig (Elt F) Λ₀ .tc) α}
    {J : Prog (TpuEff nD τ sig (Elt F) Λ₀ .tc) α} {P : sProp 𝕄} {Q : α → sProp 𝕄} (M : sProp 𝕄)
    (ht : ∀ hc : cond = 1#1, (M ⊢ Wp c J Q) → P ⊢ Wp c (t hc) Q) (he : ¬ cond = 1#1 → P ⊢ M) (h : M ⊢ Wp c J Q) :
    P ⊢ Wp c (dite (cond = 1#1) t (fun _ => J)) Q := by
  by_cases hc : cond = 1#1
  · rw [dif_pos hc]; exact ht hc h
  · rw [dif_neg hc]; exact (he hc).trans h

/-- The scratch buffer and its semaphore, idle. -/
def Idle (c : Dev nD) : sProp 𝕄 :=
  iprop((∃ z : Buf (Elt F) (zM.view.loc (c : Thread nD τ)), zM.view.loc (c : Thread nD τ) ↦[zM.view.set]{fullShare} z) ∗ semVal ((c : Thread nD τ), SemLoc.dma fS) 0)

theorem with_some {c : Dev nD} {α : Type} {p : Prog (TpuEff nD τ sig (Elt F) Λ₀ .tc) α} {Q : α → sProp 𝕄}
    {A B B' C D E S : sProp 𝕄} {X : Type} {Z : X → sProp 𝕄} (h : ∀ z, iprop(Z z ∗ S ∗ A ∗ E ∗ (D ∗ B ∗ B' ∗ C)) ⊢ Wp c p Q) :
    iprop((A ∗ B ∗ B' ∗ ((∃ z, Z z) ∗ S)) ∗ D ∗ E ∗ C) ⊢ Wp c p Q := by
  iintro ⟨⟨HA, HB, HB', ⟨⟨%z, HZ⟩, HS⟩⟩, HD, HE, HC⟩
  iapply (h z)
  iframe

theorem mod_lt (t : ℕ) : t % 2 < 2 := Nat.mod_lt _ (by decide)

/-- The other slot before tile `t`: the tile before it in flight. -/
def Before (c : Dev nD) (dest : S139264.Idx → BitVec 32) (G : OBuf F) (t : ℕ) : sProp 𝕄 :=
  if t = 0 then Free c ((t + 1) % 2) (mod_lt _) else Air c dest (t - 1) ((t + 1) % 2) (mod_lt _) G

/-- The rows of the result not in flight before tile `t`. -/
def Held (c : Dev nD) (dest : S139264.Idx → BitVec 32) (B G V : OBuf F) (t : ℕ) : sProp 𝕄 :=
  if t = 0 then oPt c Finset.univ V else oPt c (Finset.univ \ prevRows dest t) (acc dest B G (t - 1))

/-- The state before point `t`, or at the end. -/
def St (c : Dev nD) (dest : S139264.Idx → BitVec 32) (B G V : OBuf F) (t : ℕ) : sProp 𝕄 :=
  if t = 68 then iprop(oPt c Finset.univ (acc dest B G t) ∗ Free c ((t + 1) % 2) (mod_lt _) ∗ Free c (t % 2) (mod_lt _) ∗ Idle (F := F) c)
  else iprop(Held c dest B G V t ∗ Before c dest G t ∗ Free c (t % 2) (mod_lt _) ∗ Idle (F := F) c)

abbrev Ins (c : Dev nD) (fill : S33.Idx → BitVec 32) (X : S2048.Idx → BitVec 32) (g : S1x2048.Idx → Elt F .f32) (xp xs : S512x2048.Idx → Elt F .f32) : sProp 𝕄 :=
  iprop(fillOwn c arg1 fill ∗ wordOwn c arg2 X ∗ owns (c : Thread nD τ) arg3 fullShare (fun x => g x) ∗ owns (c : Thread nD τ) arg4 fullShare (fun x => xp x) ∗ owns (c : Thread nD τ) arg5 fullShare (fun x => xs x))

theorem emb_full {sh : Shape} {off : Fin sh.rank → ℕ} {inb : ∀ a, off a + sh.size a ≤ sh.size a} (h0 : ∀ a, off a = 0) (x : sh.Idx) :
    (Rect.unit (s := sh) off sh.size inb).emb x = x := by
  funext a; refine Fin.ext ?_
  show off a + 1 * (x a).val = (x a).val
  rw [h0 a]; omega

theorem zero2 : ∀ a, (![0, 0] : Fin 2 → ℕ) a = 0 := by intro a; fin_cases a <;> rfl

/-- A slot filled: the block of rows read, the gains read, the payload stored. -/
theorem fill_slot (c : Dev nD) {α : Type} {m : Memref sig .tc .vmem S512x2048 .f32} {off : Fin 3 → ℕ} {inb : ∀ a, off a + S1x512x2048.size a ≤ S2x512x2048.size a}
    {s : ℕ} (h0 : off 0 = s) (h1 : off 1 = 0) (h2 : off 2 = 0) {g : S1x2048.Idx → Elt F .f32} {x : S512x2048.Idx → Elt F .f32}
    {pay : (S512x2048.Idx → Elt F .f32) → (S1x2048.Idx → Elt F .f32) → S1x512x2048.Idx → Elt F .f32}
    {hl1 : m.view.LoadsAt zR.toLoadRect} {hl2 : arg3.view.LoadsAt (Rect.unit (s := S1x2048) ![0, 0] S1x2048.size inb_S1x2048_S1x2048_0_0).toLoadRect}
    {hl3 : rM.view.LoadsAt (slotRect off inb).toLoadRect} {hx : (rM.access (slotRect off inb)).Stores Finset.univ}
    {hm : Finset.univ = (Finset.univ : Finset (slotRect off inb).shape.Idx) ∨ ∀ a, (slotRect off inb).stride a = 1}
    {k : PUnit → Prog (TpuEff nD τ sig (Elt F) Λ₀ .tc) α} {fs : RBuf F} {R : sProp 𝕄} {Q : α → sProp 𝕄}
    (h : ∀ fs', Fills s (pay x g) fs' → iprop(rPt c (slotSet s) fullShare fs' ∗ owns (c : Thread nD τ) arg3 fullShare (fun x => g x) ∗ owns (c : Thread nD τ) m fullShare (fun y => x y) ∗ R) ⊢ Wp c (k ⟨⟩) Q) :
    iprop(owns (c : Thread nD τ) m fullShare (fun y => x y) ∗ owns (c : Thread nD τ) arg3 fullShare (fun x => g x) ∗ rPt c (slotSet s) fullShare fs ∗ R)
      ⊢ Wp c (Prog.lift (TpuEff.load m zR.toLoadRect hl1) >>= fun a => Prog.lift (TpuEff.load arg3 (Rect.unit (s := S1x2048) ![0, 0] S1x2048.size inb_S1x2048_S1x2048_0_0).toLoadRect hl2) >>= fun b =>
          Prog.lift (TpuEff.load rM (slotRect off inb).toLoadRect hl3) >>= fun _ => Prog.lift (TpuEff.store rM (slotRect off inb) (pay a b) Finset.univ hx hm) >>= k) Q := by
  refine owns_ld c (Y := x) (fun y => by rw [emb_full zero2]) ?_
  refine swap3.trans ?_
  refine owns_ld c (Y := g) (fun y => by rw [emb_full zero2]) ?_
  refine (show _ ⊢ iprop(rPt c (slotSet s) fullShare fs ∗ owns (c : Thread nD τ) arg3 fullShare (fun x => g x) ∗ owns (c : Thread nD τ) m fullShare (fun y => x y) ∗ R) from ?_).trans ?_
  · iintro ⟨H1, H2, H3, H4⟩; iframe
  refine wp_ld c (m := rM) (r := slotRect off inb) (slot_sub h0) ?_
  exact slot_st c h0 h1 h2 h

/-- A tile's copies issued by a loop that issues them. -/
theorem tile_send (c : Dev nD) {t s : ℕ} (hs : s < 2) {G : OBuf F} {fs : RBuf F} {S : Finset OIdx} {f : OBuf F} {X : S2048.Idx → BitVec 32}
    {α : Type} {p : Prog (TpuEff nD τ sig (Elt F) Λ₀ .tc) PUnit} {k : PUnit → Prog (TpuEff nD τ sig (Elt F) Λ₀ .tc) α} {R : sProp 𝕄} {Q : α → sProp 𝕄}
    (hp : ∀ R, iprop(Sending c dest t s hs G fs S f 0 ∗ wordOwn c arg2 X ∗ R) ⊢ Wp c p (fun _ => iprop(Sending c dest t s hs G fs S f 2048 ∗ wordOwn c arg2 X ∗ R)))
    (h : iprop((Air c dest t s hs G ∗ oPt c (S \ prevRows dest (t + 1)) f) ∗ wordOwn c arg2 X ∗ R) ⊢ Wp c (k ⟨⟩) Q) :
    iprop(semVal ((c : Thread nD τ), SemLoc.dma (sS s hs)) 0 ∗ rPt c (slotSet s) fullShare fs ∗ oPt c S f ∗ wordOwn c arg2 X ∗ R) ⊢ Wp c (p >>= k) Q := by
  refine after (sending_start (dest := dest) c t s hs G fs S f) ?_
  refine (show _ ⊢ iprop(Sending c dest t s hs G fs S f 0 ∗ wordOwn c arg2 X ∗ (Kept c s fs ∗ R)) from ?_).trans ?_
  · iintro ⟨H1, H2, H3, H4⟩; iframe
  refine seq (hp _) fun _ => BIBase.Entails.trans ?_ h
  iintro ⟨H1, H2, H3, H4⟩
  iframe H2 H4
  iapply (sending_all c t s hs G fs S f)
  iframe

/-- A tile's copies awaited by a loop that awaits them. -/
theorem tile_await (hg : Good fill dest) (c : Dev nD) {t s : ℕ} (ht : t < 68) (hs : s < 2) {B G : OBuf F} {S : Finset OIdx} (hS : ∀ j, tileBs dest t j ⊆ S)
    {α : Type} {p : Prog (TpuEff nD τ sig (Elt F) Λ₀ .tc) PUnit} {k : PUnit → Prog (TpuEff nD τ sig (Elt F) Λ₀ .tc) α} {R : sProp 𝕄} {Q : α → sProp 𝕄}
    (hp : ∀ fs R, iprop(Landing c dest t s hs G fs 0 ∗ R) ⊢ Wp c p (fun _ => iprop(Landing c dest t s hs G fs 2048 ∗ R)))
    (h : iprop(oPt c S (acc dest B G (t + 1)) ∗ Free c s hs ∗ Owes c ∗ R) ⊢ Wp c (k ⟨⟩) Q) :
    iprop(Air c dest t s hs G ∗ oPt c (S \ prevRows dest (t + 1)) (acc dest B G t) ∗ Owes c ∗ R) ⊢ Wp c (p >>= k) Q := by
  unfold Air
  iintro ⟨⟨%fs, HF, HK⟩, HO, HW, HR⟩
  iapply (seq (hp fs iprop(Kept c s fs ∗ oPt c (S \ prevRows dest (t + 1)) (acc dest B G t) ∗ R)) fun _ => after (collected hg c ht hs hS) h)
  unfold Landing
  rw [Nat.mul_zero]
  iframe

theorem Air_slot {c : Dev nD} {t s s' : ℕ} {hs : s < 2} {hs' : s' < 2} {G : OBuf F} (h : s = s') : Air c dest t s hs G = Air c dest t s' hs' G := by
  subst h; rfl

theorem Free_slot {c : Dev nD} {s s' : ℕ} {hs : s < 2} {hs' : s' < 2} (h : s = s') : Free (F := F) c s hs = Free c s' hs' := by
  subst h; rfl

theorem body (hg : Good fill dest) (c : Dev nD) {t : ℕ} (hi : (i 0).val = t) (ht : t < 68) {V : OBuf F} {P : ℕ → S1x512x2048.Idx → Elt F .f32}
    {X : S2048.Idx → BitVec 32} {g : S1x2048.Idx → Elt F .f32} {xp xs : S512x2048.Idx → Elt F .f32} (hX : Words dest t X)
    (hP1 : t < 64 → P t = k0_pay1 xp g) (hP2 : 64 ≤ t → P t = k0_pay2 xs g) :
    iprop(St c dest (base fill V) (total dest (base fill V) P) V t ∗ Owes c ∗ Ins arg1 arg2 arg3 arg4 arg5 c fill X g xp xs)
      ⊢ Wp c (cc0_dispatch (F := F) i arg1 harg1 arg2 harg2 arg3 harg3 arg4 harg4 arg5 harg5 oM harg6 zM harg7 rM harg8 cc0_scratch2 cc0_scratch3)
        (fun _ => iprop(St c dest (base fill V) (total dest (base fill V) P) V (t + 1) ∗ Owes c ∗ Ins arg1 arg2 arg3 arg4 arg5 c fill X g xp xs)) := by
  have hu : used fill ≤ 304 := hg.tail
  have hv : (fill (ix1 32 (by decide))).toNat = used fill := by rw [fw_eq (fill := fill) (by decide : 32 < 33)]
  generalize hB : base fill V = B
  generalize hGd : total dest B P = G
  generalize hs : t % 2 = s at *
  generalize hs' : (t + 1) % 2 = s' at *
  have hs2 : s < 2 := hs ▸ mod_lt t
  have hs2' : s' < 2 := hs' ▸ mod_lt _
  have hr : ∀ fs, Fills s (P t) fs → Ready dest t s G fs (Finset.univ \ prevRows dest t) := fun fs h => hGd ▸ ready hg ht h
  rw [cc0_dispatch_eq_skeleton]
  unfold cc0_dispatch_skel
  beta_reduce
  extract_lets
  -- the first point clears
  refine stage (iprop(oPt c (Finset.univ \ prevRows dest t) (acc dest B G (t - 1)) ∗ Before c dest G t ∗ Free c s hs2 ∗ Idle (F := F) c ∗ Owes c ∗ Ins arg1 arg2 arg3 arg4 arg5 c fill X g xp xs))
    (fun h1 hJ => ?_) (fun h1 => ?_) ?_
  · have h0 : t = 0 := hi ▸ (cond1_iff i).mp h1
    subst h0
    subst hs
    unfold St Held
    rw [if_neg (by decide), if_pos rfl]
    rw [prev_zero] at hJ
    unfold Idle at hJ ⊢
    refine with_some (F := F) (c := c) (fun z => ?_)
    refine within (part1 _ _ _ _ _ _ _ _ _ _ _ _ _ _ _ hg c V z h1 ?_)
    refine within (part2 _ _ _ _ _ _ _ _ _ _ _ _ _ _ _ hg c V h1 ?_)
    refine within (part3 _ _ _ _ _ _ _ _ _ _ _ _ _ _ _ hg c V h1 ?_)
    refine within (part4 _ _ _ _ _ _ _ _ _ _ _ _ _ _ _ hg c V h1 ?_)
    refine (show _ ⊢ iprop(Clearing c (liveTo fill 32) V (cnt fill 29) ∗ fillOwn c arg1 fill ∗ Owes c ∗ (zPt (F := F) c (shareDrop fullShare (liveTo fill 32).length)
      ∗ Before c dest G 0 ∗ Free (F := F) c (0 % 2) hs2 ∗ wordOwn c arg2 X ∗ owns (c : Thread nD τ) arg3 fullShare (fun x => g x) ∗ owns (c : Thread nD τ) arg4 fullShare (fun x => xp x) ∗ owns (c : Thread nD τ) arg5 fullShare (fun x => xs x))) from ?_).trans ?_
    · iintro ⟨H1, H2, H3, H4, H5, H6, H7⟩
      iframe
    refine within (part5 _ _ _ _ _ _ _ _ _ _ _ _ _ _ _ hg c V h1 ?_)
    refine within (part6 _ _ _ _ _ _ _ _ _ _ _ _ _ _ _ c ?_)
    refine within (part7 _ _ _ _ _ _ _ _ _ _ _ _ _ _ _ c ?_)
    refine within (part8 _ _ _ _ _ _ _ _ _ _ _ _ _ _ _ c ?_)
    refine within (part9 _ _ _ _ _ _ _ _ _ _ _ _ _ _ _ hg c V h1 fun hw => ?_)
    refine (show _ ⊢ iprop((Clearing (F := F) c (tailOf fill) (cleared (liveTo fill 32) V) (tailOf fill).length ∗ Owes c) ∗ (fillOwn c arg1 fill ∗ zPt (F := F) c (shareDrop fullShare (tailOf fill).length)
      ∗ Before c dest G 0 ∗ Free (F := F) c (0 % 2) hs2 ∗ wordOwn c arg2 X ∗ owns (c : Thread nD τ) arg3 fullShare (fun x => g x) ∗ owns (c : Thread nD τ) arg4 fullShare (fun x => xp x) ∗ owns (c : Thread nD τ) arg5 fullShare (fun x => xs x))) from ?_).trans ?_
    · iintro ⟨H1, H2, H3, H4, H5⟩
      iframe
    refine (sep_mono_left (clearing_all c _ _)).trans ?_
    refine (Laws.sep_assoc).1.trans ?_
    refine seq (tail_await _ _ _ _ _ _ _ _ _ _ _ _ _ _ _ c h1 hv hu _ _) fun _ => ?_
    refine Scf.wp_for0_bind _ _ _ _ _ _ _ _ (t4_trips _) _ _ _ ?_
    refine after ?_ hJ
    rw [show (0 - 1 : ℕ) = 0 from rfl, acc_zero, ← hB]
    iintro ⟨H1, H2, H3, H4, H5, H6, H7, H8⟩
    imod (awaiting_done c tailOf_nodup (cleared (liveTo fill 32) V)) $$ [H1 H2 H4] with ⟨Hf, HO, Hz, HW⟩
    · iframe
    imodintro
    iframe HO H5 H6 HW Hf
    isplitl [Hz]
    · iexists (fun _ => zv (F := F)); iexact Hz
    isplitl [H3]; · iexact H3
    isplitl [H7]; · iexact H7
    iexact H8
  · have h0 : t ≠ 0 := fun h => h1 ((cond1_iff i).mpr (hi.trans h))
    unfold St Held
    rw [if_neg (by omega), if_neg h0]
    subst hs
    iintro ⟨⟨H1, H2, H3, H4⟩, H5, H6⟩
    iframe
  -- the slot filled from the prefix's rows
  refine stage (iprop(oPt c (Finset.univ \ prevRows dest t) (acc dest B G (t - 1)) ∗ Before c dest G t ∗ (∃ fs, ⌜t < 64 → Fills s (P t) fs⌝ ∗ semVal ((c : Thread nD τ), SemLoc.dma (sS s hs2)) 0 ∗ rPt (F := F) c (slotSet s) fullShare fs)
      ∗ Idle (F := F) c ∗ Owes c ∗ Ins arg1 arg2 arg3 arg4 arg5 c fill X g xp xs))
    (fun h66 hJ => ?_) (fun h66 => ?_) ?_
  · have hlt := hi ▸ (cond66_iff i).mp h66
    unfold Free
    iintro ⟨HO, HB, ⟨Hs, ⟨%fs, Hr⟩⟩, HI, HW, H1, H2, H3, H4, H5⟩
    iapply (fill_slot arg3 c (m := arg4) (off := k0_off35 i) (s := s) (fs := fs) (g := g) (x := xp) (pay := k0_pay1) ((off35_slot i).trans (by rw [hi, hs])) rfl rfl
      (R := iprop(oPt c (Finset.univ \ prevRows dest t) (acc dest B G (t - 1)) ∗ Before c dest G t ∗ semVal ((c : Thread nD τ), SemLoc.dma (sS s hs2)) 0 ∗ Idle (F := F) c ∗ Owes c
        ∗ fillOwn c arg1 fill ∗ wordOwn c arg2 X ∗ owns (c : Thread nD τ) arg5 fullShare (fun x => xs x)))
      fun fs' hf => BIBase.Entails.trans ?_ hJ)
    · iintro ⟨Hr, Hg, Hm, HO, HB, Hs, HI, HW, H1, H2, H3⟩
      iframe HO HB HI HW H1 H2 Hg Hm H3
      iexists fs'
      iframe
      ipureintro
      exact fun _ => hP1 hlt ▸ hf
    · iframe
  · unfold Free
    iintro ⟨HO, HB, ⟨Hs, ⟨%fs, Hr⟩⟩, HI⟩
    iframe HO HB HI
    iexists fs
    iframe
    ipureintro
    exact fun h => absurd ((cond66_iff i).mpr (hi ▸ h)) h66
  -- or from the suffix's
  refine stage (iprop(oPt c (Finset.univ \ prevRows dest t) (acc dest B G (t - 1)) ∗ Before c dest G t ∗ (∃ fs, ⌜Fills s (P t) fs⌝ ∗ semVal ((c : Thread nD τ), SemLoc.dma (sS s hs2)) 0 ∗ rPt (F := F) c (slotSet s) fullShare fs)
      ∗ Idle (F := F) c ∗ Owes c ∗ Ins arg1 arg2 arg3 arg4 arg5 c fill X g xp xs))
    (fun h67 hJ => ?_) (fun h67 => ?_) ?_
  · have hlt := hi ▸ (cond67_iff i).mp h67
    iintro ⟨HO, HB, ⟨%fs, %hf0, Hs, Hr⟩, HI, HW, H1, H2, H3, H4, H5⟩
    iapply (fill_slot arg3 c (m := arg5) (off := k0_off36 i) (s := s) (fs := fs) (g := g) (x := xs) (pay := k0_pay2) ((off36_slot i).trans (by rw [hi, hs])) rfl rfl
      (R := iprop(oPt c (Finset.univ \ prevRows dest t) (acc dest B G (t - 1)) ∗ Before c dest G t ∗ semVal ((c : Thread nD τ), SemLoc.dma (sS s hs2)) 0 ∗ Idle (F := F) c ∗ Owes c
        ∗ fillOwn c arg1 fill ∗ wordOwn c arg2 X ∗ owns (c : Thread nD τ) arg4 fullShare (fun x => xp x)))
      fun fs' hf => BIBase.Entails.trans ?_ hJ)
    · iintro ⟨Hr, Hg, Hm, HO, HB, Hs, HI, HW, H1, H2, H3⟩
      iframe HO HB HI HW H1 H2 Hg Hm H3
      iexists fs'
      iframe
      ipureintro
      exact hP2 hlt ▸ hf
    · iframe
  · iintro ⟨HO, HB, ⟨%fs, %hf0, Hs, Hr⟩, HI⟩
    iframe HO HB HI
    iexists fs
    iframe
    ipureintro
    exact hf0 (by by_contra h; exact h67 ((cond67_iff i).mpr (by omega)))
  -- the rows sent out of slot 0
  refine stage (if s = 0 then
        iprop(oPt c ((Finset.univ \ prevRows dest t) \ prevRows dest (t + 1)) (acc dest B G (t - 1)) ∗ Before c dest G t ∗ Air c dest t s hs2 G ∗ Idle (F := F) c ∗ Owes c ∗ Ins arg1 arg2 arg3 arg4 arg5 c fill X g xp xs)
      else iprop(oPt c (Finset.univ \ prevRows dest t) (acc dest B G (t - 1)) ∗ Before c dest G t ∗ (∃ fs, ⌜Fills s (P t) fs⌝ ∗ semVal ((c : Thread nD τ), SemLoc.dma (sS s hs2)) 0 ∗ rPt (F := F) c (slotSet s) fullShare fs)
      ∗ Idle (F := F) c ∗ Owes c ∗ Ins arg1 arg2 arg3 arg4 arg5 c fill X g xp xs))
    (fun h68 hJ => ?_) (fun h68 => ?_) ?_
  · have hz : s = 0 := hs ▸ hi ▸ (cond68_iff i).mp h68
    subst hz
    rw [if_pos rfl] at hJ
    iintro ⟨HO, HB, ⟨%fs, %hf, Hs, Hr⟩, HI, HW, H1, H2, H3⟩
    iapply (tile_send arg2 c (dest := dest) (t := t) (s := 0) hs2 (G := G) (fs := fs) (S := Finset.univ \ prevRows dest t) (f := acc dest B G (t - 1)) (X := X)
      (R := iprop(Before c dest G t ∗ Idle (F := F) c ∗ Owes c ∗ fillOwn c arg1 fill ∗ owns (c : Thread nD τ) arg3 fullShare (fun x => g x) ∗ owns (c : Thread nD τ) arg4 fullShare (fun x => xp x) ∗ owns (c : Thread nD τ) arg5 fullShare (fun x => xs x)))
      (fun R => send0 _ _ _ _ _ _ _ _ _ _ _ _ _ _ hg c ht hX (hr fs hf) h68 R) (BIBase.Entails.trans ?_ hJ))
    · iintro ⟨⟨H1, H2⟩, H3, H4, H5, H6, H7, H8⟩
      iframe
      isplitl [H7]; · iexact H7
      isplitl [H3]; · iexact H3
      iexact H8
    · icases H3 with ⟨H3, H4, H5⟩
      iframe
  · rw [if_neg (fun h => h68 ((cond68_iff i).mpr (by omega)))]
  -- or of slot 1
  refine stage (iprop(oPt c ((Finset.univ \ prevRows dest t) \ prevRows dest (t + 1)) (acc dest B G (t - 1)) ∗ Before c dest G t ∗ Air c dest t s hs2 G ∗ Idle (F := F) c ∗ Owes c ∗ Ins arg1 arg2 arg3 arg4 arg5 c fill X g xp xs))
    (fun h69 hJ => ?_) (fun h69 => ?_) ?_
  · have hz : s = 1 := hs ▸ hi ▸ (cond69_iff i).mp h69
    subst hz
    rw [if_neg (by decide)]
    iintro ⟨HO, HB, ⟨%fs, %hf, Hs, Hr⟩, HI, HW, H1, H2, H3⟩
    iapply (tile_send arg2 c (dest := dest) (t := t) (s := 1) hs2 (G := G) (fs := fs) (S := Finset.univ \ prevRows dest t) (f := acc dest B G (t - 1)) (X := X)
      (R := iprop(Before c dest G t ∗ Idle (F := F) c ∗ Owes c ∗ fillOwn c arg1 fill ∗ owns (c : Thread nD τ) arg3 fullShare (fun x => g x) ∗ owns (c : Thread nD τ) arg4 fullShare (fun x => xp x) ∗ owns (c : Thread nD τ) arg5 fullShare (fun x => xs x)))
      (fun R => send1 _ _ _ _ _ _ _ _ _ _ _ _ _ _ hg c ht hX (hr fs hf) h69 R) (BIBase.Entails.trans ?_ hJ))
    · iintro ⟨⟨H1, H2⟩, H3, H4, H5, H6, H7, H8⟩
      iframe
      isplitl [H7]; · iexact H7
      isplitl [H3]; · iexact H3
      iexact H8
    · icases H3 with ⟨H3, H4, H5⟩
      iframe
  · rw [if_pos (by by_contra h; exact h69 ((cond69_iff i).mpr (by omega)))]
  -- the tile before awaited
  refine stage (iprop(oPt c (Finset.univ \ prevRows dest (t + 1)) (acc dest B G t) ∗ Free c s' hs2' ∗ Air c dest t s hs2 G ∗ Idle (F := F) c ∗ Owes c ∗ Ins arg1 arg2 arg3 arg4 arg5 c fill X g xp xs))
    (fun h70 hJ => ?_) (fun h70 => ?_) ?_
  · have hpos : 0 < t := hi ▸ (cond70_iff i).mp h70
    obtain ⟨u, rfl⟩ : ∃ u, t = u + 1 := ⟨t - 1, by omega⟩
    subst hs'
    unfold Before
    rw [if_neg (by omega), sdiff_right_comm]
    show iprop(oPt c ((Finset.univ \ prevRows dest (u + 1 + 1)) \ prevRows dest (u + 1)) (acc dest B G u) ∗ Air c dest u ((u + 1 + 1) % 2) (mod_lt _) G ∗ _) ⊢ _
    iintro ⟨HO, HA, HC, HI, HW, HX⟩
    iapply (tile_await hg c (t := u) (s := (u + 1 + 1) % 2) (by omega) (mod_lt _) (B := B) (G := G) (S := Finset.univ \ prevRows dest (u + 1 + 1)) (prev_sub_tile hg ht)
      (R := iprop(Air c dest (u + 1) s hs2 G ∗ Idle (F := F) c ∗ Ins arg1 arg2 arg3 arg4 arg5 c fill X g xp xs))
      (fun fs R => await_prev _ _ _ _ _ _ _ _ _ _ _ _ _ _ c (mod_lt _) h70 ((off61_slot i).trans (by rw [hi])) R) (BIBase.Entails.trans ?_ hJ))
    · iintro ⟨H1, H2, H3, H4, H5, H6⟩
      iframe
    · iframe
  · have h0 : t = 0 := by by_contra h; exact h70 ((cond70_iff i).mpr (by omega))
    subst h0
    subst hs'
    unfold Before
    rw [if_pos rfl, prev_zero]
  -- at the last point, this one too
  refine stage (iprop(St c dest B G V (t + 1) ∗ Owes c ∗ Ins arg1 arg2 arg3 arg4 arg5 c fill X g xp xs))
    (fun h71 hJ => ?_) (fun h71 => ?_) ?_
  · have h67 : t = 67 := hi ▸ (cond71_iff i).mp h71
    subst h67
    subst hs
    subst hs'
    unfold St at hJ
    rw [if_pos rfl, Free_slot (F := F) (c := c) (s := (67 + 1 + 1) % 2) (s' := 67 % 2) (hs := mod_lt _) (hs' := mod_lt _) rfl] at hJ
    iintro ⟨HO, HF, HA, HI, HW, HX⟩
    iapply (tile_await hg c (t := 67) (s := 67 % 2) (by omega) (mod_lt _) (B := B) (G := G) (S := Finset.univ) (fun j => Finset.subset_univ _)
      (R := iprop(Free c ((67 + 1) % 2) (mod_lt _) ∗ Idle (F := F) c ∗ Ins arg1 arg2 arg3 arg4 arg5 c fill X g xp xs))
      (fun fs R => await_last _ _ _ _ _ _ _ _ _ _ _ _ _ _ c (mod_lt _) h71 ((off63_slot i).trans (by rw [hi])) R) (BIBase.Entails.trans ?_ hJ))
    · iintro ⟨H1, H2, H3, H4, H5, H6⟩
      iframe
    · iframe
  · have h67 : t ≠ 67 := fun h => h71 ((cond71_iff i).mpr (hi.trans h))
    subst hs'
    unfold St Held Before
    rw [if_neg (by omega), if_neg (by omega), if_neg (by omega), Air_slot (s := (t + 1 + 1) % 2) (s' := s) (hs' := hs2) (by omega), Nat.add_sub_cancel]
    iintro ⟨H1, H2, H3, H4, H5, H6⟩
    iframe
  exact ends c

end Cert.KernelIdeal.Hand

end
-- ==== Proof.Run.lean ====
/-
  The launch: every point run in turn, from the arguments to the result.
-/
module

public import proofs.«01_k».proof.Proof.Body
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameValue
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F]

local notation "𝕄" => MT nD τ sig Unit (Elt F) ℕ (Pipeline.UD sig nD τ) ℕ

/-! ## Before the first point and after the last -/

theorem slots_disj : Disjoint (slotSet 0) (slotSet 1) := by
  rw [Finset.disjoint_left]; intro y h0 h1
  rw [mem_slotSet] at h0 h1; omega

theorem slots_all : slotSet 0 ∪ slotSet 1 = Finset.univ := by
  ext y
  have hy : (y 0).val < 2 := (y 0).isLt
  simp only [Finset.mem_union, mem_slotSet, Finset.mem_univ, iff_true]; omega

/-- What the launch hands over, and what it takes back: the result, the two scratch buffers, the three semaphores at zero. -/
def Parts (c : Dev nD) (f : OBuf F) : sProp 𝕄 :=
  iprop(oPt c Finset.univ f ∗ (∃ z : Buf (Elt F) (zM.view.loc (c : Thread nD τ)), zM.view.loc (c : Thread nD τ) ↦[zM.view.set]{fullShare} z)
    ∗ (∃ fs, rPt (F := F) c Finset.univ fullShare fs) ∗ semVal ((c : Thread nD τ), SemLoc.dma (sS 0 (by decide))) 0
    ∗ semVal ((c : Thread nD τ), SemLoc.dma (sS 1 (by decide))) 0 ∗ semVal ((c : Thread nD τ), SemLoc.dma fS) 0)

theorem start (c : Dev nD) (dest : S139264.Idx → BitVec 32) (B G V : OBuf F) : Parts c V ⊢ St c dest B G V 0 := by
  unfold Parts St Held Before Idle
  rw [if_neg (by decide), if_pos rfl, if_pos rfl]
  change _ ⊢ iprop(_ ∗ Free c 1 (by decide) ∗ Free c 0 (by decide) ∗ _)
  unfold Free
  iintro ⟨HO, HZ, ⟨%fs, HR⟩, H0, H1, HF⟩
  ihave HR := (show rPt (F := F) c Finset.univ fullShare fs ⊢ iprop(rPt c (slotSet 0) fullShare fs ∗ rPt c (slotSet 1) fullShare fs) from by
    rw [← slots_all]; exact (pointsTo_union slots_disj).1) $$ HR
  icases HR with ⟨HR0, HR1⟩
  isplitl [HO]; · iexact HO
  isplitl [H1 HR1]
  · isplitl [H1]; · iexact H1
    iexists _; iexact HR1
  isplitl [H0 HR0]
  · isplitl [H0]; · iexact H0
    iexists _; iexact HR0
  isplitl [HZ]; · iexact HZ
  iexact HF

theorem finish (c : Dev nD) (dest : S139264.Idx → BitVec 32) (B V : OBuf F) (P : ℕ → S1x512x2048.Idx → Elt F .f32) :
    St c dest B (total dest B P) V 68 ⊢ Parts c (total dest B P) := by
  unfold Parts St Idle
  rw [if_pos rfl, acc_done]
  change iprop(_ ∗ Free c 1 _ ∗ Free c 0 _ ∗ _) ⊢ _
  unfold Free
  iintro ⟨HO, ⟨H1, ⟨%f1, HR1⟩⟩, ⟨H0, ⟨%f0, HR0⟩⟩, HZ, HF⟩
  isplitl [HO]; · iexact HO
  isplitl [HZ]; · iexact HZ
  isplitl [HR0 HR1]
  · iexists _
    iapply (show iprop(rPt c (slotSet 0) fullShare f0 ∗ rPt c (slotSet 1) fullShare f1) ⊢ rPt (F := F) c Finset.univ fullShare ((slotSet 1).piecewise f1 f0) from by
      rw [← slots_all]; exact pointsTo_join slots_disj)
    isplitl [HR0]; · iexact HR0
    iexact HR1
  iframe

/-! ## The windows' blocks -/

variable (m : (ℓ : Loc nD τ sig) → Buf (Elt F) ℓ) (ρ : Dev nD → PrngReg)

/-- The block list. -/
def fillOf (c : Dev nD) : S33.Idx → BitVec 32 := m ((c : Thread nD τ).loc main_arg0)
/-- The row of each assignment. -/
def destOf (c : Dev nD) : S139264.Idx → BitVec 32 := m ((c : Thread nD τ).loc main_arg1)
/-- What the result holds at launch. -/
def oldOf (c : Dev nD) : OBuf F := V m c main_v1

/-- The tile's scaled rows. -/
def payOf (c : Dev nD) (n : ℕ) : S1x512x2048.Idx → Elt F .f32 :=
  if h : n < 68 then
    if n < 64 then k0_pay1 (iblk m c 3 ⟨n, h⟩) (iblk m c 2 ⟨n, h⟩) else k0_pay2 (iblk m c 4 ⟨n, h⟩) (iblk m c 2 ⟨n, h⟩)
  else fun _ => zv

/-- What the result holds at the end. -/
def resultOf (c : Dev nD) : OBuf F := total (destOf m c) (base (fillOf m c) (oldOf m c)) (payOf m c)

theorem idx0 : ∀ t : Fin cfg0.N, win0_0.index t (0 : Fin 1) = 0 := (by decide +kernel : ∀ t : Fin grid0.N, _)
theorem idx1 : ∀ t : Fin cfg0.N, win0_1.index t (0 : Fin 1) = t.val := (by decide +kernel : ∀ t : Fin grid0.N, _)
theorem pt_coord : ∀ t : Fin cfg0.N, (grid0.coords t 0).val = t.val := (by decide +kernel : ∀ t : Fin grid0.N, _)

theorem blk0 (c : Dev nD) (t : Fin cfg0.N) : (iblk m c 0 t : S33.Idx → BitVec 32) = fillOf m c := by
  funext x
  unfold fillOf
  rw [← V_main_arg0 m c]
  blk_simp [iblk]
  congr 1
  blk_ext [idx0 t]

theorem blk1 (c : Dev nD) (t : Fin cfg0.N) : Words (destOf m c) t.val (iblk m c 1 t) := by
  intro j hj
  have ht : t.val < 68 := t.isLt
  have e : (iblk m c 1 t : S2048.Idx → BitVec 32) (ix1 j hj) = destOf m c (ix1 (2048 * t.val + j) (by omega)) := by
    unfold destOf
    rw [← V_main_arg1 m c]
    blk_simp [iblk]
    congr 1
    blk_ext [idx1 t, ix1]
  rw [e]
  unfold dw
  rw [dif_pos (by omega)]

/-! ## The launch's pieces -/

def osem0 : Fin 3 → SemLoc sig := fun j => (![SemLoc.dma 8, SemLoc.dma 9, SemLoc.dma 10] : Fin 3 → SemLoc sig) j
def H0 : Finset (Ref sig .tc) := ∅
def R0 : Finset (Ref sig .tc) := {main_v1}
theorem ownSemFacts0 : Pipeline.OwnSemFacts spec0 osem0 := by decide
theorem H0_sub : H0 ⊆ Pipeline.restRefs sig spec0 := by decide
theorem R0_sub : R0 ⊆ Pipeline.restRefs sig spec0 \ H0 := by decide

set_option maxHeartbeats 800000 in
theorem hmain_own (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The result's contents before and after the launch, every other buffer as it was. -/
def outs (f : (c : Dev nD) → OBuf F) (c : Dev nD) (b : Ref sig .tc) : Buf (Elt F) ((c.tc : Thread nD τ).loc b) :=
  if h : b = main_v1 then h ▸ f c else V m c b

theorem outs_v1 (f : (c : Dev nD) → OBuf F) (c : Dev nD) : outs m f c main_v1 = f c := dif_pos rfl

theorem sems_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), SemLoc.dma (sS 0 (by decide))) 0 ∗ semVal ((c : Thread nD τ), SemLoc.dma (sS 1 (by decide))) 0
      ∗ semVal ((c : Thread nD τ), SemLoc.dma fS) 0) := by
  rw [Pipeline.ownSems0_eq_of_list c osem0 [0, 1, 2] (by decide) (by decide)]; rfl

theorem routed_eq (c : Dev nD) (W : (b : Ref sig .tc) → Buf (Elt F) ((c.tc : Thread nD τ).loc b)) :
    (Pipeline.routed (τ := τ) R0 c W : sProp 𝕄) = oPt c Finset.univ (W main_v1) := by
  unfold Pipeline.routed
  rw [BI.bigSep_eq_bigSepL_of_eq [main_v1] (by decide) (by decide)]; rfl

theorem none_eq (Z : Ref sig .tc → sProp 𝕄) : BI.bigSep H0 Z = iprop(emp) := by
  rw [BI.bigSep_eq_bigSepL_of_eq [] (by decide) (by decide)]; rfl

theorem scratch_eq (c : Dev nD) : (Pipeline.scopedRest (Ix := Unit) (Name := ℕ) (U := Pipeline.UD sig nD τ) (Lvl := ℕ) (Val := Elt F) spec0 c : sProp 𝕄)
    = iprop((∃ z : Buf (Elt F) (zM.view.loc (c : Thread nD τ)), zM.view.loc (c : Thread nD τ) ↦[zM.view.set]{fullShare} z)
      ∗ ∃ fs, rPt (F := F) c Finset.univ fullShare fs) := by
  rw [scopedRest0_eq, show zM.view.set = Finset.univ from View.set_whole cc0_scratch0]; rfl

theorem shuffle {A B C D E S G : sProp 𝕄} : iprop((B ∗ C) ∗ G ∗ (D ∗ E ∗ S) ∗ emp ∗ A) ⊣⊢ iprop((A ∗ B ∗ C ∗ D ∗ E ∗ S) ∗ G) := by
  constructor
  · iintro ⟨⟨HB, HC⟩, HG, ⟨HD, HE, HS⟩, -, HA⟩
    iframe
  · iintro ⟨⟨HA, HB, HC, HD, HE, HS⟩, HG⟩
    isplitl [HB HC]; · iframe
    isplitl [HG]; · iexact HG
    isplitl [HD HE HS]; · iframe
    isplitr
    · iempintro
    iexact HA

theorem parts_eq (c : Dev nD) (G : (c : Dev nD) → (b : Ref sig .tc) → Buf (Elt F) ((c.tc : Thread nD τ).loc b)) (f : OBuf F) (hf : G c main_v1 = f) :
    (Pipeline.ΦDRG osem0 spec0 H0 R0 (V m) G c : sProp 𝕄) ⊣⊢ iprop(Parts c f ∗ ∃ r, prngReg c r) := by
  rw [Pipeline.ΦDRG_eq, scratch_eq, sems_eq, routed_eq, none_eq, hf]
  exact shuffle

/-! ## The proof data and the body obligation -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨_ + 5, h⟩ => absurd h (Nat.not_lt.2 (Nat.le_add_left _ _))
  Φ t := iprop(St c (destOf m c) (base (fillOf m c) (oldOf m c)) (resultOf m c) (oldOf m c) t.val ∗ ∃ r, prngReg c r)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem Φ_eq (c : Dev nD) (t : Fin (cfg0.N + 1)) :
    (dats m 0 c).Φ t = iprop(St c (destOf m c) (base (fillOf m c) (oldOf m c)) (resultOf m c) (oldOf m c) t.val ∗ ∃ r, prngReg c r) := by dsimp only [dats]

/-- A window the body leaves in place holds its block at every point. -/
theorem before_of (c : Dev nD) (w : Fin cfg0.W) (hw : (cfg0.win w).isOut = false) (hi : ∀ i, cfg0.idle w i = false)
    (hc : ∀ t t' : Fin cfg0.N, (cfg0.win w).index t = (cfg0.win w).index t' → (cfg0.win w).clip (cfg0.grid.coords t) = (cfg0.win w).clip (cfg0.grid.coords t'))
    (hk : ∀ t, (cfg0.win w).cut (cfg0.grid.coords t) ((dats m 0 c).after w t) = (dats m 0 c).blockOf w t)
    (t : Fin cfg0.N) (d) {b} (hf : (dats m 0 c).fetched w t d = b) : (dats m 0 c).before w t d = b :=
  ((dats m 0 c).before_in_eq_fetched w hw hi hc hk t d).trans hf

theorem before0 (c : Dev nD) (t : Fin cfg0.N) (d) : (dats m 0 c).before 0 t d = iblk m c 0 t :=
  before_of m c 0 rfl (fun _ => rfl) (fun _ _ _ => rfl) (fun t => by rw [after0]; rfl) t d rfl
theorem before1 (c : Dev nD) (t : Fin cfg0.N) (d) : (dats m 0 c).before 1 t d = iblk m c 1 t :=
  before_of m c 1 rfl (fun _ => rfl) (fun _ _ _ => rfl) (fun t => by rw [after1]; rfl) t d rfl
theorem before2 (c : Dev nD) (t : Fin cfg0.N) (d) : (dats m 0 c).before 2 t d = iblk m c 2 t :=
  before_of m c 2 rfl (fun _ => rfl) (fun _ _ _ => rfl) (fun t => by rw [after2]; rfl) t d rfl
theorem before3 (c : Dev nD) (t : Fin cfg0.N) (d) : (dats m 0 c).before 3 t d = iblk m c 3 t :=
  before_of m c 3 rfl (fun _ => rfl) (fun _ _ _ => rfl) (fun t => by rw [after3]; rfl) t d rfl
theorem before4 (c : Dev nD) (t : Fin cfg0.N) (d) : (dats m 0 c).before 4 t d = iblk m c 4 t :=
  before_of m c 4 rfl (fun _ => rfl) (fun _ _ _ => rfl) (fun t => by rw [after4]; rfl) t d rfl

theorem pay_first (c : Dev nD) (t : Fin cfg0.N) (h : t.val < 64) : payOf m c t.val = k0_pay1 (iblk m c 3 t) (iblk m c 2 t) := by
  unfold payOf
  rw [dif_pos (show t.val < 68 from t.isLt), if_pos h]
theorem pay_second (c : Dev nD) (t : Fin cfg0.N) (h : 64 ≤ t.val) : payOf m c t.val = k0_pay2 (iblk m c 4 t) (iblk m c 2 t) := by
  unfold payOf
  rw [dif_pos (show t.val < 68 from t.isLt), if_neg (by omega)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem owes_in (c : Dev nD) (t : Fin (cfg0.N + 1)) : (dats m 0 c).owesAt () t ⊢ (Owes c : sProp 𝕄) := by
  unfold Dat.owesAt Pipeline.owesWithin Owes
  rw [show (dats m 0 c).owed t = 0 from rfl]
  iintro ⟨%W, -, HW⟩
  iexists W; iexact HW

theorem owes_out (c : Dev nD) (t : Fin (cfg0.N + 1)) : (Owes c : sProp 𝕄) ⊢ (dats m 0 c).owesAt () t := by
  unfold Dat.owesAt Pipeline.owesWithin Owes
  rw [show (dats m 0 c).owed t = 0 from rfl]
  iintro ⟨%W, HW⟩
  iexists W
  isplitr
  · ipureintro; exact fun _ _ => Or.inl trivial
  iexact HW

theorem drop_choice {X : Type} {P : sProp 𝕄} {Z : X → sProp 𝕄} (h : ∀ x, Z x ⊢ P) : iprop(∃ x, Z x) ⊢ P := by
  iintro ⟨%x, H⟩
  iapply (h x); iexact H

theorem keep {A A' B : sProp 𝕄} (h : A ⊢ A') : iprop(A ∗ B) ⊢ iprop(A' ∗ B) := by
  iintro ⟨HA, HB⟩
  isplitl [HA]; · iapply h; iexact HA
  iexact HB

theorem carry {c : Dev nD} {α : Type} {p : Prog (TpuEff nD τ sig (Elt F) Λ₀ .tc) α} {A A' B C G : sProp 𝕄}
    (h : iprop(A ∗ B ∗ C) ⊢ Wp c p (fun _ => iprop(A' ∗ B ∗ C))) : iprop((A ∗ G) ∗ B ∗ C) ⊢ Wp c p (fun _ => iprop((A' ∗ G) ∗ B ∗ C)) := by
  refine BIBase.Entails.trans (Q := iprop((A ∗ B ∗ C) ∗ G)) ?_ ((keep h).trans ((wp_frame_r _ _ _).trans (wp_mono _ _ _ fun _ => ?_)))
  · iintro ⟨⟨HA, HG⟩, HB, HC⟩
    iframe
  · iintro ⟨⟨HA, HB, HC⟩, HG⟩
    isplitl [HA HG]; · iframe
    iframe

theorem mono4 {A A' B B' C C' : sProp 𝕄} (h1 : A ⊢ A') (h2 : B ⊢ B') (h3 : C ⊢ C') : iprop(A ∗ B ∗ C) ⊢ iprop(A' ∗ B' ∗ C') :=
  BI.sep_mono h1 (BI.sep_mono h2 h3)

/-- The blocks a point reads, as the body states them. -/
abbrev InsAt (c : Dev nD) (t : Fin cfg0.N) : sProp 𝕄 :=
  Ins (st0_0 t) (st0_1 t) (st0_2 t) (st0_3 t) (st0_4 t) c (fillOf m c) (iblk m c 1 t) (iblk m c 2 t) (iblk m c 3 t) (iblk m c 4 t)

theorem own0 (c : Dev nD) (t : Fin cfg0.N) :
    (owns (c : Thread nD τ) (st0_0 t) fullShare (iblk m c 0 t) : sProp 𝕄) = fillOwn c (st0_0 t) (fillOf m c) := by
  rw [← blk0 m c t]

theorem pre_in (c : Dev nD) (t : Fin cfg0.N) :
    bodyPre m c t ⊢ iprop((St c (destOf m c) (base (fillOf m c) (oldOf m c)) (resultOf m c) (oldOf m c) t.val ∗ ∃ r, prngReg c r) ∗ Owes c ∗ InsAt m c t) := by
  unfold bodyPre
  refine mono4 (.of_eq (Φ_eq m c _)) (owes_in m c _) ?_
  refine BI.sep_mono (drop_choice fun d => .of_eq (by rw [before0, own0])) (BI.sep_mono (drop_choice fun d => .of_eq (by rw [before1]; rfl))
    (BI.sep_mono (drop_choice fun d => .of_eq (by rw [before2]; rfl)) (BI.sep_mono (drop_choice fun d => .of_eq (by rw [before3]; rfl))
      (drop_choice fun d => .of_eq (by rw [before4]; rfl)))))

theorem post_out (c : Dev nD) (t : Fin cfg0.N) :
    iprop((St c (destOf m c) (base (fillOf m c) (oldOf m c)) (resultOf m c) (oldOf m c) (t.val + 1) ∗ ∃ r, prngReg c r) ∗ Owes c ∗ InsAt m c t) ⊢ bodyPost m c t := by
  unfold bodyPost
  rw [after0, own0, after1, after2, after3, after4]
  exact mono4 (.of_eq (Φ_eq m c t.succ).symm) (owes_out m c _) .rfl

variable (hg : ∀ c, Good (fillOf m c) (destOf m c))
include hg

theorem sound_body (c : Dev nD) (t : Fin cfg0.N) : bodyPre m c t ⊢ Wp c (bodyAt0 (F := F) t) (fun _ => bodyPost m c t) := by
  refine (pre_in m c t).trans ?_
  have h := body (F := F) (fill := fillOf m c) (dest := destOf m c) (grid0.coords t) (st0_0 t) (hstage0_0 _) (st0_1 t) (hstage0_1 _) (st0_2 t) (hstage0_2 _) (st0_3 t) (hstage0_3 _)
    (st0_4 t) (hstage0_4 _) (Memref.isWhole_whole _) (Memref.isWhole_whole _) (Memref.isWhole_whole _) (hg c) c (pt_coord t) t.isLt (V := oldOf m c) (P := payOf m c)
    (blk1 m c t) (pay_first m c t) (pay_second m c t)
  exact (carry h).trans (wp_mono _ _ _ fun _ => post_out m c t)

omit hg in
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m hg c t) rfl .rfl fun _ => .rfl

/-! ## The run -/

set_option backward.isDefEq.respectTransparency.types false in
theorem run_all : θ_run defs (onTc (τ := τ) (main (F := F))) (s₀ m ρ)
    (fun r => Pipeline.FramePostRG cfgs (dats m) 0 R0 (V m) (outs m (resultOf m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m hg c).loose) (hshare := fun c => (dats m 0 c).share_full fun _ => rfl)
    (howed := fun _ _ => rfl) (V := V m) (hmain := hmain_own m Variants.none) (hA := A_eq m) (G := outs m (resultOf m))
    (hin := fun c => by
      rw [Φ_eq]
      exact (parts_eq m c (V m) (oldOf m c) rfl).1.trans (keep (start c _ _ _ _)))
    (hout := fun c => by
      rw [Φ_eq, show (Fin.last (cfgs 0).N).val = 68 from N_0]
      exact (keep (finish c (destOf m c) _ _ (payOf m c))).trans (parts_eq m c (outs m (resultOf m)) (resultOf m c) (outs_v1 m _ c)).2)

/-- The run: the arguments as they were, the result at `resultOf`, every semaphore at zero. -/
theorem run_main : θ_run defs (onTc (τ := τ) (main (F := F))) ⟨m, fun _ => 0, ρ⟩ (fun r => (∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => by
    obtain ⟨⟨hF, hR⟩, -⟩ := h
    have hc := hF c
    refine ⟨(hR c main_v1 (Finset.mem_singleton_self _)).trans (outs_v1 m _ c), ?_, ?_, ?_, ?_, ?_⟩
    · exact (hc.1 0).trans (((dats m 0 c).arrAt_in 0 rfl _).trans ((A_eq m c 0).trans (V_main_arg0 m c)))
    · exact (hc.1 1).trans (((dats m 0 c).arrAt_in 1 rfl _).trans ((A_eq m c 1).trans (V_main_arg1 m c)))
    · exact (hc.2 main_arg2 (Finset.mem_sdiff.mpr ⟨Pipeline.mem_restRefs_of main_arg2 (by decide) (by decide), by decide⟩)).trans (V_main_arg2 m c)
    · exact (hc.1 3).trans (((dats m 0 c).arrAt_in 3 rfl _).trans ((A_eq m c 3).trans (V_main_arg3 m c)))
    · exact (hc.1 4).trans (((dats m 0 c).arrAt_in 4 rfl _).trans ((A_eq m c 4).trans (V_main_arg4 m c))), h.2⟩) (run_all m ρ hg)

end Cert.KernelIdeal.Hand

end
-- ==== Proof.Laid.lean ====
/-
  What the precondition says of the two index arrays.
-/
module

public import proofs.«01_k».proof.Pre_rows_laid_out
public import proofs.«01_k».proof.Proof.Layout
public import Idealize.ShloMosaic.Lib.ReduceAll
public import Idealize.ShloMosaic.Lib.StableHlo.Predicate

@[expose] public section

noncomputable section

namespace Cert.KernelIdeal.Hand

open Idealize.ShloMosaic
open Idealize.ShloMosaic.StableHlo.Predicate

variable {F : FTy → Type} [FloatOps F]

theorem foldl_ori {ι : Type} (f : ι → BitVec 1) : ∀ (l : List ι) (b : BitVec 1), l.foldl (fun r n => IntOp.ori r (f n)) b = 1#1 → b = 1#1 ∨ ∃ n ∈ l, f n = 1#1
  | [], _, h => Or.inl h
  | a :: l, b, h => by
    rcases foldl_ori f l _ h with h | ⟨n, hn, h⟩
    · rcases IntOp.ori_eq_one.1 h with h | h
      · exact Or.inl h
      · exact Or.inr ⟨a, List.mem_cons_self .., h⟩
    · exact Or.inr ⟨n, List.mem_cons_of_mem _ hn, h⟩

/-- A reduce by `or` from 0 that is 1 met a 1. -/
theorem any_one {s t u : Shape} {axes : List (Fin s.rank)} (x : s.Idx → BitVec 1) (init : u.Idx → BitVec 1) (h : s.ReducesTo axes t) (hu : 0 < u.numel)
    (h0 : init (Shape.Idx.first hu) = 0#1) (j : t.Idx) (e : Host.reduce IntOp.ori x init h hu j = 1#1) : ∃ i, h.drop i = j ∧ x i = 1#1 := by
  rw [Host.reduce_eq_foldl] at e
  rcases foldl_ori x _ _ e with e | ⟨i, hi, e⟩
  · rw [h0] at e; exact absurd e (by decide)
  · exact ⟨i, by simpa using (List.mem_filter.mp hi).2, e⟩

theorem take_eq {α : Type} {N n : ℕ} (d : GatherDims ⟨1, ![N]⟩ ⟨2, ![n, 1]⟩ ⟨1, ![n]⟩) (h1 : d.collapsedSliceDims = [0]) (h2 : d.operandBatchingDims = [])
    (h3 : d.startIndexMap = [0]) (h4 : d.indexVectorDim = 1) (x : (⟨1, ![N]⟩ : Shape).Idx → α)
    (hb : (⟨1, ![n]⟩ : Shape).BroadcastsInDim ⟨2, ![n, 1]⟩ ![0]) (v : IVec ⟨1, ![n]⟩ 32) (p : Fin n) (hN : 0 < N) :
    Host.gather d x (broadcastInDim ⟨2, ![n, 1]⟩ ![0] hb v) (Shape.Idx.ofFin p) = x (Shape.Idx.ofFin ⟨min (v (Shape.Idx.ofFin p)).toInt.toNat (N - 1), by omega⟩) := by
  rw [gather_take d h1 h2 h3 h4 x _ p hN]
  exact congrArg x (congrArg Shape.Idx.ofFin (Fin.ext (by show min _ _ = min _ _; rw [bcast_col1])))

theorem of_fin {n a : ℕ} (h : a < n) : (Shape.Idx.ofFin ⟨a, h⟩ : Shape.Idx ⟨1, ![n]⟩) = ix1 a h := by
  funext x; fin_cases x; rfl

theorem toInt_small {w : BitVec 32} {n : ℕ} (hn : n < 2 ^ 31) (h0 : 0 ≤ w.toInt) (h : w.toInt ≤ n) : w.toNat ≤ n ∧ w.toInt = w.toNat := by
  rw [BitVec.toInt_eq_toNat_cond] at *
  have := w.isLt
  split_ifs at * <;> omega

theorem slice_head {fill : S33.Idx → BitVec 32} (h : (⟨1, ![33]⟩ : Shape).Slices ![0] ⟨1, ![32]⟩) {e : ℕ} (he : e < 32) :
    extractStridedSlice ⟨1, ![32]⟩ ![0] fill h (Shape.Idx.ofFin ⟨e, he⟩) = fw fill e := by
  unfold fw; rw [dif_pos (by omega : e < 33)]
  unfold extractStridedSlice
  congr 1
  funext a; fin_cases a; refine Fin.ext ?_
  simp [ix1]

theorem slice_last {fill : S33.Idx → BitVec 32} (h : (⟨1, ![33]⟩ : Shape).Slices ![32] ⟨1, ![1]⟩) (j : Shape.Idx ⟨1, ![1]⟩) :
    extractStridedSlice ⟨1, ![1]⟩ ![32] fill h j = fw fill 32 := by
  unfold fw; rw [dif_pos (by omega : 32 < 33)]
  unfold extractStridedSlice
  congr 1
  funext a; fin_cases a; refine Fin.ext ?_
  have : (j 0).val < 1 := (j 0).isLt
  simp [ix1]; omega

theorem last_times {fill : S33.Idx → BitVec 32} {t : Shape} {dims : Fin 1 → Fin t.rank} (h : (⟨1, ![33]⟩ : Shape).Slices ![32] ⟨1, ![1]⟩)
    (h' : (⟨0, ![]⟩ : Shape).BroadcastsInDim ⟨1, ![1]⟩ ![]) (hb : (⟨1, ![1]⟩ : Shape).BroadcastsInDim t dims) (i : t.Idx) :
    broadcastInDim t dims hb (muli (extractStridedSlice ⟨1, ![1]⟩ ![32] fill h) (broadcastInDim ⟨1, ![1]⟩ ![] h' (constantI ⟨0, ![]⟩ 32 512#32))) i
      = fw fill 32 * 512#32 := by
  show extractStridedSlice ⟨1, ![1]⟩ ![32] fill h _ * 512#32 = _
  rw [slice_last]

variable [Cert.Pre_rows_laid_out.Facts]

open Cert.Pre_rows_laid_out in
theorem laid_out {fill : IVec S33 32} {dest : IVec S139264 32} {g : FVec F S2048 .f32} {xp : FVec F S32768x2048 .f32} {xs : FVec F S2048x2048 .f32}
    (h : Cert.Pre_rows_laid_out.fn (F := F) fill dest g xp xs = fun _ => 1#1) : Good fill dest ∧ Covered fill dest := by
  have e := congrFun h (ix1 0 (by decide))
  clear h
  dsimp only [fn, fn_part1, fn_part2, fn_part3, fn_part4, fn_part5] at e
  generalize Host.scatter _ _ _ _ _ = back at e
  obtain ⟨e, hcov⟩ := IntOp.andi_eq_one.1 e
  obtain ⟨e, htail⟩ := IntOp.andi_eq_one.1 e
  obtain ⟨e, hdist⟩ := IntOp.andi_eq_one.1 e
  obtain ⟨e, hhead⟩ := IntOp.andi_eq_one.1 e
  obtain ⟨hrange, hinj⟩ := IntOp.andi_eq_one.1 e
  have hcov := fun i => Host.reduce_andi_all _ _ _ _ _ hcov i
  have hdist := fun i => Host.reduce_andi_all _ _ _ _ _ hdist i
  have hhead := fun i => Host.reduce_andi_all _ _ _ _ _ hhead i
  have hrange := fun i => Host.reduce_andi_all _ _ _ _ _ hrange i
  have hinj := fun i => Host.reduce_andi_all _ _ _ _ _ hinj i
  clear e
  have h1 : ∀ p : Fin 139264, IntOp.cmpi .sge (dest (Shape.Idx.ofFin p)) 0#32 = 1#1 ∧ IntOp.cmpi .slt (dest (Shape.Idx.ofFin p)) 155648#32 = 1#1 := fun p =>
    IntOp.andi_eq_one.1 (hrange (Shape.Idx.ofFin p))
  have h2 : ∀ p q : Fin 139264, dest (Shape.Idx.ofFin p) = dest (Shape.Idx.ofFin q) → p.val = q.val := fun p q hpq => by
    have hp := IntOp.cmpi_eq.1 (hinj (Shape.Idx.ofFin p))
    have hq := IntOp.cmpi_eq.1 (hinj (Shape.Idx.ofFin q))
    rw [take_eq _ rfl rfl rfl rfl _ _ _ _ (by decide)] at hp hq
    simp only [select, cmpi, addi, hpq] at hp
    simp only [select, cmpi, addi] at hq
    have := congrArg BitVec.toNat (hp.symm.trans hq)
    simp only [iota_apply, BitVec.toNat_ofNat] at this
    omega
  have h3 := toInt_small (w := fw fill 32) (n := 304) (by decide) (by
    have := IntOp.cmpi_sge.1 (IntOp.andi_eq_one.1 htail).1
    rw [slice_last] at this; exact this) (by
    have := IntOp.cmpi_sle.1 (IntOp.andi_eq_one.1 htail).2
    rw [slice_last] at this; exact this)
  have hu : used fill ≤ 304 := h3.1
  have h512 : (fw fill 32 * 512#32).toInt = 512 * used fill := by
    have : (fw fill 32 * 512#32).toNat = 512 * used fill := by
      rw [BitVec.toNat_mul]; simp only [BitVec.toNat_ofNat]; unfold used; have := h3.1; omega
    rw [BitVec.toInt_eq_toNat_cond, this, if_pos (by omega)]; simp
  have h4 : ∀ e (he : e < 32), (fw fill e).toInt < 0 ∨ (fw fill e &&& 511#32 = 0#32 ∧ (fw fill e).toInt < 512 * used fill) := fun e he => by
    rcases IntOp.ori_eq_one.1 (hhead (Shape.Idx.ofFin ⟨e, he⟩)) with h | h
    · have h := IntOp.cmpi_slt.1 h
      rw [slice_head] at h; exact Or.inl h
    · obtain ⟨ha, hb⟩ := IntOp.andi_eq_one.1 h
      have ha := IntOp.cmpi_eq.1 ha
      have hb := IntOp.cmpi_slt.1 hb
      refine Or.inr ⟨?_, ?_⟩
      · rw [← slice_head (fill := fill) Facts.slices_S33_S32_0 he]; exact ha
      · rw [slice_head] at hb
        rw [last_times] at hb
        rw [← h512]; exact hb
  have h5 : ∀ e (he : e < 32) e' (he' : e' < 32), (fw fill e).toInt < 0 ∨ fw fill e ≠ fw fill e' ∨ e = e' := fun e he e' he' => by
    have h := hdist (ij ⟨e, he⟩ ⟨e', he'⟩)
    rcases IntOp.ori_eq_one.1 h with h | h
    · rcases IntOp.ori_eq_one.1 h with h | h
      · rw [bcast_of_col] at h
        have h := IntOp.cmpi_slt.1 h
        rw [bcast_col1, slice_head] at h
        exact Or.inl h
      · have h := IntOp.cmpi_ne.1 h
        rw [bcast_rows, bcast_cols, slice_head, slice_head] at h
        exact Or.inr (Or.inl h)
    · have h := IntOp.cmpi_eq.1 h
      rw [bcast_rows, bcast_cols, iota_apply, iota_apply] at h
      have := congrArg BitVec.toNat h
      simp only [BitVec.toNat_ofNat] at this
      refine Or.inr (Or.inr ?_); omega
  have h1' : ∀ a (ha : a < 139264), dw dest a < 155648 := fun a ha => by
    obtain ⟨hl, hr⟩ := h1 ⟨a, ha⟩
    have hl := IntOp.cmpi_sge.1 hl
    have hr := IntOp.cmpi_slt.1 hr
    rw [of_fin] at hl hr
    have := (toInt_small (n := 155647) (by decide) (by simpa using hl) (by
      have : (155648#32 : BitVec 32).toInt = 155648 := by decide
      omega)).1
    unfold dw; rw [dif_pos ha]; omega
  refine ⟨⟨h1', fun a ha b hb h => ?_, hu, fun e he h0 => ?_, fun e he e' he' h0 hh => ?_⟩, fun r hr => ?_⟩
  · refine h2 ⟨a, ha⟩ ⟨b, hb⟩ ?_
    rw [of_fin, of_fin]
    unfold dw at h
    rw [dif_pos ha, dif_pos hb] at h
    exact BitVec.eq_of_toNat_eq h
  · rcases h4 e he with h | ⟨ha, hb⟩
    · omega
    have hn := (toInt_small (n := 155648) (by decide) h0 (by omega)).2
    refine ⟨?_, by omega⟩
    have := congrArg BitVec.toNat ha
    rw [BitVec.toNat_and] at this
    have e511 : (511#32 : BitVec 32).toNat = 2 ^ 9 - 1 := by decide
    rw [e511, Nat.and_two_pow_sub_one_eq_mod] at this
    exact Nat.dvd_of_mod_eq_zero (by simpa using this)
  · rcases h5 e he e' he' with h | h | h
    · omega
    · exact absurd hh h
    · exact h
  · have hrn : (BitVec.ofNat 32 r).toNat = r := by rw [BitVec.toNat_ofNat]; omega
    have hri : (BitVec.ofNat 32 r).toInt = r := toInt_ofNat_small r (by omega)
    rcases IntOp.ori_eq_one.1 (hcov (Shape.Idx.ofFin ⟨r, hr⟩)) with h | h
    · rcases IntOp.ori_eq_one.1 h with h | h
      · have h := IntOp.cmpi_eq.1 h
        rw [take_eq _ rfl rfl rfl rfl _ _ _ _ (by decide), iota_apply] at h
        rw [of_fin] at h
        have key : ∀ (k : ℕ) (hk : k < 139264), dest (ix1 k hk) = BitVec.ofNat 32 r → ∃ a, a < 139264 ∧ dw dest a = r :=
          fun k hk e => ⟨k, hk, by unfold dw; rw [dif_pos hk, e, hrn]⟩
        exact Or.inl (key _ _ h)
      · obtain ⟨i, hi, h⟩ := any_one _ _ _ _ rfl _ h
        have hv := Shape.ReducesTo.drop_apply_val Facts.reducesTo_S155648x32_S155648_d1 i 0
        rw [hi] at hv
        obtain ⟨e, rfl⟩ : ∃ e : Fin 32, i = ij ⟨r, hr⟩ e := ⟨i 1,
          (ij_eta i).symm.trans (congrArg (fun p => ij p (i 1)) (Fin.ext hv.symm))⟩
        obtain ⟨h, hc⟩ := IntOp.andi_eq_one.1 h
        obtain ⟨ha, hb⟩ := IntOp.andi_eq_one.1 h
        have hb := IntOp.cmpi_sle.1 hb
        have hc := IntOp.cmpi_slt.1 hc
        rw [bcast_of_row] at ha
        have ha := IntOp.cmpi_sge.1 ha
        obtain ⟨e, he⟩ := e
        rw [bcast_row1, slice_head] at ha
        rw [bcast_cols, bcast_rows, slice_head, iota_apply, hri] at hb
        rw [bcast_of_row, bcast_rows, iota_apply, hri] at hc
        have hd : (r : ℤ) < (broadcastInDim S1x32 ![1] Facts.bcast_S32_S1x32_1 (extractStridedSlice S32 ![0] fill Facts.slices_S33_S32_0)
            (i1q ⟨e, he⟩) + 512#32).toInt := hc
        rw [bcast_row1, slice_head] at hd
        have ha : (0#32 : BitVec 32).toInt ≤ (fw fill e).toInt := ha
        have h0 : 0 ≤ (fw fill e).toInt := by simpa using ha
        have hs := toInt_small (n := 155648) (by decide) h0 (by omega)
        have hp : (fw fill e + 512#32).toNat = (fw fill e).toNat + 512 := by
          rw [BitVec.toNat_add]; simp only [BitVec.toNat_ofNat]; omega
        rw [BitVec.toInt_eq_toNat_cond, hp, if_pos (by omega)] at hd
        exact Or.inr (Or.inl ⟨e, he, h0, by omega, by omega⟩)
    · have h := IntOp.cmpi_sge.1 h
      rw [iota_apply, hri] at h
      rw [last_times, h512] at h
      exact Or.inr (Or.inr (by omega))

end Cert.KernelIdeal.Hand

end
-- ==== Proof.Rows.lean ====
/-
  The reference's result read at an index: a row that an assignment names holds the scaled row of its token, any other
  row holds zero.
-/
module

public import proofs.«01_k».proof.Proof.Gen.ReferenceIdeal.Read
public import Idealize.ShloMosaic.Lib.Routing.OpsSet
public import Idealize.ShloMosaic.Lib.Routing.OpsOne
public import Idealize.ShloMosaic.Lib.Affine

@[expose] public section

noncomputable section

namespace Cert.ReferenceIdeal.Hand

open Cert.ReferenceIdeal Cert.ReferenceIdeal.Gen Cert.ReferenceIdeal.Read
open Idealize.ShloMosaic Idealize.ShloMosaic.ValueIdx Idealize.ShloMosaic.Routing

/-- A row over the root of its mean square, times the gain. -/
def nrm (x g : Fin 2048 → EReal) (j : Fin 2048) : EReal :=
  x j * Ideal.rsqrt (Ideal.div (∑ k, x k * x k) (Ideal.ofBits .f32 0x45000000#32) + Ideal.ofBits .f32 0x358637BD#32) * g j

/-- Token `t`'s row of the two token arrays laid one after the other. -/
def tok (x3 : (⟨S32768x2048, .f32⟩ : BufTy).Contents (Elt Ideal)) (x4 : (⟨S2048x2048, .f32⟩ : BufTy).Contents (Elt Ideal))
    (t : Fin 34816) (k : Fin 2048) : EReal :=
  if h : t.val < 32768 then x3 (ix2 (⟨t.val, h⟩ : Fin 32768) k) else x4 (ix2 (⟨t.val - 32768, by omega⟩ : Fin 2048) k)

variable (x1 : (⟨S139264, .i32⟩ : BufTy).Contents (Elt Ideal)) (x2 : (⟨S2048, .f32⟩ : BufTy).Contents (Elt Ideal))
  (x3 : (⟨S32768x2048, .f32⟩ : BufTy).Contents (Elt Ideal)) (x4 : (⟨S2048x2048, .f32⟩ : BufTy).Contents (Elt Ideal))

theorem joined (t : Fin 34816) (k : Fin 2048) : val_main_v0 (F := Ideal) x3 x4 (ix2 t k) = tok x3 x4 t k := by
  unfold val_main_v0 tok
  split
  · next h =>
    exact concatenate_pair_apply_left (t := S34816x2048) (s₁ := S32768x2048) (s₂ := S2048x2048) 0 x3 x4 _ (ix2 t k) rfl
      (ix2 (⟨t.val, h⟩ : Fin 32768) k) (fun b => match b with | ⟨0, _⟩ => rfl | ⟨1, _⟩ => rfl)
  · next h =>
    refine concatenate_pair_apply_right (t := S34816x2048) (s₁ := S32768x2048) (s₂ := S2048x2048) 0 x3 x4 _ (ix2 t k) rfl rfl
      (ix2 (⟨t.val - 32768, by omega⟩ : Fin 2048) k) (fun b hb => ?_) ?_
    · match b with
      | ⟨0, _⟩ => exact absurd rfl hb
      | ⟨1, _⟩ => rfl
    · show t.val - 32768 + 32768 = t.val
      omega

/-- A token's scaled row. -/
theorem scaled (t : Fin 34816) (j : Fin 2048) :
    val_main_v13 (F := Ideal) x2 x3 x4 (ix2 t j) = nrm (tok x3 x4 t) (fun k => x2 (ix1 k)) j := by
  have e : ∀ k, idx_main_v2 (idx_main_v3 (idx_main_v9 (ix2 t j))) k = ix2 t k := fun k =>
    funext fun a => match a with | ⟨0, _⟩ => rfl | ⟨1, _⟩ => rfl
  have eg : idx_main_v11 (idx_main_v12 (ix2 t j)) = ix1 j := funext fun a => match a with | ⟨0, _⟩ => rfl
  simp only [val_main_v13_apply, val_main_v10_apply, val_main_v9_apply, val_main_v8_apply, val_main_v7_apply, val_main_v6_apply, val_main_v5_apply,
    val_main_v4_apply, val_main_v3_apply, val_main_v2_apply, val_main_v1_apply, val_main_v11_apply, val_main_v12_apply, val_main_cst_apply,
    val_main_cst_0_apply, val_main_cst_1_apply, e, eg, joined]
  unfold nrm
  simp only [Ideal.mulf_def, Ideal.addf_def, Ideal.hostDivf_def, Ideal.hostUnary_rsqrt_def, Ideal.ofBits_def, Ideal.ofBits_zero_f32, zero_add]

/-- The row an assignment carries is its token's. -/
theorem carried (a : Fin 139264) (j : Fin 2048) :
    val_main_v16 (F := Ideal) x2 x3 x4 (ix2 a j) = nrm (tok x3 x4 ⟨a.val / 4, by omega⟩) (fun k => x2 (ix1 k)) j := by
  have e : idx_main_v15 (idx_main_v16 (ix2 a j)) = ix2 (⟨a.val / 4, by omega⟩ : Fin 34816) j := by
    funext b
    apply Fin.ext
    match b with
    | ⟨0, _⟩ => show (a.val * 2048 + j.val) / 8192 = a.val / 4; omega
    | ⟨1, _⟩ => show (a.val * 2048 + j.val) % 2048 = j.val; omega
  rw [val_main_v16_apply, val_main_v15_apply, e, scaled]

/-- The row word of an assignment, when it is not negative. -/
theorem word (a : Fin 139264) (h : 0 ≤ (x1 (ix1 a)).toInt) : val_main_v22 (F := Ideal) x1 (ix2 a (0 : Fin 1)) = x1 (ix1 a) := by
  have e : idx_main_v22 (ix2 a (0 : Fin 1)) = ix1 a := funext fun b => match b with | ⟨0, _⟩ => rfl
  rw [val_main_v22_apply, e, val_main_v21_apply, val_main_v18_apply, val_main_v17_apply, val_main_c_apply]
  have hn : IntOp.cmpi .slt (x1 (ix1 a)) 0#32 ≠ 1#1 := fun q => by
    have := IntOp.cmpi_slt.1 q
    simp at this; omega
  first | exact if_neg hn | (unfold Scalar.select; exact if_neg hn)

abbrev D := scatter_S155648x2048_S139264x1_S139264x2048_1_0_0_1

theorem lands (idx : IVec S139264x1 32) (a : Fin 139264) (j : Fin 2048) (r : Fin 155648) (x : Fin 2048) :
    D.resultIdx? (ix2 a j) idx = some (ix2 r x) ↔ (idx (ix2 a (0 : Fin 1))).toInt = (r.val : Int) ∧ j.val = x.val := by
  have hs0 : D.start (ix2 a j) idx 0 = (idx (ix2 a (0 : Fin 1))).toInt := by
    unfold ScatterDims.start
    refine (dif_pos (show (0 : Fin 2) ∈ [(0 : Fin 2)] by decide)).trans ?_
    refine congrArg (fun q => (idx q).toInt) (funext fun b => Fin.ext ?_)
    match b with
    | ⟨0, _⟩ => rfl
    | ⟨1, _⟩ => rfl
  have hs1 : D.start (ix2 a j) idx 1 = 0 := dif_neg (show ¬ (1 : Fin 2) ∈ [(0 : Fin 2)] by decide)
  have hw0 : D.window (ix2 a j) 0 = 0 := dif_neg (show ¬ (0 : Fin 2) ∈ S155648x2048.kept [0] by decide)
  have hw1 : D.window (ix2 a j) 1 = j.val := (dif_pos (show (1 : Fin 2) ∈ S155648x2048.kept [0] by decide)).trans rfl
  rw [resultIdx?_ix2, hs0, hs1, hw0, hw1]
  omega

/-- A row an assignment names, and no other assignment does. -/
theorem placed {a : Fin 139264} {r : Fin 155648} (x : Fin 2048) (hr : ∀ b : Fin 139264, 0 ≤ (x1 (ix1 b)).toInt)
    (hu : ∀ b : Fin 139264, (x1 (ix1 b)).toInt = (r.val : Int) ↔ b = a) :
    val_main_v23 (F := Ideal) x1 x2 x3 x4 (ix2 r x) = nrm (tok x3 x4 ⟨a.val / 4, by omega⟩) (fun k => x2 (ix1 k)) x := by
  unfold val_main_v23
  refine scatter_set_hit D _ _ _ _ _ (fun k hk => ?_) (ix2 a x) ?_
  · obtain ⟨b, j, rfl⟩ : ∃ (b : Fin 139264) (j : Fin 2048), k = ix2 b j := ⟨_, _, eq_ix2 k⟩
    obtain ⟨h1, h2⟩ := (lands _ b j r x).1 hk
    rw [word _ _ (hr b)] at h1
    obtain rfl := (hu b).1 h1
    obtain rfl := Fin.ext h2
    exact carried x2 x3 x4 _ _
  · refine (lands _ a x r x).2 ⟨?_, rfl⟩
    rw [word _ _ (hr a)]
    exact (hu a).2 rfl

/-- A row no assignment names. -/
theorem unplaced {r : Fin 155648} (x : Fin 2048) (hr : ∀ b : Fin 139264, 0 ≤ (x1 (ix1 b)).toInt)
    (hu : ∀ b : Fin 139264, (x1 (ix1 b)).toInt ≠ (r.val : Int)) :
    val_main_v23 (F := Ideal) x1 x2 x3 x4 (ix2 r x) = Ideal.ofBits .f32 0x00000000#32 := by
  unfold val_main_v23
  rw [scatter_set_miss D _ _ _ _ (fun k hk => ?_), val_main_v14_apply, val_main_cst_2_apply]
  · rfl
  · obtain ⟨b, j, rfl⟩ : ∃ (b : Fin 139264) (j : Fin 2048), k = ix2 b j := ⟨_, _, eq_ix2 k⟩
    obtain ⟨h1, -⟩ := (lands _ b j r x).1 hk
    rw [word _ _ (hr b)] at h1
    exact hu b h1

end Cert.ReferenceIdeal.Hand

end
-- ==== Proof.Value.lean ====
/-
  What the kernel leaves is what the reference returns, at the ideal values.
-/
module

public import proofs.«01_k».proof.Proof.Run
public import proofs.«01_k».proof.Proof.Rows
public import Idealize.ShloMosaic.Lib.Pointwise
public import Idealize.ShloMosaic.Lib.Pipeline.ValueKit.Geometry
public import Idealize.ShloMosaic.Lib.Pipeline.ValueKit.Point

@[expose] public section

noncomputable section

namespace Cert.KernelIdeal.Hand

open Cert.KernelIdeal Cert.KernelIdeal.Gen
open Idealize.ShloMosaic Idealize.ShloMosaic.TcCoe Idealize.ShloMosaic.Tactic
open Cert.ReferenceIdeal.Hand (nrm tok)

theorem pay_read (x : S512x2048.Idx → EReal) (g : S1x2048.Idx → EReal) (r : ℕ) (hr : r < 512) (j : Fin 2048) :
    k0_pay1 (F := Ideal) x g (px r hr j) = nrm (fun k => x (ValueIdx.ix2 (⟨r, hr⟩ : Fin 512) k)) (fun k => g (ValueIdx.ix2 (0 : Fin 1) k)) j := by
  unfold nrm
  pointwise [k0_pay1, px]
  rfl

theorem pay_same (x : S512x2048.Idx → EReal) (g : S1x2048.Idx → EReal) : k0_pay2 (F := Ideal) x g = k0_pay1 (F := Ideal) x g := rfl

theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = min t.val 63 ∧ win0_3.index t (1 : Fin 2) = 0 := (by decide +kernel : ∀ t : Fin grid0.N, _)
theorem idx4 : ∀ t : Fin cfg0.N, win0_4.index t (0 : Fin 2) = t.val - 64 ∧ win0_4.index t (1 : Fin 2) = 0 := (by decide +kernel : ∀ t : Fin grid0.N, _)

variable (m : (ℓ : Loc nD τ sig) → Buf (Elt Ideal) ℓ) (c : Dev nD)

theorem blk3 (t : Fin cfg0.N) (ht : t.val < 64) (r : Fin 512) (k : Fin 2048) :
    (iblk m c 3 t : S512x2048.Idx → EReal) (ValueIdx.ix2 r k)
      = (m ((c.tc : Thread nD τ).loc main_arg3) : S32768x2048.Idx → EReal) (ValueIdx.ix2 (⟨512 * t.val + r.val, by omega⟩ : Fin 32768) k) := by
  rw [← V_main_arg3 m c]
  blk_simp [iblk]
  congr 1
  blk_ext [(idx3 t).1, (idx3 t).2]
  show min t.val 63 * 512 + r.val = _
  omega

theorem blk4 (t : Fin cfg0.N) (ht : 64 ≤ t.val) (r : Fin 512) (k : Fin 2048) :
    (iblk m c 4 t : S512x2048.Idx → EReal) (ValueIdx.ix2 r k)
      = (m ((c.tc : Thread nD τ).loc main_arg4) : S2048x2048.Idx → EReal)
          (ValueIdx.ix2 (⟨512 * (t.val - 64) + r.val, by have : t.val < 68 := t.isLt; omega⟩ : Fin 2048) k) := by
  rw [← V_main_arg4 m c]
  blk_simp [iblk]
  congr 1
  blk_ext [(idx4 t).1, (idx4 t).2]
  show (t.val - 64) * 512 + r.val = _
  omega

theorem blk2 (t : Fin cfg0.N) (k : Fin 2048) :
    (iblk m c 2 t : S1x2048.Idx → EReal) (ValueIdx.ix2 (0 : Fin 1) k)
      = (m ((c.tc : Thread nD τ).loc main_arg2) : S2048.Idx → EReal) (ValueIdx.ix1 k) := by
  blk_simp [iblk]
  entry_read
  pointwise
  blk_ext [(idx2 t).1, (idx2 t).2]

theorem ix1_same {n : ℕ} (j : ℕ) (h : j < n) : ix1 j h = ValueIdx.ix1 (⟨j, h⟩ : Fin n) := funext fun a => match a with | ⟨0, _⟩ => rfl

/-- A tile's scaled rows are its tokens'. -/
theorem pay_row (a : ℕ) (ha : a < 139264) (x : Fin 2048) :
    payOf m c (a / 2048) (px (a % 2048 / 4) (row_lt a) x)
      = nrm (tok (m ((c.tc : Thread nD τ).loc main_arg3)) (m ((c.tc : Thread nD τ).loc main_arg4)) ⟨a / 4, by omega⟩)
          (fun k => (m ((c.tc : Thread nD τ).loc main_arg2) : S2048.Idx → EReal) (ValueIdx.ix1 k)) x := by
  have hn : a / 2048 < 68 := by omega
  have hN : a / 2048 < cfg0.N := hn
  by_cases h : a / 2048 < 64
  · rw [show a / 2048 = (⟨a / 2048, hN⟩ : Fin cfg0.N).val from rfl, pay_first m c ⟨a / 2048, hN⟩ h, pay_read]
    refine congrArg₂ (fun f g => nrm f g x) (funext fun k => ?_) (funext fun k => blk2 m c _ k)
    rw [blk3 m c ⟨a / 2048, hN⟩ h]
    unfold tok
    rw [dif_pos (show a / 4 < 32768 by omega)]
    refine congrArg (fun q => (m ((c.tc : Thread nD τ).loc main_arg3) : S32768x2048.Idx → EReal) (ValueIdx.ix2 q k)) (Fin.ext ?_)
    show 512 * (a / 2048) + a % 2048 / 4 = a / 4
    omega
  · rw [show a / 2048 = (⟨a / 2048, hN⟩ : Fin cfg0.N).val from rfl, pay_second m c ⟨a / 2048, hN⟩ (by show 64 ≤ a / 2048; omega), pay_same, pay_read]
    refine congrArg₂ (fun f g => nrm f g x) (funext fun k => ?_) (funext fun k => blk2 m c _ k)
    rw [blk4 m c ⟨a / 2048, hN⟩ (by show 64 ≤ a / 2048; omega)]
    unfold tok
    rw [dif_neg (show ¬ a / 4 < 32768 by omega)]
    refine congrArg (fun q => (m ((c.tc : Thread nD τ).loc main_arg4) : S2048x2048.Idx → EReal) (ValueIdx.ix2 q k)) (Fin.ext ?_)
    show 512 * (a / 2048 - 64) + a % 2048 / 4 = a / 4 - 32768
    omega

/-- Where no assignment's row is, the row was cleared. -/
theorem base_zero {fill : S33.Idx → BitVec 32} {dest : S139264.Idx → BitVec 32} (hg : Good fill dest) (hc : Covered fill dest) (V : OBuf Ideal) (r : Fin 155648)
    (x : Fin 2048) (h : ¬ ∃ a < 139264, dw dest a = r.val) : base fill V (ValueIdx.ix2 r x) = zv := by
  have hr := r.isLt
  have ht := hg.tail
  unfold base cleared
  by_cases h1 : ((ValueIdx.ix2 r x : S155648x2048.Idx) 0).val / 512 ∈ tailOf fill
  · rw [if_pos h1]
  rw [if_neg h1]
  refine if_pos ?_
  rcases hc r.val hr with q | ⟨e, he, h0, hl, hu⟩ | q
  · exact absurd q h
  · obtain ⟨⟨k, hk⟩, -⟩ := hg.head e he h0
    refine List.mem_map.2 ⟨e, List.mem_filter.2 ⟨List.mem_range.2 he, decide_eq_true h0⟩, ?_⟩
    show (fw fill e).toNat / 512 = r.val / 512
    omega
  · refine absurd ?_ h1
    refine List.mem_map.2 ⟨r.val / 512 - used fill, List.mem_range.2 (by omega), ?_⟩
    show used fill + (r.val / 512 - used fill) = r.val / 512
    omega

/-- The kernel's result is the reference's. -/
theorem result_eq (hg : Good (fillOf m c) (destOf m c)) (hc : Covered (fillOf m c) (destOf m c)) :
    resultOf m c = Cert.ReferenceIdeal.Read.val_main_v23 (F := Ideal) (m ((c.tc : Thread nD τ).loc main_arg1)) (m ((c.tc : Thread nD τ).loc main_arg2))
      (m ((c.tc : Thread nD τ).loc main_arg3)) (m ((c.tc : Thread nD τ).loc main_arg4)) := by
  funext y
  obtain ⟨r, x, rfl⟩ : ∃ (r : Fin 155648) (x : Fin 2048), y = ValueIdx.ix2 r x := ⟨_, _, ValueIdx.eq_ix2 y⟩
  have hw : ∀ b : Fin 139264, ((m ((c.tc : Thread nD τ).loc main_arg1) : S139264.Idx → BitVec 32) (ValueIdx.ix1 b)).toInt = (dw (destOf m c) b.val : ℤ) := by
    intro b
    have hb := hg.dest_lt b.val b.isLt
    have e : dw (destOf m c) b.val = ((m ((c.tc : Thread nD τ).loc main_arg1) : S139264.Idx → BitVec 32) (ValueIdx.ix1 b)).toNat := by
      unfold dw destOf; rw [dif_pos b.isLt, ix1_same]
    rw [e] at hb ⊢
    exact StableHlo.Predicate.toInt_eq_toNat_of_lt (by omega)
  have h0 : ∀ b : Fin 139264, 0 ≤ ((m ((c.tc : Thread nD τ).loc main_arg1) : S139264.Idx → BitVec 32) (ValueIdx.ix1 b)).toInt := fun b => by rw [hw]; omega
  by_cases h : ∃ a < 139264, dw (destOf m c) a = r.val
  · obtain ⟨a, ha, e⟩ := h
    unfold resultOf
    rw [total_at hg ha (y := ValueIdx.ix2 r x) e]
    refine (pay_row m c a ha x).trans (Cert.ReferenceIdeal.Hand.placed (a := ⟨a, ha⟩) _ _ _ _ x h0 fun b => ?_).symm
    rw [hw]
    constructor
    · intro q
      exact Fin.ext (hg.dest_inj _ b.isLt _ ha ((Int.ofNat.inj q).trans e.symm))
    · rintro rfl; rw [e]
  · unfold resultOf
    rw [total_not (y := ValueIdx.ix2 r x) h, base_zero hg hc _ r x h]
    refine (Cert.ReferenceIdeal.Hand.unplaced _ _ _ _ x h0 fun b q => ?_).symm
    rw [hw] at q
    exact h ⟨b.val, b.isLt, Int.ofNat.inj q⟩

end Cert.KernelIdeal.Hand

end
-- ==== Proof.Same.lean ====
/-
  The dispatch: its two readings are one program.
-/
module

public import proofs.«01_k».proof.Proof.Gen.Kernel
public import proofs.«01_k».proof.Proof.Gen.KernelIdeal
public import Idealize.ShloMosaic.PureOps.BitExact

@[expose] public section

noncomputable section

namespace Cert.Proof

open Idealize.ShloMosaic Idealize.ShloMosaic.TcCoe Idealize.SL.Sem

set_option maxHeartbeats 4000000 in
set_option maxRecDepth 100000 in
set_option smartUnfolding false in
/-- The kernel and its ideal reading are one program text, so at the bits they are the same program. -/
theorem same_defs : Cert.Kernel.defs (F := Bits) = Cert.KernelIdeal.defs (F := Bits) := rfl

end Cert.Proof

end
-- ==== Proof.FfnSame.lean ====
/-
  The experts call: its two readings are one program.
-/
module

public import proofs.«01_k».proof.Proof.Gen.Kernel2
public import proofs.«01_k».proof.Proof.Gen.Kernel2Ideal
public import Idealize.ShloMosaic.PureOps.BitExact

@[expose] public section

noncomputable section

namespace Cert.Proof

open Idealize.ShloMosaic Idealize.ShloMosaic.TcCoe Idealize.SL.Sem

set_option maxHeartbeats 4000000 in
set_option maxRecDepth 100000 in
set_option smartUnfolding false in
/-- As for the dispatch: one program text, so the same program at the bits. -/
theorem same_defs_ffn : Cert.Kernel2.defs (F := Bits) = Cert.Kernel2Ideal.defs (F := Bits) := rfl

end Cert.Proof

end
-- ==== Proof.FfnSteps.lean ====
/-
  The experts call: one step of its body at a time, over the buffers a grid point holds.
-/
module

public import proofs.«01_k».proof.Proof.Gen.Kernel2Ideal
public import proofs.«01_k».proof.Proof.Gen.Kernel2Ideal.Launch
public import Idealize.ShloMosaic.Lib.Pipeline.Frame

@[expose] public section

noncomputable section

namespace Cert.Kernel2Ideal.Hand

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a body. -/
abbrev Wp (c : Dev nD) {α : Type} (p : Prog (TpuEff nD τ sig (Elt F) Λ₀ .tc) α) (Q : α → sProp 𝕄) : sProp 𝕄 :=
  wp frame (wpE (defs₀ (F := F)) Variants.none c none) Set.univ p Q

/-- Part of a buffer at the launch's elements. -/
abbrev part {sh : Shape} {e : EltTy} (r : Rect sh) (X : sh.Idx → Elt F e) : r.shape.Idx → Elt F e := fun x => X (r.emb x)

theorem emb_full {sh : Shape} {off : Fin sh.rank → ℕ} {inb : ∀ a, off a + sh.size a ≤ sh.size a} (h0 : ∀ a, off a = 0) (x : sh.Idx) :
    (Rect.unit (s := sh) off sh.size inb).emb x = x := by
  funext a; refine Fin.ext ?_
  show off a + 1 * (x a).val = (x a).val
  rw [h0 a]; omega

theorem zero2 : ∀ a, (![0, 0] : Fin 2 → ℕ) a = 0 := by intro a; fin_cases a <;> rfl
theorem zero3 : ∀ a, (![0, 0, 0] : Fin 3 → ℕ) a = 0 := by intro a; fin_cases a <;> rfl

/-- A load out of a buffer that is part of what is held. -/
theorem ld {c : Dev nD} {α : Type} {cs : CoreSpace} {sh : Shape} {e : EltTy} {m : Memref sig .tc cs sh e} {r : Rect sh} {hl : m.view.LoadsAt r.toLoadRect}
    {k : (r.shape.Idx → Elt F e) → Prog (TpuEff nD τ sig (Elt F) Λ₀ .tc) α} {q : PosShare TreeShare} {X : sh.Idx → Elt F e} {Y : r.shape.Idx → Elt F e}
    {P R : sProp 𝕄} {Q : α → sProp 𝕄} (hP : P ⊣⊢ iprop(owns (c : Thread nD τ) m q X ∗ R)) (hY : part r X = Y)
    (h : P ⊢ Wp c (k Y) Q) : P ⊢ Wp c (Prog.lift (TpuEff.load m r.toLoadRect hl) >>= k) Q := by
  refine hP.1.trans ?_
  have h' := hP.2.trans h
  unfold owns at h' ⊢
  iintro ⟨⟨%f, %hf, Hf⟩, HR⟩
  have hs : (m.access r).set ⊆ m.view.set := View.set_slice m.view r ▸ View.setOn_subset_set _ _
  have hread : (m.access r).read (Elt F) f = Y := by
    rw [← hY]; funext x
    show _ = X (r.emb x)
    rw [← hf]; rfl
  iapply (wp_load_rect (defs := defs₀ (F := F)) Variants.none (c : Thread nD τ) none Set.univ (m := m) (r := r) (hl := hl) (k := k) (Q := Q) (q := q) (f := f) hs) $$ Hf
  iintro Hf
  rw [hread]
  iapply h'
  isplitl [Hf]
  · iexists f
    isplitr [Hf]
    · ipureintro; exact hf
    · iexact Hf
  · iexact HR

/-- What a store leaves. -/
structure Stored {sh : Shape} {e : EltTy} (r : Rect sh) (w : r.shape.Idx → Elt F e) (X X' : sh.Idx → Elt F e) : Prop where
  on : part r X' = w
  off : ∀ y, y ∉ r.set → X' y = X y

/-- A store into a buffer that is part of what is held. -/
theorem st {c : Dev nD} {α : Type} {cs : CoreSpace} {sh : Shape} {e : EltTy} {m : Memref sig .tc cs sh e} {r : Rect sh} {w : r.shape.Idx → Elt F e}
    {hx : (m.access r).Stores Finset.univ} {hm : Finset.univ = (Finset.univ : Finset r.shape.Idx) ∨ ∀ a, r.stride a = 1}
    {k : PUnit → Prog (TpuEff nD τ sig (Elt F) Λ₀ .tc) α} {X : sh.Idx → Elt F e}
    {P : (sh.Idx → Elt F e) → sProp 𝕄} {R : sProp 𝕄} {Q : α → sProp 𝕄} (hP : ∀ X, P X ⊣⊢ iprop(owns (c : Thread nD τ) m fullShare X ∗ R))
    (h : ∀ X', Stored r w X X' → P X' ⊢ Wp c (k ⟨⟩) Q) : P X ⊢ Wp c (Prog.lift (TpuEff.store m r w Finset.univ hx hm) >>= k) Q := by
  refine (hP X).1.trans ?_
  have h' := fun X' hX => (hP X').2.trans (h X' hX)
  unfold owns at h' ⊢
  iintro ⟨⟨%f, %hf, Hf⟩, HR⟩
  have hs : (m.access r).set ⊆ m.view.set := View.set_slice m.view r ▸ View.setOn_subset_set _ _
  iapply (wp_store (defs := defs₀ (F := F)) Variants.none (c : Thread nD τ) none Set.univ (m := m) (r := r) (w := w) (hx := hx) (hm := hm) (k := k) (Q := Q) (f := f) hs) $$ Hf
  iintro Hf
  iapply (h' (m.view.read (Elt F) ((m.access r).write (Elt F) f w Finset.univ)) ⟨?_, ?_⟩)
  · funext x
    exact View.read_slice_write_emb (v := m.view) (Val := Elt F) r f w (Finset.mem_univ x)
  · intro y hy
    rw [← hf]
    exact View.read_slice_write_of_not_mem (v := m.view) (Val := Elt F) r f w Finset.univ (by rwa [Rect.map_emb_univ])
  isplitl [Hf]
  · iexists _
    isplitr [Hf]
    · ipureintro; rfl
    · iexact Hf
  · iexact HR

theorem wd {c : Dev nD} {α : Type} {sh : Shape} {m : Memref sig .tc .smem sh .i32} {q : PosShare TreeShare}
    {X : sh.Idx → Elt F .i32} {r : Rect sh} {hl : (m.access r).Loads} {x : r.shape.Idx}
    {k : Elt F .i32 → Prog (TpuEff nD τ sig (Elt F) Λ₀ .tc) α} {P R : sProp 𝕄} {Q : α → sProp 𝕄}
    (hP : P ⊣⊢ iprop(owns (c : Thread nD τ) m q X ∗ R)) (h : P ⊢ Wp c (k (X (r.emb x))) Q) : P ⊢ Wp c (smemLoadElt m r hl x k) Q := by
  refine hP.1.trans ?_
  have h' := hP.2.trans h
  have hs : (m.access r).set ⊆ m.view.set := by
    rw [View.set_slice]; exact View.setOn_subset_set _ _
  unfold owns at h' ⊢
  iintro ⟨⟨%f, %hf, Hf⟩, HR⟩
  iapply (wp_smemLoadElt Variants.none (c : Thread nD τ) none Set.univ hs) $$ Hf
  rw [show (m.access r).read (Elt F) f x = X (r.emb x) from congrFun hf (r.emb x)]
  iintro Hf
  iapply h'
  isplitl [Hf]
  · iexists f
    isplitr
    · ipureintro; exact hf
    · iexact Hf
  · iexact HR

/-- The same, of a whole `memref.load` and the word known. -/
theorem word {c : Dev nD} {α : Type} {sh : Shape} {m : Memref sig .tc .smem sh .i32} {q : PosShare TreeShare}
    {X : sh.Idx → Elt F .i32} {r : Rect sh} {h1 : r.shape.numel = 1} {hp : (EltTy.i32).packing = 1} {w : Elt F .i32}
    {k : Elt F .i32 → Prog (TpuEff nD τ sig (Elt F) Λ₀ .tc) α} {P R : sProp 𝕄} {Q : α → sProp 𝕄}
    (hP : P ⊣⊢ iprop(owns (c : Thread nD τ) m q X ∗ R)) (hw : ∀ x, X (r.emb x) = w) (h : P ⊢ Wp c (k w) Q) :
    P ⊢ Wp c (smemLoad m r h1 hp >>= k) Q := by
  show P ⊢ Wp c (smemLoadElt m r (View.loads_smem_one hp h1) (Shape.Idx.first (h1.symm ▸ Nat.one_pos)) k) Q
  exact wd hP (by rw [hw]; exact h)

/-- A store to the whole buffer leaves the value stored. -/
theorem Stored.full {sh : Shape} {e : EltTy} {off : Fin sh.rank → ℕ} {inb : ∀ a, off a + sh.size a ≤ sh.size a} {w X X' : sh.Idx → Elt F e}
    (h0 : ∀ a, off a = 0) (h : Stored (Rect.unit (s := sh) off sh.size inb) w X X') : X' = w := by
  rw [← h.on]; funext x
  exact congrArg X' (emb_full h0 x).symm

theorem part_full {sh : Shape} {e : EltTy} {off : Fin sh.rank → ℕ} {inb : ∀ a, off a + sh.size a ≤ sh.size a} {X : sh.Idx → Elt F e}
    (h0 : ∀ a, off a = 0) : part (Rect.unit (s := sh) off sh.size inb) X = X := by
  funext x; exact congrArg X (emb_full h0 x)

theorem ends {c : Dev nD} {α : Type} {x : α} {P : sProp 𝕄} {Q : α → sProp 𝕄} (h : P ⊢ Q x) : P ⊢ Wp c (Prog.ret x) Q := h.trans (le_wp_ret _ _ _ _ _)

end Cert.Kernel2Ideal.Hand

end
-- ==== Proof.FfnBody.lean ====
/-
  The experts call: what its body does at a grid point, in each of the cases the two words it reads leave open.
-/
module

public import proofs.«01_k».proof.Proof.FfnSteps

@[expose] public section

noncomputable section

namespace Cert.Kernel2Ideal.Hand

open Cert.Kernel2Ideal Cert.Kernel2Ideal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What it computes -/

/-- The rows the first product reads. -/
def hF (x : S512x2048.Idx → Elt F .f32) : S512x2048.Idx → Elt F .bf16 :=
  shapeCast S512x2048 (truncf .bf16 (x : FVec F S512x2048 .f32) bitsLt_bf16_f32) shapeCasts_S512x2048_S512x2048
/-- An empty sum. -/
def zF : S512x2048.Idx → Elt F .f32 :=
  shapeCast S512x2048 (broadcast S512x2048 (Scalar.ofBits .f32 0x00000000#32 : F .f32)) shapeCasts_S512x2048_S512x2048
/-- One of the two first products, its bias added. -/
def linF (h : S512x2048.Idx → Elt F .bf16) (w : S1x2048x1024.Idx → Elt F .f32) (b : S1x1x1024.Idx → Elt F .f32) : FVec F S512x1024 .f32 :=
  addf (matmul dot_S512x2048_S2048x1024_S512x1024_1_0_0_1_n_n none (h : FVec F S512x2048 .bf16) (shapeCast S2048x1024 (w : FVec F S1x2048x1024 .f32) shapeCasts_S1x2048x1024_S2048x1024 : FVec F S2048x1024 .f32) (constant S512x1024 .f32 0x00000000#32))
    (broadcastTo S512x1024 (shapeCast S1x1024 (b : FVec F S1x1x1024 .f32) shapeCasts_S1x1x1024_S1x1024 : FVec F S1x1024 .f32) broadcasts_S1x1024_S512x1024)
/-- The gate's value, clipped from above. -/
def gateF (h : S512x2048.Idx → Elt F .bf16) (w : S1x2048x1024.Idx → Elt F .f32) (b : S1x1x1024.Idx → Elt F .f32) : FVec F S512x1024 .f32 :=
  minimumf (linF h w b) (broadcast S512x1024 (Scalar.ofBits .f32 0x40E00000#32 : F .f32))
/-- The linear part, clipped from both sides. -/
def clipF (h : S512x2048.Idx → Elt F .bf16) (w : S1x2048x1024.Idx → Elt F .f32) (b : S1x1x1024.Idx → Elt F .f32) : FVec F S512x1024 .f32 :=
  minimumf (broadcast S512x1024 (Scalar.ofBits .f32 0x40E00000#32 : F .f32)) (maximumf (broadcast S512x1024 (Scalar.ofBits .f32 0xC0E00000#32 : F .f32)) (linF h w b))
/-- The activations. -/
def actF (h : S512x2048.Idx → Elt F .bf16) (wg wu : S1x2048x1024.Idx → Elt F .f32) (bg bu : S1x1x1024.Idx → Elt F .f32) : FVec F S512x1024 .bf16 :=
  truncf .bf16 (mulf (mulf (addf (clipF h wu bu) (broadcast S512x1024 (Scalar.ofBits .f32 0x3F800000#32 : F .f32))) (gateF h wg bg))
    (logistic (mulf (broadcast S512x1024 (Scalar.ofBits .f32 0x3FD9DB23#32 : F .f32)) (gateF h wg bg)))) bitsLt_bf16_f32
/-- The sum, one chunk further. -/
def sumF (a : S512x2048.Idx → Elt F .f32) (t : FVec F S512x1024 .bf16) (w : S1x1024x2048.Idx → Elt F .f32) : S512x2048.Idx → Elt F .f32 :=
  shapeCast S512x2048 (addf (a : FVec F S512x2048 .f32) (matmul dot_S512x1024_S1024x2048_S512x2048_1_0_0_1_n_n none t (shapeCast S1024x2048 (w : FVec F S1x1024x2048 .f32) shapeCasts_S1x1024x2048_S1024x2048 : FVec F S1024x2048 .f32) (constant S512x2048 .f32 0x00000000#32)))
    shapeCasts_S512x2048_S512x2048
/-- The result. -/
def resF (a : S512x2048.Idx → Elt F .f32) (b : S1x1x2048.Idx → Elt F .f32) : S512x2048.Idx → Elt F .f32 :=
  addf (a : FVec F S512x2048 .f32) (broadcastTo S512x2048 (shapeCast S1x2048 (b : FVec F S1x1x2048 .f32) shapeCasts_S1x1x2048_S1x2048 : FVec F S1x2048 .f32) broadcasts_S1x2048_S512x2048)

/-- The rows the first product reads. -/
def hH (x : S256x2048.Idx → Elt F .f32) : S256x2048.Idx → Elt F .bf16 :=
  shapeCast S256x2048 (truncf .bf16 (x : FVec F S256x2048 .f32) bitsLt_bf16_f32) shapeCasts_S256x2048_S256x2048
/-- An empty sum. -/
def zH : S256x2048.Idx → Elt F .f32 :=
  shapeCast S256x2048 (broadcast S256x2048 (Scalar.ofBits .f32 0x00000000#32 : F .f32)) shapeCasts_S256x2048_S256x2048
/-- One of the two first products, its bias added. -/
def linH (h : S256x2048.Idx → Elt F .bf16) (w : S1x2048x1024.Idx → Elt F .f32) (b : S1x1x1024.Idx → Elt F .f32) : FVec F S256x1024 .f32 :=
  addf (matmul dot_S256x2048_S2048x1024_S256x1024_1_0_0_1_n_n none (h : FVec F S256x2048 .bf16) (shapeCast S2048x1024 (w : FVec F S1x2048x1024 .f32) shapeCasts_S1x2048x1024_S2048x1024 : FVec F S2048x1024 .f32) (constant S256x1024 .f32 0x00000000#32))
    (broadcastTo S256x1024 (shapeCast S1x1024 (b : FVec F S1x1x1024 .f32) shapeCasts_S1x1x1024_S1x1024 : FVec F S1x1024 .f32) broadcasts_S1x1024_S256x1024)
/-- The gate's value, clipped from above. -/
def gateH (h : S256x2048.Idx → Elt F .bf16) (w : S1x2048x1024.Idx → Elt F .f32) (b : S1x1x1024.Idx → Elt F .f32) : FVec F S256x1024 .f32 :=
  minimumf (linH h w b) (broadcast S256x1024 (Scalar.ofBits .f32 0x40E00000#32 : F .f32))
/-- The linear part, clipped from both sides. -/
def clipH (h : S256x2048.Idx → Elt F .bf16) (w : S1x2048x1024.Idx → Elt F .f32) (b : S1x1x1024.Idx → Elt F .f32) : FVec F S256x1024 .f32 :=
  minimumf (broadcast S256x1024 (Scalar.ofBits .f32 0x40E00000#32 : F .f32)) (maximumf (broadcast S256x1024 (Scalar.ofBits .f32 0xC0E00000#32 : F .f32)) (linH h w b))
/-- The activations. -/
def actH (h : S256x2048.Idx → Elt F .bf16) (wg wu : S1x2048x1024.Idx → Elt F .f32) (bg bu : S1x1x1024.Idx → Elt F .f32) : FVec F S256x1024 .bf16 :=
  truncf .bf16 (mulf (mulf (addf (clipH h wu bu) (broadcast S256x1024 (Scalar.ofBits .f32 0x3F800000#32 : F .f32))) (gateH h wg bg))
    (logistic (mulf (broadcast S256x1024 (Scalar.ofBits .f32 0x3FD9DB23#32 : F .f32)) (gateH h wg bg)))) bitsLt_bf16_f32
/-- The sum, one chunk further. -/
def sumH (a : S256x2048.Idx → Elt F .f32) (t : FVec F S256x1024 .bf16) (w : S1x1024x2048.Idx → Elt F .f32) : S256x2048.Idx → Elt F .f32 :=
  shapeCast S256x2048 (addf (a : FVec F S256x2048 .f32) (matmul dot_S256x1024_S1024x2048_S256x2048_1_0_0_1_n_n none t (shapeCast S1024x2048 (w : FVec F S1x1024x2048 .f32) shapeCasts_S1x1024x2048_S1024x2048 : FVec F S1024x2048 .f32) (constant S256x2048 .f32 0x00000000#32)))
    shapeCasts_S256x2048_S256x2048
/-- The result. -/
def resH (a : S256x2048.Idx → Elt F .f32) (b : S1x1x2048.Idx → Elt F .f32) : S256x2048.Idx → Elt F .f32 :=
  addf (a : FVec F S256x2048 .f32) (broadcastTo S256x2048 (shapeCast S1x2048 (b : FVec F S1x1x2048 .f32) shapeCasts_S1x1x2048_S1x2048 : FVec F S1x2048 .f32) broadcasts_S1x2048_S256x2048)

/-- A block of zeros. -/
def zeros : S512x2048.Idx → Elt F .f32 := broadcast S512x2048 (Scalar.ofBits .f32 0x00000000#32 : F .f32)

/-! ## What a grid point holds -/

variable (arg2 : Memref sig .tc .smem S304 .i32) (harg2 : arg2.IsWhole)
  (arg3 : Memref sig .tc .smem S305 .i32) (harg3 : arg3.IsWhole)
  (arg4 : Memref sig .tc .vmem S512x2048 .f32) (harg4 : arg4.IsWhole)
  (arg5 : Memref sig .tc .vmem S1x2048x1024 .f32) (harg5 : arg5.IsWhole)
  (arg6 : Memref sig .tc .vmem S1x2048x1024 .f32) (harg6 : arg6.IsWhole)
  (arg7 : Memref sig .tc .vmem S1x1x1024 .f32) (harg7 : arg7.IsWhole)
  (arg8 : Memref sig .tc .vmem S1x1x1024 .f32) (harg8 : arg8.IsWhole)
  (arg9 : Memref sig .tc .vmem S1x1024x2048 .f32) (harg9 : arg9.IsWhole)
  (arg10 : Memref sig .tc .vmem S1x1x2048 .f32) (harg10 : arg10.IsWhole)
  (arg11 : Memref sig .tc .vmem S512x2048 .f32) (harg11 : arg11.IsWhole)
  (arg12 : Memref sig .tc .vmem S512x2048 .bf16) (harg12 : arg12.IsWhole)
  (arg13 : Memref sig .tc .vmem S512x2048 .f32) (harg13 : arg13.IsWhole)

/-- The counts' half share, the point's blocks, the result's buffer and the two scratch buffers. -/
def Mem (c : Dev nD)
  (T : S305.Idx → Elt F .i32)
  (x : S512x2048.Idx → Elt F .f32)
  (wg : S1x2048x1024.Idx → Elt F .f32)
  (wu : S1x2048x1024.Idx → Elt F .f32)
  (bg : S1x1x1024.Idx → Elt F .f32)
  (bu : S1x1x1024.Idx → Elt F .f32)
  (wd : S1x1024x2048.Idx → Elt F .f32)
  (bd : S1x1x2048.Idx → Elt F .f32)
  (o : S512x2048.Idx → Elt F .f32)
  (h : S512x2048.Idx → Elt F .bf16)
  (a : S512x2048.Idx → Elt F .f32) : sProp 𝕄 :=
  iprop(owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a)

variable {c : Dev nD} {T : S305.Idx → Elt F .i32} {x : S512x2048.Idx → Elt F .f32} {wg wu : S1x2048x1024.Idx → Elt F .f32} {bg bu : S1x1x1024.Idx → Elt F .f32}
  {wd : S1x1024x2048.Idx → Elt F .f32} {bd : S1x1x2048.Idx → Elt F .f32} {o : S512x2048.Idx → Elt F .f32} {h : S512x2048.Idx → Elt F .bf16} {a : S512x2048.Idx → Elt F .f32}

/-- A conjunct brought to the front. -/
theorem front {A B C : sProp 𝕄} : iprop(A ∗ B ∗ C) ⊣⊢ iprop(B ∗ A ∗ C) := ⟨by iintro ⟨H1, H2, H3⟩; iframe, by iintro ⟨H1, H2, H3⟩; iframe⟩

theorem at_T : (Mem arg3 arg4 arg5 arg6 arg7 arg8 arg9 arg10 arg11 arg12 arg13 c T x wg wu bg bu wd bd o h a : sProp 𝕄) ⊣⊢ iprop(owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_x : (Mem arg3 arg4 arg5 arg6 arg7 arg8 arg9 arg10 arg11 arg12 arg13 c T x wg wu bg bu wd bd o h a : sProp 𝕄) ⊣⊢ iprop(owns (c : Thread nD τ) arg4 fullShare x ∗ owns (c : Thread nD τ) arg3 fullShare.right T ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_wg : (Mem arg3 arg4 arg5 arg6 arg7 arg8 arg9 arg10 arg11 arg12 arg13 c T x wg wu bg bu wd bd o h a : sProp 𝕄) ⊣⊢ iprop(owns (c : Thread nD τ) arg5 fullShare wg ∗ owns (c : Thread nD τ) arg3 fullShare.right T ∗ owns (c : Thread nD τ) arg4 fullShare x ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_wu : (Mem arg3 arg4 arg5 arg6 arg7 arg8 arg9 arg10 arg11 arg12 arg13 c T x wg wu bg bu wd bd o h a : sProp 𝕄) ⊣⊢ iprop(owns (c : Thread nD τ) arg6 fullShare wu ∗ owns (c : Thread nD τ) arg3 fullShare.right T ∗ owns (c : Thread nD τ) arg4 fullShare x ∗ owns (c : Thread nD τ) arg5 fullShare wg ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_bg : (Mem arg3 arg4 arg5 arg6 arg7 arg8 arg9 arg10 arg11 arg12 arg13 c T x wg wu bg bu wd bd o h a : sProp 𝕄) ⊣⊢ iprop(owns (c : Thread nD τ) arg7 fullShare bg ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_bu : (Mem arg3 arg4 arg5 arg6 arg7 arg8 arg9 arg10 arg11 arg12 arg13 c T x wg wu bg bu wd bd o h a : sProp 𝕄) ⊣⊢ iprop(owns (c : Thread nD τ) arg8 fullShare bu ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg9 fullShare wd ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_wd : (Mem arg3 arg4 arg5 arg6 arg7 arg8 arg9 arg10 arg11 arg12 arg13 c T x wg wu bg bu wd bd o h a : sProp 𝕄) ⊣⊢ iprop(owns (c : Thread nD τ) arg9 fullShare wd ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg10 fullShare bd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_bd : (Mem arg3 arg4 arg5 arg6 arg7 arg8 arg9 arg10 arg11 arg12 arg13 c T x wg wu bg bu wd bd o h a : sProp 𝕄) ⊣⊢ iprop(owns (c : Thread nD τ) arg10 fullShare bd ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg11 fullShare o ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_o : (Mem arg3 arg4 arg5 arg6 arg7 arg8 arg9 arg10 arg11 arg12 arg13 c T x wg wu bg bu wd bd o h a : sProp 𝕄) ⊣⊢ iprop(owns (c : Thread nD τ) arg11 fullShare o ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg12 fullShare h ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_h : (Mem arg3 arg4 arg5 arg6 arg7 arg8 arg9 arg10 arg11 arg12 arg13 c T x wg wu bg bu wd bd o h a : sProp 𝕄) ⊣⊢ iprop(owns (c : Thread nD τ) arg12 fullShare h ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg13 fullShare a) := by
  unfold Mem
  exact ⟨by iintro ⟨H0, H1, H2, H3, H4, H5, H6, H7, H8, H9, H10⟩; iframe, by iintro ⟨H0, H1, H2, H3, H4, H5, H6, H7, H8, H9, H10⟩; iframe⟩
theorem at_a : (Mem arg3 arg4 arg5 arg6 arg7 arg8 arg9 arg10 arg11 arg12 arg13 c T x wg wu bg bu wd bd o h a : sProp 𝕄) ⊣⊢ iprop(owns (c : Thread nD τ) arg13 fullShare a ∗ owns (c : Thread nD τ) arg3 fullShare.right T ∗ owns (c : Thread nD τ) arg4 fullShare x ∗ owns (c : Thread nD τ) arg5 fullShare wg ∗ owns (c : Thread nD τ) arg6 fullShare wu ∗ owns (c : Thread nD τ) arg7 fullShare bg ∗ owns (c : Thread nD τ) arg8 fullShare bu ∗ owns (c : Thread nD τ) arg9 fullShare wd ∗ owns (c : Thread nD τ) arg10 fullShare bd ∗ owns (c : Thread nD τ) arg11 fullShare o ∗ owns (c : Thread nD τ) arg12 fullShare h) := by
  unfold Mem
  exact ⟨by iintro ⟨H0, H1, H2, H3, H4, H5, H6, H7, H8, H9, H10⟩; iframe, by iintro ⟨H0, H1, H2, H3, H4, H5, H6, H7, H8, H9, H10⟩; iframe⟩

/-! ## The steps -/

theorem st_o {α : Type} {r : Rect S512x2048} {w : r.shape.Idx → Elt F .f32} {hx : (arg11.access r).Stores Finset.univ}
    {hm : Finset.univ = (Finset.univ : Finset r.shape.Idx) ∨ ∀ a, r.stride a = 1} {k : PUnit → Prog (TpuEff nD τ sig (Elt F) Λ₀ .tc) α} {Q : α → sProp 𝕄}
    (hn : ∀ v, Stored r w o v → (Mem arg3 arg4 arg5 arg6 arg7 arg8 arg9 arg10 arg11 arg12 arg13 c T x wg wu bg bu wd bd v h a : sProp 𝕄) ⊢ Wp c (k ⟨⟩) Q) :
    (Mem arg3 arg4 arg5 arg6 arg7 arg8 arg9 arg10 arg11 arg12 arg13 c T x wg wu bg bu wd bd o h a : sProp 𝕄) ⊢ Wp c (Prog.lift (TpuEff.store arg11 r w Finset.univ hx hm) >>= k) Q :=
  st (P := fun v => Mem arg3 arg4 arg5 arg6 arg7 arg8 arg9 arg10 arg11 arg12 arg13 c T x wg wu bg bu wd bd v h a) (fun _ => at_o arg3 arg4 arg5 arg6 arg7 arg8 arg9 arg10 arg11 arg12 arg13) hn

theorem st_h {α : Type} {r : Rect S512x2048} {w : r.shape.Idx → Elt F .bf16} {hx : (arg12.access r).Stores Finset.univ}
    {hm : Finset.univ = (Finset.univ : Finset r.shape.Idx) ∨ ∀ a, r.stride a = 1} {k : PUnit → Prog (TpuEff nD τ sig (Elt F) Λ₀ .tc) α} {Q : α → sProp 𝕄}
    (hn : ∀ v, Stored r w h v → (Mem arg3 arg4 arg5 arg6 arg7 arg8 arg9 arg10 arg11 arg12 arg13 c T x wg wu bg bu wd bd o v a : sProp 𝕄) ⊢ Wp c (k ⟨⟩) Q) :
    (Mem arg3 arg4 arg5 arg6 arg7 arg8 arg9 arg10 arg11 arg12 arg13 c T x wg wu bg bu wd bd o h a : sProp 𝕄) ⊢ Wp c (Prog.lift (TpuEff.store arg12 r w Finset.univ hx hm) >>= k) Q :=
  st (P := fun v => Mem arg3 arg4 arg5 arg6 arg7 arg8 arg9 arg10 arg11 arg12 arg13 c T x wg wu bg bu wd bd o v a) (fun _ => at_h arg3 arg4 arg5 arg6 arg7 arg8 arg9 arg10 arg11 arg12 arg13) hn

theorem st_a {α : Type} {r : Rect S512x2048} {w : r.shape.Idx → Elt F .f32} {hx : (arg13.access r).Stores Finset.univ}
    {hm : Finset.univ = (Finset.univ : Finset r.shape.Idx) ∨ ∀ a, r.stride a = 1} {k : PUnit → Prog (TpuEff nD τ sig (Elt F) Λ₀ .tc) α} {Q : α → sProp 𝕄}
    (hn : ∀ v, Stored r w a v → (Mem arg3 arg4 arg5 arg6 arg7 arg8 arg9 arg10 arg11 arg12 arg13 c T x wg wu bg bu wd bd o h v : sProp 𝕄) ⊢ Wp c (k ⟨⟩) Q) :
    (Mem arg3 arg4 arg5 arg6 arg7 arg8 arg9 arg10 arg11 arg12 arg13 c T x wg wu bg bu wd bd o h a : sProp 𝕄) ⊢ Wp c (Prog.lift (TpuEff.store arg13 r w Finset.univ hx hm) >>= k) Q :=
  st (P := fun v => Mem arg3 arg4 arg5 arg6 arg7 arg8 arg9 arg10 arg11 arg12 arg13 c T x wg wu bg bu wd bd o h v) (fun _ => at_a arg3 arg4 arg5 arg6 arg7 arg8 arg9 arg10 arg11 arg12 arg13) hn

/-- The upper half of a block's rows. -/
abbrev top : Rect S512x2048 := Rect.unit (s := S512x2048) ![0, 0] S256x2048.size inb_S512x2048_S256x2048_0_0
/-- The lower half. -/
abbrev bot : Rect S512x2048 := Rect.unit (s := S512x2048) ![256, 0] S256x2048.size inb_S512x2048_S256x2048_256_0

theorem top_not_bot (y : S256x2048.Idx) : top.emb y ∉ bot.set := by
  intro hy
  rw [← Rect.map_emb_univ] at hy
  obtain ⟨k, -, hk⟩ := Finset.mem_map.1 hy
  have h1 : (top.emb y 0).val = 0 + 1 * (y 0).val := rfl
  have h2 : (y 0).val < 256 := (y 0).isLt
  have h3 : (top.emb y 0).val = 256 + 1 * (k 0).val := by rw [← hk]; rfl
  omega

variable {i : grid0.Coords} {u v : BitVec 32}

theorem first_iff (n : Fin 2) : (Scalar.cmpi .ne (Scalar.extui (Scalar.cmpi .eq (BitVec.ofNat 32 n.val) 0#32) : BitVec 32) 0#32 = 1#1) ↔ n.val = 0 := by
  revert n; decide

theorem body_full0
    (hu : ∀ z, T ((Rect.unit (s := S305) ![0] S1.size inb_S305_S1_0).emb z) = u) (hv : ∀ z, T ((Rect.unit (s := S305) (k0_off2 i) S1.size (k0_off2_inb i)).emb z) = v)
    (h1 : k0_cond1 i u v = 1#1) (h4 : k0_cond4 i u v ≠ 1#1) (h8 : k0_cond8 i u ≠ 1#1) (h3 : k0_cond3 i ≠ 1#1) (hi : (i 1).val = 0) :
    (Mem arg3 arg4 arg5 arg6 arg7 arg8 arg9 arg10 arg11 arg12 arg13 c T x wg wu bg bu wd bd o h a : sProp 𝕄) ⊢ Wp c (cc0_experts (F := F) i arg2 harg2 arg3 harg3 arg4 harg4 arg5 harg5 arg6 harg6 arg7 harg7 arg8 harg8 arg9 harg9 arg10 harg10 arg11 harg11 arg12 harg12 arg13 harg13) (fun _ => Mem arg3 arg4 arg5 arg6 arg7 arg8 arg9 arg10 arg11 arg12 arg13 c T x wg wu bg bu wd bd o (hF x) (sumF (zF (F := F)) (actF (hF x) wg wu bg bu) wd)) := by
  have hf : (Scalar.cmpi .ne (Scalar.extui (Scalar.cmpi .eq (BitVec.ofNat 32 (i 1).val) 0#32) : BitVec 32) 0#32 = 1#1) := by
    rw [first_iff (i 1)]; omega
  unfold cc0_experts
  refine word (at_T arg3 arg4 arg5 arg6 arg7 arg8 arg9 arg10 arg11 arg12 arg13) hu ?_
  refine word (at_T arg3 arg4 arg5 arg6 arg7 arg8 arg9 arg10 arg11 arg12 arg13) hv ?_
  unfold k0_part1
  simp only [bind_assoc, pure_bind, dif_pos h1, dif_neg h4, dif_neg h8, dif_pos hf, dif_neg h3]
  refine ld (at_x arg3 arg4 arg5 arg6 arg7 arg8 arg9 arg10 arg11 arg12 arg13) (part_full zero2) ?_
  refine ld (at_h arg3 arg4 arg5 arg6 arg7 arg8 arg9 arg10 arg11 arg12 arg13) (rfl) ?_
  refine st_h arg3 arg4 arg5 arg6 arg7 arg8 arg9 arg10 arg11 arg12 arg13 fun h' Hh => ?_
  rw [show h' = hF x from Hh.full zero2]
  refine ld (at_a arg3 arg4 arg5 arg6 arg7 arg8 arg9 arg10 arg11 arg12 arg13) (rfl) ?_
  refine st_a arg3 arg4 arg5 arg6 arg7 arg8 arg9 arg10 arg11 arg12 arg13 fun a' Ha => ?_
  rw [show a' = (zF (F := F)) from Ha.full zero2]
  refine ld (at_h arg3 arg4 arg5 arg6 arg7 arg8 arg9 arg10 arg11 arg12 arg13) (part_full zero2) ?_
  refine ld (at_wg arg3 arg4 arg5 arg6 arg7 arg8 arg9 arg10 arg11 arg12 arg13) (part_full zero3) ?_
  refine ld (at_bg arg3 arg4 arg5 arg6 arg7 arg8 arg9 arg10 arg11 arg12 arg13) (part_full zero3) ?_
  refine ld (at_wu arg3 arg4 arg5 arg6 arg7 arg8 arg9 arg10 arg11 arg12 arg13) (part_full zero3) ?_
  refine ld (at_bu arg3 arg4 arg5 arg6 arg7 arg8 arg9 arg10 arg11 arg12 arg13) (part_full zero3) ?_
  refine ld (at_a arg3 arg4 arg5 arg6 arg7 arg8 arg9 arg10 arg11 arg12 arg13) (part_full zero2) ?_
  refine ld (at_wd arg3 arg4 arg5 arg6 arg7 arg8 arg9 arg10 arg11 arg12 arg13) (part_full zero3) ?_
  refine ld (at_a arg3 arg4 arg5 arg6 arg7 arg8 arg9 arg10 arg11 arg12 arg13) (rfl) ?_
  refine st_a arg3 arg4 arg5 arg6 arg7 arg8 arg9 arg10 arg11 arg12 arg13 fun b Hb => ?_
  rw [show b = sumF (zF (F := F)) (actF (hF x) wg wu bg bu) wd from Hb.full zero2]
  exact ends .rfl

theorem body_full1
    (hu : ∀ z, T ((Rect.unit (s := S305) ![0] S1.size inb_S305_S1_0).emb z) = u) (hv : ∀ z, T ((Rect.unit (s := S305) (k0_off2 i) S1.size (k0_off2_inb i)).emb z) = v)
    (h1 : k0_cond1 i u v = 1#1) (h4 : k0_cond4 i u v ≠ 1#1) (h8 : k0_cond8 i u ≠ 1#1) (h3 : k0_cond3 i = 1#1) (hi : (i 1).val = 1) :
    (Mem arg3 arg4 arg5 arg6 arg7 arg8 arg9 arg10 arg11 arg12 arg13 c T x wg wu bg bu wd bd o h a : sProp 𝕄) ⊢ Wp c (cc0_experts (F := F) i arg2 harg2 arg3 harg3 arg4 harg4 arg5 harg5 arg6 harg6 arg7 harg7 arg8 harg8 arg9 harg9 arg10 harg10 arg11 harg11 arg12 harg12 arg13 harg13) (fun _ => Mem arg3 arg4 arg5 arg6 arg7 arg8 arg9 arg10 arg11 arg12 arg13 c T x wg wu bg bu wd bd (resF (sumF a (actF h wg wu bg bu) wd) bd) h (sumF a (actF h wg wu bg bu) wd)) := by
  have hf : ¬ (Scalar.cmpi .ne (Scalar.extui (Scalar.cmpi .eq (BitVec.ofNat 32 (i 1).val) 0#32) : BitVec 32) 0#32 = 1#1) := by
    rw [first_iff (i 1)]; omega
  unfold cc0_experts
  refine word (at_T arg3 arg4 arg5 arg6 arg7 arg8 arg9 arg10 arg11 arg12 arg13) hu ?_
  refine word (at_T arg3 arg4 arg5 arg6 arg7 arg8 arg9 arg10 arg11 arg12 arg13) hv ?_
  unfold k0_part1
  simp only [bind_assoc, pure_bind, dif_pos h1, dif_neg h4, dif_neg h8, dif_neg hf, dif_pos h3]
  refine ld (at_h arg3 arg4 arg5 arg6 arg7 arg8 arg9 arg10 arg11 arg12 arg13) (part_full zero2) ?_
  refine ld (at_wg arg3 arg4 arg5 arg6 arg7 arg8 arg9 arg10 arg11 arg12 arg13) (part_full zero3) ?_
  refine ld (at_bg arg3 arg4 arg5 arg6 arg7 arg8 arg9 arg10 arg11 arg12 arg13) (part_full zero3) ?_
  refine ld (at_wu arg3 arg4 arg5 arg6 arg7 arg8 arg9 arg10 arg11 arg12 arg13) (part_full zero3) ?_
  refine ld (at_bu arg3 arg4 arg5 arg6 arg7 arg8 arg9 arg10 arg11 arg12 arg13) (part_full zero3) ?_
  refine ld (at_a arg3 arg4 arg5 arg6 arg7 arg8 arg9 arg10 arg11 arg12 arg13) (part_full zero2) ?_
  refine ld (at_wd arg3 arg4 arg5 arg6 arg7 arg8 arg9 arg10 arg11 arg12 arg13) (part_full zero3) ?_
  refine ld (at_a arg3 arg4 arg5 arg6 arg7 arg8 arg9 arg10 arg11 arg12 arg13) (rfl) ?_
  refine st_a arg3 arg4 arg5 arg6 arg7 arg8 arg9 arg10 arg11 arg12 arg13 fun b Hb => ?_
  rw [show b = sumF a (actF h wg wu bg bu) wd from Hb.full zero2]
  refine ld (at_a arg3 arg4 arg5 arg6 arg7 arg8 arg9 arg10 arg11 arg12 arg13) (part_full zero2) ?_
  refine ld (at_bd arg3 arg4 arg5 arg6 arg7 arg8 arg9 arg10 arg11 arg12 arg13) (part_full zero3) ?_
  refine ld (at_o arg3 arg4 arg5 arg6 arg7 arg8 arg9 arg10 arg11 arg12 arg13) (rfl) ?_
  refine st_o arg3 arg4 arg5 arg6 arg7 arg8 arg9 arg10 arg11 arg12 arg13 fun o' Ho => ?_
  rw [show o' = resF (sumF a (actF h wg wu bg bu) wd) bd from Ho.full zero2]
  exact ends .rfl

theorem body_half0
    (hu : ∀ z, T ((Rect.unit (s := S305) ![0] S1.size inb_S305_S1_0).emb z) = u) (hv : ∀ z, T ((Rect.unit (s := S305) (k0_off2 i) S1.size (k0_off2_inb i)).emb z) = v)
    (h1 : k0_cond1 i u v ≠ 1#1) (h4 : k0_cond4 i u v = 1#1) (h8 : k0_cond8 i u ≠ 1#1) (h6 : k0_cond6 i ≠ 1#1) (h7 : k0_cond7 i ≠ 1#1) (hi : (i 1).val = 0) :
    (Mem arg3 arg4 arg5 arg6 arg7 arg8 arg9 arg10 arg11 arg12 arg13 c T x wg wu bg bu wd bd o h a : sProp 𝕄) ⊢ Wp c (cc0_experts (F := F) i arg2 harg2 arg3 harg3 arg4 harg4 arg5 harg5 arg6 harg6 arg7 harg7 arg8 harg8 arg9 harg9 arg10 harg10 arg11 harg11 arg12 harg12 arg13 harg13) (fun _ => iprop(∃ h' a', Mem arg3 arg4 arg5 arg6 arg7 arg8 arg9 arg10 arg11 arg12 arg13 c T x wg wu bg bu wd bd o h' a' ∗ ⌜part top h' = hH (part top x) ∧ part top a' = sumH (zH (F := F)) (actH (hH (part top x)) wg wu bg bu) wd⌝)) := by
  have hf : (Scalar.cmpi .ne (Scalar.extui (Scalar.cmpi .eq (BitVec.ofNat 32 (i 1).val) 0#32) : BitVec 32) 0#32 = 1#1) := by
    rw [first_iff (i 1)]; omega
  unfold cc0_experts
  refine word (at_T arg3 arg4 arg5 arg6 arg7 arg8 arg9 arg10 arg11 arg12 arg13) hu ?_
  refine word (at_T arg3 arg4 arg5 arg6 arg7 arg8 arg9 arg10 arg11 arg12 arg13) hv ?_
  unfold k0_part2
  simp only [bind_assoc, pure_bind, dif_neg h1, dif_pos h4, dif_neg h8, dif_pos hf, dif_neg h6, dif_neg h7]
  refine ld (at_x arg3 arg4 arg5 arg6 arg7 arg8 arg9 arg10 arg11 arg12 arg13) (rfl) ?_
  refine ld (at_h arg3 arg4 arg5 arg6 arg7 arg8 arg9 arg10 arg11 arg12 arg13) (rfl) ?_
  refine st_h arg3 arg4 arg5 arg6 arg7 arg8 arg9 arg10 arg11 arg12 arg13 fun h' Hh => ?_
  have Hh := Hh.on
  refine ld (at_a arg3 arg4 arg5 arg6 arg7 arg8 arg9 arg10 arg11 arg12 arg13) (rfl) ?_
  refine st_a arg3 arg4 arg5 arg6 arg7 arg8 arg9 arg10 arg11 arg12 arg13 fun a' Ha => ?_
  have Ha := Ha.on
  refine ld (at_h arg3 arg4 arg5 arg6 arg7 arg8 arg9 arg10 arg11 arg12 arg13) (Hh) ?_
  refine ld (at_wg arg3 arg4 arg5 arg6 arg7 arg8 arg9 arg10 arg11 arg12 arg13) (part_full zero3) ?_
  refine ld (at_bg arg3 arg4 arg5 arg6 arg7 arg8 arg9 arg10 arg11 arg12 arg13) (part_full zero3) ?_
  refine ld (at_wu arg3 arg4 arg5 arg6 arg7 arg8 arg9 arg10 arg11 arg12 arg13) (part_full zero3) ?_
  refine ld (at_bu arg3 arg4 arg5 arg6 arg7 arg8 arg9 arg10 arg11 arg12 arg13) (part_full zero3) ?_
  refine ld (at_a arg3 arg4 arg5 arg6 arg7 arg8 arg9 arg10 arg11 arg12 arg13) (Ha) ?_
  refine ld (at_wd arg3 arg4 arg5 arg6 arg7 arg8 arg9 arg10 arg11 arg12 arg13) (part_full zero3) ?_
  refine ld (at_a arg3 arg4 arg5 arg6 arg7 arg8 arg9 arg10 arg11 arg12 arg13) (rfl) ?_
  refine st_a arg3 arg4 arg5 arg6 arg7 arg8 arg9 arg10 arg11 arg12 arg13 fun b Hb => ?_
  have Hb := Hb.on
  refine ends ?_
  iintro H
  iexists h'; iexists b
  isplitl [H]
  · iexact H
  · ipureintro; exact ⟨Hh, Hb⟩

theorem body_half1 {H : S256x2048.Idx → Elt F .bf16} {A : S256x2048.Idx → Elt F .f32}
    (hu : ∀ z, T ((Rect.unit (s := S305) ![0] S1.size inb_S305_S1_0).emb z) = u) (hv : ∀ z, T ((Rect.unit (s := S305) (k0_off2 i) S1.size (k0_off2_inb i)).emb z) = v)
    (h1 : k0_cond1 i u v ≠ 1#1) (h4 : k0_cond4 i u v = 1#1) (h8 : k0_cond8 i u ≠ 1#1) (h6 : k0_cond6 i = 1#1) (h7 : k0_cond7 i = 1#1) (hi : (i 1).val = 1) (hh : part top h = H) (ha : part top a = A) :
    (Mem arg3 arg4 arg5 arg6 arg7 arg8 arg9 arg10 arg11 arg12 arg13 c T x wg wu bg bu wd bd o h a : sProp 𝕄) ⊢ Wp c (cc0_experts (F := F) i arg2 harg2 arg3 harg3 arg4 harg4 arg5 harg5 arg6 harg6 arg7 harg7 arg8 harg8 arg9 harg9 arg10 harg10 arg11 harg11 arg12 harg12 arg13 harg13) (fun _ => iprop(∃ o' a', Mem arg3 arg4 arg5 arg6 arg7 arg8 arg9 arg10 arg11 arg12 arg13 c T x wg wu bg bu wd bd o' h a' ∗ ⌜part top o' = resH (sumH A (actH H wg wu bg bu) wd) bd ∧ part bot o' = broadcast S256x2048 (Scalar.ofBits .f32 0x00000000#32 : F .f32)⌝)) := by
  have hf : ¬ (Scalar.cmpi .ne (Scalar.extui (Scalar.cmpi .eq (BitVec.ofNat 32 (i 1).val) 0#32) : BitVec 32) 0#32 = 1#1) := by
    rw [first_iff (i 1)]; omega
  unfold cc0_experts
  refine word (at_T arg3 arg4 arg5 arg6 arg7 arg8 arg9 arg10 arg11 arg12 arg13) hu ?_
  refine word (at_T arg3 arg4 arg5 arg6 arg7 arg8 arg9 arg10 arg11 arg12 arg13) hv ?_
  unfold k0_part2
  simp only [bind_assoc, pure_bind, dif_neg h1, dif_pos h4, dif_neg h8, dif_neg hf, dif_pos h6, dif_pos h7]
  refine ld (at_h arg3 arg4 arg5 arg6 arg7 arg8 arg9 arg10 arg11 arg12 arg13) (hh) ?_
  refine ld (at_wg arg3 arg4 arg5 arg6 arg7 arg8 arg9 arg10 arg11 arg12 arg13) (part_full zero3) ?_
  refine ld (at_bg arg3 arg4 arg5 arg6 arg7 arg8 arg9 arg10 arg11 arg12 arg13) (part_full zero3) ?_
  refine ld (at_wu arg3 arg4 arg5 arg6 arg7 arg8 arg9 arg10 arg11 arg12 arg13) (part_full zero3) ?_
  refine ld (at_bu arg3 arg4 arg5 arg6 arg7 arg8 arg9 arg10 arg11 arg12 arg13) (part_full zero3) ?_
  refine ld (at_a arg3 arg4 arg5 arg6 arg7 arg8 arg9 arg10 arg11 arg12 arg13) (ha) ?_
  refine ld (at_wd arg3 arg4 arg5 arg6 arg7 arg8 arg9 arg10 arg11 arg12 arg13) (part_full zero3) ?_
  refine ld (at_a arg3 arg4 arg5 arg6 arg7 arg8 arg9 arg10 arg11 arg12 arg13) (rfl) ?_
  refine st_a arg3 arg4 arg5 arg6 arg7 arg8 arg9 arg10 arg11 arg12 arg13 fun b Hb => ?_
  have Hb := Hb.on
  refine ld (at_a arg3 arg4 arg5 arg6 arg7 arg8 arg9 arg10 arg11 arg12 arg13) (Hb) ?_
  refine ld (at_bd arg3 arg4 arg5 arg6 arg7 arg8 arg9 arg10 arg11 arg12 arg13) (part_full zero3) ?_
  refine ld (at_o arg3 arg4 arg5 arg6 arg7 arg8 arg9 arg10 arg11 arg12 arg13) (rfl) ?_
  refine st_o arg3 arg4 arg5 arg6 arg7 arg8 arg9 arg10 arg11 arg12 arg13 fun o' Ho => ?_
  refine ld (at_o arg3 arg4 arg5 arg6 arg7 arg8 arg9 arg10 arg11 arg12 arg13) (rfl) ?_
  refine st_o arg3 arg4 arg5 arg6 arg7 arg8 arg9 arg10 arg11 arg12 arg13 fun o'' Ho' => ?_
  refine ends ?_
  iintro H
  iexists o''; iexists b
  isplitl [H]
  · iexact H
  · ipureintro
    refine ⟨?_, Ho'.on⟩
    have h1 : part top o' = resH (sumH A (actH H wg wu bg bu) wd) bd := Ho.on
    rw [← h1]
    funext y
    exact Ho'.off _ (top_not_bot y)

theorem body_dead0
    (hu : ∀ z, T ((Rect.unit (s := S305) ![0] S1.size inb_S305_S1_0).emb z) = u) (hv : ∀ z, T ((Rect.unit (s := S305) (k0_off2 i) S1.size (k0_off2_inb i)).emb z) = v)
    (h1 : k0_cond1 i u v ≠ 1#1) (h4 : k0_cond4 i u v ≠ 1#1) (h8 : k0_cond8 i u = 1#1) :
    (Mem arg3 arg4 arg5 arg6 arg7 arg8 arg9 arg10 arg11 arg12 arg13 c T x wg wu bg bu wd bd o h a : sProp 𝕄) ⊢ Wp c (cc0_experts (F := F) i arg2 harg2 arg3 harg3 arg4 harg4 arg5 harg5 arg6 harg6 arg7 harg7 arg8 harg8 arg9 harg9 arg10 harg10 arg11 harg11 arg12 harg12 arg13 harg13) (fun _ => Mem arg3 arg4 arg5 arg6 arg7 arg8 arg9 arg10 arg11 arg12 arg13 c T x wg wu bg bu wd bd zeros h a) := by
  unfold cc0_experts
  refine word (at_T arg3 arg4 arg5 arg6 arg7 arg8 arg9 arg10 arg11 arg12 arg13) hu ?_
  refine word (at_T arg3 arg4 arg5 arg6 arg7 arg8 arg9 arg10 arg11 arg12 arg13) hv ?_
  simp only [bind_assoc, pure_bind, dif_neg h1, dif_neg h4, dif_pos h8]
  refine ld (at_o arg3 arg4 arg5 arg6 arg7 arg8 arg9 arg10 arg11 arg12 arg13) (rfl) ?_
  refine st_o arg3 arg4 arg5 arg6 arg7 arg8 arg9 arg10 arg11 arg12 arg13 fun o' Ho => ?_
  rw [show o' = zeros (F := F) from Ho.full zero2]
  exact ends .rfl

theorem body_dead1
    (hu : ∀ z, T ((Rect.unit (s := S305) ![0] S1.size inb_S305_S1_0).emb z) = u) (hv : ∀ z, T ((Rect.unit (s := S305) (k0_off2 i) S1.size (k0_off2_inb i)).emb z) = v)
    (h1 : k0_cond1 i u v ≠ 1#1) (h4 : k0_cond4 i u v ≠ 1#1) (h8 : k0_cond8 i u ≠ 1#1) :
    (Mem arg3 arg4 arg5 arg6 arg7 arg8 arg9 arg10 arg11 arg12 arg13 c T x wg wu bg bu wd bd o h a : sProp 𝕄) ⊢ Wp c (cc0_experts (F := F) i arg2 harg2 arg3 harg3 arg4 harg4 arg5 harg5 arg6 harg6 arg7 harg7 arg8 harg8 arg9 harg9 arg10 harg10 arg11 harg11 arg12 harg12 arg13 harg13) (fun _ => Mem arg3 arg4 arg5 arg6 arg7 arg8 arg9 arg10 arg11 arg12 arg13 c T x wg wu bg bu wd bd o h a) := by
  unfold cc0_experts
  refine word (at_T arg3 arg4 arg5 arg6 arg7 arg8 arg9 arg10 arg11 arg12 arg13) hu ?_
  refine word (at_T arg3 arg4 arg5 arg6 arg7 arg8 arg9 arg10 arg11 arg12 arg13) hv ?_
  simp only [bind_assoc, pure_bind, dif_neg h1, dif_neg h4, dif_neg h8]
  exact ends .rfl

end Cert.Kernel2Ideal.Hand

end
-- ==== Proof.FfnTables.lean ====
/-
  The experts call: the two tables it is given, the blocks its index maps name, and the cases its branches distinguish.
-/
module

public import proofs.«01_k».proof.Pre_blocks_named
public import proofs.«01_k».proof.Proof.Laid
public import proofs.«01_k».proof.Proof.Gen.Kernel2Ideal
public import proofs.«01_k».proof.Proof.Gen.Kernel2Ideal.Launch
public import Idealize.ShloMosaic.Lib.Pipeline.Frame

@[expose] public section

noncomputable section

namespace Cert.Kernel2Ideal.Hand

open Cert.Kernel2Ideal Cert.Kernel2Ideal.Gen
open Idealize.ShloMosaic Idealize.ShloMosaic.TcCoe Idealize.ShloMosaic.Tactic
open Idealize.ShloMosaic.StableHlo.Predicate
open Idealize.SL Idealize.SL.Sem
open Cert.KernelIdeal.Hand (take_eq toInt_small)

variable {F : FTy → Type} [FloatOps F]

/-! ## The tables' words -/

/-- The first table: the expert of each block. -/
def tabE (pf : pre0.Contents (Elt F)) : S304.Idx → BitVec 32 := pf 0
/-- The second: how many blocks are in use, then how each is filled. -/
def tabU (pf : pre0.Contents (Elt F)) : S305.Idx → BitVec 32 := pf 1

/-- Block `b`'s expert. -/
def eN (pf : pre0.Contents (Elt F)) (b : ℕ) : ℕ := if h : b < 304 then (tabE pf (Shape.Idx.ofFin ⟨b, h⟩)).toNat else 0
/-- The number of blocks in use. -/
def uN (pf : pre0.Contents (Elt F)) : ℕ := (tabU pf (Shape.Idx.ofFin ⟨0, by decide⟩)).toNat
/-- Whether block `b` is filled in its upper half only. -/
def halfN (pf : pre0.Contents (Elt F)) (b : ℕ) : Prop := if h : b < 304 then tabU pf (Shape.Idx.ofFin ⟨b + 1, by omega⟩) = 1#32 else False

/-- Every block names an expert; at least one block is in use, and the number in use is not negative as a signed word. -/
structure Named (pf : pre0.Contents (Elt F)) : Prop where
  e : ∀ b, eN pf b < 32
  one : 1 ≤ uN pf
  u : uN pf < 2 ^ 31

theorem emb_one {n o : ℕ} {inb : ∀ a, (![o] : Fin 1 → ℕ) a + S1.size a ≤ (⟨1, ![n]⟩ : Shape).size a} (h : o < n) (z : S1.Idx) :
    (Rect.unit (s := ⟨1, ![n]⟩) ![o] S1.size inb).emb z = Shape.Idx.ofFin ⟨o, h⟩ := by
  funext a
  obtain rfl : a = 0 := Subsingleton.elim _ _
  refine Fin.ext ?_
  have hz : (z 0).val < 1 := (z 0).isLt
  show o + 1 * (z 0).val = o
  omega

theorem first_lt (i : grid0.Coords) : (i 0).val < 304 := (i 0).isLt
theorem second_lt (i : grid0.Coords) : (i 1).val < 2 := (i 1).isLt

theorem word_nat {n : ℕ} (h : n < 304) : (BitVec.ofNat 32 n).toNat = n := by rw [BitVec.toNat_ofNat]; omega

theorem slt_small {n : ℕ} {w : BitVec 32} (hn : n < 304) (hw : w.toNat < 2 ^ 31) : Scalar.cmpi .slt (BitVec.ofNat 32 n) w = 1#1 ↔ n < w.toNat := by
  have h1 : (BitVec.ofNat 32 n).toInt = n := by rw [BitVec.toInt_eq_toNat_cond, word_nat hn, if_pos (by omega)]
  have h2 : w.toInt = w.toNat := by rw [BitVec.toInt_eq_toNat_cond, if_pos (by omega)]
  refine (IntOp.cmpi_slt (x := BitVec.ofNat 32 n) (y := w)).trans ?_
  rw [h1, h2]; omega

/-- The chunk of the weights a point fetches. -/
def fch (pf : pre0.Contents (Elt F)) (i : grid0.Coords) : ℕ := if (i 0).val < uN pf then (i 1).val else 1

variable {pf : pre0.Contents (Elt F)}

/-- The first table's word as the index maps read it. -/
abbrev atE (pf : pre0.Contents (Elt F)) (i : grid0.Coords) : BitVec 32 := pf.at 0 (Rect.unit (s := S304) (k0_off1 i) S1.size (k0_off1_inb i)) numel1_S1
/-- The second's. -/
abbrev atU (pf : pre0.Contents (Elt F)) : BitVec 32 := pf.at 1 (Rect.unit (s := S305) ![0] S1.size inb_S305_S1_0) numel1_S1

theorem at_e (i : grid0.Coords) : atE pf i = tabE pf (Shape.Idx.ofFin ⟨(i 0).val, first_lt i⟩) := by
  refine congrArg (tabE pf) ?_
  funext (a : Fin 1)
  obtain rfl : a = 0 := Subsingleton.elim _ _
  refine Fin.ext ?_
  show (BitVec.ofNat 32 (i 0).val).toNat + 1 * 0 = (i 0).val
  rw [word_nat (first_lt i)]; omega

theorem at_u : atU pf = tabU pf (Shape.Idx.ofFin ⟨0, by decide⟩) :=
  congrArg (tabU pf) (emb_one (n := 305) (by decide) _)

theorem eN_at (i : grid0.Coords) : eN pf (i 0).val = (tabE pf (Shape.Idx.ofFin ⟨(i 0).val, first_lt i⟩)).toNat := by
  unfold eN; rw [dif_pos (first_lt i)]

theorem fch_word (hp : Named pf) (i : grid0.Coords) :
    (Scalar.select (Scalar.cmpi .slt (BitVec.ofNat 32 (i 0).val) (tabU pf (Shape.Idx.ofFin ⟨0, by decide⟩))) (BitVec.ofNat 32 (i 1).val) 1#32).toNat = fch pf i := by
  have h := slt_small (first_lt i) hp.u
  have h2 := second_lt i
  unfold fch
  show (if _ = 1#1 then _ else _ : BitVec 32).toNat = _
  by_cases hh : (i 0).val < uN pf
  · rw [if_pos hh, if_pos (h.2 hh), BitVec.toNat_ofNat]; omega
  · rw [if_neg hh, if_neg (fun k => hh (h.1 k))]; rfl

theorem fch_lt (i : grid0.Coords) : fch pf i < 2 := by
  have h2 := second_lt i
  unfold fch; split <;> omega

theorem two_more {w : BitVec 32} (h : w.toNat < 2) : (Scalar.addi 2#32 w).toNat = 2 + w.toNat := by
  show (2#32 + w).toNat = _
  rw [BitVec.toNat_add]; simp only [BitVec.toNat_ofNat]; omega

theorem min_small {n k : ℕ} {w : BitVec 32} (hn : n < 304) (hk : k < 2 ^ 31) (hw : w.toNat = k) : (IntOp.minsi (BitVec.ofNat 32 n) w).toNat = min n k := by
  subst hw
  have h := slt_small hn hk
  rw [show Scalar.cmpi .slt (BitVec.ofNat 32 n) w = BitVec.ofBool ((BitVec.ofNat 32 n).slt w) from rfl] at h
  show (if (BitVec.ofNat 32 n).slt w then _ else _ : BitVec 32).toNat = _
  cases hc : (BitVec.ofNat 32 n).slt w
  · rw [hc] at h
    have : ¬ n < w.toNat := fun k => absurd (h.2 k) (by decide)
    simp only [Bool.false_eq_true, if_false]
    omega
  · rw [hc] at h
    have := h.1 (by decide)
    simp only [if_true]
    rw [word_nat hn]; omega

theorem tr0 (hp : Named pf) (i : grid0.Coords) : cc0_transform_0 inb_S305_S1_0 numel1_S1 pf i = ![min (i 0).val (uN pf - 1), 0] := by
  have hu := hp.u
  have ho := hp.one
  have hs : (tabU pf (Shape.Idx.ofFin ⟨0, by decide⟩) - 1#32).toNat = uN pf - 1 := by
    rw [BitVec.toNat_sub]; simp only [BitVec.toNat_ofNat]
    unfold uN at *; omega
  have hw : (Scalar.minsi (BitVec.ofNat 32 (i 0).val) (Scalar.subi (tabU pf (Shape.Idx.ofFin ⟨0, by decide⟩)) 1#32)).toNat = min (i 0).val (uN pf - 1) :=
    min_small (first_lt i) (by omega) hs
  refine (show cc0_transform_0 inb_S305_S1_0 numel1_S1 pf i = ![(Scalar.minsi (BitVec.ofNat 32 (i 0).val) (Scalar.subi (atU pf) 1#32)).toNat, 0] from rfl).trans ?_
  rw [at_u, hw]

theorem tr1 (hp : Named pf) (i : grid0.Coords) : cc0_transform_1 k0_off1_inb numel1_S1 inb_S305_S1_0 pf i = ![eN pf (i 0).val, 0, fch pf i] := by
  refine (show cc0_transform_1 k0_off1_inb numel1_S1 inb_S305_S1_0 pf i = ![(atE pf i).toNat, 0, (Scalar.select (Scalar.cmpi .slt (BitVec.ofNat 32 (i 0).val) (atU pf)) (BitVec.ofNat 32 (i 1).val) 1#32).toNat] from rfl).trans ?_
  rw [at_u, at_e, fch_word hp, eN_at]
theorem tr2 (hp : Named pf) (i : grid0.Coords) : cc0_transform_2 k0_off1_inb numel1_S1 inb_S305_S1_0 pf i = ![eN pf (i 0).val, 0, 2 + fch pf i] := by
  refine (show cc0_transform_2 k0_off1_inb numel1_S1 inb_S305_S1_0 pf i = ![(atE pf i).toNat, 0, (Scalar.addi 2#32 (Scalar.select (Scalar.cmpi .slt (BitVec.ofNat 32 (i 0).val) (atU pf)) (BitVec.ofNat 32 (i 1).val) 1#32)).toNat] from rfl).trans ?_
  rw [at_u, at_e, two_more (by rw [fch_word hp]; exact fch_lt i), fch_word hp, eN_at]
theorem tr3 (hp : Named pf) (i : grid0.Coords) : cc0_transform_3 k0_off1_inb numel1_S1 inb_S305_S1_0 pf i = ![eN pf (i 0).val, 0, fch pf i] := by
  refine (show cc0_transform_3 k0_off1_inb numel1_S1 inb_S305_S1_0 pf i = ![(atE pf i).toNat, 0, (Scalar.select (Scalar.cmpi .slt (BitVec.ofNat 32 (i 0).val) (atU pf)) (BitVec.ofNat 32 (i 1).val) 1#32).toNat] from rfl).trans ?_
  rw [at_u, at_e, fch_word hp, eN_at]
theorem tr4 (hp : Named pf) (i : grid0.Coords) : cc0_transform_4 k0_off1_inb numel1_S1 inb_S305_S1_0 pf i = ![eN pf (i 0).val, 0, 2 + fch pf i] := by
  refine (show cc0_transform_4 k0_off1_inb numel1_S1 inb_S305_S1_0 pf i = ![(atE pf i).toNat, 0, (Scalar.addi 2#32 (Scalar.select (Scalar.cmpi .slt (BitVec.ofNat 32 (i 0).val) (atU pf)) (BitVec.ofNat 32 (i 1).val) 1#32)).toNat] from rfl).trans ?_
  rw [at_u, at_e, two_more (by rw [fch_word hp]; exact fch_lt i), fch_word hp, eN_at]
theorem tr5 (hp : Named pf) (i : grid0.Coords) : cc0_transform_5 k0_off1_inb numel1_S1 inb_S305_S1_0 pf i = ![eN pf (i 0).val, fch pf i, 0] := by
  refine (show cc0_transform_5 k0_off1_inb numel1_S1 inb_S305_S1_0 pf i = ![(atE pf i).toNat, (Scalar.select (Scalar.cmpi .slt (BitVec.ofNat 32 (i 0).val) (atU pf)) (BitVec.ofNat 32 (i 1).val) 1#32).toNat, 0] from rfl).trans ?_
  rw [at_u, at_e, fch_word hp, eN_at]
theorem tr6 (i : grid0.Coords) : cc0_transform_6 k0_off1_inb numel1_S1 pf i = ![eN pf (i 0).val, 0, 0] := by
  refine (show cc0_transform_6 k0_off1_inb numel1_S1 pf i = ![(atE pf i).toNat, 0, 0] from rfl).trans ?_
  rw [at_e, eN_at]
theorem tr7 (i : grid0.Coords) : cc0_transform_7 i = ![(i 0).val, 0] := by
  unfold cc0_transform_7; dsimp only; rw [word_nat (first_lt i)]; rfl

/-- The blocks the tables name are inside their arrays. -/
theorem ok_of (hp : Named pf) : ok0 pf := by
  have hu := hp.u
  have ho := hp.one
  refine ⟨fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩, fun i => ⟨?_, Or.inl rfl⟩⟩
  all_goals
    have hi := first_lt i
    have he := hp.e (i 0).val
    have hf := fch_lt (pf := pf) i
    intro a
  · rw [tr0 hp]; fin_cases a
    · show (min _ _ + 1) * 512 ≤ 155648; omega
    · show (0 + 1) * 2048 ≤ 2048; omega
  · rw [tr1 hp]; fin_cases a
    · show (eN pf _ + 1) * 1 ≤ 32; omega
    · show (0 + 1) * 2048 ≤ 2048; omega
    · show (fch pf i + 1) * 1024 ≤ 4096; omega
  · rw [tr2 hp]; fin_cases a
    · show (eN pf _ + 1) * 1 ≤ 32; omega
    · show (0 + 1) * 2048 ≤ 2048; omega
    · show (2 + fch pf i + 1) * 1024 ≤ 4096; omega
  · rw [tr3 hp]; fin_cases a
    · show (eN pf _ + 1) * 1 ≤ 32; omega
    · show (0 + 1) * 1 ≤ 1; omega
    · show (fch pf i + 1) * 1024 ≤ 4096; omega
  · rw [tr4 hp]; fin_cases a
    · show (eN pf _ + 1) * 1 ≤ 32; omega
    · show (0 + 1) * 1 ≤ 1; omega
    · show (2 + fch pf i + 1) * 1024 ≤ 4096; omega
  · rw [tr5 hp]; fin_cases a
    · show (eN pf _ + 1) * 1 ≤ 32; omega
    · show (fch pf i + 1) * 1024 ≤ 2048; omega
    · show (0 + 1) * 2048 ≤ 2048; omega
  · rw [tr6]; fin_cases a
    · show (eN pf _ + 1) * 1 ≤ 32; omega
    · show (0 + 1) * 1 ≤ 1; omega
    · show (0 + 1) * 2048 ≤ 2048; omega

/-! ## The cases -/

theorem full_bits : ∀ b d : BitVec 1, (Scalar.cmpi .ne (Scalar.extui (Scalar.andi b (Scalar.xori d 1#1)) : BitVec 32) 0#32 = 1#1) ↔ (b = 1#1 ∧ ¬ d = 1#1) := by decide
theorem half_bits : ∀ b d : BitVec 1, (Scalar.cmpi .ne (Scalar.extui (Scalar.andi b d) : BitVec 32) 0#32 = 1#1) ↔ (b = 1#1 ∧ d = 1#1) := by decide
theorem dead_bits : ∀ b d : BitVec 1, (Scalar.cmpi .ne (Scalar.extui (Scalar.andi (Scalar.xori b 1#1) d) : BitVec 32) 0#32 = 1#1) ↔ (¬ b = 1#1 ∧ d = 1#1) := by decide
theorem last_bits : ∀ n : Fin 2, (Scalar.cmpi .ne (Scalar.extui (Scalar.cmpi .eq (BitVec.ofNat 32 n.val) 1#32) : BitVec 32) 0#32 = 1#1) ↔ n.val = 1 := by decide
theorem zero_bits : ∀ n : Fin 2, (Scalar.cmpi .eq (BitVec.ofNat 32 n.val) 0#32 = 1#1) ↔ n.val = 0 := by decide

section
variable {i : grid0.Coords} {u v : BitVec 32}

theorem cond1 (hu : u.toNat < 2 ^ 31) : k0_cond1 i u v = 1#1 ↔ ((i 0).val < u.toNat ∧ ¬ v = 1#32) := by
  unfold k0_cond1; dsimp only
  rw [full_bits, slt_small (first_lt i) hu]
  exact and_congr_right fun _ => not_congr IntOp.cmpi_eq
theorem cond4 (hu : u.toNat < 2 ^ 31) : k0_cond4 i u v = 1#1 ↔ ((i 0).val < u.toNat ∧ v = 1#32) := by
  unfold k0_cond4; dsimp only
  rw [half_bits, slt_small (first_lt i) hu]
  exact and_congr_right fun _ => IntOp.cmpi_eq
theorem cond8 (hu : u.toNat < 2 ^ 31) : k0_cond8 i u = 1#1 ↔ (¬ (i 0).val < u.toNat ∧ (i 1).val = 0) := by
  unfold k0_cond8; dsimp only
  rw [dead_bits, slt_small (first_lt i) hu]
  exact and_congr_right fun _ => zero_bits (i 1)
theorem cond3 : k0_cond3 i = 1#1 ↔ (i 1).val = 1 := last_bits (i 1)
theorem cond6 : k0_cond6 i = 1#1 ↔ (i 1).val = 1 := last_bits (i 1)
theorem cond7 : k0_cond7 i = 1#1 ↔ (i 1).val = 1 := last_bits (i 1)
end

theorem off2 (i : grid0.Coords) : k0_off2 i = ![(i 0).val + 1] := by
  have hi := first_lt i
  unfold k0_off2; dsimp only
  have : (Scalar.indexCast (Scalar.addi 1#32 (BitVec.ofNat 32 (i 0).val)) : Index).toNat = (i 0).val + 1 := by
    show (1#32 + BitVec.ofNat 32 (i 0).val).toNat = _
    rw [BitVec.toNat_add, word_nat hi]; simp only [BitVec.toNat_ofNat]; omega
  rw [this]

theorem emb_fill (i : grid0.Coords) (z : S1.Idx) : (Rect.unit (s := S305) (k0_off2 i) S1.size (k0_off2_inb i)).emb z = Shape.Idx.ofFin ⟨(i 0).val + 1, by have := first_lt i; omega⟩ := by
  funext a
  obtain rfl : a = 0 := Subsingleton.elim _ _
  refine Fin.ext ?_
  have hz : (z 0).val < 1 := (z 0).isLt
  show k0_off2 i 0 + 1 * (z 0).val = (i 0).val + 1
  rw [off2]; show (i 0).val + 1 + 1 * (z 0).val = _; omega

theorem atD_u : pf.atD 1 ![0] = tabU pf (Shape.Idx.ofFin ⟨0, by decide⟩) := by
  refine (dif_pos (by decide)).trans (congrArg (tabU pf) ?_)
  funext (a : Fin 1)
  obtain rfl : a = 0 := Subsingleton.elim _ _
  rfl

theorem atD_fill (i : grid0.Coords) : pf.atD 1 (k0_off2 i) = tabU pf (Shape.Idx.ofFin ⟨(i 0).val + 1, by have := first_lt i; omega⟩) := by
  have hb : ∀ a : Fin 1, k0_off2 i a + 1 ≤ S305.size a := fun a => by
    obtain rfl : a = 0 := Subsingleton.elim _ _
    exact k0_off2_inb i 0
  refine (show pf.atD 1 (k0_off2 i) = tabU pf (fun a => ⟨k0_off2 i a, hb a⟩) from dif_pos hb).trans (congrArg (tabU pf) ?_)
  funext (a : Fin 1)
  obtain rfl : a = 0 := Subsingleton.elim _ _
  exact Fin.ext (by show k0_off2 i 0 = _; rw [off2]; rfl)

theorem half_at (i : grid0.Coords) : halfN pf (i 0).val ↔ tabU pf (Shape.Idx.ofFin ⟨(i 0).val + 1, by have := first_lt i; omega⟩) = 1#32 := by
  unfold halfN; rw [dif_pos (first_lt i)]

/-- The result's buffer is left alone at a used block's first point and an unused block's second. -/
theorem idle7 (hp : Named pf) (i : grid0.Coords) : idle0 pf 7 i = decide ((i 0).val < uN pf ↔ (i 1).val = 0) := by
  have hi := second_lt i
  have c1 := cond1 (i := i) (v := pf.atD 1 (k0_off2 i)) hp.u
  have c4 := cond4 (i := i) (v := pf.atD 1 (k0_off2 i)) hp.u
  have c8 := cond8 (i := i) hp.u
  rw [← atD_u] at c1 c4 c8
  have c3 := cond3 (i := i)
  have c6 := cond6 (i := i)
  have c7 := cond7 (i := i)
  have hu : (pf.atD 1 ![0] : BitVec 32).toNat = uN pf := by rw [atD_u]; rfl
  rw [hu] at c1 c4 c8
  have hd : (i 1).val = 0 ∨ (i 1).val = 1 := by omega
  show (!(_ == _ && _ == _) && !(_ == _ && _ == _) && !(_ == _ && _ == _) && !(_ == _) : Bool) = _
  rw [Bool.eq_iff_iff]
  simp only [Bool.and_eq_true, Bool.not_eq_true', beq_iff_eq, Bool.and_eq_false_iff, beq_eq_false_iff_ne, ne_eq, decide_eq_true_eq]
  rw [c1, c3, c4, c6, c7, c8]
  by_cases hv : (pf.atD 1 (k0_off2 i) : BitVec 32) = 1#32 <;> rcases hd with hd | hd <;> by_cases hl : (i 0).val < uN pf <;> simp [hv, hd, hl]

/-! ## What the launch finds -/

variable (m : (ℓ : Loc nD τ sig) → Buf (Elt F) ℓ)

/-- The buffers when the pipeline starts. -/
def V (c : Dev nD) (b : Ref sig .tc) : Buf (Elt F) ((c : Thread nD τ).loc b) := StableHlo.after hostOps0 (fun b => m (c, b)) b

/-- The position each block's expert is read at, before it is brought into range. -/
def place (U : S305.Idx → BitVec 32) : IVec S304 32 :=
  minsi (iotaInDim S304 32 0) (broadcastInDim S304 ![] bcast_S_S304 (subi (shapeCast S_ (extractStridedSlice S1 ![0] U slices_S305_S1_0 : IVec S1 32) shapeCasts_S1_S_) (constantI S_ 32 1#32)))

/-- The first table from the list of experts and the counts. -/
def spread (E : S304.Idx → BitVec 32) (U : S305.Idx → BitVec 32) : S304.Idx → BitVec 32 :=
  Host.gather gather_S304_S304x1_S304_n_0_n_n_0_1_1 E (broadcastInDim S304x1 ![0] bcast_S304_S304x1_0
    (select (cmpi .slt (place U) (broadcastInDim S304 ![] bcast_S_S304 (constantI S_ 32 0#32))) (addi (place U) (broadcastInDim S304 ![] bcast_S_S304 (constantI S_ 32 304#32))) (place U)))

theorem V_main_v14 (c : Dev nD) : V m c main_v14 = spread (m ((c : Thread nD τ).loc main_arg0)) (m ((c : Thread nD τ).loc main_arg1)) := by
  unfold V
  after_results
  rfl
theorem V_main_v0 (c : Dev nD) : V m c main_v0 = broadcastInDim S32x1x4096 ![0, 2] bcast_S32x4096_S32x1x4096_0_2 (m ((c : Thread nD τ).loc main_arg4)) := by
  unfold V
  after_results
theorem V_main_v1 (c : Dev nD) : V m c main_v1 = broadcastInDim S32x1x2048 ![0, 2] bcast_S32x2048_S32x1x2048_0_2 (m ((c : Thread nD τ).loc main_arg6)) := by
  unfold V
  after_results

theorem V_of {b : Ref sig .tc} (c : Dev nD) (h : b ∉ [main_v0, main_v1, main_v2, main_v3, main_v4, main_c, main_v5, main_v6, main_v7, main_c_0, main_v8, main_v9, main_c_1, main_v10, main_v11, main_v12, main_v13, main_v14]) :
    V m c b = m ((c : Thread nD τ).loc b) := by
  simp only [List.mem_cons, List.mem_nil_iff, or_false, not_or] at h
  obtain ⟨h1, h2, h3, h4, h5, h6, h7, h8, h9, h10, h11, h12, h13, h14, h15, h16, h17, h18⟩ := h
  exact StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by assumption)))

theorem V_main_arg0 (c : Dev nD) : V m c main_arg0 = m ((c : Thread nD τ).loc main_arg0) := V_of m c (by decide)
theorem V_main_arg1 (c : Dev nD) : V m c main_arg1 = m ((c : Thread nD τ).loc main_arg1) := V_of m c (by decide)
theorem V_main_arg2 (c : Dev nD) : V m c main_arg2 = m ((c : Thread nD τ).loc main_arg2) := V_of m c (by decide)
theorem V_main_arg3 (c : Dev nD) : V m c main_arg3 = m ((c : Thread nD τ).loc main_arg3) := V_of m c (by decide)
theorem V_main_arg4 (c : Dev nD) : V m c main_arg4 = m ((c : Thread nD τ).loc main_arg4) := V_of m c (by decide)
theorem V_main_arg5 (c : Dev nD) : V m c main_arg5 = m ((c : Thread nD τ).loc main_arg5) := V_of m c (by decide)
theorem V_main_arg6 (c : Dev nD) : V m c main_arg6 = m ((c : Thread nD τ).loc main_arg6) := V_of m c (by decide)

/-- What the precondition says of the two index arrays. -/
structure Listed (E : S304.Idx → BitVec 32) (U : S305.Idx → BitVec 32) : Prop where
  e : ∀ b : Fin 304, b.val < (U (Shape.Idx.ofFin ⟨0, by decide⟩)).toNat → (E (Shape.Idx.ofFin b)).toNat < 32
  one : 1 ≤ (U (Shape.Idx.ofFin ⟨0, by decide⟩)).toNat
  u : (U (Shape.Idx.ofFin ⟨0, by decide⟩)).toNat < 2 ^ 31

theorem place_at {U : S305.Idx → BitVec 32} (h1 : 1 ≤ (U (Shape.Idx.ofFin ⟨0, by decide⟩)).toNat) (h2 : (U (Shape.Idx.ofFin ⟨0, by decide⟩)).toNat < 2 ^ 31) (b : Fin 304) :
    (place U (Shape.Idx.ofFin b)).toNat = min b.val ((U (Shape.Idx.ofFin ⟨0, by decide⟩)).toNat - 1) := by
  have hb := b.isLt
  have hs : ∀ j, (shapeCast S_ (extractStridedSlice S1 ![0] U slices_S305_S1_0 : IVec S1 32) shapeCasts_S1_S_ : IVec S_ 32) j = U (Shape.Idx.ofFin ⟨0, by decide⟩) := by
    intro j
    show U _ = U _
    refine congrArg U ?_
    funext a
    obtain rfl : a = 0 := Subsingleton.elim _ _
    refine Fin.ext ?_
    show 0 + _ = 0
    exact Nat.add_eq_zero_iff.2 ⟨rfl, by exact Nat.lt_one_iff.1 (Fin.isLt (n := 1) _)⟩
  have hw : (U (Shape.Idx.ofFin ⟨0, by decide⟩) - 1#32).toNat = (U (Shape.Idx.ofFin ⟨0, by decide⟩)).toNat - 1 := by
    rw [BitVec.toNat_sub]; simp only [BitVec.toNat_ofNat]; omega
  have hi : (iotaInDim S304 32 0 : IVec S304 32) (Shape.Idx.ofFin b) = BitVec.ofNat 32 b.val := rfl
  unfold place
  show (IntOp.minsi ((iotaInDim S304 32 0 : IVec S304 32) (Shape.Idx.ofFin b)) ((shapeCast S_ (extractStridedSlice S1 ![0] U slices_S305_S1_0 : IVec S1 32) shapeCasts_S1_S_ : IVec S_ 32) _ - 1#32)).toNat = _
  rw [hs, hi]
  exact min_small hb (by omega) hw

theorem spread_at {E : S304.Idx → BitVec 32} {U : S305.Idx → BitVec 32} (h1 : 1 ≤ (U (Shape.Idx.ofFin ⟨0, by decide⟩)).toNat) (h2 : (U (Shape.Idx.ofFin ⟨0, by decide⟩)).toNat < 2 ^ 31) (b : Fin 304) :
    spread E U (Shape.Idx.ofFin b) = E (Shape.Idx.ofFin ⟨min b.val ((U (Shape.Idx.ofFin ⟨0, by decide⟩)).toNat - 1), by omega⟩) := by
  have hp := place_at h1 h2 b
  have hb := b.isLt
  unfold spread
  rw [take_eq _ rfl rfl rfl rfl _ _ _ _ (by decide)]
  refine congrArg E (congrArg Shape.Idx.ofFin (Fin.ext ?_))
  have hn : Scalar.cmpi .slt (place U (Shape.Idx.ofFin b)) 0#32 ≠ 1#1 := fun k => by
    have := (IntOp.cmpi_slt (x := place U (Shape.Idx.ofFin b)) (y := 0#32)).1 k
    rw [BitVec.toInt_eq_toNat_cond, if_pos (by omega)] at this
    simp at this
    omega
  have hsel : (select (cmpi .slt (place U) (broadcastInDim S304 ![] bcast_S_S304 (constantI S_ 32 0#32))) (addi (place U) (broadcastInDim S304 ![] bcast_S_S304 (constantI S_ 32 304#32))) (place U) : IVec S304 32) (Shape.Idx.ofFin b)
      = place U (Shape.Idx.ofFin b) := if_neg hn
  show min (_ : BitVec 32).toInt.toNat (304 - 1) = _
  rw [hsel, BitVec.toInt_eq_toNat_cond, if_pos (by omega), Int.toNat_natCast, hp]
  show _ = min b.val _
  omega

section
variable [Cert.Pre_blocks_named.Facts]
open Cert.Pre_blocks_named in
theorem listed_of {E : IVec Cert.Kernel2Ideal.S304 32} {U : IVec Cert.Kernel2Ideal.S305 32} {x1 : FVec F Cert.Kernel2Ideal.S155648x2048 .f32} {x2 : FVec F Cert.Kernel2Ideal.S32x2048x4096 .f32} {x3 : FVec F Cert.Kernel2Ideal.S32x4096 .f32}
    {x4 : FVec F Cert.Kernel2Ideal.S32x2048x2048 .f32} {x5 : FVec F Cert.Kernel2Ideal.S32x2048 .f32} (h : Cert.Pre_blocks_named.fn (F := F) E U x1 x2 x3 x4 x5 = fun _ => 1#1) : Listed E U := by
  have e := congrFun h (fun a => a.elim0)
  clear h
  dsimp only [fn] at e
  obtain ⟨he, hu⟩ := IntOp.andi_eq_one.1 e
  have he := fun i => Host.reduce_andi_all _ _ _ _ _ he i
  have hw : (shapeCast Cert.Pre_blocks_named.S_ (extractStridedSlice Cert.Pre_blocks_named.S1 ![0] U Facts.slices_S305_S1_0 : IVec Cert.Pre_blocks_named.S1 32)
      Facts.shapeCasts_S1_S_ : IVec Cert.Pre_blocks_named.S_ 32) = fun _ => U (Shape.Idx.ofFin ⟨0, by decide⟩) := by
    funext j
    show U _ = U _
    refine congrArg U ?_
    funext a
    obtain rfl : a = 0 := Subsingleton.elim _ _
    refine Fin.ext ?_
    show 0 + _ = 0
    exact Nat.add_eq_zero_iff.2 ⟨rfl, by exact Nat.lt_one_iff.1 (Fin.isLt (n := 1) _)⟩
  rw [hw] at he hu
  have ha' : (1 : ℤ) ≤ (U (Shape.Idx.ofFin ⟨0, by decide⟩)).toInt := IntOp.cmpi_sge.1 hu
  have hlt := (U (Shape.Idx.ofFin ⟨0, by decide⟩)).isLt
  have hs : (U (Shape.Idx.ofFin ⟨0, by decide⟩)).toNat < 2 ^ 31 := by
    by_contra hc
    rw [BitVec.toInt_eq_toNat_cond, if_neg (by omega)] at ha'
    omega
  have hone : 1 ≤ (U (Shape.Idx.ofFin ⟨0, by decide⟩)).toNat := by
    rw [BitVec.toInt_eq_toNat_cond, if_pos (by omega)] at ha'
    omega
  refine ⟨fun p hp => ?_, hone, hs⟩
  have h1 : IntOp.ori (IntOp.andi (IntOp.cmpi .sge (E (Shape.Idx.ofFin p)) 0#32) (IntOp.cmpi .slt (E (Shape.Idx.ofFin p)) 32#32))
      (IntOp.cmpi .sge (BitVec.ofNat 32 p.val) (U (Shape.Idx.ofFin ⟨0, by decide⟩))) = 1#1 := he (Shape.Idx.ofFin p)
  have h2 : ¬ IntOp.cmpi .sge (BitVec.ofNat 32 p.val) (U (Shape.Idx.ofFin ⟨0, by decide⟩)) = 1#1 := fun k => by
    have k := IntOp.cmpi_sge.1 k
    have e1 : (BitVec.ofNat 32 p.val).toInt = p.val := by
      rw [BitVec.toInt_eq_toNat_cond, word_nat p.isLt, if_pos (by have := p.isLt; omega)]
    rw [e1, BitVec.toInt_eq_toNat_cond, if_pos (by omega)] at k
    omega
  have h3 := (IntOp.ori_eq_one.1 h1).resolve_right h2
  obtain ⟨hl, hr⟩ := IntOp.andi_eq_one.1 h3
  have hl' : (0 : ℤ) ≤ (E (Shape.Idx.ofFin p)).toInt := IntOp.cmpi_sge.1 hl
  have hr' : (E (Shape.Idx.ofFin p)).toInt < 32 := IntOp.cmpi_slt.1 hr
  have := (toInt_small (n := 31) (by decide) hl' (by omega)).1
  omega
end

end Cert.Kernel2Ideal.Hand

end
-- ==== Proof.FfnRun.lean ====
/-
  The experts call: every point run in turn, from the arguments to the result.
-/
module

public import proofs.«01_k».proof.Proof.FfnBody
public import proofs.«01_k».proof.Proof.FfnTables
public import Idealize.ShloMosaic.Lib.Pipeline.FrameBody
public import Idealize.ShloMosaic.Lib.Pipeline.FrameValue
public import Idealize.ShloMosaic.Lib.Pipeline.TableIdle
public import Idealize.ShloMosaic.Lib.Pipeline.ValueKit.Geometry

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline at the tables the launch finds -/

/-- The two tables as the launch finds them. -/
def pfm : pre0.Contents (Elt F) := fun k => V m (0 : Dev nD) (pre0.ref k)

theorem named_of (h : Listed (m (((0 : Dev nD) : Thread nD τ).loc main_arg0)) (m (((0 : Dev nD) : Thread nD τ).loc main_arg1))) : Named (pfm m) := by
  have hU : tabU (pfm m) = m (((0 : Dev nD) : Thread nD τ).loc main_arg1) := V_main_arg1 m 0
  have hE : tabE (pfm m) = spread (m (((0 : Dev nD) : Thread nD τ).loc main_arg0)) (m (((0 : Dev nD) : Thread nD τ).loc main_arg1)) := V_main_v14 m 0
  refine ⟨fun b => ?_, ?_, ?_⟩
  · unfold eN
    split
    · rw [hE, spread_at h.one h.u ⟨b, ‹_›⟩]; exact h.e _ (by have := h.one; show min b _ < _; omega)
    · decide
  · unfold uN; rw [hU]; exact h.one
  · unfold uN; rw [hU]; exact h.u

variable (hn : Named (pfm m))

abbrev adm : (pcfg0 (F := F)).Adm := ⟨pfm m, ok_of hn⟩
abbrev cfgA : Cfg sig Λ₀ := cfg0 (adm m hn)

theorem N_A : (cfgA m hn).N = 608 := N_0

/-- Point `n`. -/
def pt (n : ℕ) (h : n < 608) : Fin (cfgA m hn).N := ⟨n, by rw [N_A]; exact h⟩

theorem coords_at : ∀ t : Fin grid0.N, (grid0.coords t 0).val = t.val / 2 ∧ (grid0.coords t 1).val = t.val % 2 := by decide +kernel

theorem lt_608 (t : Fin (cfgA m hn).N) : t.val < 608 := (N_A m hn) ▸ t.isLt

/-- Window `w`'s block at point `t`, as the launch finds its array. -/
def iblk (c : Dev nD) (w : Fin (cfgA m hn).W) (t : Fin (cfgA m hn).N) : (((cfgA m hn).win w).xblock ((cfgA m hn).grid.coords t)).Idx → Elt F ((cfgA m hn).win w).elt :=
  (((cfgA m hn).win w).blk t).view.read (Elt F) (V m c (Pipeline.arrRef spec0 w))

def blkX (c : Dev nD) (t : Fin (cfgA m hn).N) : S512x2048.Idx → Elt F .f32 := iblk m hn c 0 t
def blkWg (c : Dev nD) (t : Fin (cfgA m hn).N) : S1x2048x1024.Idx → Elt F .f32 := iblk m hn c 1 t
def blkWu (c : Dev nD) (t : Fin (cfgA m hn).N) : S1x2048x1024.Idx → Elt F .f32 := iblk m hn c 2 t
def blkBg (c : Dev nD) (t : Fin (cfgA m hn).N) : S1x1x1024.Idx → Elt F .f32 := iblk m hn c 3 t
def blkBu (c : Dev nD) (t : Fin (cfgA m hn).N) : S1x1x1024.Idx → Elt F .f32 := iblk m hn c 4 t
def blkWd (c : Dev nD) (t : Fin (cfgA m hn).N) : S1x1024x2048.Idx → Elt F .f32 := iblk m hn c 5 t
def blkBd (c : Dev nD) (t : Fin (cfgA m hn).N) : S1x1x2048.Idx → Elt F .f32 := iblk m hn c 6 t

/-- The point before. -/
def prv (t : Fin (cfgA m hn).N) : Fin (cfgA m hn).N := ⟨t.val - 1, by have := t.isLt; omega⟩

/-- What a point's activations and running sum are when its block is full, -/
def actAt (c : Dev nD) (h : S512x2048.Idx → Elt F .bf16) (t : Fin (cfgA m hn).N) : FVec F S512x1024 .bf16 :=
  actF h (blkWg m hn c t) (blkWu m hn c t) (blkBg m hn c t) (blkBu m hn c t)
def rowsAt (c : Dev nD) (t : Fin (cfgA m hn).N) : S512x2048.Idx → Elt F .bf16 := hF (blkX m hn c (prv m hn t))
def sumAt (c : Dev nD) (t : Fin (cfgA m hn).N) : S512x2048.Idx → Elt F .f32 :=
  sumF zF (actAt m hn c (rowsAt m hn c t) (prv m hn t)) (blkWd m hn c (prv m hn t))
def fullAt (c : Dev nD) (t : Fin (cfgA m hn).N) : S512x2048.Idx → Elt F .f32 :=
  resF (sumF (sumAt m hn c t) (actAt m hn c (rowsAt m hn c t) t) (blkWd m hn c t)) (blkBd m hn c t)
/-- and when only its upper half is. -/
def actAtH (c : Dev nD) (h : S256x2048.Idx → Elt F .bf16) (t : Fin (cfgA m hn).N) : FVec F S256x1024 .bf16 :=
  actH h (blkWg m hn c t) (blkWu m hn c t) (blkBg m hn c t) (blkBu m hn c t)
def rowsAtH (c : Dev nD) (t : Fin (cfgA m hn).N) : S256x2048.Idx → Elt F .bf16 := hH (part top (blkX m hn c (prv m hn t)))
def sumAtH (c : Dev nD) (t : Fin (cfgA m hn).N) : S256x2048.Idx → Elt F .f32 :=
  sumH zH (actAtH m hn c (rowsAtH m hn c t) (prv m hn t)) (blkWd m hn c (prv m hn t))
def halfAt (c : Dev nD) (t : Fin (cfgA m hn).N) : S256x2048.Idx → Elt F .f32 :=
  resH (sumH (sumAtH m hn c t) (actAtH m hn c (rowsAtH m hn c t) t) (blkWd m hn c t)) (blkBd m hn c t)

/-- A place of a half block. -/
def ix (r : Fin 256) (k : Fin 2048) : S256x2048.Idx := fun a => match a with
  | ⟨0, _⟩ => r
  | ⟨1, _⟩ => k

/-- A block's upper half at `X`, its lower half zero. -/
def upper (X : S256x2048.Idx → Elt F .f32) : S512x2048.Idx → Elt F .f32 := fun y =>
  if h : (y 0).val < 256 then X (ix ⟨(y 0).val, h⟩ ⟨(y 1).val, (y 1).isLt⟩) else (Scalar.ofBits .f32 0x00000000#32 : F .f32)

theorem upper_of {o : S512x2048.Idx → Elt F .f32} {X : S256x2048.Idx → Elt F .f32} (h1 : part top o = X)
    (h2 : part bot o = broadcast S256x2048 (Scalar.ofBits .f32 0x00000000#32 : F .f32)) : o = upper X := by
  funext y
  have hy : (y 0).val < 512 := (y 0).isLt
  unfold upper
  split
  · next h =>
    rw [← h1]
    refine congrArg o (funext fun a => Fin.ext ?_)
    match a with
    | ⟨0, _⟩ => show (y 0).val = 0 + 1 * (y 0).val; omega
    | ⟨1, _⟩ => show (y 1).val = 0 + 1 * (y 1).val; omega
  · next h =>
    have := congrFun h2 (ix ⟨(y 0).val - 256, by omega⟩ ⟨(y 1).val, (y 1).isLt⟩)
    refine Eq.trans (congrArg o (funext fun a => Fin.ext ?_)) this
    match a with
    | ⟨0, _⟩ => show (y 0).val = 256 + 1 * ((y 0).val - 256); omega
    | ⟨1, _⟩ => show (y 1).val = 0 + 1 * (y 1).val; omega

open Classical in
/-- What the output's block holds once its last point has run. -/
def outAt (c : Dev nD) (t : Fin (cfgA m hn).N) : S512x2048.Idx → Elt F .f32 :=
  if t.val / 2 < uN (pfm m) then (if halfN (pfm m) (t.val / 2) then upper (halfAt m hn c t) else fullAt m hn c t) else zeros

/-- What the two scratch buffers hold before point `n`. -/
def Inv (c : Dev nD) (n : ℕ) (h : S512x2048.Idx → Elt F .bf16) (a : S512x2048.Idx → Elt F .f32) : Prop :=
  ∀ ht : n < 608, n % 2 = 1 → n / 2 < uN (pfm m) →
    (¬ halfN (pfm m) (n / 2) → h = rowsAt m hn c (pt m hn n ht) ∧ a = sumAt m hn c (pt m hn n ht))
    ∧ (halfN (pfm m) (n / 2) → part top h = rowsAtH m hn c (pt m hn n ht) ∧ part top a = sumAtH m hn c (pt m hn n ht))

/-- The invariant: the tables, the scratch buffers. -/
def Phi (c : Dev nD) (n : ℕ) : sProp 𝕄 :=
  iprop((Pipeline.prefHeld pre0 c (fun _ => fullShare.right) (pfm m) ∗ ∃ r, prngReg c r)
    ∗ ∃ h a, ⌜Inv m hn c n h a⌝ ∗ owns (c : Thread nD τ) (Memref.whole cc0_scratch0) fullShare h ∗ owns (c : Thread nD τ) (Memref.whole cc0_scratch1) fullShare a)

def dats (_ : Fin 1) (c : Dev nD) : Dat τ (Elt F) Unit ℕ (UR sig nD τ) ℕ (cfgA m hn) c where
  A w := V m c (Pipeline.arrRef spec0 w)
  after w t := match w with
    | ⟨0, _⟩ => iblk m hn c 0 t
    | ⟨1, _⟩ => iblk m hn c 1 t
    | ⟨2, _⟩ => iblk m hn c 2 t
    | ⟨3, _⟩ => iblk m hn c 3 t
    | ⟨4, _⟩ => iblk m hn c 4 t
    | ⟨5, _⟩ => iblk m hn c 5 t
    | ⟨6, _⟩ => iblk m hn c 6 t
    | ⟨7, _⟩ => outAt m hn c t
    | ⟨_ + 8, h⟩ => absurd h (Nat.not_lt.2 (Nat.le_add_left _ _))
  Φ t := Phi m hn c t.val
  q w := Pipeline.shareOf spec0 w
  owed _ := 0

theorem A_eq (c : Dev nD) (w : Fin (cfgA m hn).W) : (dats m hn 0 c).A w = V m c (Pipeline.arrRef spec0 w) := by dsimp only [dats]
theorem Φ_eq (c : Dev nD) (t : Fin ((cfgA m hn).N + 1)) : (dats m hn 0 c).Φ t = Phi m hn c t.val := by dsimp only [dats]
theorem after0 (c : Dev nD) (t : Fin (cfgA m hn).N) : (dats m hn 0 c).after 0 t = iblk m hn c 0 t := by dsimp only [dats]; rfl
theorem after1 (c : Dev nD) (t : Fin (cfgA m hn).N) : (dats m hn 0 c).after 1 t = iblk m hn c 1 t := by dsimp only [dats]; rfl
theorem after2 (c : Dev nD) (t : Fin (cfgA m hn).N) : (dats m hn 0 c).after 2 t = iblk m hn c 2 t := by dsimp only [dats]; rfl
theorem after3 (c : Dev nD) (t : Fin (cfgA m hn).N) : (dats m hn 0 c).after 3 t = iblk m hn c 3 t := by dsimp only [dats]; rfl
theorem after4 (c : Dev nD) (t : Fin (cfgA m hn).N) : (dats m hn 0 c).after 4 t = iblk m hn c 4 t := by dsimp only [dats]; rfl
theorem after5 (c : Dev nD) (t : Fin (cfgA m hn).N) : (dats m hn 0 c).after 5 t = iblk m hn c 5 t := by dsimp only [dats]; rfl
theorem after6 (c : Dev nD) (t : Fin (cfgA m hn).N) : (dats m hn 0 c).after 6 t = iblk m hn c 6 t := by dsimp only [dats]; rfl
theorem after7 (c : Dev nD) (t : Fin (cfgA m hn).N) : (dats m hn 0 c).after 7 t = outAt m hn c t := by dsimp only [dats]; rfl

/-- A window the body leaves in place holds its block at every point. -/
theorem before_of (c : Dev nD) (w : Fin (cfgA m hn).W) (hw : ((cfgA m hn).win w).isOut = false) (hi : ∀ i, (cfgA m hn).idle w i = false)
    (hc : ∀ t t' : Fin (cfgA m hn).N, ((cfgA m hn).win w).index t = ((cfgA m hn).win w).index t' → ((cfgA m hn).win w).clip ((cfgA m hn).grid.coords t) = ((cfgA m hn).win w).clip ((cfgA m hn).grid.coords t'))
    (hk : ∀ t, ((cfgA m hn).win w).cut ((cfgA m hn).grid.coords t) ((dats m hn 0 c).after w t) = (dats m hn 0 c).blockOf w t)
    (t : Fin (cfgA m hn).N) (d) {b} (hf : (dats m hn 0 c).fetched w t d = b) : (dats m hn 0 c).before w t d = b :=
  ((dats m hn 0 c).before_in_eq_fetched w hw hi hc hk t d).trans hf

theorem before0 (c : Dev nD) (t : Fin (cfgA m hn).N) (d) : (dats m hn 0 c).before 0 t d = blkX m hn c t :=
  before_of m hn c 0 rfl (fun _ => rfl) (fun _ _ _ => rfl) (fun t => by rw [after0]; rfl) t d rfl
theorem before1 (c : Dev nD) (t : Fin (cfgA m hn).N) (d) : (dats m hn 0 c).before 1 t d = blkWg m hn c t :=
  before_of m hn c 1 rfl (fun _ => rfl) (fun _ _ _ => rfl) (fun t => by rw [after1]; rfl) t d rfl
theorem before2 (c : Dev nD) (t : Fin (cfgA m hn).N) (d) : (dats m hn 0 c).before 2 t d = blkWu m hn c t :=
  before_of m hn c 2 rfl (fun _ => rfl) (fun _ _ _ => rfl) (fun t => by rw [after2]; rfl) t d rfl
theorem before3 (c : Dev nD) (t : Fin (cfgA m hn).N) (d) : (dats m hn 0 c).before 3 t d = blkBg m hn c t :=
  before_of m hn c 3 rfl (fun _ => rfl) (fun _ _ _ => rfl) (fun t => by rw [after3]; rfl) t d rfl
theorem before4 (c : Dev nD) (t : Fin (cfgA m hn).N) (d) : (dats m hn 0 c).before 4 t d = blkBu m hn c t :=
  before_of m hn c 4 rfl (fun _ => rfl) (fun _ _ _ => rfl) (fun t => by rw [after4]; rfl) t d rfl
theorem before5 (c : Dev nD) (t : Fin (cfgA m hn).N) (d) : (dats m hn 0 c).before 5 t d = blkWd m hn c t :=
  before_of m hn c 5 rfl (fun _ => rfl) (fun _ _ _ => rfl) (fun t => by rw [after5]; rfl) t d rfl
theorem before6 (c : Dev nD) (t : Fin (cfgA m hn).N) (d) : (dats m hn 0 c).before 6 t d = blkBd m hn c t :=
  before_of m hn c 6 rfl (fun _ => rfl) (fun _ _ _ => rfl) (fun t => by rw [after6]; rfl) t d rfl

/-! ## The output's window -/

theorem index7 (t : Fin (cfgA m hn).N) : ((cfgA m hn).win 7).index t = ![t.val / 2, 0] :=
  (tr7 (grid0.coords t)).trans (by rw [(coords_at t).1])

theorem flush7 (t : Fin (cfgA m hn).N) : ((cfgA m hn).win 7).flush t = true ↔ t.val % 2 = 1 := by
  have hN := N_A m hn
  have ht := lt_608 m hn t
  unfold Window.flush
  rw [show ((cfgA m hn).win 7).isOut = true from rfl, Bool.true_and, Bool.or_eq_true, decide_eq_true_iff, decide_eq_true_iff]
  constructor
  · rintro (h | ⟨h, hne⟩)
    · have : t.val + 1 = 608 := h.trans N_0
      omega
    · by_contra hc
      refine hne ?_
      rw [index7, index7]
      have : (t.val + 1) / 2 = t.val / 2 := by omega
      simp only [this]; rfl
  · intro h
    by_cases hl : t.val + 1 = 608
    · left; exact hl.trans N_0.symm
    · right
      refine ⟨by have : (cfgA m hn).N = 608 := hN; show t.val + 1 < (cfgA m hn).N; omega, fun he => ?_⟩
      rw [index7, index7] at he
      have := congrFun he 0
      have h2 : (t.val + 1) / 2 = t.val / 2 := this
      omega

theorem idle_at (t : Fin (cfgA m hn).N) : (cfgA m hn).idle 7 ((cfgA m hn).grid.coords t) = decide (t.val / 2 < uN (pfm m) ↔ t.val % 2 = 0) :=
  (idle7 hn (grid0.coords t)).trans (by rw [(coords_at t).1, (coords_at t).2])

/-- The second point of a block past the used ones finds the zeros the first left. -/
theorem before_dead (c : Dev nD) (t : Fin (cfgA m hn).N) (h1 : t.val % 2 = 1) (hd : ¬ t.val / 2 < uN (pfm m)) (d) : (dats m hn 0 c).before 7 t d = zeros := by
  have ht : t.val ≠ 0 := by omega
  rw [Dat.before_of_pos _ 7 t ht rfl, if_neg (by rw [flush7]; show ¬ (t.val - 1) % 2 = 1; omega)]
  unfold Dat.left
  have hi := idle_at m hn ⟨t.val - 1, Nat.lt_of_le_of_lt (Nat.sub_le _ _) t.isLt⟩
  rw [decide_eq_false (by show ¬ ((t.val - 1) / 2 < _ ↔ (t.val - 1) % 2 = 0); have : (t.val - 1) / 2 = t.val / 2 := by omega
                          rw [this]; intro hh; exact hd (hh.2 (by omega)))] at hi
  rw [hi]
  refine Eq.trans (b := outAt m hn c ⟨t.val - 1, Nat.lt_of_le_of_lt (Nat.sub_le _ _) t.isLt⟩) rfl ?_
  unfold outAt
  exact if_neg (by show ¬ (t.val - 1) / 2 < _; have : (t.val - 1) / 2 = t.val / 2 := by omega
                   rw [this]; exact hd)

/-! ## A point -/

/-- The kernel at point `t`. -/
abbrev bodyAt (t : Fin (cfgA m hn).N) : Prog (TpuEff nD τ sig (Elt F) Λ₀ .tc) PUnit :=
  cc0_experts (F := F) (grid0.coords t) (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _)

/-- What a point holds: its blocks, the output's at `o`, the scratch buffers at `h` and `a`. -/
abbrev MemAt (c : Dev nD) (t : Fin (cfgA m hn).N) (o : S512x2048.Idx → Elt F .f32) (h : S512x2048.Idx → Elt F .bf16) (a : S512x2048.Idx → Elt F .f32) : sProp 𝕄 :=
  Mem (Memref.whole main_arg1) (spec0_0.stage ((cfgA m hn).slots t 0)) (spec0_1.stage ((cfgA m hn).slots t 1)) (spec0_2.stage ((cfgA m hn).slots t 2)) (spec0_3.stage ((cfgA m hn).slots t 3)) (spec0_4.stage ((cfgA m hn).slots t 4)) (spec0_5.stage ((cfgA m hn).slots t 5)) (spec0_6.stage ((cfgA m hn).slots t 6)) (spec0_7.stage ((cfgA m hn).slots t 7)) (Memref.whole cc0_scratch0) (Memref.whole cc0_scratch1) c (tabU (pfm m)) (blkX m hn c t) (blkWg m hn c t) (blkWu m hn c t) (blkBg m hn c t) (blkBu m hn c t) (blkWd m hn c t) (blkBd m hn c t) o h a

/-- What a point leaves in the output's block, found at `d`. -/
def Left (c : Dev nD) (t : Fin (cfgA m hn).N) (d o : S512x2048.Idx → Elt F .f32) : Prop :=
  (t.val % 2 = 0 ∧ t.val / 2 < uN (pfm m) ∧ o = d) ∨ (¬ (t.val % 2 = 0 ∧ t.val / 2 < uN (pfm m)) ∧ o = outAt m hn c t)

/-- What a point leaves. -/
def After (c : Dev nD) (t : Fin (cfgA m hn).N) (d : S512x2048.Idx → Elt F .f32) : sProp 𝕄 :=
  iprop(∃ o h a, ⌜Inv m hn c (t.val + 1) h a ∧ Left m hn c t d o⌝ ∗ MemAt m hn c t o h a)

theorem after_of {c : Dev nD} {t : Fin (cfgA m hn).N} {d o : S512x2048.Idx → Elt F .f32} {h : S512x2048.Idx → Elt F .bf16} {a : S512x2048.Idx → Elt F .f32}
    (h1 : Inv m hn c (t.val + 1) h a) (h2 : Left m hn c t d o) : MemAt m hn c t o h a ⊢ After m hn c t d := by
  unfold After
  iintro H
  iexists o; iexists h; iexists a
  isplitr
  · ipureintro; exact ⟨h1, h2⟩
  iexact H

theorem inv_even {c : Dev nD} {n : ℕ} (h0 : n % 2 = 0) (h : S512x2048.Idx → Elt F .bf16) (a : S512x2048.Idx → Elt F .f32) : Inv m hn c n h a :=
  fun _ h1 => absurd h1 (by omega)

theorem inv_dead {c : Dev nD} {n : ℕ} (h0 : ¬ n / 2 < uN (pfm m)) (h : S512x2048.Idx → Elt F .bf16) (a : S512x2048.Idx → Elt F .f32) : Inv m hn c n h a :=
  fun _ _ h1 => absurd h1 h0

theorem half_word (t : Fin (cfgA m hn).N) : halfN (pfm m) (t.val / 2) ↔ tabU (pfm m) (Shape.Idx.ofFin ⟨(grid0.coords t 0).val + 1, by have := first_lt (grid0.coords t); omega⟩) = 1#32 := by
  rw [← half_at (grid0.coords t), (coords_at t).1]

theorem word_u (z) : tabU (pfm m) ((Rect.unit (s := S305) ![0] S1.size inb_S305_S1_0).emb z) = tabU (pfm m) (Shape.Idx.ofFin ⟨0, by decide⟩) :=
  congrArg _ (emb_one (by decide) z)
theorem word_v (i : grid0.Coords) (z) : tabU (pfm m) ((Rect.unit (s := S305) (k0_off2 i) S1.size (k0_off2_inb i)).emb z) = tabU (pfm m) (Shape.Idx.ofFin ⟨(i 0).val + 1, by have := first_lt i; omega⟩) :=
  congrArg _ (emb_fill i z)

theorem point (c : Dev nD) (t : Fin (cfgA m hn).N) (d : S512x2048.Idx → Elt F .f32) (h : S512x2048.Idx → Elt F .bf16) (a : S512x2048.Idx → Elt F .f32)
    (hI : Inv m hn c t.val h a) (hd : t.val % 2 = 1 → ¬ t.val / 2 < uN (pfm m) → d = zeros) : MemAt m hn c t d h a ⊢ Wp c (bodyAt m hn t) (fun _ => After m hn c t d) := by
  have ht := lt_608 m hn t
  have hu := word_u m
  have hv := word_v m (grid0.coords t)
  have hL : (tabU (pfm m) (Shape.Idx.ofFin ⟨0, by decide⟩)).toNat < 2 ^ 31 := hn.u
  obtain ⟨i0, i1⟩ := coords_at t
  have hw := half_word m hn t
  have hlive : (grid0.coords t 0).val < (tabU (pfm m) (Shape.Idx.ofFin ⟨0, by decide⟩)).toNat ↔ t.val / 2 < uN (pfm m) := by rw [i0]; rfl
  have hp : pt m hn t.val ht = t := rfl
  have c1 := (cond1 (i := grid0.coords t) (v := tabU (pfm m) (Shape.Idx.ofFin ⟨(grid0.coords t 0).val + 1, by have := first_lt (grid0.coords t); omega⟩)) hL)
  have c4 := (cond4 (i := grid0.coords t) (v := tabU (pfm m) (Shape.Idx.ofFin ⟨(grid0.coords t 0).val + 1, by have := first_lt (grid0.coords t); omega⟩)) hL)
  have c8 := (cond8 (i := grid0.coords t) hL)
  have c3 := cond3 (i := grid0.coords t)
  have c6 := cond6 (i := grid0.coords t)
  have c7 := cond7 (i := grid0.coords t)
  rw [hlive, ← hw] at c1 c4
  rw [hlive, i1] at c8
  rw [i1] at c3 c6 c7
  by_cases live : t.val / 2 < uN (pfm m)
  · have n8 : k0_cond8 (grid0.coords t) (tabU (pfm m) (Shape.Idx.ofFin ⟨0, by decide⟩)) ≠ 1#1 := fun e => (c8.1 e).1 live
    by_cases half : halfN (pfm m) (t.val / 2)
    · have n1 := fun e => (c1.1 e).2 half
      have y4 := c4.2 ⟨live, half⟩
      by_cases odd : t.val % 2 = 1
      · obtain ⟨hh, ha⟩ := (hI ht odd live).2 half
        refine (body_half1 (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _) hu hv n1 y4 n8 (c6.2 odd) (c7.2 odd) (i1.trans odd) hh ha).trans (wp_mono _ _ _ fun _ => ?_)
        iintro ⟨%o', %a', H, %e⟩
        have e1 := upper_of e.1 e.2
        iapply (after_of m hn (inv_even m hn (by omega) h a') (Or.inr ⟨fun q => by omega, e1.trans (by unfold outAt; rw [if_pos live, if_pos half]; rfl)⟩)); iexact H
      · have ev : t.val % 2 = 0 := by omega
        refine (body_half0 (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _) hu hv n1 y4 n8 (fun e => odd (c6.1 e)) (fun e => odd (c7.1 e)) (i1.trans ev)).trans (wp_mono _ _ _ fun _ => ?_)
        iintro ⟨%h', %a', H, %e⟩
        iapply (after_of m hn (fun hs _ _ => ⟨fun q => absurd ((show (t.val + 1) / 2 = t.val / 2 by omega) ▸ half) q, fun _ => e⟩) (Or.inl ⟨ev, live, rfl⟩)); iexact H
    · have y1 := c1.2 ⟨live, half⟩
      have n4 := fun e => half (c4.1 e).2
      by_cases odd : t.val % 2 = 1
      · obtain ⟨hh, ha⟩ := (hI ht odd live).1 half
        subst hh; subst ha
        refine (body_full1 (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _) hu hv y1 n4 n8 (c3.2 odd) (i1.trans odd)).trans (wp_mono _ _ _ fun _ => ?_)
        exact after_of m hn (inv_even m hn (by omega) _ _) (Or.inr ⟨fun q => by omega, by unfold outAt; rw [if_pos live, if_neg half]; rfl⟩)
      · have ev : t.val % 2 = 0 := by omega
        refine (body_full0 (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _) hu hv y1 n4 n8 (fun e => odd (c3.1 e)) (i1.trans ev)).trans (wp_mono _ _ _ fun _ => ?_)
        exact after_of m hn (fun hs _ _ => ⟨fun _ => ⟨rfl, rfl⟩, fun q => absurd ((show (t.val + 1) / 2 = t.val / 2 by omega) ▸ q) half⟩) (Or.inl ⟨ev, live, rfl⟩)
  · have n1 := fun e => live (c1.1 e).1
    have n4 := fun e => live (c4.1 e).1
    have hz : zeros = outAt m hn c t := by unfold outAt; rw [if_neg live]
    by_cases odd : t.val % 2 = 1
    · refine (body_dead1 (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _) hu hv n1 n4 (fun e => by have := (c8.1 e).2; omega)).trans (wp_mono _ _ _ fun _ => ?_)
      exact after_of m hn (inv_even m hn (by omega) _ _) (Or.inr ⟨fun q => live q.2, (hd odd live).trans hz⟩)
    · have ev : t.val % 2 = 0 := by omega
      refine (body_dead0 (Memref.whole main_v14) (Memref.isWhole_whole _) (Memref.whole main_arg1) (Memref.isWhole_whole _) (spec0_0.stage ((cfgA m hn).slots t 0)) (hstage0_0 (((cfgA m hn).slots t 0).cast nbuf0_0)) (spec0_1.stage ((cfgA m hn).slots t 1)) (hstage0_1 (((cfgA m hn).slots t 1).cast nbuf0_1)) (spec0_2.stage ((cfgA m hn).slots t 2)) (hstage0_2 (((cfgA m hn).slots t 2).cast nbuf0_2)) (spec0_3.stage ((cfgA m hn).slots t 3)) (hstage0_3 (((cfgA m hn).slots t 3).cast nbuf0_3)) (spec0_4.stage ((cfgA m hn).slots t 4)) (hstage0_4 (((cfgA m hn).slots t 4).cast nbuf0_4)) (spec0_5.stage ((cfgA m hn).slots t 5)) (hstage0_5 (((cfgA m hn).slots t 5).cast nbuf0_5)) (spec0_6.stage ((cfgA m hn).slots t 6)) (hstage0_6 (((cfgA m hn).slots t 6).cast nbuf0_6)) (spec0_7.stage ((cfgA m hn).slots t 7)) (hstage0_7 (((cfgA m hn).slots t 7).cast nbuf0_7)) (Memref.whole cc0_scratch0) (Memref.isWhole_whole _) (Memref.whole cc0_scratch1) (Memref.isWhole_whole _) hu hv n1 n4 (c8.2 ⟨live, ev⟩)).trans (wp_mono _ _ _ fun _ => ?_)
      exact after_of m hn (inv_dead m hn (by rw [show (t.val + 1) / 2 = t.val / 2 by omega]; exact live) _ _) (Or.inr ⟨fun q => live q.2, hz⟩)

end Cert.Kernel2Ideal.Hand

end
-- ==== Proof.FfnLaunch.lean ====
/-
  The experts call: the launch.
-/
module

public import proofs.«01_k».proof.Proof.FfnRun

@[expose] public section

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (hn : Named (pfm m))

/-! ## A point, as the launch asks for it -/

abbrev Given (c : Dev nD) (t : Fin (cfgA m hn).N) : sProp 𝕄 :=
  iprop(owns (c : Thread nD τ) (spec0_0.stage ((cfgA m hn).slots t 0)) fullShare (blkX m hn c t) ∗ owns (c : Thread nD τ) (spec0_1.stage ((cfgA m hn).slots t 1)) fullShare (blkWg m hn c t) ∗ owns (c : Thread nD τ) (spec0_2.stage ((cfgA m hn).slots t 2)) fullShare (blkWu m hn c t) ∗ owns (c : Thread nD τ) (spec0_3.stage ((cfgA m hn).slots t 3)) fullShare (blkBg m hn c t) ∗ owns (c : Thread nD τ) (spec0_4.stage ((cfgA m hn).slots t 4)) fullShare (blkBu m hn c t) ∗ owns (c : Thread nD τ) (spec0_5.stage ((cfgA m hn).slots t 5)) fullShare (blkWd m hn c t) ∗ owns (c : Thread nD τ) (spec0_6.stage ((cfgA m hn).slots t 6)) fullShare (blkBd m hn c t))

/-- What a point carries untouched. -/
abbrev Aside (c : Dev nD) (t : Fin ((cfgA m hn).N + 1)) : sProp 𝕄 :=
  iprop((((c : Thread nD τ).loc main_v14) ↦{fullShare.right} (tabE (pfm m))) ∗ (∃ r, prngReg c r) ∗ (dats m hn 0 c).owesAt () t)

/-- The output's block as a point hands it on. -/
def Hands (c : Dev nD) (t : Fin (cfgA m hn).N) : sProp 𝕄 :=
  match (cfgA m hn).idle 7 ((cfgA m hn).grid.coords t) with
  | true =>
    match ((cfgA m hn).win 7).flush t with
    | false => iprop(∃ d, owns (c : Thread nD τ) (spec0_7.stage ((cfgA m hn).slots t 7)) fullShare ((dats m hn 0 c).before 7 t d))
    | true => owns (c : Thread nD τ) (spec0_7.stage ((cfgA m hn).slots t 7)) fullShare ((dats m hn 0 c).after 7 t)
  | false => owns (c : Thread nD τ) (spec0_7.stage ((cfgA m hn).slots t 7)) fullShare ((dats m hn 0 c).after 7 t)

def bodyPre (c : Dev nD) (t : Fin (cfgA m hn).N) : sProp 𝕄 :=
  iprop((dats m hn 0 c).Φ t.castSucc ∗ (dats m hn 0 c).owesAt () t.castSucc ∗ (∃ d, owns (c : Thread nD τ) (spec0_0.stage ((cfgA m hn).slots t 0)) fullShare ((dats m hn 0 c).before 0 t d)) ∗ (∃ d, owns (c : Thread nD τ) (spec0_1.stage ((cfgA m hn).slots t 1)) fullShare ((dats m hn 0 c).before 1 t d)) ∗ (∃ d, owns (c : Thread nD τ) (spec0_2.stage ((cfgA m hn).slots t 2)) fullShare ((dats m hn 0 c).before 2 t d)) ∗ (∃ d, owns (c : Thread nD τ) (spec0_3.stage ((cfgA m hn).slots t 3)) fullShare ((dats m hn 0 c).before 3 t d)) ∗ (∃ d, owns (c : Thread nD τ) (spec0_4.stage ((cfgA m hn).slots t 4)) fullShare ((dats m hn 0 c).before 4 t d)) ∗ (∃ d, owns (c : Thread nD τ) (spec0_5.stage ((cfgA m hn).slots t 5)) fullShare ((dats m hn 0 c).before 5 t d)) ∗ (∃ d, owns (c : Thread nD τ) (spec0_6.stage ((cfgA m hn).slots t 6)) fullShare ((dats m hn 0 c).before 6 t d)) ∗ (∃ d, owns (c : Thread nD τ) (spec0_7.stage ((cfgA m hn).slots t 7)) fullShare ((dats m hn 0 c).before 7 t d)))
def bodyPost (c : Dev nD) (t : Fin (cfgA m hn).N) : sProp 𝕄 :=
  iprop((dats m hn 0 c).Φ t.succ ∗ (dats m hn 0 c).owesAt () t.succ ∗ owns (c : Thread nD τ) (spec0_0.stage ((cfgA m hn).slots t 0)) fullShare ((dats m hn 0 c).after 0 t) ∗ owns (c : Thread nD τ) (spec0_1.stage ((cfgA m hn).slots t 1)) fullShare ((dats m hn 0 c).after 1 t) ∗ owns (c : Thread nD τ) (spec0_2.stage ((cfgA m hn).slots t 2)) fullShare ((dats m hn 0 c).after 2 t) ∗ owns (c : Thread nD τ) (spec0_3.stage ((cfgA m hn).slots t 3)) fullShare ((dats m hn 0 c).after 3 t) ∗ owns (c : Thread nD τ) (spec0_4.stage ((cfgA m hn).slots t 4)) fullShare ((dats m hn 0 c).after 4 t) ∗ owns (c : Thread nD τ) (spec0_5.stage ((cfgA m hn).slots t 5)) fullShare ((dats m hn 0 c).after 5 t) ∗ owns (c : Thread nD τ) (spec0_6.stage ((cfgA m hn).slots t 6)) fullShare ((dats m hn 0 c).after 6 t) ∗ Hands m hn c t)

theorem hands_of {c : Dev nD} {t : Fin (cfgA m hn).N} {d o : S512x2048.Idx → Elt F .f32} (h : Left m hn c t ((dats m hn 0 c).before 7 t d) o) :
    owns (c : Thread nD τ) (spec0_7.stage ((cfgA m hn).slots t 7)) fullShare o ⊢ (Hands m hn c t : sProp 𝕄) := by
  have hi := idle_at m hn t
  have hf := flush7 m hn t
  unfold Hands
  obtain ⟨h0, hl, rfl⟩ | ⟨hno, rfl⟩ := h
  · rw [hi, decide_eq_true (by simp only [hl, h0]), show ((cfgA m hn).win 7).flush t = false from by rw [← Bool.not_eq_true, hf]; omega]
    iintro H; iexists d; iexact H
  · rw [← after7, hi]
    by_cases hx : (t.val / 2 < uN (pfm m) ↔ t.val % 2 = 0)
    · rw [decide_eq_true hx, show ((cfgA m hn).win 7).flush t = true from by rw [hf]; by_contra hc; exact hno ⟨by omega, hx.2 (by omega)⟩]
    · rw [decide_eq_false hx]

theorem tables_eq (c : Dev nD) : (Pipeline.prefHeld pre0 c (fun _ => fullShare.right) (pfm m) : sProp 𝕄)
    = iprop((((c : Thread nD τ).loc main_v14) ↦{fullShare.right} (tabE (pfm m))) ∗ owns (c : Thread nD τ) (Memref.whole main_arg1) fullShare.right (tabU (pfm m))) := by
  unfold Pipeline.prefHeld
  rw [BI.bigSep_fin_two, owns_whole]
  rfl

theorem mono {A A' B B' : sProp 𝕄} (h1 : A ⊢ A') (h2 : B ⊢ B') : iprop(A ∗ B) ⊢ iprop(A' ∗ B') := BI.sep_mono h1 h2

theorem drop_choice {X : Type} {P : sProp 𝕄} {Z : X → sProp 𝕄} (h : ∀ x, Z x ⊢ P) : iprop(∃ x, Z x) ⊢ P := by
  iintro ⟨%x, H⟩
  iapply (h x); iexact H

theorem pre_in (c : Dev nD) (t : Fin (cfgA m hn).N) : bodyPre m hn c t ⊢ iprop(Phi m hn c t.val ∗ (dats m hn 0 c).owesAt () t.castSucc ∗ owns (c : Thread nD τ) (spec0_0.stage ((cfgA m hn).slots t 0)) fullShare (blkX m hn c t) ∗ owns (c : Thread nD τ) (spec0_1.stage ((cfgA m hn).slots t 1)) fullShare (blkWg m hn c t) ∗ owns (c : Thread nD τ) (spec0_2.stage ((cfgA m hn).slots t 2)) fullShare (blkWu m hn c t) ∗ owns (c : Thread nD τ) (spec0_3.stage ((cfgA m hn).slots t 3)) fullShare (blkBg m hn c t) ∗ owns (c : Thread nD τ) (spec0_4.stage ((cfgA m hn).slots t 4)) fullShare (blkBu m hn c t) ∗ owns (c : Thread nD τ) (spec0_5.stage ((cfgA m hn).slots t 5)) fullShare (blkWd m hn c t) ∗ owns (c : Thread nD τ) (spec0_6.stage ((cfgA m hn).slots t 6)) fullShare (blkBd m hn c t) ∗ ∃ d, owns (c : Thread nD τ) (spec0_7.stage ((cfgA m hn).slots t 7)) fullShare ((dats m hn 0 c).before 7 t d)) := by
  unfold bodyPre
  refine mono (.of_eq (Φ_eq m hn c _)) (mono .rfl ?_)
  exact (mono (drop_choice fun d => .of_eq (by rw [before0])) (mono (drop_choice fun d => .of_eq (by rw [before1])) (mono (drop_choice fun d => .of_eq (by rw [before2])) (mono (drop_choice fun d => .of_eq (by rw [before3])) (mono (drop_choice fun d => .of_eq (by rw [before4])) (mono (drop_choice fun d => .of_eq (by rw [before5])) (mono (drop_choice fun d => .of_eq (by rw [before6]))  .rfl)))))))

theorem post_out (c : Dev nD) (t : Fin (cfgA m hn).N) : iprop(Phi m hn c (t.val + 1) ∗ (dats m hn 0 c).owesAt () t.castSucc ∗ owns (c : Thread nD τ) (spec0_0.stage ((cfgA m hn).slots t 0)) fullShare (blkX m hn c t) ∗ owns (c : Thread nD τ) (spec0_1.stage ((cfgA m hn).slots t 1)) fullShare (blkWg m hn c t) ∗ owns (c : Thread nD τ) (spec0_2.stage ((cfgA m hn).slots t 2)) fullShare (blkWu m hn c t) ∗ owns (c : Thread nD τ) (spec0_3.stage ((cfgA m hn).slots t 3)) fullShare (blkBg m hn c t) ∗ owns (c : Thread nD τ) (spec0_4.stage ((cfgA m hn).slots t 4)) fullShare (blkBu m hn c t) ∗ owns (c : Thread nD τ) (spec0_5.stage ((cfgA m hn).slots t 5)) fullShare (blkWd m hn c t) ∗ owns (c : Thread nD τ) (spec0_6.stage ((cfgA m hn).slots t 6)) fullShare (blkBd m hn c t) ∗ Hands m hn c t) ⊢ bodyPost m hn c t := by
  unfold bodyPost
  rw [after0, after1, after2, after3, after4, after5, after6]
  exact mono (.of_eq (Φ_eq m hn c t.succ).symm) (BIBase.Entails.of_eq rfl)

theorem opened (c : Dev nD) (t : Fin (cfgA m hn).N) : bodyPre m hn c t
    ⊢ iprop(∃ d h a, ⌜Inv m hn c t.val h a⌝ ∗ (MemAt m hn c t ((dats m hn 0 c).before 7 t d) h a ∗ Aside m hn c t.castSucc)) := by
  refine (pre_in m hn c t).trans ?_
  unfold Phi MemAt Mem Aside
  rw [tables_eq]
  iintro ⟨⟨⟨⟨HV, HT⟩, HP⟩, %h, %a, %hI, Hh, Ha⟩, HO, H0, H1, H2, H3, H4, H5, H6, %d, H7⟩
  iexists d; iexists h; iexists a
  isplitr
  · ipureintro; exact hI
  isplitr [HV HP HO]
  · iframe
  iframe

theorem closed {c : Dev nD} {t : Fin (cfgA m hn).N} {d : S512x2048.Idx → Elt F .f32} :
    iprop(After m hn c t ((dats m hn 0 c).before 7 t d) ∗ Aside m hn c t.castSucc) ⊢ bodyPost m hn c t := by
  refine BIBase.Entails.trans ?_ (post_out m hn c t)
  unfold After MemAt Mem Aside Phi
  rw [tables_eq]
  iintro ⟨⟨%o, %h, %a, %hh, HT, H0, H1, H2, H3, H4, H5, H6, H7, Hh, Ha⟩, HV, HP, HO⟩
  ihave H7 := (hands_of m hn hh.2) $$ H7
  isplitl [HT HV HP Hh Ha]
  · isplitl [HT HV HP]
    · iframe
    iexists h; iexists a
    isplitr
    · ipureintro; exact hh.1
    iframe
  iframe

theorem sound_body (c : Dev nD) (t : Fin (cfgA m hn).N) : bodyPre m hn c t ⊢ Wp c (bodyAt m hn t) (fun _ => bodyPost m hn c t) := by
  refine (opened m hn c t).trans ?_
  refine drop_choice fun d => drop_choice fun h => drop_choice fun a => ?_
  iintro ⟨%hI, H⟩
  iapply ((mono (point m hn c t ((dats m hn 0 c).before 7 t d) h a hI fun h1 h2 => before_dead m hn c t h1 h2 d) BIBase.Entails.rfl).trans
    ((wp_frame_r _ _ _).trans (wp_mono _ _ _ fun _ => closed m hn)))
  iexact H

theorem defs₀_row (t : Fin (cfgA m hn).N) : defs₀ (F := F) .tc (cfgA m hn).body ((cfgA m hn).bodyArgs t ((cfgA m hn).slots t)) = bodyAt m hn t := by
  unfold defs₀; rw [Defs.onTc_tc]

theorem body_obligation (c : Dev nD) : BodyObligation (dats (F := F) m hn 0 c) (defs₀ (F := F)) Variants.none () Set.univ := fun t => by
  rw [bigSep_W0, bigSep_W0, defs₀_row]
  exact triple_restated (sound_body m hn c t) rfl .rfl fun _ => .rfl

/-! ## The run -/

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem scratch_eq (c : Dev nD) : (Pipeline.scopedRest (Ix := Unit) (Name := ℕ) (U := UR sig nD τ) (Lvl := ℕ) (Val := Elt F) spec0 c : sProp 𝕄)
    = iprop((∃ f, owns (c : Thread nD τ) (Memref.whole cc0_scratch0) fullShare f) ∗ (∃ f, owns (c : Thread nD τ) (Memref.whole cc0_scratch1) fullShare f)) := by
  rw [scopedRest0_eq]; simp only [owns_whole]

theorem enters (c : Dev nD) : iprop(Pipeline.ΦA spec0 c ∗ Pipeline.ΦT pre0 (pfm m) c) ⊢ (Phi m hn c 0 : sProp 𝕄) := by
  unfold Pipeline.ΦA Pipeline.ΦT Phi
  rw [scratch_eq]
  iintro ⟨⟨⟨⟨%h, Hh⟩, %a, Ha⟩, HP⟩, HT⟩
  isplitl [HP HT]
  · iframe
  iexists h; iexists a
  isplitr
  · ipureintro; exact inv_even m hn rfl h a
  iframe

theorem exits (c : Dev nD) (n : ℕ) : (Phi m hn c n : sProp 𝕄) ⊢ Pipeline.ΦA spec0 c := by
  unfold Pipeline.ΦA Phi
  rw [scratch_eq]
  iintro ⟨⟨HT, HP⟩, %h, %a, %hI, Hh, Ha⟩
  isplitr [HP]
  · isplitl [Hh]
    · iexists h; iexact Hh
    iexists a; iexact Ha
  iexact HP

theorem tables_at (c : Dev nD) (k : Fin pre0.K) : V m c (pre0.ref k) = pfm m k := by
  obtain rfl : c = 0 := Subsingleton.elim _ _
  rfl

set_option backward.isDefEq.respectTransparency.types false in
theorem run_all : θ_run defs (onTc (τ := τ) (main (F := F))) (s₀ m ρ)
    (fun r => Pipeline.FramePost (Pipeline.pin pcfgs (fun _ => adm m hn)) (dats m hn) 0 (V m) r ∧ r.2.sem = fun _ => 0) :=
  Pipeline.θ_run_frameP_track_shared (Q' := _) pcfgs (fun _ => adm m hn) (dats m hn) (0 : Fin 1) launch₀0 defs₀ Variants.none m ρ main
    (hbody := fun c => (body_obligation m hn c).loose) (hq := fun _ _ _ => rfl)
    (howed := fun _ _ => rfl) (V := V m) (hmain := hmain m Variants.none) (hA := A_eq m hn) (hpf := tables_at m)
    (hin := fun c => (enters m hn c).trans (.of_eq (Φ_eq m hn c 0).symm))
    (hout := fun c => (BIBase.Entails.of_eq (Φ_eq m hn c _)).trans (exits m hn c _))

/-- What the run leaves in the result. -/
def resultOf (c : Dev nD) : S155648x2048.Idx → Elt F .f32 := (dats m hn 0 c).arrAt 7 (cfgA m hn).N

/-- The run: the arguments as they were, the result at `resultOf`, every semaphore at zero. -/
theorem run_main : θ_run defs (onTc (τ := τ) (main (F := F))) ⟨m, fun _ => 0, ρ⟩ (fun r => (∀ c : Dev nD,
      r.2.mem ((c.tc : Thread nD τ).loc main_v15) = resultOf m hn c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => by
    obtain ⟨hF, -⟩ := h
    have hc := hF c
    refine ⟨hc.1 7, ?_, ?_, ?_, ?_, ?_, ?_, ?_⟩
    · exact (hc.2 main_arg0 (Pipeline.mem_restRefs_of main_arg0 (by decide) (show ∀ w : Fin 8, (spec0 w).arr.view.ref ≠ main_arg0 by decide))).trans (V_main_arg0 m c)
    · exact (hc.2 main_arg1 (Pipeline.mem_restRefs_of main_arg1 (by decide) (show ∀ w : Fin 8, (spec0 w).arr.view.ref ≠ main_arg1 by decide))).trans (V_main_arg1 m c)
    · exact (hc.1 0).trans (((dats m hn 0 c).arrAt_in 0 rfl _).trans ((A_eq m hn c 0).trans (V_main_arg2 m c)))
    · exact (hc.1 1).trans (((dats m hn 0 c).arrAt_in 1 rfl _).trans ((A_eq m hn c 1).trans (V_main_arg3 m c)))
    · exact (hc.2 main_arg4 (Pipeline.mem_restRefs_of main_arg4 (by decide) (show ∀ w : Fin 8, (spec0 w).arr.view.ref ≠ main_arg4 by decide))).trans (V_main_arg4 m c)
    · exact (hc.1 5).trans (((dats m hn 0 c).arrAt_in 5 rfl _).trans ((A_eq m hn c 5).trans (V_main_arg5 m c)))
    · exact (hc.2 main_arg6 (Pipeline.mem_restRefs_of main_arg6 (by decide) (show ∀ w : Fin 8, (spec0 w).arr.view.ref ≠ main_arg6 by decide))).trans (V_main_arg6 m c), h.2⟩) (run_all m ρ hn)

end Cert.Kernel2Ideal.Hand

end
-- ==== Proof.FfnMath.lean ====
/-
  The experts call: its arithmetic read at extended reals, one place at a time.
-/
module

public import proofs.«01_k».proof.Proof.FfnBody
public import Idealize.ShloMosaic.PureOps.Ideal
public import Idealize.ShloMosaic.PureOps.Ideal.Laws
public import Idealize.ShloMosaic.Lib.MatmulPlain
public import Idealize.ShloMosaic.Lib.ValueIdx
public import Idealize.ShloMosaic.Lib.Pointwise

@[expose] public section

noncomputable section

namespace Cert.Kernel2Ideal.Hand

open Cert.Kernel2Ideal Cert.Kernel2Ideal.Gen
open Idealize.ShloMosaic hiding ix2 ix3
open Idealize.ShloMosaic.TcCoe
open Idealize.ShloMosaic.ValueIdx (ix2 ix3)
open scoped BigOperators

/-! ## One row through one expert -/

/-- A constant of the program. -/
abbrev num (b : BitVec 32) : EReal := Ideal.ofBits .f32 b

/-- One entry of a first product, its bias added. -/
def lin (x w : Fin 2048 → EReal) (b : EReal) : EReal := ∑ q, x q * w q + b

/-- The clipped gate times its logistic times the clipped linear part plus one. -/
def swi (g u : EReal) : EReal :=
  (min (num 0x40E00000#32) (max (num 0xC0E00000#32) u) + num 0x3F800000#32) * min g (num 0x40E00000#32)
    * Ideal.logistic (num 0x3FD9DB23#32 * min g (num 0x40E00000#32))

variable (W : S32x2048x4096.Idx → EReal) (B : S32x4096.Idx → EReal) (D : S32x2048x2048.Idx → EReal) (C : S32x2048.Idx → EReal)

/-- Activation `f` of a row with expert `e`. -/
def act (x : Fin 2048 → EReal) (e : Fin 32) (f : Fin 2048) : EReal :=
  swi (lin x (fun q => W (ix3 e q ⟨f.val, by omega⟩)) (B (ix2 e ⟨f.val, by omega⟩)))
    (lin x (fun q => W (ix3 e q ⟨2048 + f.val, by omega⟩)) (B (ix2 e ⟨2048 + f.val, by omega⟩)))

/-- Entry `k` of the row's result. -/
def ffn (x : Fin 2048 → EReal) (e : Fin 32) (k : Fin 2048) : EReal := ∑ f : Fin 2048, act W B x e f * D (ix3 e f k) + C (ix2 e k)

/-- Chunk `f` of expert `e`'s weights. -/
structure Chunk (e : Fin 32) (f : ℕ) (hf : f < 2) (wg wu : S1x2048x1024.Idx → EReal) (bg bu : S1x1x1024.Idx → EReal) (wd : S1x1024x2048.Idx → EReal) : Prop where
  wg : ∀ (q : Fin 2048) (j : Fin 1024), wg (ix3 (0 : Fin 1) q j) = W (ix3 e q ⟨1024 * f + j.val, by omega⟩)
  wu : ∀ (q : Fin 2048) (j : Fin 1024), wu (ix3 (0 : Fin 1) q j) = W (ix3 e q ⟨2048 + (1024 * f + j.val), by omega⟩)
  bg : ∀ j : Fin 1024, bg (ix3 (0 : Fin 1) (0 : Fin 1) j) = B (ix2 e ⟨1024 * f + j.val, by omega⟩)
  bu : ∀ j : Fin 1024, bu (ix3 (0 : Fin 1) (0 : Fin 1) j) = B (ix2 e ⟨2048 + (1024 * f + j.val), by omega⟩)
  wd : ∀ (j : Fin 1024) (k : Fin 2048), wd (ix3 (0 : Fin 1) j k) = D (ix3 e ⟨1024 * f + j.val, by omega⟩ k)

/-! ## Reading the layouts -/

theorem w1_at (w : S1x2048x1024.Idx → EReal) (h) (q : Fin 2048) (j : Fin 1024) :
    shapeCast S2048x1024 (w : FVec Ideal S1x2048x1024 .f32) h (ix2 q j) = w (ix3 (0 : Fin 1) q j) :=
  shapeCast_apply _ h (ix2 q j) (ix3 (0 : Fin 1) q j) (by
    rewrite [Shape.rowMajor_val_three, Shape.rowMajor_val_two]
    show (0 * 2048 + q.val) * 1024 + j.val = q.val * 1024 + j.val
    omega)

theorem w2_at (w : S1x1024x2048.Idx → EReal) (h) (q : Fin 1024) (j : Fin 2048) :
    shapeCast S1024x2048 (w : FVec Ideal S1x1024x2048 .f32) h (ix2 q j) = w (ix3 (0 : Fin 1) q j) :=
  shapeCast_apply _ h (ix2 q j) (ix3 (0 : Fin 1) q j) (by
    rewrite [Shape.rowMajor_val_three, Shape.rowMajor_val_two]
    show (0 * 1024 + q.val) * 2048 + j.val = q.val * 2048 + j.val
    omega)

theorem b1_at (b : S1x1x1024.Idx → EReal) (h) (j : Fin 1024) :
    shapeCast S1x1024 (b : FVec Ideal S1x1x1024 .f32) h (ix2 (0 : Fin 1) j) = b (ix3 (0 : Fin 1) (0 : Fin 1) j) :=
  shapeCast_apply _ h (ix2 (0 : Fin 1) j) (ix3 (0 : Fin 1) (0 : Fin 1) j) (by
    rewrite [Shape.rowMajor_val_three, Shape.rowMajor_val_two]
    show (0 * 1 + 0) * 1024 + j.val = 0 * 1024 + j.val
    omega)

theorem b2_at (b : S1x1x2048.Idx → EReal) (h) (j : Fin 2048) :
    shapeCast S1x2048 (b : FVec Ideal S1x1x2048 .f32) h (ix2 (0 : Fin 1) j) = b (ix3 (0 : Fin 1) (0 : Fin 1) j) :=
  shapeCast_apply _ h (ix2 (0 : Fin 1) j) (ix3 (0 : Fin 1) (0 : Fin 1) j) (by
    rewrite [Shape.rowMajor_val_three, Shape.rowMajor_val_two]
    show (0 * 1 + 0) * 2048 + j.val = 0 * 2048 + j.val
    omega)

theorem num_zero : num 0x00000000#32 = 0 := Ideal.ofBits_zero_f32

/-- A sum over an expert's width is the two chunks' sums. -/
theorem sum_chunks (g : Fin 2048 → EReal) :
    ∑ f, g f = ∑ j : Fin 1024, g ⟨1024 * 0 + j.val, by omega⟩ + ∑ j : Fin 1024, g ⟨1024 * 1 + j.val, by omega⟩ := by
  refine (Fin.sum_univ_add (a := 1024) (b := 1024) g).trans ?_
  refine congr (congrArg HAdd.hAdd (Finset.sum_congr rfl fun j _ => congrArg g (Fin.ext ?_))) (Finset.sum_congr rfl fun j _ => congrArg g (Fin.ext ?_))
  · show j.val = 1024 * 0 + j.val; omega
  · show 1024 + j.val = 1024 * 1 + j.val; omega

/-! ## A full block -/

theorem hF_at (x : S512x2048.Idx → EReal) (y : S512x2048.Idx) : (hF (F := Ideal) x) y = x y := by
  unfold hF
  rw [shapeCast_self]; rfl

theorem zF_at (y : S512x2048.Idx) : (zF (F := Ideal)) y = 0 := by
  unfold zF
  rw [shapeCast_self]; exact num_zero

theorem linF_at (h : S512x2048.Idx → EReal) (w : S1x2048x1024.Idx → EReal) (b : S1x1x1024.Idx → EReal) (r : Fin 512) (j : Fin 1024) :
    linF (F := Ideal) h w b (ix2 r j) = lin (fun q => h (ix2 r q)) (fun q => w (ix3 (0 : Fin 1) q j)) (b (ix3 (0 : Fin 1) (0 : Fin 1) j)) := by
  unfold linF lin
  show _ + broadcastTo S512x1024 _ broadcasts_S1x1024_S512x1024 (ix2 r j) = _
  refine congr (congrArg HAdd.hAdd ?_) ?_
  · refine (Ideal.matmul_plain_apply (M := 512) (K := 2048) (N := 1024) none h _ _ r j).trans ?_
    rw [show (constant (F := Ideal) S512x1024 .f32 0x00000000#32) (ix2 r j) = 0 from num_zero, zero_add]
    exact Finset.sum_congr rfl fun q _ => congrArg (_ * ·) (w1_at w _ q j)
  · refine (broadcastTo_apply _ broadcasts_S1x1024_S512x1024 (ix2 r j) (ix2 (0 : Fin 1) j) (fun a => ?_)).trans (b1_at b _ j)
    fin_cases a <;> rfl

theorem actF_at (h : S512x2048.Idx → EReal) (wg wu : S1x2048x1024.Idx → EReal) (bg bu : S1x1x1024.Idx → EReal) (r : Fin 512) (j : Fin 1024) :
    actF (F := Ideal) h wg wu bg bu (ix2 r j) = swi (linF (F := Ideal) h wg bg (ix2 r j)) (linF (F := Ideal) h wu bu (ix2 r j)) := rfl

theorem sumF_at (a : S512x2048.Idx → EReal) (t : S512x1024.Idx → EReal) (w : S1x1024x2048.Idx → EReal) (r : Fin 512) (k : Fin 2048) :
    sumF (F := Ideal) a t w (ix2 r k) = a (ix2 r k) + ∑ j : Fin 1024, t (ix2 r j) * w (ix3 (0 : Fin 1) j k) := by
  unfold sumF
  rw [shapeCast_self]
  show a (ix2 r k) + _ = _
  refine congrArg (a (ix2 r k) + ·) ?_
  refine (Ideal.matmul_plain_apply (M := 512) (K := 1024) (N := 2048) none t _ _ r k).trans ?_
  rw [show (constant (F := Ideal) S512x2048 .f32 0x00000000#32) (ix2 r k) = 0 from num_zero, zero_add]
  exact Finset.sum_congr rfl fun q _ => congrArg (_ * ·) (w2_at w _ q k)

theorem resF_at (a : S512x2048.Idx → EReal) (b : S1x1x2048.Idx → EReal) (r : Fin 512) (k : Fin 2048) :
    resF (F := Ideal) a b (ix2 r k) = a (ix2 r k) + b (ix3 (0 : Fin 1) (0 : Fin 1) k) := by
  unfold resF
  show _ + broadcastTo S512x2048 _ broadcasts_S1x2048_S512x2048 (ix2 r k) = _
  refine congrArg (a (ix2 r k) + ·) ?_
  refine (broadcastTo_apply _ broadcasts_S1x2048_S512x2048 (ix2 r k) (ix2 (0 : Fin 1) k) (fun a => ?_)).trans (b2_at b _ k)
  fin_cases a <;> rfl

/-- A chunk's part of the sum. -/
theorem chunkF {x : S512x2048.Idx → EReal} {e : Fin 32} {f : ℕ} {hf : f < 2} {wg wu : S1x2048x1024.Idx → EReal} {bg bu : S1x1x1024.Idx → EReal} {wd : S1x1024x2048.Idx → EReal}
    (h : Chunk W B D e f hf wg wu bg bu wd) (r : Fin 512) (k : Fin 2048) :
    ∑ j : Fin 1024, actF (F := Ideal) (hF (F := Ideal) x) wg wu bg bu (ix2 r j) * wd (ix3 (0 : Fin 1) j k)
      = ∑ j : Fin 1024, act W B (fun q => x (ix2 r q)) e ⟨1024 * f + j.val, by omega⟩ * D (ix3 e ⟨1024 * f + j.val, by omega⟩ k) := by
  refine Finset.sum_congr rfl fun j _ => ?_
  rw [actF_at, linF_at, linF_at, h.wd, h.bg, h.bu]
  simp only [hF_at, h.wg, h.wu]
  rfl

/-- The whole of it: the row's result. -/
theorem allF {x : S512x2048.Idx → EReal} {e : Fin 32} {wg wu wg' wu' : S1x2048x1024.Idx → EReal} {bg bu bg' bu' : S1x1x1024.Idx → EReal} {wd wd' : S1x1024x2048.Idx → EReal} {bd : S1x1x2048.Idx → EReal}
    (h : Chunk W B D e 0 (by decide) wg wu bg bu wd) (h' : Chunk W B D e 1 (by decide) wg' wu' bg' bu' wd') (hb : ∀ k : Fin 2048, bd (ix3 (0 : Fin 1) (0 : Fin 1) k) = C (ix2 e k)) (r : Fin 512) (k : Fin 2048) :
    resF (F := Ideal) (sumF (F := Ideal) (sumF (F := Ideal) zF (actF (F := Ideal) (hF (F := Ideal) x) wg wu bg bu) wd) (actF (F := Ideal) (hF (F := Ideal) x) wg' wu' bg' bu') wd') bd (ix2 r k)
      = ffn W B D C (fun q => x (ix2 r q)) e k := by
  rw [resF_at, sumF_at, sumF_at, zF_at, zero_add, chunkF W B D h, chunkF W B D h', hb]
  unfold ffn
  rw [sum_chunks]

/-! ## A half block -/

theorem hH_at (x : S256x2048.Idx → EReal) (y : S256x2048.Idx) : (hH (F := Ideal) x) y = x y := by
  unfold hH
  rw [shapeCast_self]; rfl

theorem zH_at (y : S256x2048.Idx) : (zH (F := Ideal)) y = 0 := by
  unfold zH
  rw [shapeCast_self]; exact num_zero

theorem linH_at (h : S256x2048.Idx → EReal) (w : S1x2048x1024.Idx → EReal) (b : S1x1x1024.Idx → EReal) (r : Fin 256) (j : Fin 1024) :
    linH (F := Ideal) h w b (ix2 r j) = lin (fun q => h (ix2 r q)) (fun q => w (ix3 (0 : Fin 1) q j)) (b (ix3 (0 : Fin 1) (0 : Fin 1) j)) := by
  unfold linH lin
  show _ + broadcastTo S256x1024 _ broadcasts_S1x1024_S256x1024 (ix2 r j) = _
  refine congr (congrArg HAdd.hAdd ?_) ?_
  · refine (Ideal.matmul_plain_apply (M := 256) (K := 2048) (N := 1024) none h _ _ r j).trans ?_
    rw [show (constant (F := Ideal) S256x1024 .f32 0x00000000#32) (ix2 r j) = 0 from num_zero, zero_add]
    exact Finset.sum_congr rfl fun q _ => congrArg (_ * ·) (w1_at w _ q j)
  · refine (broadcastTo_apply _ broadcasts_S1x1024_S256x1024 (ix2 r j) (ix2 (0 : Fin 1) j) (fun a => ?_)).trans (b1_at b _ j)
    fin_cases a <;> rfl

theorem actH_at (h : S256x2048.Idx → EReal) (wg wu : S1x2048x1024.Idx → EReal) (bg bu : S1x1x1024.Idx → EReal) (r : Fin 256) (j : Fin 1024) :
    actH (F := Ideal) h wg wu bg bu (ix2 r j) = swi (linH (F := Ideal) h wg bg (ix2 r j)) (linH (F := Ideal) h wu bu (ix2 r j)) := rfl

theorem sumH_at (a : S256x2048.Idx → EReal) (t : S256x1024.Idx → EReal) (w : S1x1024x2048.Idx → EReal) (r : Fin 256) (k : Fin 2048) :
    sumH (F := Ideal) a t w (ix2 r k) = a (ix2 r k) + ∑ j : Fin 1024, t (ix2 r j) * w (ix3 (0 : Fin 1) j k) := by
  unfold sumH
  rw [shapeCast_self]
  show a (ix2 r k) + _ = _
  refine congrArg (a (ix2 r k) + ·) ?_
  refine (Ideal.matmul_plain_apply (M := 256) (K := 1024) (N := 2048) none t _ _ r k).trans ?_
  rw [show (constant (F := Ideal) S256x2048 .f32 0x00000000#32) (ix2 r k) = 0 from num_zero, zero_add]
  exact Finset.sum_congr rfl fun q _ => congrArg (_ * ·) (w2_at w _ q k)

theorem resH_at (a : S256x2048.Idx → EReal) (b : S1x1x2048.Idx → EReal) (r : Fin 256) (k : Fin 2048) :
    resH (F := Ideal) a b (ix2 r k) = a (ix2 r k) + b (ix3 (0 : Fin 1) (0 : Fin 1) k) := by
  unfold resH
  show _ + broadcastTo S256x2048 _ broadcasts_S1x2048_S256x2048 (ix2 r k) = _
  refine congrArg (a (ix2 r k) + ·) ?_
  refine (broadcastTo_apply _ broadcasts_S1x2048_S256x2048 (ix2 r k) (ix2 (0 : Fin 1) k) (fun a => ?_)).trans (b2_at b _ k)
  fin_cases a <;> rfl

/-- A chunk's part of the sum. -/
theorem chunkH {x : S256x2048.Idx → EReal} {e : Fin 32} {f : ℕ} {hf : f < 2} {wg wu : S1x2048x1024.Idx → EReal} {bg bu : S1x1x1024.Idx → EReal} {wd : S1x1024x2048.Idx → EReal}
    (h : Chunk W B D e f hf wg wu bg bu wd) (r : Fin 256) (k : Fin 2048) :
    ∑ j : Fin 1024, actH (F := Ideal) (hH (F := Ideal) x) wg wu bg bu (ix2 r j) * wd (ix3 (0 : Fin 1) j k)
      = ∑ j : Fin 1024, act W B (fun q => x (ix2 r q)) e ⟨1024 * f + j.val, by omega⟩ * D (ix3 e ⟨1024 * f + j.val, by omega⟩ k) := by
  refine Finset.sum_congr rfl fun j _ => ?_
  rw [actH_at, linH_at, linH_at, h.wd, h.bg, h.bu]
  simp only [hH_at, h.wg, h.wu]
  rfl

/-- The whole of it: the row's result. -/
theorem allH {x : S256x2048.Idx → EReal} {e : Fin 32} {wg wu wg' wu' : S1x2048x1024.Idx → EReal} {bg bu bg' bu' : S1x1x1024.Idx → EReal} {wd wd' : S1x1024x2048.Idx → EReal} {bd : S1x1x2048.Idx → EReal}
    (h : Chunk W B D e 0 (by decide) wg wu bg bu wd) (h' : Chunk W B D e 1 (by decide) wg' wu' bg' bu' wd') (hb : ∀ k : Fin 2048, bd (ix3 (0 : Fin 1) (0 : Fin 1) k) = C (ix2 e k)) (r : Fin 256) (k : Fin 2048) :
    resH (F := Ideal) (sumH (F := Ideal) (sumH (F := Ideal) zH (actH (F := Ideal) (hH (F := Ideal) x) wg wu bg bu) wd) (actH (F := Ideal) (hH (F := Ideal) x) wg' wu' bg' bu') wd') bd (ix2 r k)
      = ffn W B D C (fun q => x (ix2 r q)) e k := by
  rw [resH_at, sumH_at, sumH_at, zH_at, zero_add, chunkH W B D h, chunkH W B D h', hb]
  unfold ffn
  rw [sum_chunks]

end Cert.Kernel2Ideal.Hand

end
-- ==== Proof.FfnBlocks.lean ====
/-
  The experts call: the blocks its points fetch, read from the arguments.
-/
module

public import proofs.«01_k».proof.Proof.FfnRun
public import proofs.«01_k».proof.Proof.FfnMath

@[expose] public section

noncomputable section

namespace Cert.Kernel2Ideal.Hand

open Cert.Kernel2Ideal Cert.Kernel2Ideal.Gen
open Idealize.ShloMosaic hiding ix1 ix2 ix3 eq_ix2 eq_ix3
open Idealize.ShloMosaic.TcCoe Idealize.SL.Sem
open Idealize.ShloMosaic.ValueIdx (ix2 ix3 eq_ix2 eq_ix3)
open Idealize.ShloMosaic.Pipeline (Dat Cfg Window)

variable (m : (ℓ : Loc nD τ sig) → Buf (Elt Ideal) ℓ) (hn : Named (pfm m)) (c : Dev nD) (t : Fin (cfgA m hn).N)

theorem half_lt : t.val / 2 < 304 := by have := lt_608 m hn t; omega

theorem index0 : ((cfgA m hn).win 0).index t = ![min (t.val / 2) (uN (pfm m) - 1), 0] :=
  (tr0 hn (grid0.coords t)).trans (by rw [(coords_at t).1])
theorem index1 : ((cfgA m hn).win 1).index t = ![eN (pfm m) (t.val / 2), 0, fch (pfm m) (grid0.coords t)] :=
  (tr1 hn (grid0.coords t)).trans (by rw [(coords_at t).1])
theorem index2 : ((cfgA m hn).win 2).index t = ![eN (pfm m) (t.val / 2), 0, 2 + fch (pfm m) (grid0.coords t)] :=
  (tr2 hn (grid0.coords t)).trans (by rw [(coords_at t).1])
theorem index3 : ((cfgA m hn).win 3).index t = ![eN (pfm m) (t.val / 2), 0, fch (pfm m) (grid0.coords t)] :=
  (tr3 hn (grid0.coords t)).trans (by rw [(coords_at t).1])
theorem index4 : ((cfgA m hn).win 4).index t = ![eN (pfm m) (t.val / 2), 0, 2 + fch (pfm m) (grid0.coords t)] :=
  (tr4 hn (grid0.coords t)).trans (by rw [(coords_at t).1])
theorem index5 : ((cfgA m hn).win 5).index t = ![eN (pfm m) (t.val / 2), fch (pfm m) (grid0.coords t), 0] :=
  (tr5 hn (grid0.coords t)).trans (by rw [(coords_at t).1])
theorem index6 : ((cfgA m hn).win 6).index t = ![eN (pfm m) (t.val / 2), 0, 0] :=
  (tr6 (grid0.coords t)).trans (by rw [(coords_at t).1])

/-- The expert of a point's block. -/
def eF : Fin 32 := ⟨eN (pfm m) (t.val / 2), hn.e _⟩

theorem fch_two : fch (pfm m) (grid0.coords t) < 2 := fch_lt _

theorem blkX_at (r : Fin 512) (q : Fin 2048) : blkX m hn c t (ix2 r q)
    = m ((c : Thread nD τ).loc main_arg2) (ix2 (⟨512 * min (t.val / 2) (uN (pfm m) - 1) + r.val, by have := half_lt m hn t; omega⟩ : Fin 155648) q) := by
  refine (show blkX m hn c t (ix2 r q) = V m c main_arg2 ((((cfgA m hn).win 0).blk t).view.emb (ix2 r q)) from rfl).trans ?_
  rw [V_main_arg2]
  refine congrArg (m ((c : Thread nD τ).loc main_arg2)) (funext fun a => Fin.ext ?_)
  match a with
  | ⟨0, hk⟩ => exact (show _ = ((cfgA m hn).win 0).index t ⟨0, hk⟩ * 512 + 1 * r.val from rfl).trans ((congrArg (fun z => z * 512 + 1 * r.val) (congrFun (index0 m hn t) ⟨0, hk⟩)).trans (by show min _ _ * 512 + 1 * r.val = 512 * min _ _ + r.val; omega))
  | ⟨1, hk⟩ => exact (show _ = ((cfgA m hn).win 0).index t ⟨1, hk⟩ * 2048 + 1 * q.val from rfl).trans ((congrArg (fun z => z * 2048 + 1 * q.val) (congrFun (index0 m hn t) ⟨1, hk⟩)).trans (by show 0 * 2048 + 1 * q.val = q.val; omega))

theorem blkWg_at (q : Fin 2048) (j : Fin 1024) : blkWg m hn c t (ix3 (0 : Fin 1) q j)
    = m ((c : Thread nD τ).loc main_arg3) (ix3 (eF m hn t) q (⟨1024 * fch (pfm m) (grid0.coords t) + j.val, by have := fch_two m hn t; omega⟩ : Fin 4096)) := by
  refine (show blkWg m hn c t (ix3 (0 : Fin 1) q j) = V m c main_arg3 ((((cfgA m hn).win 1).blk t).view.emb (ix3 (0 : Fin 1) q j)) from rfl).trans ?_
  rw [V_main_arg3]
  refine congrArg (m ((c : Thread nD τ).loc main_arg3)) (funext fun a => Fin.ext ?_)
  match a with
  | ⟨0, hk⟩ => exact (show _ = ((cfgA m hn).win 1).index t ⟨0, hk⟩ * 1 + 1 * 0 from rfl).trans ((congrArg (fun z => z * 1 + 1 * 0) (congrFun (index1 m hn t) ⟨0, hk⟩)).trans (by show eN _ _ * 1 + 1 * 0 = eN _ _; omega))
  | ⟨1, hk⟩ => exact (show _ = ((cfgA m hn).win 1).index t ⟨1, hk⟩ * 2048 + 1 * q.val from rfl).trans ((congrArg (fun z => z * 2048 + 1 * q.val) (congrFun (index1 m hn t) ⟨1, hk⟩)).trans (by show 0 * 2048 + 1 * q.val = q.val; omega))
  | ⟨2, hk⟩ => exact (show _ = ((cfgA m hn).win 1).index t ⟨2, hk⟩ * 1024 + 1 * j.val from rfl).trans ((congrArg (fun z => z * 1024 + 1 * j.val) (congrFun (index1 m hn t) ⟨2, hk⟩)).trans (by show fch _ _ * 1024 + 1 * j.val = 1024 * fch _ _ + j.val; omega))

theorem blkWu_at (q : Fin 2048) (j : Fin 1024) : blkWu m hn c t (ix3 (0 : Fin 1) q j)
    = m ((c : Thread nD τ).loc main_arg3) (ix3 (eF m hn t) q (⟨2048 + (1024 * fch (pfm m) (grid0.coords t) + j.val), by have := fch_two m hn t; omega⟩ : Fin 4096)) := by
  refine (show blkWu m hn c t (ix3 (0 : Fin 1) q j) = V m c main_arg3 ((((cfgA m hn).win 2).blk t).view.emb (ix3 (0 : Fin 1) q j)) from rfl).trans ?_
  rw [V_main_arg3]
  refine congrArg (m ((c : Thread nD τ).loc main_arg3)) (funext fun a => Fin.ext ?_)
  match a with
  | ⟨0, hk⟩ => exact (show _ = ((cfgA m hn).win 2).index t ⟨0, hk⟩ * 1 + 1 * 0 from rfl).trans ((congrArg (fun z => z * 1 + 1 * 0) (congrFun (index2 m hn t) ⟨0, hk⟩)).trans (by show eN _ _ * 1 + 1 * 0 = eN _ _; omega))
  | ⟨1, hk⟩ => exact (show _ = ((cfgA m hn).win 2).index t ⟨1, hk⟩ * 2048 + 1 * q.val from rfl).trans ((congrArg (fun z => z * 2048 + 1 * q.val) (congrFun (index2 m hn t) ⟨1, hk⟩)).trans (by show 0 * 2048 + 1 * q.val = q.val; omega))
  | ⟨2, hk⟩ => exact (show _ = ((cfgA m hn).win 2).index t ⟨2, hk⟩ * 1024 + 1 * j.val from rfl).trans ((congrArg (fun z => z * 1024 + 1 * j.val) (congrFun (index2 m hn t) ⟨2, hk⟩)).trans (by show (2 + fch _ _) * 1024 + 1 * j.val = 2048 + (1024 * fch _ _ + j.val); omega))

theorem spread_b (x : S32x4096.Idx → EReal) (e : Fin 32) (k : Fin 4096) :
    broadcastInDim S32x1x4096 ![0, 2] bcast_S32x4096_S32x1x4096_0_2 x (ix3 e (0 : Fin 1) k) = x (ix2 e k) :=
  broadcastInDim_apply _ bcast_S32x4096_S32x1x4096_0_2 x (ix3 e (0 : Fin 1) k) (ix2 e k) (fun a => match a with
    | ⟨0, _⟩ => by show e.val = if (32 : Nat) = 1 then 0 else e.val; rw [if_neg (by decide)]
    | ⟨1, _⟩ => by show k.val = if (4096 : Nat) = 1 then 0 else k.val; rw [if_neg (by decide)])
theorem spread_c (x : S32x2048.Idx → EReal) (e : Fin 32) (k : Fin 2048) :
    broadcastInDim S32x1x2048 ![0, 2] bcast_S32x2048_S32x1x2048_0_2 x (ix3 e (0 : Fin 1) k) = x (ix2 e k) :=
  broadcastInDim_apply _ bcast_S32x2048_S32x1x2048_0_2 x (ix3 e (0 : Fin 1) k) (ix2 e k) (fun a => match a with
    | ⟨0, _⟩ => by show e.val = if (32 : Nat) = 1 then 0 else e.val; rw [if_neg (by decide)]
    | ⟨1, _⟩ => by show k.val = if (2048 : Nat) = 1 then 0 else k.val; rw [if_neg (by decide)])

theorem blkBg_at (j : Fin 1024) : blkBg m hn c t (ix3 (0 : Fin 1) (0 : Fin 1) j)
    = m ((c : Thread nD τ).loc main_arg4) (ix2 (eF m hn t) (⟨1024 * fch (pfm m) (grid0.coords t) + j.val, by have := fch_two m hn t; omega⟩ : Fin 4096)) := by
  refine (show blkBg m hn c t (ix3 (0 : Fin 1) (0 : Fin 1) j) = V m c main_v0 ((((cfgA m hn).win 3).blk t).view.emb (ix3 (0 : Fin 1) (0 : Fin 1) j)) from rfl).trans ?_
  rw [V_main_v0]
  refine Eq.trans (congrArg _ (funext fun a => Fin.ext ?_)) (spread_b (m ((c : Thread nD τ).loc main_arg4)) (eF m hn t) _)
  match a with
  | ⟨0, hk⟩ => exact (show _ = ((cfgA m hn).win 3).index t ⟨0, hk⟩ * 1 + 1 * 0 from rfl).trans ((congrArg (fun z => z * 1 + 1 * 0) (congrFun (index3 m hn t) ⟨0, hk⟩)).trans (by show eN _ _ * 1 + 1 * 0 = eN _ _; omega))
  | ⟨1, hk⟩ => exact (show _ = ((cfgA m hn).win 3).index t ⟨1, hk⟩ * 1 + 1 * 0 from rfl).trans ((congrArg (fun z => z * 1 + 1 * 0) (congrFun (index3 m hn t) ⟨1, hk⟩)).trans (rfl))
  | ⟨2, hk⟩ => exact (show _ = ((cfgA m hn).win 3).index t ⟨2, hk⟩ * 1024 + 1 * j.val from rfl).trans ((congrArg (fun z => z * 1024 + 1 * j.val) (congrFun (index3 m hn t) ⟨2, hk⟩)).trans (by show fch _ _ * 1024 + 1 * j.val = 1024 * fch _ _ + j.val; omega))

theorem blkBu_at (j : Fin 1024) : blkBu m hn c t (ix3 (0 : Fin 1) (0 : Fin 1) j)
    = m ((c : Thread nD τ).loc main_arg4) (ix2 (eF m hn t) (⟨2048 + (1024 * fch (pfm m) (grid0.coords t) + j.val), by have := fch_two m hn t; omega⟩ : Fin 4096)) := by
  refine (show blkBu m hn c t (ix3 (0 : Fin 1) (0 : Fin 1) j) = V m c main_v0 ((((cfgA m hn).win 4).blk t).view.emb (ix3 (0 : Fin 1) (0 : Fin 1) j)) from rfl).trans ?_
  rw [V_main_v0]
  refine Eq.trans (congrArg _ (funext fun a => Fin.ext ?_)) (spread_b (m ((c : Thread nD τ).loc main_arg4)) (eF m hn t) _)
  match a with
  | ⟨0, hk⟩ => exact (show _ = ((cfgA m hn).win 4).index t ⟨0, hk⟩ * 1 + 1 * 0 from rfl).trans ((congrArg (fun z => z * 1 + 1 * 0) (congrFun (index4 m hn t) ⟨0, hk⟩)).trans (by show eN _ _ * 1 + 1 * 0 = eN _ _; omega))
  | ⟨1, hk⟩ => exact (show _ = ((cfgA m hn).win 4).index t ⟨1, hk⟩ * 1 + 1 * 0 from rfl).trans ((congrArg (fun z => z * 1 + 1 * 0) (congrFun (index4 m hn t) ⟨1, hk⟩)).trans (rfl))
  | ⟨2, hk⟩ => exact (show _ = ((cfgA m hn).win 4).index t ⟨2, hk⟩ * 1024 + 1 * j.val from rfl).trans ((congrArg (fun z => z * 1024 + 1 * j.val) (congrFun (index4 m hn t) ⟨2, hk⟩)).trans (by show (2 + fch _ _) * 1024 + 1 * j.val = 2048 + (1024 * fch _ _ + j.val); omega))

theorem blkWd_at (j : Fin 1024) (k : Fin 2048) : blkWd m hn c t (ix3 (0 : Fin 1) j k)
    = m ((c : Thread nD τ).loc main_arg5) (ix3 (eF m hn t) (⟨1024 * fch (pfm m) (grid0.coords t) + j.val, by have := fch_two m hn t; omega⟩ : Fin 2048) k) := by
  refine (show blkWd m hn c t (ix3 (0 : Fin 1) j k) = V m c main_arg5 ((((cfgA m hn).win 5).blk t).view.emb (ix3 (0 : Fin 1) j k)) from rfl).trans ?_
  rw [V_main_arg5]
  refine congrArg (m ((c : Thread nD τ).loc main_arg5)) (funext fun a => Fin.ext ?_)
  match a with
  | ⟨0, hk⟩ => exact (show _ = ((cfgA m hn).win 5).index t ⟨0, hk⟩ * 1 + 1 * 0 from rfl).trans ((congrArg (fun z => z * 1 + 1 * 0) (congrFun (index5 m hn t) ⟨0, hk⟩)).trans (by show eN _ _ * 1 + 1 * 0 = eN _ _; omega))
  | ⟨1, hk⟩ => exact (show _ = ((cfgA m hn).win 5).index t ⟨1, hk⟩ * 1024 + 1 * j.val from rfl).trans ((congrArg (fun z => z * 1024 + 1 * j.val) (congrFun (index5 m hn t) ⟨1, hk⟩)).trans (by show fch _ _ * 1024 + 1 * j.val = 1024 * fch _ _ + j.val; omega))
  | ⟨2, hk⟩ => exact (show _ = ((cfgA m hn).win 5).index t ⟨2, hk⟩ * 2048 + 1 * k.val from rfl).trans ((congrArg (fun z => z * 2048 + 1 * k.val) (congrFun (index5 m hn t) ⟨2, hk⟩)).trans (by show 0 * 2048 + 1 * k.val = k.val; omega))

theorem blkBd_at (k : Fin 2048) : blkBd m hn c t (ix3 (0 : Fin 1) (0 : Fin 1) k)
    = m ((c : Thread nD τ).loc main_arg6) (ix2 (eF m hn t) k) := by
  refine (show blkBd m hn c t (ix3 (0 : Fin 1) (0 : Fin 1) k) = V m c main_v1 ((((cfgA m hn).win 6).blk t).view.emb (ix3 (0 : Fin 1) (0 : Fin 1) k)) from rfl).trans ?_
  rw [V_main_v1]
  refine Eq.trans (congrArg _ (funext fun a => Fin.ext ?_)) (spread_c (m ((c : Thread nD τ).loc main_arg6)) (eF m hn t) _)
  match a with
  | ⟨0, hk⟩ => exact (show _ = ((cfgA m hn).win 6).index t ⟨0, hk⟩ * 1 + 1 * 0 from rfl).trans ((congrArg (fun z => z * 1 + 1 * 0) (congrFun (index6 m hn t) ⟨0, hk⟩)).trans (by show eN _ _ * 1 + 1 * 0 = eN _ _; omega))
  | ⟨1, hk⟩ => exact (show _ = ((cfgA m hn).win 6).index t ⟨1, hk⟩ * 1 + 1 * 0 from rfl).trans ((congrArg (fun z => z * 1 + 1 * 0) (congrFun (index6 m hn t) ⟨1, hk⟩)).trans (rfl))
  | ⟨2, hk⟩ => exact (show _ = ((cfgA m hn).win 6).index t ⟨2, hk⟩ * 2048 + 1 * k.val from rfl).trans ((congrArg (fun z => z * 2048 + 1 * k.val) (congrFun (index6 m hn t) ⟨2, hk⟩)).trans (by show 0 * 2048 + 1 * k.val = k.val; omega))

/-- A used block's points fetch the chunks of its expert in turn. -/
theorem chunk_at (hl : t.val / 2 < uN (pfm m)) {e : Fin 32} (he : e.val = eN (pfm m) (t.val / 2)) {f : ℕ} (hf : t.val % 2 = f) (h2 : f < 2) :
    Chunk (m ((c : Thread nD τ).loc main_arg3)) (m ((c : Thread nD τ).loc main_arg4)) (m ((c : Thread nD τ).loc main_arg5)) e f h2
      (blkWg m hn c t) (blkWu m hn c t) (blkBg m hn c t) (blkBu m hn c t) (blkWd m hn c t) := by
  have hc : fch (pfm m) (grid0.coords t) = f := by
    unfold fch
    rw [(coords_at t).1, (coords_at t).2, if_pos hl, hf]
  obtain rfl : e = eF m hn t := Fin.ext he
  subst hc
  exact ⟨blkWg_at m hn c t, blkWu_at m hn c t, blkBg_at m hn c t, blkBu_at m hn c t, blkWd_at m hn c t⟩

end Cert.Kernel2Ideal.Hand

end
-- ==== Proof.FfnRef.lean ====
/-
  The experts call: the reference read one place at a time.
-/
module

public import proofs.«01_k».proof.Proof.Gen.Reference2Ideal.Run
public import proofs.«01_k».proof.Proof.Gen.Reference2Ideal.Read
public import proofs.«01_k».proof.Proof.FfnMath
public import proofs.«01_k».proof.Proof.FfnTables

@[expose] public section

noncomputable section

namespace Cert.Reference2Ideal.Hand

open Cert.Reference2Ideal Cert.Reference2Ideal.Gen Cert.Reference2Ideal.Read
open Idealize.ShloMosaic hiding ix1 ix2 ix3 eq_ix2 eq_ix3
open Idealize.ShloMosaic.TcCoe
open Idealize.ShloMosaic.ValueIdx (ix1 ix2 ix3 eq_ix3)
open Cert.KernelIdeal.Hand (toInt_small)
open Cert.Kernel2Ideal.Hand (lin swi act ffn num Listed)
open scoped BigOperators

/-! ## A gather of one expert's array per block -/

/-- An offset coordinate of a gather is the result's on the axis listed for it. -/
theorem off_at {s si t : Shape} (d : GatherDims s si t) (j : t.Idx) (a : Fin s.rank) (ha : a ∈ d.sKept) (c : Fin t.rank)
    (hc : d.offsetDims[d.sKept.idxOf a]? = some c) : d.offCoord j a = (j c).val := by
  unfold GatherDims.offCoord
  rw [dif_pos ha]
  exact congrArg (fun x => (j x).val) (List.getElem?_eq_some_iff.1 hc).2

theorem one_not {L : List (Fin 3)} (h : L = [0]) : (1 : Fin 3) ∉ L := by subst h; decide
theorem two_not {L : List (Fin 3)} (h : L = [0]) : (2 : Fin 3) ∉ L := by subst h; decide

theorem take_w (x : S32x2048x4096.Idx → EReal) (idx : IVec S304x1 32) (b : Fin 304) (p : Fin 2048) (q : Fin 4096) (e : Fin 32)
    (he : (idx (ix2 b (0 : Fin 1))).toInt.toNat = e.val) :
    Host.gather gather_S32x2048x4096_S304x1_S304x2048x4096_12_0_n_n_0_1_120484096 x idx (ix3 b p q) = x (ix3 e p q) := by
  unfold Host.gather
  refine congrArg x (funext fun a => Fin.ext ?_)
  match a with
  | ⟨0, _⟩ =>
    show GatherDims.start gather_S32x2048x4096_S304x1_S304x2048x4096_12_0_n_n_0_1_120484096 (ix3 b p q) idx 0 + GatherDims.batchCoord gather_S32x2048x4096_S304x1_S304x2048x4096_12_0_n_n_0_1_120484096 (ix3 b p q) 0 + GatherDims.offCoord gather_S32x2048x4096_S304x1_S304x2048x4096_12_0_n_n_0_1_120484096 (ix3 b p q) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S32x2048x4096_S304x1_S304x2048x4096_12_0_n_n_0_1_120484096 from List.mem_singleton.mpr rfl)]
    have hsi : GatherDims.siIdx gather_S32x2048x4096_S304x1_S304x2048x4096_12_0_n_n_0_1_120484096 (ix3 b p q) ⟨List.idxOf (0 : Fin 3) (GatherDims.startIndexMap gather_S32x2048x4096_S304x1_S304x2048x4096_12_0_n_n_0_1_120484096),
        List.idxOf_lt_length_iff.2 (List.mem_singleton.mpr rfl)⟩ = ix2 b (0 : Fin 1) := by
      funext b'; refine Fin.ext ?_
      match b' with
      | ⟨0, _⟩ => rfl
      | ⟨1, _⟩ => rfl
    rw [hsi, he]
    have := e.isLt
    show min e.val 31 = e.val
    omega
  | ⟨1, _⟩ =>
    show GatherDims.start gather_S32x2048x4096_S304x1_S304x2048x4096_12_0_n_n_0_1_120484096 (ix3 b p q) idx 1 + GatherDims.batchCoord gather_S32x2048x4096_S304x1_S304x2048x4096_12_0_n_n_0_1_120484096 (ix3 b p q) 1 + GatherDims.offCoord gather_S32x2048x4096_S304x1_S304x2048x4096_12_0_n_n_0_1_120484096 (ix3 b p q) 1 = p.val
    rw [GatherDims.batchCoord_eq_zero _ _ _ List.not_mem_nil]
    unfold GatherDims.start
    rw [dif_neg (show (1 : Fin 3) ∉ GatherDims.startIndexMap gather_S32x2048x4096_S304x1_S304x2048x4096_12_0_n_n_0_1_120484096 from one_not rfl), off_at gather_S32x2048x4096_S304x1_S304x2048x4096_12_0_n_n_0_1_120484096 _ 1 (by decide) 1 (by decide)]
    exact Nat.zero_add _
  | ⟨2, _⟩ =>
    show GatherDims.start gather_S32x2048x4096_S304x1_S304x2048x4096_12_0_n_n_0_1_120484096 (ix3 b p q) idx 2 + GatherDims.batchCoord gather_S32x2048x4096_S304x1_S304x2048x4096_12_0_n_n_0_1_120484096 (ix3 b p q) 2 + GatherDims.offCoord gather_S32x2048x4096_S304x1_S304x2048x4096_12_0_n_n_0_1_120484096 (ix3 b p q) 2 = q.val
    rw [GatherDims.batchCoord_eq_zero _ _ _ List.not_mem_nil]
    unfold GatherDims.start
    rw [dif_neg (show (2 : Fin 3) ∉ GatherDims.startIndexMap gather_S32x2048x4096_S304x1_S304x2048x4096_12_0_n_n_0_1_120484096 from two_not rfl), off_at gather_S32x2048x4096_S304x1_S304x2048x4096_12_0_n_n_0_1_120484096 _ 2 (by decide) 2 (by decide)]
    exact Nat.zero_add _

theorem take_d (x : S32x2048x2048.Idx → EReal) (idx : IVec S304x1 32) (b : Fin 304) (p : Fin 2048) (q : Fin 2048) (e : Fin 32)
    (he : (idx (ix2 b (0 : Fin 1))).toInt.toNat = e.val) :
    Host.gather gather_S32x2048x2048_S304x1_S304x2048x2048_12_0_n_n_0_1_120482048 x idx (ix3 b p q) = x (ix3 e p q) := by
  unfold Host.gather
  refine congrArg x (funext fun a => Fin.ext ?_)
  match a with
  | ⟨0, _⟩ =>
    show GatherDims.start gather_S32x2048x2048_S304x1_S304x2048x2048_12_0_n_n_0_1_120482048 (ix3 b p q) idx 0 + GatherDims.batchCoord gather_S32x2048x2048_S304x1_S304x2048x2048_12_0_n_n_0_1_120482048 (ix3 b p q) 0 + GatherDims.offCoord gather_S32x2048x2048_S304x1_S304x2048x2048_12_0_n_n_0_1_120482048 (ix3 b p q) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ GatherDims.startIndexMap gather_S32x2048x2048_S304x1_S304x2048x2048_12_0_n_n_0_1_120482048 from List.mem_singleton.mpr rfl)]
    have hsi : GatherDims.siIdx gather_S32x2048x2048_S304x1_S304x2048x2048_12_0_n_n_0_1_120482048 (ix3 b p q) ⟨List.idxOf (0 : Fin 3) (GatherDims.startIndexMap gather_S32x2048x2048_S304x1_S304x2048x2048_12_0_n_n_0_1_120482048),
        List.idxOf_lt_length_iff.2 (List.mem_singleton.mpr rfl)⟩ = ix2 b (0 : Fin 1) := by
      funext b'; refine Fin.ext ?_
      match b' with
      | ⟨0, _⟩ => rfl
      | ⟨1, _⟩ => rfl
    rw [hsi, he]
    have := e.isLt
    show min e.val 31 = e.val
    omega
  | ⟨1, _⟩ =>
    show GatherDims.start gather_S32x2048x2048_S304x1_S304x2048x2048_12_0_n_n_0_1_120482048 (ix3 b p q) idx 1 + GatherDims.batchCoord gather_S32x2048x2048_S304x1_S304x2048x2048_12_0_n_n_0_1_120482048 (ix3 b p q) 1 + GatherDims.offCoord gather_S32x2048x2048_S304x1_S304x2048x2048_12_0_n_n_0_1_120482048 (ix3 b p q) 1 = p.val
    rw [GatherDims.batchCoord_eq_zero _ _ _ List.not_mem_nil]
    unfold GatherDims.start
    rw [dif_neg (show (1 : Fin 3) ∉ GatherDims.startIndexMap gather_S32x2048x2048_S304x1_S304x2048x2048_12_0_n_n_0_1_120482048 from one_not rfl), off_at gather_S32x2048x2048_S304x1_S304x2048x2048_12_0_n_n_0_1_120482048 _ 1 (by decide) 1 (by decide)]
    exact Nat.zero_add _
  | ⟨2, _⟩ =>
    show GatherDims.start gather_S32x2048x2048_S304x1_S304x2048x2048_12_0_n_n_0_1_120482048 (ix3 b p q) idx 2 + GatherDims.batchCoord gather_S32x2048x2048_S304x1_S304x2048x2048_12_0_n_n_0_1_120482048 (ix3 b p q) 2 + GatherDims.offCoord gather_S32x2048x2048_S304x1_S304x2048x2048_12_0_n_n_0_1_120482048 (ix3 b p q) 2 = q.val
    rw [GatherDims.batchCoord_eq_zero _ _ _ List.not_mem_nil]
    unfold GatherDims.start
    rw [dif_neg (show (2 : Fin 3) ∉ GatherDims.startIndexMap gather_S32x2048x2048_S304x1_S304x2048x2048_12_0_n_n_0_1_120482048 from two_not rfl), off_at gather_S32x2048x2048_S304x1_S304x2048x2048_12_0_n_n_0_1_120482048 _ 2 (by decide) 2 (by decide)]
    exact Nat.zero_add _

theorem take_b (x : S32x4096.Idx → EReal) (idx : IVec S304x1 32) (b : Fin 304) (p : Fin 4096) (e : Fin 32)
    (he : (idx (ix2 b (0 : Fin 1))).toInt.toNat = e.val) :
    Host.gather gather_S32x4096_S304x1_S304x4096_1_0_n_n_0_1_14096 x idx (ix2 b p) = x (ix2 e p) := by
  unfold Host.gather
  refine congrArg x (funext fun a => Fin.ext ?_)
  match a with
  | ⟨0, _⟩ =>
    show GatherDims.start gather_S32x4096_S304x1_S304x4096_1_0_n_n_0_1_14096 (ix2 b p) idx 0 + GatherDims.batchCoord gather_S32x4096_S304x1_S304x4096_1_0_n_n_0_1_14096 (ix2 b p) 0 + GatherDims.offCoord gather_S32x4096_S304x1_S304x4096_1_0_n_n_0_1_14096 (ix2 b p) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x4096_S304x1_S304x4096_1_0_n_n_0_1_14096 from List.mem_singleton.mpr rfl)]
    have hsi : GatherDims.siIdx gather_S32x4096_S304x1_S304x4096_1_0_n_n_0_1_14096 (ix2 b p) ⟨List.idxOf (0 : Fin 2) (GatherDims.startIndexMap gather_S32x4096_S304x1_S304x4096_1_0_n_n_0_1_14096),
        List.idxOf_lt_length_iff.2 (List.mem_singleton.mpr rfl)⟩ = ix2 b (0 : Fin 1) := by
      funext b'; refine Fin.ext ?_
      match b' with
      | ⟨0, _⟩ => rfl
      | ⟨1, _⟩ => rfl
    rw [hsi, he]
    have := e.isLt
    show min e.val 31 = e.val
    omega
  | ⟨1, _⟩ =>
    show GatherDims.start gather_S32x4096_S304x1_S304x4096_1_0_n_n_0_1_14096 (ix2 b p) idx 1 + GatherDims.batchCoord gather_S32x4096_S304x1_S304x4096_1_0_n_n_0_1_14096 (ix2 b p) 1 + GatherDims.offCoord gather_S32x4096_S304x1_S304x4096_1_0_n_n_0_1_14096 (ix2 b p) 1 = p.val
    rw [GatherDims.batchCoord_eq_zero _ _ _ List.not_mem_nil]
    unfold GatherDims.start
    rw [dif_neg (show (1 : Fin 2) ∉ GatherDims.startIndexMap gather_S32x4096_S304x1_S304x4096_1_0_n_n_0_1_14096 from (show (1 : Fin 2) ∉ ([0] : List (Fin 2)) by decide)), off_at gather_S32x4096_S304x1_S304x4096_1_0_n_n_0_1_14096 _ 1 (by decide) 1 (by decide)]
    exact Nat.zero_add _

theorem take_c (x : S32x2048.Idx → EReal) (idx : IVec S304x1 32) (b : Fin 304) (p : Fin 2048) (e : Fin 32)
    (he : (idx (ix2 b (0 : Fin 1))).toInt.toNat = e.val) :
    Host.gather gather_S32x2048_S304x1_S304x2048_1_0_n_n_0_1_12048 x idx (ix2 b p) = x (ix2 e p) := by
  unfold Host.gather
  refine congrArg x (funext fun a => Fin.ext ?_)
  match a with
  | ⟨0, _⟩ =>
    show GatherDims.start gather_S32x2048_S304x1_S304x2048_1_0_n_n_0_1_12048 (ix2 b p) idx 0 + GatherDims.batchCoord gather_S32x2048_S304x1_S304x2048_1_0_n_n_0_1_12048 (ix2 b p) 0 + GatherDims.offCoord gather_S32x2048_S304x1_S304x2048_1_0_n_n_0_1_12048 (ix2 b p) 0 = e.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x2048_S304x1_S304x2048_1_0_n_n_0_1_12048 from List.mem_singleton.mpr rfl)]
    have hsi : GatherDims.siIdx gather_S32x2048_S304x1_S304x2048_1_0_n_n_0_1_12048 (ix2 b p) ⟨List.idxOf (0 : Fin 2) (GatherDims.startIndexMap gather_S32x2048_S304x1_S304x2048_1_0_n_n_0_1_12048),
        List.idxOf_lt_length_iff.2 (List.mem_singleton.mpr rfl)⟩ = ix2 b (0 : Fin 1) := by
      funext b'; refine Fin.ext ?_
      match b' with
      | ⟨0, _⟩ => rfl
      | ⟨1, _⟩ => rfl
    rw [hsi, he]
    have := e.isLt
    show min e.val 31 = e.val
    omega
  | ⟨1, _⟩ =>
    show GatherDims.start gather_S32x2048_S304x1_S304x2048_1_0_n_n_0_1_12048 (ix2 b p) idx 1 + GatherDims.batchCoord gather_S32x2048_S304x1_S304x2048_1_0_n_n_0_1_12048 (ix2 b p) 1 + GatherDims.offCoord gather_S32x2048_S304x1_S304x2048_1_0_n_n_0_1_12048 (ix2 b p) 1 = p.val
    rw [GatherDims.batchCoord_eq_zero _ _ _ List.not_mem_nil]
    unfold GatherDims.start
    rw [dif_neg (show (1 : Fin 2) ∉ GatherDims.startIndexMap gather_S32x2048_S304x1_S304x2048_1_0_n_n_0_1_12048 from (show (1 : Fin 2) ∉ ([0] : List (Fin 2)) by decide)), off_at gather_S32x2048_S304x1_S304x2048_1_0_n_n_0_1_12048 _ 1 (by decide) 1 (by decide)]
    exact Nat.zero_add _

/-! ## The experts' numbers -/

variable (E : S304.Idx → BitVec 32) (U : S305.Idx → BitVec 32) (X : S155648x2048.Idx → EReal)
  (W : S32x2048x4096.Idx → EReal) (B : S32x4096.Idx → EReal) (D : S32x2048x2048.Idx → EReal) (C : S32x2048.Idx → EReal)

variable (h : Listed E U)

/-- Block `b`'s expert. -/
def expert (b : Fin 304) : Fin 32 := ⟨(E (Shape.Idx.ofFin b)).toNat % 32, Nat.mod_lt _ (by decide)⟩
/-- Row `r` of block `b`. -/
def rowOf (b : Fin 304) (r : Fin 512) : Fin 2048 → EReal := fun q => X (ix2 ⟨512 * b.val + r.val, by omega⟩ q)

section
variable (b : Fin 304) (he : (E (Shape.Idx.ofFin b)).toNat < 32)

include he in
theorem nonneg : Scalar.cmpi .slt (E (Shape.Idx.ofFin b)) 0#32 = 0#1 ∧ (E (Shape.Idx.ofFin b)).toInt.toNat = (expert E b).val := by
  have h1 : (E (Shape.Idx.ofFin b)).toInt = (E (Shape.Idx.ofFin b)).toNat := by rw [BitVec.toInt_eq_toNat_cond, if_pos (by omega)]
  refine ⟨ValueIdx.eq_zero_of_ne_one fun hc => ?_, ?_⟩
  · have := IntOp.cmpi_slt.1 hc
    rw [h1, show (0#32 : BitVec 32).toInt = 0 from rfl] at this
    omega
  · rw [h1, Int.toNat_natCast]
    exact (Nat.mod_eq_of_lt he).symm

omit he in
theorem of_first (b : Fin 304) : (fun a => match a with | ⟨0, _⟩ => ⟨b.val, b.isLt⟩ : S304.Idx) = Shape.Idx.ofFin b := by
  funext a; fin_cases a; rfl

include he in
theorem v6_at : (val_main_v6 (F := Ideal) E (ix2 b (0 : Fin 1))).toInt.toNat = (expert E b).val := by
  obtain ⟨h1, h2⟩ := nonneg E b he
  rw [val_main_v6_apply, show idx_main_v6 (ix2 b (0 : Fin 1)) = Shape.Idx.ofFin b from of_first b]
  have : val_main_v5 (F := Ideal) E (Shape.Idx.ofFin b) = Scalar.select (Scalar.cmpi .slt (E (Shape.Idx.ofFin b)) 0#32) (IntOp.addi (E (Shape.Idx.ofFin b)) 32#32) (E (Shape.Idx.ofFin b)) := rfl
  rw [this, h1, ValueIdx.select_zero, h2]

include he in
theorem v14_at : (val_main_v14 (F := Ideal) E (ix2 b (0 : Fin 1))).toInt.toNat = (expert E b).val := by
  obtain ⟨h1, h2⟩ := nonneg E b he
  rw [val_main_v14_apply, show idx_main_v14 (ix2 b (0 : Fin 1)) = Shape.Idx.ofFin b from of_first b]
  have : val_main_v13 (F := Ideal) E (Shape.Idx.ofFin b) = Scalar.select (Scalar.cmpi .slt (E (Shape.Idx.ofFin b)) 0#32) (IntOp.addi (E (Shape.Idx.ofFin b)) 32#32) (E (Shape.Idx.ofFin b)) := rfl
  rw [this, h1, ValueIdx.select_zero, h2]

include he in
theorem v41_at : (val_main_v41 (F := Ideal) E (ix2 b (0 : Fin 1))).toInt.toNat = (expert E b).val := by
  obtain ⟨h1, h2⟩ := nonneg E b he
  rw [val_main_v41_apply, show idx_main_v41 (ix2 b (0 : Fin 1)) = Shape.Idx.ofFin b from of_first b]
  have : val_main_v40 (F := Ideal) E (Shape.Idx.ofFin b) = Scalar.select (Scalar.cmpi .slt (E (Shape.Idx.ofFin b)) 0#32) (IntOp.addi (E (Shape.Idx.ofFin b)) 32#32) (E (Shape.Idx.ofFin b)) := rfl
  rw [this, h1, ValueIdx.select_zero, h2]

include he in
theorem v49_at : (val_main_v49 (F := Ideal) E (ix2 b (0 : Fin 1))).toInt.toNat = (expert E b).val := by
  obtain ⟨h1, h2⟩ := nonneg E b he
  rw [val_main_v49_apply, show idx_main_v49 (ix2 b (0 : Fin 1)) = Shape.Idx.ofFin b from of_first b]
  have : val_main_v48 (F := Ideal) E (Shape.Idx.ofFin b) = Scalar.select (Scalar.cmpi .slt (E (Shape.Idx.ofFin b)) 0#32) (IntOp.addi (E (Shape.Idx.ofFin b)) 32#32) (E (Shape.Idx.ofFin b)) := rfl
  rw [this, h1, ValueIdx.select_zero, h2]

/-! ## The value -/

theorem v0_at (b : Fin 304) (r : Fin 512) (q : Fin 2048) : val_main_v0 (F := Ideal) X (ix3 b r q) = rowOf X b r q := by
  rw [val_main_v0_apply]
  refine congrArg X (funext fun a => Fin.ext ?_)
  match a with
  | ⟨0, _⟩ => show ((b.val * 512 + r.val) * 2048 + q.val) / 2048 = 512 * b.val + r.val; omega
  | ⟨1, _⟩ => show ((b.val * 512 + r.val) * 2048 + q.val) % 2048 = q.val; omega

include he in
theorem v18_at (r : Fin 512) (f : Fin 4096) :
    val_main_v18 (F := Ideal) E X W B (ix3 b r f) = lin (rowOf X b r) (fun q => W (ix3 (expert E b) q f)) (B (ix2 (expert E b) f)) := by
  rw [val_main_v18_apply, val_main_v8_apply, val_main_v17_apply, val_main_v16_apply, Ideal.addf_def]
  unfold lin
  refine congr (congrArg HAdd.hAdd (Finset.sum_congr rfl fun q _ => ?_)) ?_
  · refine congr (congrArg HMul.hMul ?_) ?_
    · exact (congrArg (val_main_v0 (F := Ideal) X) (eq_ix3 _)).trans (v0_at X b r q)
    · exact (congrArg (val_main_v7 (F := Ideal) E W) (eq_ix3 _)).trans (take_w W _ b q f _ (v6_at E b he))
  · refine (congrArg (val_main_v15 (F := Ideal) E B) (ValueIdx.eq_ix2 _)).trans (take_b B _ b f _ (v14_at E b he))

include he in
theorem v35_at (r : Fin 512) (f : Fin 2048) :
    val_main_v35 (F := Ideal) E X W B (ix3 b r f) = act W B (rowOf X b r) (expert E b) f := by
  have h19 : idx_main_v19 (ix3 b r f) = ix3 b r ⟨f.val, by omega⟩ := eq_ix3 _
  have h20 : idx_main_v20 (ix3 b r f) = ix3 b r ⟨2048 + f.val, by omega⟩ := eq_ix3 _
  have hg : val_main_v19 (F := Ideal) E X W B (ix3 b r f) = val_main_v18 (F := Ideal) E X W B (ix3 b r ⟨f.val, by omega⟩) := by
    rw [val_main_v19_apply, h19]
  have hu : val_main_v20 (F := Ideal) E X W B (ix3 b r f) = val_main_v18 (F := Ideal) E X W B (ix3 b r ⟨2048 + f.val, by omega⟩) := by
    rw [val_main_v20_apply, h20]
  unfold act
  rw [← v18_at E X W B b he r ⟨f.val, by omega⟩, ← v18_at E X W B b he r ⟨2048 + f.val, by omega⟩, ← hg, ← hu]
  generalize hG : val_main_v19 (F := Ideal) E X W B (ix3 b r f) = G
  generalize hV : val_main_v20 (F := Ideal) E X W B (ix3 b r f) = V
  rw [val_main_v35_apply, val_main_v34_apply, val_main_v32_apply, val_main_v30_apply, val_main_v29_apply, val_main_v28_apply,
    val_main_v26_apply, val_main_v25_apply, val_main_v23_apply, val_main_call0_v2_apply, val_main_v22_apply, hG, hV,
    val_main_v33_apply, val_main_v31_apply, val_main_v27_apply, val_main_v24_apply, val_main_v21_apply, val_main_call0_v4_apply, val_main_call0_v1_apply]
  unfold swi Ideal.logistic
  rw [show (1 : EReal) = num 0x3F800000#32 from Ideal.ofBits_one_f32.symm]
  rfl

include he in
theorem v53_at (r : Fin 512) (k : Fin 2048) :
    val_main_v53 (F := Ideal) E X W B D C (ix3 b r k) = ffn W B D C (rowOf X b r) (expert E b) k := by
  rw [val_main_v53_apply, val_main_v43_apply, val_main_v52_apply, val_main_v51_apply, Ideal.addf_def]
  unfold ffn
  refine congr (congrArg HAdd.hAdd (Finset.sum_congr rfl fun q _ => ?_)) ?_
  · refine congr (congrArg HMul.hMul ?_) ?_
    · exact (congrArg (val_main_v35 (F := Ideal) E X W B) (eq_ix3 _)).trans (v35_at E X W B b he r q)
    · exact (congrArg (val_main_v42 (F := Ideal) E D) (eq_ix3 _)).trans (take_d D _ b q k _ (v41_at E b he))
  · refine (congrArg (val_main_v50 (F := Ideal) E C) (ValueIdx.eq_ix2 _)).trans (take_c C _ b k _ (v49_at E b he))

end

/-! ## The rows in use -/

/-- How many of block `b`'s rows are in use. -/
def liveN (b : Fin 304) : ℕ :=
  if b.val < (U (Shape.Idx.ofFin ⟨0, by decide⟩)).toNat then (if U (Shape.Idx.ofFin ⟨b.val + 1, by omega⟩) = 1#32 then 256 else 512) else 0

include h in
theorem v63_at (b : Fin 304) : val_main_v63 (F := Ideal) U (Shape.Idx.ofFin b) = BitVec.ofNat 32 (liveN U b) := by
  have h57 : val_main_v57 (F := Ideal) U (Shape.Idx.ofFin b) = U (Shape.Idx.ofFin ⟨0, by decide⟩) := by
    rw [val_main_v57_apply]
    unfold val_main_v56
    refine (shapeCast_apply (val_main_v55 (F := Ideal) U) shapeCasts_S1_S_ _ (Shape.Idx.ofFin ⟨0, by decide⟩) ?_).trans ?_
    · exact (show ∀ (i : Fin 1) (j : Fin 1), i.val = j.val from fun i j => by omega) _ _
    · rw [val_main_v55_apply]
      exact congrArg U (by funext a; fin_cases a; rfl)
  have h59 : val_main_v59 (F := Ideal) U (Shape.Idx.ofFin b) = U (Shape.Idx.ofFin ⟨b.val + 1, by omega⟩) := by
    rw [val_main_v59_apply]
    exact congrArg U (by funext a; fin_cases a; refine Fin.ext ?_; show 1 + b.val = b.val + 1; omega)
  rw [val_main_v63_apply, val_main_v58_apply, h57, val_main_v62_apply, val_main_v61_apply, h59]
  have hs := Cert.Kernel2Ideal.Hand.slt_small b.isLt h.u
  have hc : ∀ x y : BitVec 32, (Scalar.cmpi .eq x y = 1#1) ↔ x = y := fun _ _ => IntOp.cmpi_eq
  unfold liveN
  show (if Scalar.cmpi .slt (BitVec.ofNat 32 b.val) (U (Shape.Idx.ofFin ⟨0, by decide⟩)) = 1#1 then
    (if Scalar.cmpi .eq (U (Shape.Idx.ofFin ⟨b.val + 1, by omega⟩)) 1#32 = 1#1 then 256#32 else 512#32) else 0#32 : BitVec 32) = _
  simp only [hs, hc]
  split
  · split <;> rfl
  · rfl

include h in
theorem v70_at (b : Fin 304) (r : Fin 512) : val_main_v70 (F := Ideal) U (ix2 b r) = 1#1 ↔ r.val < liveN U b := by
  rw [val_main_v70_apply, val_main_v68_apply, val_main_v65_apply, val_main_v69_apply, val_main_v67_apply, val_main_v66_apply]
  have h63 := v63_at E U h b
  have hi : idx_main_v66 (idx_main_v69 (ix2 b r)) = Shape.Idx.ofFin b := of_first b
  rw [hi, h63]
  have hl : liveN U b ≤ 512 := by unfold liveN; split <;> [split; skip] <;> omega
  have hr := r.isLt
  refine (IntOp.cmpi_slt (x := BitVec.ofNat 32 r.val) (y := BitVec.ofNat 32 (liveN U b))).trans ?_
  have t : ∀ n : ℕ, n ≤ 512 → (BitVec.ofNat 32 n).toInt = n := fun n hn => by
    rw [BitVec.toInt_eq_toNat_cond, BitVec.toNat_ofNat, if_pos (by omega)]; omega
  rw [t _ (by omega), t _ hl]
  omega

include h in
/-- The result: a row in use its expert's, a row past them zero. -/
theorem result_at (b : Fin 304) (r : Fin 512) (k : Fin 2048) :
    val_main_v73 (F := Ideal) E U X W B D C (ix2 ⟨512 * b.val + r.val, by omega⟩ k)
      = if r.val < liveN U b then ffn W B D C (rowOf X b r) (expert E b) k else 0 := by
  have hi : idx_main_v73 (ix2 ⟨512 * b.val + r.val, by omega⟩ k) = ix3 b r k := by
    funext a; refine Fin.ext ?_
    match a with
    | ⟨0, _⟩ => show ((512 * b.val + r.val) * 2048 + k.val) / 1048576 = b.val; omega
    | ⟨1, _⟩ => show ((512 * b.val + r.val) * 2048 + k.val) / 2048 % 512 = r.val; omega
    | ⟨2, _⟩ => show ((512 * b.val + r.val) * 2048 + k.val) % 2048 = k.val; omega
  rw [val_main_v73_apply, hi, val_main_v72_apply, val_main_call3_v1_apply, val_main_v71_apply]
  have hb : idx_main_v71 (idx_main_call3_v1 (ix3 b r k)) = ix2 b r := ValueIdx.eq_ix2 _
  rw [hb, val_main_call3_v2_apply]
  have hv := v70_at E U h b r
  have hz : val_main_call3_v0 (F := Ideal) (idx_main_call3_v2 (ix3 b r k)) = 0 := Cert.Kernel2Ideal.Hand.num_zero
  rw [hz]
  show (if val_main_v70 (F := Ideal) U (ix2 b r) = 1#1 then _ else _) = _
  by_cases hr : r.val < liveN U b
  · have hb : b.val < (U (Shape.Idx.ofFin ⟨0, by decide⟩)).toNat := by
      by_contra hc
      unfold liveN at hr
      rw [if_neg hc] at hr
      exact Nat.not_lt_zero _ hr
    rw [if_pos (hv.2 hr), if_pos hr]
    exact v53_at E X W B D C b (h.e b hb) r k
  · rw [if_neg (fun e => hr (hv.1 e)), if_neg hr]

end Cert.Reference2Ideal.Hand

end
-- ==== Proof.FfnValue.lean ====
/-
  The experts call: what the run leaves in the result, place by place, is the reference's.
-/
module

public import proofs.«01_k».proof.Proof.FfnBlocks
public import proofs.«01_k».proof.Proof.FfnLaunch
public import proofs.«01_k».proof.Proof.FfnRef

@[expose] public section

noncomputable section

namespace Cert.Kernel2Ideal.Hand

open Cert.Kernel2Ideal Cert.Kernel2Ideal.Gen
open Idealize.ShloMosaic hiding ix1 ix2 ix3 eq_ix2 eq_ix3
open Idealize.ShloMosaic.TcCoe Idealize.SL.Sem
open Idealize.ShloMosaic.ValueIdx (ix2 ix3 eq_ix2 eq_ix3)
open Idealize.ShloMosaic.Pipeline (Dat Cfg Window)
open Cert.Reference2Ideal.Hand (expert rowOf liveN result_at)

variable (m : (ℓ : Loc nD τ sig) → Buf (Elt Ideal) ℓ)

section
variable (hn : Named (pfm m)) (c : Dev nD) (t : Fin (cfgA m hn).N)

theorem prv_half (h1 : t.val % 2 = 1) : (prv m hn t).val / 2 = t.val / 2 := by show (t.val - 1) / 2 = _; omega

/-- The row a used block reads. -/
theorem rowX_at (h1 : t.val % 2 = 1) (hl : t.val / 2 < uN (pfm m)) (r : Fin 512) (q : Fin 2048) :
    blkX m hn c (prv m hn t) (ix2 r q)
      = rowOf (m ((c : Thread nD τ).loc main_arg2)) ⟨t.val / 2, half_lt m hn t⟩ r q := by
  rw [blkX_at]
  refine congrArg (m ((c : Thread nD τ).loc main_arg2)) ?_
  refine congrArg (fun z : Fin 155648 => ix2 z q) (Fin.ext ?_)
  show 512 * min ((prv m hn t).val / 2) (uN (pfm m) - 1) + r.val = 512 * (t.val / 2) + r.val
  rw [prv_half m hn t h1]
  omega

abbrev W3 (c : Dev nD) : S32x2048x4096.Idx → EReal := m ((c : Thread nD τ).loc main_arg3)
abbrev B4 (c : Dev nD) : S32x4096.Idx → EReal := m ((c : Thread nD τ).loc main_arg4)
abbrev D5 (c : Dev nD) : S32x2048x2048.Idx → EReal := m ((c : Thread nD τ).loc main_arg5)
abbrev C6 (c : Dev nD) : S32x2048.Idx → EReal := m ((c : Thread nD τ).loc main_arg6)
abbrev X2 (c : Dev nD) : S155648x2048.Idx → EReal := m ((c : Thread nD τ).loc main_arg2)

theorem full_at (h1 : t.val % 2 = 1) (hl : t.val / 2 < uN (pfm m)) (r : Fin 512) (k : Fin 2048) :
    fullAt m hn c t (ix2 r k) = ffn (W3 m c) (B4 m c) (D5 m c) (C6 m c) (rowOf (X2 m c) ⟨t.val / 2, half_lt m hn t⟩ r) (eF m hn t) k := by
  have hp := prv_half m hn t h1
  have h0 : Chunk (W3 m c) (B4 m c) (D5 m c) (eF m hn t) 0 (by decide) _ _ _ _ _ :=
    chunk_at m hn c (prv m hn t) (by rw [hp]; exact hl) (by rw [hp]; rfl) (by show (t.val - 1) % 2 = 0; omega) (by decide)
  have h2 : Chunk (W3 m c) (B4 m c) (D5 m c) (eF m hn t) 1 (by decide) _ _ _ _ _ :=
    chunk_at m hn c t hl rfl h1 (by decide)
  refine (allF (W3 m c) (B4 m c) (D5 m c) (C6 m c) (x := blkX m hn c (prv m hn t)) h0 h2 (bd := blkBd m hn c t) (blkBd_at m hn c t) r k).trans ?_
  exact congrArg (fun x => ffn (W3 m c) (B4 m c) (D5 m c) (C6 m c) x (eF m hn t) k) (funext fun q => rowX_at m hn c t h1 hl r q)

theorem half_row (X : S512x2048.Idx → EReal) (r : Fin 256) (q : Fin 2048) : part (F := Ideal) (e := .f32) top X (ix2 r q) = X (ix2 (⟨r.val, by omega⟩ : Fin 512) q) := by
  refine congrArg X (funext fun a => Fin.ext ?_)
  match a with
  | ⟨0, _⟩ => show 0 + 1 * r.val = r.val; omega
  | ⟨1, _⟩ => show 0 + 1 * q.val = q.val; omega

theorem halfs_at (h1 : t.val % 2 = 1) (hl : t.val / 2 < uN (pfm m)) (r : Fin 256) (k : Fin 2048) :
    halfAt m hn c t (ix2 r k) = ffn (W3 m c) (B4 m c) (D5 m c) (C6 m c) (rowOf (X2 m c) ⟨t.val / 2, half_lt m hn t⟩ ⟨r.val, by omega⟩) (eF m hn t) k := by
  have hp := prv_half m hn t h1
  have h0 : Chunk (W3 m c) (B4 m c) (D5 m c) (eF m hn t) 0 (by decide) _ _ _ _ _ :=
    chunk_at m hn c (prv m hn t) (by rw [hp]; exact hl) (by rw [hp]; rfl) (by show (t.val - 1) % 2 = 0; omega) (by decide)
  have h2 : Chunk (W3 m c) (B4 m c) (D5 m c) (eF m hn t) 1 (by decide) _ _ _ _ _ :=
    chunk_at m hn c t hl rfl h1 (by decide)
  refine (allH (W3 m c) (B4 m c) (D5 m c) (C6 m c) (x := part top (blkX m hn c (prv m hn t))) h0 h2 (bd := blkBd m hn c t) (blkBd_at m hn c t) r k).trans ?_
  exact congrArg (fun x => ffn (W3 m c) (B4 m c) (D5 m c) (C6 m c) x (eF m hn t) k) (funext fun q => (half_row _ r q).trans (rowX_at m hn c t h1 hl ⟨r.val, by omega⟩ q))
end

variable (h : Listed (m (((0 : Dev nD) : Thread nD τ).loc main_arg0)) (m (((0 : Dev nD) : Thread nD τ).loc main_arg1)))

abbrev E0 : S304.Idx → BitVec 32 := m (((0 : Dev nD) : Thread nD τ).loc main_arg0)
abbrev U1 : S305.Idx → BitVec 32 := m (((0 : Dev nD) : Thread nD τ).loc main_arg1)

theorem tabU_eq : tabU (pfm m) = U1 m := V_main_arg1 m 0
theorem uN_eq : uN (pfm m) = (U1 m (Shape.Idx.ofFin ⟨0, by decide⟩)).toNat := by unfold uN; rw [tabU_eq]

include h in
/-- A used block's expert is the one listed for it. -/
theorem eN_listed (b : Fin 304) (hb : b.val < uN (pfm m)) : eN (pfm m) b.val = (E0 m (Shape.Idx.ofFin b)).toNat := by
  have hE : tabE (pfm m) = spread (E0 m) (U1 m) := V_main_v14 m 0
  unfold eN
  rw [dif_pos b.isLt, hE, spread_at h.one h.u ⟨b.val, b.isLt⟩]
  refine congrArg (fun z => (E0 m (Shape.Idx.ofFin z)).toNat) (Fin.ext ?_)
  rw [uN_eq] at hb
  unfold U1 at hb
  show min b.val _ = b.val
  omega

/-- The reference's value. -/
def refOf (c : Dev nD) : S155648x2048.Idx → EReal :=
  Cert.Reference2Ideal.Read.val_main_v73 (F := Ideal) (E0 m) (U1 m) (X2 m c) (W3 m c) (B4 m c) (D5 m c) (C6 m c)

theorem out_at (c : Dev nD) (t : Fin (cfgA m (named_of m h)).N) (h1 : t.val % 2 = 1) (r : Fin 512) (k : Fin 2048) :
    outAt m (named_of m h) c t (ix2 r k)
      = refOf m c (ix2 (⟨512 * (t.val / 2) + r.val, by have := half_lt m (named_of m h) t; omega⟩ : Fin 155648) k) := by
  have hb := half_lt m (named_of m h) t
  refine Eq.trans ?_ (result_at (E0 m) (U1 m) (X2 m c) (W3 m c) (B4 m c) (D5 m c) (C6 m c) h ⟨t.val / 2, hb⟩ r k).symm
  have hh : halfN (pfm m) (t.val / 2) ↔ U1 m (Shape.Idx.ofFin ⟨t.val / 2 + 1, by omega⟩) = 1#32 := by
    unfold halfN; rw [dif_pos hb, tabU_eq]
  unfold outAt
  by_cases hl : t.val / 2 < uN (pfm m)
  · have he : eF m (named_of m h) t = expert (E0 m) ⟨t.val / 2, hb⟩ :=
      Fin.ext ((eN_listed m h ⟨t.val / 2, hb⟩ hl).trans (Nat.mod_eq_of_lt (h.e ⟨t.val / 2, hb⟩ (uN_eq m ▸ hl))).symm)
    rw [if_pos hl]
    by_cases hf : halfN (pfm m) (t.val / 2)
    · have hL : liveN (U1 m) ⟨t.val / 2, hb⟩ = 256 := by
        unfold liveN; rw [← uN_eq, if_pos hl, if_pos (hh.1 hf)]
      rw [if_pos hf, hL]
      unfold upper
      by_cases hr : r.val < 256
      · rw [if_pos hr]
        refine (dif_pos hr).trans ?_
        refine (show _ = halfAt m (named_of m h) c t (ix2 (⟨r.val, hr⟩ : Fin 256) k) from congrArg _ (eq_ix2 _)).trans ?_
        rw [halfs_at m (named_of m h) c t h1 hl, he]
      · rw [if_neg hr]
        exact (dif_neg hr).trans num_zero
    · have hL : liveN (U1 m) ⟨t.val / 2, hb⟩ = 512 := by
        unfold liveN; rw [← uN_eq, if_pos hl, if_neg (fun k => hf (hh.2 k))]
      rw [if_neg hf, hL, if_pos r.isLt, full_at m (named_of m h) c t h1 hl, he]
  · have hL : liveN (U1 m) ⟨t.val / 2, hb⟩ = 0 := by
      unfold liveN; rw [← uN_eq, if_neg hl]
    rw [if_neg hl, hL, if_neg (Nat.not_lt_zero _)]
    exact num_zero

/-- What a written block holds is the reference's value at the places it goes to. -/
theorem after_at (c : Dev nD) (t : Fin (cfgA m (named_of m h)).N) (h1 : t.val % 2 = 1) (y : S512x2048.Idx) :
    (dats m (named_of m h) 0 c).after 7 t y = refOf m c ((((cfgA m (named_of m h)).win 7).blk t).view.emb y) := by
  rw [after7]
  have hy : y = ix2 (y 0) (y 1) := eq_ix2 y
  refine (congrArg (outAt m (named_of m h) c t) hy).trans ((out_at m h c t h1 (y 0) (y 1)).trans ?_)
  refine congrArg (refOf m c) (funext fun a => Fin.ext ?_)
  match a with
  | ⟨0, hk⟩ => exact ((show _ = ((cfgA m (named_of m h)).win 7).index t ⟨0, hk⟩ * 512 + 1 * (y 0).val from rfl).trans ((congrArg (fun z => z * 512 + 1 * (y 0).val) (congrFun (index7 m (named_of m h) t) ⟨0, hk⟩)).trans (by show t.val / 2 * 512 + 1 * (y 0).val = 512 * (t.val / 2) + (y 0).val; omega))).symm
  | ⟨1, hk⟩ => exact ((show _ = ((cfgA m (named_of m h)).win 7).index t ⟨1, hk⟩ * 2048 + 1 * (y 1).val from rfl).trans ((congrArg (fun z => z * 2048 + 1 * (y 1).val) (congrFun (index7 m (named_of m h) t) ⟨1, hk⟩)).trans (by show 0 * 2048 + 1 * (y 1).val = (y 1).val; omega))).symm

/-- Every place of the result lies in a block that is written back. -/
theorem cover (hn : Named (pfm m)) (i : S155648x2048.Idx) :
    ∃ t, ((cfgA m hn).win 7).flush t = true ∧ i ∈ (((cfgA m hn).win 7).blk t).view.set := by
  have h0 : (i 0).val < 155648 := (i 0).isLt
  have h1 : (i 1).val < 2048 := (i 1).isLt
  refine ⟨pt m hn (2 * ((i 0).val / 512) + 1) (by omega), (flush7 m hn _).2 (by show (2 * ((i 0).val / 512) + 1) % 2 = 1; omega), ?_⟩
  refine (Window.emb_mem_blk_iff ((cfgA m hn).win 7) _ i rfl).2 fun a => ?_
  have hi := congrFun (index7 m hn (pt m hn (2 * ((i 0).val / 512) + 1) (by omega))) a
  rw [hi]
  match a with
  | ⟨0, hk⟩ => show (2 * ((i 0).val / 512) + 1) / 2 * 512 ≤ (i 0).val ∧ (i 0).val < (2 * ((i 0).val / 512) + 1) / 2 * 512 + 512; omega
  | ⟨1, hk⟩ => show 0 * 2048 ≤ (i 1).val ∧ (i 1).val < 0 * 2048 + 2048; omega

/-- The result is the reference's. -/
theorem result_eq (c : Dev nD) : resultOf m (named_of m h) c = refOf m c := by
  unfold resultOf
  refine (dats m (named_of m h) 0 c).arrAt_eq_of_emb 7 (refOf m c) (fun t hf y => ?_) (fun i => ?_)
  · have h1 := (flush7 m (named_of m h) t).1 hf
    exact after_at m h c t h1 y
  · exact cover m (named_of m h) i

end Cert.Kernel2Ideal.Hand

end
-- ==== Proof.ProjValue.lean ====
/-
  The projection of the values: what the run leaves in the result, place by place, is the reference's.
-/
module

public import proofs.«01_k».proof.Proof.Gen.Kernel3Ideal.Value
public import proofs.«01_k».proof.Proof.Gen.Reference3Ideal.Read
public import Idealize.ShloMosaic.PureOps.Ideal
public import Idealize.ShloMosaic.PureOps.Ideal.Laws
public import Idealize.ShloMosaic.Lib.MatmulPlain
public import Idealize.ShloMosaic.Lib.ValueIdx
public import Idealize.ShloMosaic.Lib.Pointwise
public import Idealize.ShloMosaic.Lib.Pipeline.ValueKit

@[expose] public section

noncomputable section

namespace Cert.Kernel3Ideal.Hand

open Cert.Kernel3Ideal Cert.Kernel3Ideal.Gen
open Idealize.ShloMosaic hiding ix1 ix2 ix3 eq_ix2 eq_ix3
open Idealize.ShloMosaic.TcCoe Idealize.SL.Sem
open Idealize.ShloMosaic.ValueIdx (ix2 ix3 eq_ix2 eq_ix3)
open Idealize.ShloMosaic.Pipeline (Dat Cfg Window)
open scoped BigOperators

/-! ## One block's arithmetic -/

/-- A row of the left times a column of the right. -/
def rowCol {M N : Nat} (x : (⟨2, ![M, 2048]⟩ : Shape).Idx → EReal) (w : (⟨2, ![2048, N]⟩ : Shape).Idx → EReal) (r : Fin M) (k : Fin N) : EReal :=
  ∑ q : Fin 2048, x (ix2 r q) * w (ix2 q k)

theorem zero_bits : Ideal.ofBits .f32 0x00000000#32 = 0 := Ideal.ofBits_zero_f32

theorem pay_at (x : S256x2048.Idx → EReal) (w : S2048x1024.Idx → EReal) (r : Fin 256) (k : Fin 1024) :
    k0_pay1 (F := Ideal) x w (ix2 r k) = rowCol x w r k := by
  unfold k0_pay1 rowCol
  rw [shapeCast_self]
  refine (Ideal.matmul_plain_apply (M := 256) (K := 2048) (N := 1024) none x w _ r k).trans ?_
  rw [show (constant (F := Ideal) S256x1024 .f32 0x00000000#32) (ix2 r k) = 0 from zero_bits, zero_add]

/-- One of the four pieces of a block, where it holds a place, is that place's row times its column. -/
theorem piece_at (x0 : S1024x2048.Idx → EReal) (x1 : S2048x1024.Idx → EReal) (o : Nat) (hi hw)
    (r : Fin 1024) (k : Fin 1024) :
    View.TileAt (Val := Elt Ideal) (e := .f32) (S := S1024x1024) (ix2 r k) ![o, 0] S256x1024.size
      (k0_pay1 (F := Ideal) (View.ld (Val := Elt Ideal) (e' := .bf16) x0 (Rect.unit (s := S1024x2048) ![o, 0] S256x2048.size hi))
        (View.ld (Val := Elt Ideal) (e' := .bf16) x1 (Rect.unit (s := S2048x1024) ![0, 0] S2048x1024.size hw)))
      (rowCol x0 x1 r k) := by
  intro x hx
  have h0 : r.val = o + (x 0).val := hx 0
  have h1 : k.val = 0 + (x 1).val := hx 1
  rw [show x = ix2 (x 0) (x 1) from eq_ix2 x]
  refine (pay_at _ _ (x 0) (x 1)).trans ?_
  unfold rowCol
  refine Finset.sum_congr rfl fun q _ => congr (congrArg HMul.hMul ?_) ?_
  · refine congrArg x0 (funext fun a => Fin.ext ?_)
    match a with
    | ⟨0, _⟩ => show o + 1 * (x 0).val = r.val; omega
    | ⟨1, _⟩ => show 0 + 1 * q.val = q.val; omega
  · refine congrArg x1 (funext fun a => Fin.ext ?_)
    match a with
    | ⟨0, _⟩ => show 0 + 1 * q.val = q.val; omega
    | ⟨1, _⟩ => show 0 + 1 * (x 1).val = k.val; omega

theorem out_at (x0 : S1024x2048.Idx → EReal) (x1 : S2048x1024.Idx → EReal) (r : Fin 1024) (k : Fin 1024) :
    out0_2 (F := Ideal) x0 x1 (ix2 r k) = rowCol x0 x1 r k := by
  unfold out0_2
  refine View.canon_eq_of_allAt _ _ _ (cover0_2 _ _ _ _ _) ?_
  refine View.allAt_cons_unit _ _ _ _ _ (piece_at x0 x1 768 _ _ r k) ?_
  refine View.allAt_cons_unit _ _ _ _ _ (piece_at x0 x1 512 _ _ r k) ?_
  refine View.allAt_cons_unit _ _ _ _ _ (piece_at x0 x1 256 _ _ r k) ?_
  exact View.allAt_cons_unit _ _ _ _ _ (piece_at x0 x1 0 _ _ r k) (View.allAt_nil _ _)

/-! ## The blocks a point fetches -/

variable (m : (ℓ : Loc nD τ sig) → Buf (Elt Ideal) ℓ) (c : Dev nD) (t : Fin cfg0.N)

theorem lt_32 : t.val < 32 := t.isLt

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![t.val, 0] :=
  (by decide +kernel : ∀ t : Fin grid0.N, win0_2.index t = ![t.val, 0])

abbrev H0 : S32768x2048.Idx → EReal := m ((c : Thread nD τ).loc main_arg0)
abbrev W1 : S2048x10248.Idx → EReal := m ((c : Thread nD τ).loc main_arg1)

theorem V_main_v1 : (V m c main_v1 : S2048x1024.Idx → EReal)
    = extractStridedSlice S2048x1024 ![0, 2048] (truncf (F := Ideal) .bf16 (m ((c : Thread nD τ).loc main_arg1) : FVec Ideal S2048x10248 .f32) bitsLt_bf16_f32) slices_S2048x10248_S2048x1024_0_2048 := by
  unfold V
  after_results

theorem blk0_at (r : Fin 1024) (q : Fin 2048) :
    (iblk m c 0 t : S1024x2048.Idx → EReal) (ix2 r q) = H0 m c (ix2 (⟨1024 * t.val + r.val, by have := lt_32 t; omega⟩ : Fin 32768) q) := by
  refine (show _ = V m c main_arg0 (((cfg0.win 0).blk t).view.emb (ix2 r q)) from rfl).trans ?_
  rw [V_main_arg0]
  refine congrArg (H0 m c) (funext fun a => Fin.ext ?_)
  match a with
  | ⟨0, hk⟩ => exact (show _ = (cfg0.win 0).index t ⟨0, hk⟩ * 1024 + 1 * r.val from rfl).trans ((congrArg (fun z => z * 1024 + 1 * r.val) (congrFun (index0 t) ⟨0, hk⟩)).trans (by show t.val * 1024 + 1 * r.val = 1024 * t.val + r.val; omega))
  | ⟨1, hk⟩ => exact (show _ = (cfg0.win 0).index t ⟨1, hk⟩ * 2048 + 1 * q.val from rfl).trans ((congrArg (fun z => z * 2048 + 1 * q.val) (congrFun (index0 t) ⟨1, hk⟩)).trans (by show 0 * 2048 + 1 * q.val = q.val; omega))

theorem blk1_at (q : Fin 2048) (k : Fin 1024) :
    (iblk m c 1 t : S2048x1024.Idx → EReal) (ix2 q k) = W1 m c (ix2 q (⟨2048 + k.val, by omega⟩ : Fin 10248)) := by
  refine (show _ = (V m c main_v1 : S2048x1024.Idx → EReal) (((cfg0.win 1).blk t).view.emb (ix2 q k)) from rfl).trans ?_
  have he : ((cfg0.win 1).blk t).view.emb (ix2 q k) = (ix2 q k : S2048x1024.Idx) := funext fun a => Fin.ext (by
    match a with
    | ⟨0, hk⟩ => exact (show _ = (cfg0.win 1).index t ⟨0, hk⟩ * 2048 + 1 * q.val from rfl).trans ((congrArg (fun z => z * 2048 + 1 * q.val) (congrFun (index1 t) ⟨0, hk⟩)).trans (by show 0 * 2048 + 1 * q.val = q.val; omega))
    | ⟨1, hk⟩ => exact (show _ = (cfg0.win 1).index t ⟨1, hk⟩ * 1024 + 1 * k.val from rfl).trans ((congrArg (fun z => z * 1024 + 1 * k.val) (congrFun (index1 t) ⟨1, hk⟩)).trans (by show 0 * 1024 + 1 * k.val = k.val; omega)))
  refine (congrArg (V m c main_v1 : S2048x1024.Idx → EReal) he).trans ?_
  rw [V_main_v1]
  refine (extractStridedSlice_apply ![0, 2048] _ slices_S2048x10248_S2048x1024_0_2048 (ix2 q k) (ix2 q (⟨2048 + k.val, by omega⟩ : Fin 10248)) (fun a => ?_)).trans rfl
  match a with
  | ⟨0, _⟩ => show q.val = 0 + q.val; omega
  | ⟨1, _⟩ => show 2048 + k.val = 2048 + k.val; rfl

/-! ## The result -/

/-- The reference's value. -/
def refOf : S32768x1024.Idx → EReal := Cert.Reference3Ideal.Read.val_main_v2 (F := Ideal) (H0 m c) (W1 m c)

theorem ref_at (i : Fin 32768) (k : Fin 1024) :
    refOf m c (ix2 i k) = ∑ q : Fin 2048, H0 m c (ix2 i q) * W1 m c (ix2 q (⟨2048 + k.val, by omega⟩ : Fin 10248)) := by
  unfold refOf
  rw [Cert.Reference3Ideal.Read.val_main_v2_apply, Cert.Reference3Ideal.Read.val_main_v1_apply]
  refine Finset.sum_congr rfl fun q _ => congr (congrArg HMul.hMul ?_) ?_
  · refine (show _ = H0 m c _ from rfl).trans (congrArg (H0 m c) (funext fun a => Fin.ext ?_))
    match a with
    | ⟨0, _⟩ => rfl
    | ⟨1, _⟩ => rfl
  · refine congrArg (W1 m c) (funext fun a => Fin.ext ?_)
    match a with
    | ⟨0, _⟩ => rfl
    | ⟨1, _⟩ => rfl

theorem block_at (r : Fin 1024) (k : Fin 1024) :
    out0_2 (F := Ideal) (iblk m c 0 t) (iblk m c 1 t) (ix2 r k)
      = refOf m c (ix2 (⟨1024 * t.val + r.val, by have := lt_32 t; omega⟩ : Fin 32768) k) := by
  refine (out_at _ _ r k).trans (Eq.trans ?_ (ref_at m c _ k).symm)
  unfold rowCol
  exact Finset.sum_congr rfl fun q _ => congr (congrArg HMul.hMul (blk0_at m c t r q)) (blk1_at m c t q k)

/-- What a written block holds is the reference's value at the places it goes to. -/
theorem after_at (y : S1024x1024.Idx) :
    (dats m 0 c).after 2 t y = refOf m c (((cfg0.win 2).blk t).view.emb y) := by
  rw [after0_2]
  have hy : y = ix2 (y 0) (y 1) := eq_ix2 y
  refine (congrArg (out0_2 (F := Ideal) (iblk m c 0 t) (iblk m c 1 t)) hy).trans ((block_at m c t (y 0) (y 1)).trans ?_)
  refine congrArg (refOf m c) (funext fun a => Fin.ext ?_)
  match a with
  | ⟨0, hk⟩ => exact ((show _ = (cfg0.win 2).index t ⟨0, hk⟩ * 1024 + 1 * (y 0).val from rfl).trans ((congrArg (fun z => z * 1024 + 1 * (y 0).val) (congrFun (index2 t) ⟨0, hk⟩)).trans (by show t.val * 1024 + 1 * (y 0).val = 1024 * t.val + (y 0).val; omega))).symm
  | ⟨1, hk⟩ => exact ((show _ = (cfg0.win 2).index t ⟨1, hk⟩ * 1024 + 1 * (y 1).val from rfl).trans ((congrArg (fun z => z * 1024 + 1 * (y 1).val) (congrFun (index2 t) ⟨1, hk⟩)).trans (by show 0 * 1024 + 1 * (y 1).val = (y 1).val; omega))).symm

/-- Every place of the result lies in a block. -/
theorem cover (i : S32768x1024.Idx) : ∃ t, (cfg0.win 2).flush t = true ∧ i ∈ ((cfg0.win 2).blk t).view.set := by
  have h0 : (i 0).val < 32768 := (i 0).isLt
  have h1 : (i 1).val < 1024 := (i 1).isLt
  have hN : (i 0).val / 1024 < cfg0.N := (show (i 0).val / 1024 < 32 by omega)
  refine ⟨⟨(i 0).val / 1024, hN⟩, flush0_2 _, ?_⟩
  refine (Window.emb_mem_blk_iff (cfg0.win 2) _ i rfl).2 fun a => ?_
  have hi := congrFun (index2 ⟨(i 0).val / 1024, hN⟩) a
  rw [hi]
  match a with
  | ⟨0, hk⟩ => show (i 0).val / 1024 * 1024 ≤ (i 0).val ∧ (i 0).val < (i 0).val / 1024 * 1024 + 1024; omega
  | ⟨1, hk⟩ => show 0 * 1024 ≤ (i 1).val ∧ (i 1).val < 0 * 1024 + 1024; omega

/-- The result is the reference's. -/
theorem result_eq : (dats m 0 c).arrAt 2 cfg0.N = refOf m c :=
  (dats m 0 c).arrAt_eq_of_emb 2 (refOf m c) (fun t _ y => after_at m c t y) (fun i => cover i)

end Cert.Kernel3Ideal.Hand

end
-- ==== Proof.ProjValue4.lean ====
/-
  The projection of the second attention's values: what the run leaves in the result, place by place, is the reference's.
-/
module

public import proofs.«01_k».proof.Proof.Gen.Kernel4Ideal.Value
public import proofs.«01_k».proof.Proof.Gen.Reference4Ideal.Read
public import Idealize.ShloMosaic.PureOps.Ideal
public import Idealize.ShloMosaic.PureOps.Ideal.Laws
public import Idealize.ShloMosaic.Lib.MatmulPlain
public import Idealize.ShloMosaic.Lib.ValueIdx
public import Idealize.ShloMosaic.Lib.Pointwise
public import Idealize.ShloMosaic.Lib.Pipeline.ValueKit

@[expose] public section

noncomputable section

namespace Cert.Kernel4Ideal.Hand

open Cert.Kernel4Ideal Cert.Kernel4Ideal.Gen
open Idealize.ShloMosaic hiding ix1 ix2 ix3 eq_ix2 eq_ix3
open Idealize.ShloMosaic.TcCoe Idealize.SL.Sem
open Idealize.ShloMosaic.ValueIdx (ix2 ix3 eq_ix2 eq_ix3)
open Idealize.ShloMosaic.Pipeline (Dat Cfg Window)
open scoped BigOperators

/-! ## One block's arithmetic -/

/-- A row of the left times a column of the right. -/
def rowCol {M N : Nat} (x : (⟨2, ![M, 2048]⟩ : Shape).Idx → EReal) (w : (⟨2, ![2048, N]⟩ : Shape).Idx → EReal) (r : Fin M) (k : Fin N) : EReal :=
  ∑ q : Fin 2048, x (ix2 r q) * w (ix2 q k)

theorem zero_bits : Ideal.ofBits .f32 0x00000000#32 = 0 := Ideal.ofBits_zero_f32

theorem pay_at (x : S256x2048.Idx → EReal) (w : S2048x1024.Idx → EReal) (r : Fin 256) (k : Fin 1024) :
    k0_pay1 (F := Ideal) x w (ix2 r k) = rowCol x w r k := by
  unfold k0_pay1 rowCol
  rw [shapeCast_self]
  refine (Ideal.matmul_plain_apply (M := 256) (K := 2048) (N := 1024) none x w _ r k).trans ?_
  rw [show (constant (F := Ideal) S256x1024 .f32 0x00000000#32) (ix2 r k) = 0 from zero_bits, zero_add]

/-- One of the four pieces of a block, where it holds a place, is that place's row times its column. -/
theorem piece_at (x0 : S1024x2048.Idx → EReal) (x1 : S2048x1024.Idx → EReal) (o : Nat) (hi hw)
    (r : Fin 1024) (k : Fin 1024) :
    View.TileAt (Val := Elt Ideal) (e := .f32) (S := S1024x1024) (ix2 r k) ![o, 0] S256x1024.size
      (k0_pay1 (F := Ideal) (View.ld (Val := Elt Ideal) (e' := .bf16) x0 (Rect.unit (s := S1024x2048) ![o, 0] S256x2048.size hi))
        (View.ld (Val := Elt Ideal) (e' := .bf16) x1 (Rect.unit (s := S2048x1024) ![0, 0] S2048x1024.size hw)))
      (rowCol x0 x1 r k) := by
  intro x hx
  have h0 : r.val = o + (x 0).val := hx 0
  have h1 : k.val = 0 + (x 1).val := hx 1
  rw [show x = ix2 (x 0) (x 1) from eq_ix2 x]
  refine (pay_at _ _ (x 0) (x 1)).trans ?_
  unfold rowCol
  refine Finset.sum_congr rfl fun q _ => congr (congrArg HMul.hMul ?_) ?_
  · refine congrArg x0 (funext fun a => Fin.ext ?_)
    match a with
    | ⟨0, _⟩ => show o + 1 * (x 0).val = r.val; omega
    | ⟨1, _⟩ => show 0 + 1 * q.val = q.val; omega
  · refine congrArg x1 (funext fun a => Fin.ext ?_)
    match a with
    | ⟨0, _⟩ => show 0 + 1 * q.val = q.val; omega
    | ⟨1, _⟩ => show 0 + 1 * (x 1).val = k.val; omega

theorem out_at (x0 : S1024x2048.Idx → EReal) (x1 : S2048x1024.Idx → EReal) (r : Fin 1024) (k : Fin 1024) :
    out0_2 (F := Ideal) x0 x1 (ix2 r k) = rowCol x0 x1 r k := by
  unfold out0_2
  refine View.canon_eq_of_allAt _ _ _ (cover0_2 _ _ _ _ _) ?_
  refine View.allAt_cons_unit _ _ _ _ _ (piece_at x0 x1 768 _ _ r k) ?_
  refine View.allAt_cons_unit _ _ _ _ _ (piece_at x0 x1 512 _ _ r k) ?_
  refine View.allAt_cons_unit _ _ _ _ _ (piece_at x0 x1 256 _ _ r k) ?_
  exact View.allAt_cons_unit _ _ _ _ _ (piece_at x0 x1 0 _ _ r k) (View.allAt_nil _ _)

/-! ## The blocks a point fetches -/

variable (m : (ℓ : Loc nD τ sig) → Buf (Elt Ideal) ℓ) (c : Dev nD) (t : Fin cfg0.N)

theorem lt_32 : t.val < 32 := t.isLt

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![t.val, 0] :=
  (by decide +kernel : ∀ t : Fin grid0.N, win0_2.index t = ![t.val, 0])

abbrev H0 : S32768x2048.Idx → EReal := m ((c : Thread nD τ).loc main_arg0)
abbrev W1 : S2048x10248.Idx → EReal := m ((c : Thread nD τ).loc main_arg1)

theorem V_main_v1 : (V m c main_v1 : S2048x1024.Idx → EReal)
    = extractStridedSlice S2048x1024 ![0, 5120] (truncf (F := Ideal) .bf16 (m ((c : Thread nD τ).loc main_arg1) : FVec Ideal S2048x10248 .f32) bitsLt_bf16_f32) slices_S2048x10248_S2048x1024_0_5120 := by
  unfold V
  after_results

theorem blk0_at (r : Fin 1024) (q : Fin 2048) :
    (iblk m c 0 t : S1024x2048.Idx → EReal) (ix2 r q) = H0 m c (ix2 (⟨1024 * t.val + r.val, by have := lt_32 t; omega⟩ : Fin 32768) q) := by
  refine (show _ = V m c main_arg0 (((cfg0.win 0).blk t).view.emb (ix2 r q)) from rfl).trans ?_
  rw [V_main_arg0]
  refine congrArg (H0 m c) (funext fun a => Fin.ext ?_)
  match a with
  | ⟨0, hk⟩ => exact (show _ = (cfg0.win 0).index t ⟨0, hk⟩ * 1024 + 1 * r.val from rfl).trans ((congrArg (fun z => z * 1024 + 1 * r.val) (congrFun (index0 t) ⟨0, hk⟩)).trans (by show t.val * 1024 + 1 * r.val = 1024 * t.val + r.val; omega))
  | ⟨1, hk⟩ => exact (show _ = (cfg0.win 0).index t ⟨1, hk⟩ * 2048 + 1 * q.val from rfl).trans ((congrArg (fun z => z * 2048 + 1 * q.val) (congrFun (index0 t) ⟨1, hk⟩)).trans (by show 0 * 2048 + 1 * q.val = q.val; omega))

theorem blk1_at (q : Fin 2048) (k : Fin 1024) :
    (iblk m c 1 t : S2048x1024.Idx → EReal) (ix2 q k) = W1 m c (ix2 q (⟨5120 + k.val, by omega⟩ : Fin 10248)) := by
  refine (show _ = (V m c main_v1 : S2048x1024.Idx → EReal) (((cfg0.win 1).blk t).view.emb (ix2 q k)) from rfl).trans ?_
  have he : ((cfg0.win 1).blk t).view.emb (ix2 q k) = (ix2 q k : S2048x1024.Idx) := funext fun a => Fin.ext (by
    match a with
    | ⟨0, hk⟩ => exact (show _ = (cfg0.win 1).index t ⟨0, hk⟩ * 2048 + 1 * q.val from rfl).trans ((congrArg (fun z => z * 2048 + 1 * q.val) (congrFun (index1 t) ⟨0, hk⟩)).trans (by show 0 * 2048 + 1 * q.val = q.val; omega))
    | ⟨1, hk⟩ => exact (show _ = (cfg0.win 1).index t ⟨1, hk⟩ * 1024 + 1 * k.val from rfl).trans ((congrArg (fun z => z * 1024 + 1 * k.val) (congrFun (index1 t) ⟨1, hk⟩)).trans (by show 0 * 1024 + 1 * k.val = k.val; omega)))
  refine (congrArg (V m c main_v1 : S2048x1024.Idx → EReal) he).trans ?_
  rw [V_main_v1]
  refine (extractStridedSlice_apply ![0, 5120] _ slices_S2048x10248_S2048x1024_0_5120 (ix2 q k) (ix2 q (⟨5120 + k.val, by omega⟩ : Fin 10248)) (fun a => ?_)).trans rfl
  match a with
  | ⟨0, _⟩ => show q.val = 0 + q.val; omega
  | ⟨1, _⟩ => show 5120 + k.val = 5120 + k.val; rfl

/-! ## The result -/

/-- The reference's value. -/
def refOf : S32768x1024.Idx → EReal := Cert.Reference4Ideal.Read.val_main_v2 (F := Ideal) (H0 m c) (W1 m c)

theorem ref_at (i : Fin 32768) (k : Fin 1024) :
    refOf m c (ix2 i k) = ∑ q : Fin 2048, H0 m c (ix2 i q) * W1 m c (ix2 q (⟨5120 + k.val, by omega⟩ : Fin 10248)) := by
  unfold refOf
  rw [Cert.Reference4Ideal.Read.val_main_v2_apply, Cert.Reference4Ideal.Read.val_main_v1_apply]
  refine Finset.sum_congr rfl fun q _ => congr (congrArg HMul.hMul ?_) ?_
  · refine (show _ = H0 m c _ from rfl).trans (congrArg (H0 m c) (funext fun a => Fin.ext ?_))
    match a with
    | ⟨0, _⟩ => rfl
    | ⟨1, _⟩ => rfl
  · refine congrArg (W1 m c) (funext fun a => Fin.ext ?_)
    match a with
    | ⟨0, _⟩ => rfl
    | ⟨1, _⟩ => rfl

theorem block_at (r : Fin 1024) (k : Fin 1024) :
    out0_2 (F := Ideal) (iblk m c 0 t) (iblk m c 1 t) (ix2 r k)
      = refOf m c (ix2 (⟨1024 * t.val + r.val, by have := lt_32 t; omega⟩ : Fin 32768) k) := by
  refine (out_at _ _ r k).trans (Eq.trans ?_ (ref_at m c _ k).symm)
  unfold rowCol
  exact Finset.sum_congr rfl fun q _ => congr (congrArg HMul.hMul (blk0_at m c t r q)) (blk1_at m c t q k)

/-- What a written block holds is the reference's value at the places it goes to. -/
theorem after_at (y : S1024x1024.Idx) :
    (dats m 0 c).after 2 t y = refOf m c (((cfg0.win 2).blk t).view.emb y) := by
  rw [after0_2]
  have hy : y = ix2 (y 0) (y 1) := eq_ix2 y
  refine (congrArg (out0_2 (F := Ideal) (iblk m c 0 t) (iblk m c 1 t)) hy).trans ((block_at m c t (y 0) (y 1)).trans ?_)
  refine congrArg (refOf m c) (funext fun a => Fin.ext ?_)
  match a with
  | ⟨0, hk⟩ => exact ((show _ = (cfg0.win 2).index t ⟨0, hk⟩ * 1024 + 1 * (y 0).val from rfl).trans ((congrArg (fun z => z * 1024 + 1 * (y 0).val) (congrFun (index2 t) ⟨0, hk⟩)).trans (by show t.val * 1024 + 1 * (y 0).val = 1024 * t.val + (y 0).val; omega))).symm
  | ⟨1, hk⟩ => exact ((show _ = (cfg0.win 2).index t ⟨1, hk⟩ * 1024 + 1 * (y 1).val from rfl).trans ((congrArg (fun z => z * 1024 + 1 * (y 1).val) (congrFun (index2 t) ⟨1, hk⟩)).trans (by show 0 * 1024 + 1 * (y 1).val = (y 1).val; omega))).symm

/-- Every place of the result lies in a block. -/
theorem cover (i : S32768x1024.Idx) : ∃ t, (cfg0.win 2).flush t = true ∧ i ∈ ((cfg0.win 2).blk t).view.set := by
  have h0 : (i 0).val < 32768 := (i 0).isLt
  have h1 : (i 1).val < 1024 := (i 1).isLt
  have hN : (i 0).val / 1024 < cfg0.N := (show (i 0).val / 1024 < 32 by omega)
  refine ⟨⟨(i 0).val / 1024, hN⟩, flush0_2 _, ?_⟩
  refine (Window.emb_mem_blk_iff (cfg0.win 2) _ i rfl).2 fun a => ?_
  have hi := congrFun (index2 ⟨(i 0).val / 1024, hN⟩) a
  rw [hi]
  match a with
  | ⟨0, hk⟩ => show (i 0).val / 1024 * 1024 ≤ (i 0).val ∧ (i 0).val < (i 0).val / 1024 * 1024 + 1024; omega
  | ⟨1, hk⟩ => show 0 * 1024 ≤ (i 1).val ∧ (i 1).val < 0 * 1024 + 1024; omega

/-- The result is the reference's. -/
theorem result_eq : (dats m 0 c).arrAt 2 cfg0.N = refOf m c :=
  (dats m 0 c).arrAt_eq_of_emb 2 (refOf m c) (fun t _ y => after_at m c t y) (fun i => cover i)

end Cert.Kernel4Ideal.Hand

end
-- ==== Proof.ProjValue5.lean ====
/-
  The projection of the first attention's values, for the samples: what the run leaves in the result, place by place, is the reference's.
-/
module

public import proofs.«01_k».proof.Proof.Gen.Kernel5Ideal.Value
public import proofs.«01_k».proof.Proof.Gen.Reference5Ideal.Read
public import Idealize.ShloMosaic.PureOps.Ideal
public import Idealize.ShloMosaic.PureOps.Ideal.Laws
public import Idealize.ShloMosaic.Lib.MatmulPlain
public import Idealize.ShloMosaic.Lib.ValueIdx
public import Idealize.ShloMosaic.Lib.Pointwise
public import Idealize.ShloMosaic.Lib.Pipeline.ValueKit

@[expose] public section

noncomputable section

namespace Cert.Kernel5Ideal.Hand

open Cert.Kernel5Ideal Cert.Kernel5Ideal.Gen
open Idealize.ShloMosaic hiding ix1 ix2 ix3 eq_ix2 eq_ix3
open Idealize.ShloMosaic.TcCoe Idealize.SL.Sem
open Idealize.ShloMosaic.ValueIdx (ix2 ix3 eq_ix2 eq_ix3)
open Idealize.ShloMosaic.Pipeline (Dat Cfg Window)
open scoped BigOperators

/-! ## One block's arithmetic -/

/-- A row of the left times a column of the right. -/
def rowCol {M N : Nat} (x : (⟨2, ![M, 2048]⟩ : Shape).Idx → EReal) (w : (⟨2, ![2048, N]⟩ : Shape).Idx → EReal) (r : Fin M) (k : Fin N) : EReal :=
  ∑ q : Fin 2048, x (ix2 r q) * w (ix2 q k)

theorem zero_bits : Ideal.ofBits .f32 0x00000000#32 = 0 := Ideal.ofBits_zero_f32

theorem pay_at (x : S256x2048.Idx → EReal) (w : S2048x1024.Idx → EReal) (r : Fin 256) (k : Fin 1024) :
    k0_pay1 (F := Ideal) x w (ix2 r k) = rowCol x w r k := by
  unfold k0_pay1 rowCol
  rw [shapeCast_self]
  refine (Ideal.matmul_plain_apply (M := 256) (K := 2048) (N := 1024) none x w _ r k).trans ?_
  rw [show (constant (F := Ideal) S256x1024 .f32 0x00000000#32) (ix2 r k) = 0 from zero_bits, zero_add]

/-- One of the four pieces of a block, where it holds a place, is that place's row times its column. -/
theorem piece_at (x0 : S1024x2048.Idx → EReal) (x1 : S2048x1024.Idx → EReal) (o : Nat) (hi hw)
    (r : Fin 1024) (k : Fin 1024) :
    View.TileAt (Val := Elt Ideal) (e := .f32) (S := S1024x1024) (ix2 r k) ![o, 0] S256x1024.size
      (k0_pay1 (F := Ideal) (View.ld (Val := Elt Ideal) (e' := .bf16) x0 (Rect.unit (s := S1024x2048) ![o, 0] S256x2048.size hi))
        (View.ld (Val := Elt Ideal) (e' := .bf16) x1 (Rect.unit (s := S2048x1024) ![0, 0] S2048x1024.size hw)))
      (rowCol x0 x1 r k) := by
  intro x hx
  have h0 : r.val = o + (x 0).val := hx 0
  have h1 : k.val = 0 + (x 1).val := hx 1
  rw [show x = ix2 (x 0) (x 1) from eq_ix2 x]
  refine (pay_at _ _ (x 0) (x 1)).trans ?_
  unfold rowCol
  refine Finset.sum_congr rfl fun q _ => congr (congrArg HMul.hMul ?_) ?_
  · refine congrArg x0 (funext fun a => Fin.ext ?_)
    match a with
    | ⟨0, _⟩ => show o + 1 * (x 0).val = r.val; omega
    | ⟨1, _⟩ => show 0 + 1 * q.val = q.val; omega
  · refine congrArg x1 (funext fun a => Fin.ext ?_)
    match a with
    | ⟨0, _⟩ => show 0 + 1 * q.val = q.val; omega
    | ⟨1, _⟩ => show 0 + 1 * (x 1).val = k.val; omega

theorem out_at (x0 : S1024x2048.Idx → EReal) (x1 : S2048x1024.Idx → EReal) (r : Fin 1024) (k : Fin 1024) :
    out0_2 (F := Ideal) x0 x1 (ix2 r k) = rowCol x0 x1 r k := by
  unfold out0_2
  refine View.canon_eq_of_allAt _ _ _ (cover0_2 _ _ _ _ _) ?_
  refine View.allAt_cons_unit _ _ _ _ _ (piece_at x0 x1 768 _ _ r k) ?_
  refine View.allAt_cons_unit _ _ _ _ _ (piece_at x0 x1 512 _ _ r k) ?_
  refine View.allAt_cons_unit _ _ _ _ _ (piece_at x0 x1 256 _ _ r k) ?_
  exact View.allAt_cons_unit _ _ _ _ _ (piece_at x0 x1 0 _ _ r k) (View.allAt_nil _ _)

/-! ## The blocks a point fetches -/

variable (m : (ℓ : Loc nD τ sig) → Buf (Elt Ideal) ℓ) (c : Dev nD) (t : Fin cfg0.N)

theorem lt_2 : t.val < 2 := t.isLt

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![t.val, 0] :=
  (by decide +kernel : ∀ t : Fin grid0.N, win0_2.index t = ![t.val, 0])

abbrev H0 : S2048x2048.Idx → EReal := m ((c : Thread nD τ).loc main_arg0)
abbrev W1 : S2048x10248.Idx → EReal := m ((c : Thread nD τ).loc main_arg1)

theorem V_main_v1 : (V m c main_v1 : S2048x1024.Idx → EReal)
    = extractStridedSlice S2048x1024 ![0, 2048] (truncf (F := Ideal) .bf16 (m ((c : Thread nD τ).loc main_arg1) : FVec Ideal S2048x10248 .f32) bitsLt_bf16_f32) slices_S2048x10248_S2048x1024_0_2048 := by
  unfold V
  after_results

theorem blk0_at (r : Fin 1024) (q : Fin 2048) :
    (iblk m c 0 t : S1024x2048.Idx → EReal) (ix2 r q) = H0 m c (ix2 (⟨1024 * t.val + r.val, by have := lt_2 t; omega⟩ : Fin 2048) q) := by
  refine (show _ = V m c main_arg0 (((cfg0.win 0).blk t).view.emb (ix2 r q)) from rfl).trans ?_
  rw [V_main_arg0]
  refine congrArg (H0 m c) (funext fun a => Fin.ext ?_)
  match a with
  | ⟨0, hk⟩ => exact (show _ = (cfg0.win 0).index t ⟨0, hk⟩ * 1024 + 1 * r.val from rfl).trans ((congrArg (fun z => z * 1024 + 1 * r.val) (congrFun (index0 t) ⟨0, hk⟩)).trans (by show t.val * 1024 + 1 * r.val = 1024 * t.val + r.val; omega))
  | ⟨1, hk⟩ => exact (show _ = (cfg0.win 0).index t ⟨1, hk⟩ * 2048 + 1 * q.val from rfl).trans ((congrArg (fun z => z * 2048 + 1 * q.val) (congrFun (index0 t) ⟨1, hk⟩)).trans (by show 0 * 2048 + 1 * q.val = q.val; omega))

theorem blk1_at (q : Fin 2048) (k : Fin 1024) :
    (iblk m c 1 t : S2048x1024.Idx → EReal) (ix2 q k) = W1 m c (ix2 q (⟨2048 + k.val, by omega⟩ : Fin 10248)) := by
  refine (show _ = (V m c main_v1 : S2048x1024.Idx → EReal) (((cfg0.win 1).blk t).view.emb (ix2 q k)) from rfl).trans ?_
  have he : ((cfg0.win 1).blk t).view.emb (ix2 q k) = (ix2 q k : S2048x1024.Idx) := funext fun a => Fin.ext (by
    match a with
    | ⟨0, hk⟩ => exact (show _ = (cfg0.win 1).index t ⟨0, hk⟩ * 2048 + 1 * q.val from rfl).trans ((congrArg (fun z => z * 2048 + 1 * q.val) (congrFun (index1 t) ⟨0, hk⟩)).trans (by show 0 * 2048 + 1 * q.val = q.val; omega))
    | ⟨1, hk⟩ => exact (show _ = (cfg0.win 1).index t ⟨1, hk⟩ * 1024 + 1 * k.val from rfl).trans ((congrArg (fun z => z * 1024 + 1 * k.val) (congrFun (index1 t) ⟨1, hk⟩)).trans (by show 0 * 1024 + 1 * k.val = k.val; omega)))
  refine (congrArg (V m c main_v1 : S2048x1024.Idx → EReal) he).trans ?_
  rw [V_main_v1]
  refine (extractStridedSlice_apply ![0, 2048] _ slices_S2048x10248_S2048x1024_0_2048 (ix2 q k) (ix2 q (⟨2048 + k.val, by omega⟩ : Fin 10248)) (fun a => ?_)).trans rfl
  match a with
  | ⟨0, _⟩ => show q.val = 0 + q.val; omega
  | ⟨1, _⟩ => show 2048 + k.val = 2048 + k.val; rfl

/-! ## The result -/

/-- The reference's value. -/
def refOf : S2048x1024.Idx → EReal := Cert.Reference5Ideal.Read.val_main_v2 (F := Ideal) (H0 m c) (W1 m c)

theorem ref_at (i : Fin 2048) (k : Fin 1024) :
    refOf m c (ix2 i k) = ∑ q : Fin 2048, H0 m c (ix2 i q) * W1 m c (ix2 q (⟨2048 + k.val, by omega⟩ : Fin 10248)) := by
  unfold refOf
  rw [Cert.Reference5Ideal.Read.val_main_v2_apply, Cert.Reference5Ideal.Read.val_main_v1_apply]
  refine Finset.sum_congr rfl fun q _ => congr (congrArg HMul.hMul ?_) ?_
  · refine (show _ = H0 m c _ from rfl).trans (congrArg (H0 m c) (funext fun a => Fin.ext ?_))
    match a with
    | ⟨0, _⟩ => rfl
    | ⟨1, _⟩ => rfl
  · refine congrArg (W1 m c) (funext fun a => Fin.ext ?_)
    match a with
    | ⟨0, _⟩ => rfl
    | ⟨1, _⟩ => rfl

theorem block_at (r : Fin 1024) (k : Fin 1024) :
    out0_2 (F := Ideal) (iblk m c 0 t) (iblk m c 1 t) (ix2 r k)
      = refOf m c (ix2 (⟨1024 * t.val + r.val, by have := lt_2 t; omega⟩ : Fin 2048) k) := by
  refine (out_at _ _ r k).trans (Eq.trans ?_ (ref_at m c _ k).symm)
  unfold rowCol
  exact Finset.sum_congr rfl fun q _ => congr (congrArg HMul.hMul (blk0_at m c t r q)) (blk1_at m c t q k)

/-- What a written block holds is the reference's value at the places it goes to. -/
theorem after_at (y : S1024x1024.Idx) :
    (dats m 0 c).after 2 t y = refOf m c (((cfg0.win 2).blk t).view.emb y) := by
  rw [after0_2]
  have hy : y = ix2 (y 0) (y 1) := eq_ix2 y
  refine (congrArg (out0_2 (F := Ideal) (iblk m c 0 t) (iblk m c 1 t)) hy).trans ((block_at m c t (y 0) (y 1)).trans ?_)
  refine congrArg (refOf m c) (funext fun a => Fin.ext ?_)
  match a with
  | ⟨0, hk⟩ => exact ((show _ = (cfg0.win 2).index t ⟨0, hk⟩ * 1024 + 1 * (y 0).val from rfl).trans ((congrArg (fun z => z * 1024 + 1 * (y 0).val) (congrFun (index2 t) ⟨0, hk⟩)).trans (by show t.val * 1024 + 1 * (y 0).val = 1024 * t.val + (y 0).val; omega))).symm
  | ⟨1, hk⟩ => exact ((show _ = (cfg0.win 2).index t ⟨1, hk⟩ * 1024 + 1 * (y 1).val from rfl).trans ((congrArg (fun z => z * 1024 + 1 * (y 1).val) (congrFun (index2 t) ⟨1, hk⟩)).trans (by show 0 * 1024 + 1 * (y 1).val = (y 1).val; omega))).symm

/-- Every place of the result lies in a block. -/
theorem cover (i : S2048x1024.Idx) : ∃ t, (cfg0.win 2).flush t = true ∧ i ∈ ((cfg0.win 2).blk t).view.set := by
  have h0 : (i 0).val < 2048 := (i 0).isLt
  have h1 : (i 1).val < 1024 := (i 1).isLt
  have hN : (i 0).val / 1024 < cfg0.N := (show (i 0).val / 1024 < 2 by omega)
  refine ⟨⟨(i 0).val / 1024, hN⟩, flush0_2 _, ?_⟩
  refine (Window.emb_mem_blk_iff (cfg0.win 2) _ i rfl).2 fun a => ?_
  have hi := congrFun (index2 ⟨(i 0).val / 1024, hN⟩) a
  rw [hi]
  match a with
  | ⟨0, hk⟩ => show (i 0).val / 1024 * 1024 ≤ (i 0).val ∧ (i 0).val < (i 0).val / 1024 * 1024 + 1024; omega
  | ⟨1, hk⟩ => show 0 * 1024 ≤ (i 1).val ∧ (i 1).val < 0 * 1024 + 1024; omega

/-- The result is the reference's. -/
theorem result_eq : (dats m 0 c).arrAt 2 cfg0.N = refOf m c :=
  (dats m 0 c).arrAt_eq_of_emb 2 (refOf m c) (fun t _ y => after_at m c t y) (fun i => cover i)

end Cert.Kernel5Ideal.Hand

end
-- ==== Proof.ProjValue6.lean ====
/-
  The projection of the second attention's values, for the samples: what the run leaves in the result, place by place, is the reference's.
-/
module

public import proofs.«01_k».proof.Proof.Gen.Kernel6Ideal.Value
public import proofs.«01_k».proof.Proof.Gen.Reference6Ideal.Read
public import Idealize.ShloMosaic.PureOps.Ideal
public import Idealize.ShloMosaic.PureOps.Ideal.Laws
public import Idealize.ShloMosaic.Lib.MatmulPlain
public import Idealize.ShloMosaic.Lib.ValueIdx
public import Idealize.ShloMosaic.Lib.Pointwise
public import Idealize.ShloMosaic.Lib.Pipeline.ValueKit

@[expose] public section

noncomputable section

namespace Cert.Kernel6Ideal.Hand

open Cert.Kernel6Ideal Cert.Kernel6Ideal.Gen
open Idealize.ShloMosaic hiding ix1 ix2 ix3 eq_ix2 eq_ix3
open Idealize.ShloMosaic.TcCoe Idealize.SL.Sem
open Idealize.ShloMosaic.ValueIdx (ix2 ix3 eq_ix2 eq_ix3)
open Idealize.ShloMosaic.Pipeline (Dat Cfg Window)
open scoped BigOperators

/-! ## One block's arithmetic -/

/-- A row of the left times a column of the right. -/
def rowCol {M N : Nat} (x : (⟨2, ![M, 2048]⟩ : Shape).Idx → EReal) (w : (⟨2, ![2048, N]⟩ : Shape).Idx → EReal) (r : Fin M) (k : Fin N) : EReal :=
  ∑ q : Fin 2048, x (ix2 r q) * w (ix2 q k)

theorem zero_bits : Ideal.ofBits .f32 0x00000000#32 = 0 := Ideal.ofBits_zero_f32

theorem pay_at (x : S256x2048.Idx → EReal) (w : S2048x1024.Idx → EReal) (r : Fin 256) (k : Fin 1024) :
    k0_pay1 (F := Ideal) x w (ix2 r k) = rowCol x w r k := by
  unfold k0_pay1 rowCol
  rw [shapeCast_self]
  refine (Ideal.matmul_plain_apply (M := 256) (K := 2048) (N := 1024) none x w _ r k).trans ?_
  rw [show (constant (F := Ideal) S256x1024 .f32 0x00000000#32) (ix2 r k) = 0 from zero_bits, zero_add]

/-- One of the four pieces of a block, where it holds a place, is that place's row times its column. -/
theorem piece_at (x0 : S1024x2048.Idx → EReal) (x1 : S2048x1024.Idx → EReal) (o : Nat) (hi hw)
    (r : Fin 1024) (k : Fin 1024) :
    View.TileAt (Val := Elt Ideal) (e := .f32) (S := S1024x1024) (ix2 r k) ![o, 0] S256x1024.size
      (k0_pay1 (F := Ideal) (View.ld (Val := Elt Ideal) (e' := .bf16) x0 (Rect.unit (s := S1024x2048) ![o, 0] S256x2048.size hi))
        (View.ld (Val := Elt Ideal) (e' := .bf16) x1 (Rect.unit (s := S2048x1024) ![0, 0] S2048x1024.size hw)))
      (rowCol x0 x1 r k) := by
  intro x hx
  have h0 : r.val = o + (x 0).val := hx 0
  have h1 : k.val = 0 + (x 1).val := hx 1
  rw [show x = ix2 (x 0) (x 1) from eq_ix2 x]
  refine (pay_at _ _ (x 0) (x 1)).trans ?_
  unfold rowCol
  refine Finset.sum_congr rfl fun q _ => congr (congrArg HMul.hMul ?_) ?_
  · refine congrArg x0 (funext fun a => Fin.ext ?_)
    match a with
    | ⟨0, _⟩ => show o + 1 * (x 0).val = r.val; omega
    | ⟨1, _⟩ => show 0 + 1 * q.val = q.val; omega
  · refine congrArg x1 (funext fun a => Fin.ext ?_)
    match a with
    | ⟨0, _⟩ => show 0 + 1 * q.val = q.val; omega
    | ⟨1, _⟩ => show 0 + 1 * (x 1).val = k.val; omega

theorem out_at (x0 : S1024x2048.Idx → EReal) (x1 : S2048x1024.Idx → EReal) (r : Fin 1024) (k : Fin 1024) :
    out0_2 (F := Ideal) x0 x1 (ix2 r k) = rowCol x0 x1 r k := by
  unfold out0_2
  refine View.canon_eq_of_allAt _ _ _ (cover0_2 _ _ _ _ _) ?_
  refine View.allAt_cons_unit _ _ _ _ _ (piece_at x0 x1 768 _ _ r k) ?_
  refine View.allAt_cons_unit _ _ _ _ _ (piece_at x0 x1 512 _ _ r k) ?_
  refine View.allAt_cons_unit _ _ _ _ _ (piece_at x0 x1 256 _ _ r k) ?_
  exact View.allAt_cons_unit _ _ _ _ _ (piece_at x0 x1 0 _ _ r k) (View.allAt_nil _ _)

/-! ## The blocks a point fetches -/

variable (m : (ℓ : Loc nD τ sig) → Buf (Elt Ideal) ℓ) (c : Dev nD) (t : Fin cfg0.N)

theorem lt_2 : t.val < 2 := t.isLt

theorem index0 : ∀ t : Fin cfg0.N, (cfg0.win 0).index t = ![t.val, 0] :=
  (by decide +kernel : ∀ t : Fin grid0.N, win0_0.index t = ![t.val, 0])
theorem index1 : ∀ t : Fin cfg0.N, (cfg0.win 1).index t = ![0, 0] :=
  (by decide +kernel : ∀ t : Fin grid0.N, win0_1.index t = ![0, 0])
theorem index2 : ∀ t : Fin cfg0.N, (cfg0.win 2).index t = ![t.val, 0] :=
  (by decide +kernel : ∀ t : Fin grid0.N, win0_2.index t = ![t.val, 0])

abbrev H0 : S2048x2048.Idx → EReal := m ((c : Thread nD τ).loc main_arg0)
abbrev W1 : S2048x10248.Idx → EReal := m ((c : Thread nD τ).loc main_arg1)

theorem V_main_v1 : (V m c main_v1 : S2048x1024.Idx → EReal)
    = extractStridedSlice S2048x1024 ![0, 5120] (truncf (F := Ideal) .bf16 (m ((c : Thread nD τ).loc main_arg1) : FVec Ideal S2048x10248 .f32) bitsLt_bf16_f32) slices_S2048x10248_S2048x1024_0_5120 := by
  unfold V
  after_results

theorem blk0_at (r : Fin 1024) (q : Fin 2048) :
    (iblk m c 0 t : S1024x2048.Idx → EReal) (ix2 r q) = H0 m c (ix2 (⟨1024 * t.val + r.val, by have := lt_2 t; omega⟩ : Fin 2048) q) := by
  refine (show _ = V m c main_arg0 (((cfg0.win 0).blk t).view.emb (ix2 r q)) from rfl).trans ?_
  rw [V_main_arg0]
  refine congrArg (H0 m c) (funext fun a => Fin.ext ?_)
  match a with
  | ⟨0, hk⟩ => exact (show _ = (cfg0.win 0).index t ⟨0, hk⟩ * 1024 + 1 * r.val from rfl).trans ((congrArg (fun z => z * 1024 + 1 * r.val) (congrFun (index0 t) ⟨0, hk⟩)).trans (by show t.val * 1024 + 1 * r.val = 1024 * t.val + r.val; omega))
  | ⟨1, hk⟩ => exact (show _ = (cfg0.win 0).index t ⟨1, hk⟩ * 2048 + 1 * q.val from rfl).trans ((congrArg (fun z => z * 2048 + 1 * q.val) (congrFun (index0 t) ⟨1, hk⟩)).trans (by show 0 * 2048 + 1 * q.val = q.val; omega))

theorem blk1_at (q : Fin 2048) (k : Fin 1024) :
    (iblk m c 1 t : S2048x1024.Idx → EReal) (ix2 q k) = W1 m c (ix2 q (⟨5120 + k.val, by omega⟩ : Fin 10248)) := by
  refine (show _ = (V m c main_v1 : S2048x1024.Idx → EReal) (((cfg0.win 1).blk t).view.emb (ix2 q k)) from rfl).trans ?_
  have he : ((cfg0.win 1).blk t).view.emb (ix2 q k) = (ix2 q k : S2048x1024.Idx) := funext fun a => Fin.ext (by
    match a with
    | ⟨0, hk⟩ => exact (show _ = (cfg0.win 1).index t ⟨0, hk⟩ * 2048 + 1 * q.val from rfl).trans ((congrArg (fun z => z * 2048 + 1 * q.val) (congrFun (index1 t) ⟨0, hk⟩)).trans (by show 0 * 2048 + 1 * q.val = q.val; omega))
    | ⟨1, hk⟩ => exact (show _ = (cfg0.win 1).index t ⟨1, hk⟩ * 1024 + 1 * k.val from rfl).trans ((congrArg (fun z => z * 1024 + 1 * k.val) (congrFun (index1 t) ⟨1, hk⟩)).trans (by show 0 * 1024 + 1 * k.val = k.val; omega)))
  refine (congrArg (V m c main_v1 : S2048x1024.Idx → EReal) he).trans ?_
  rw [V_main_v1]
  refine (extractStridedSlice_apply ![0, 5120] _ slices_S2048x10248_S2048x1024_0_5120 (ix2 q k) (ix2 q (⟨5120 + k.val, by omega⟩ : Fin 10248)) (fun a => ?_)).trans rfl
  match a with
  | ⟨0, _⟩ => show q.val = 0 + q.val; omega
  | ⟨1, _⟩ => show 5120 + k.val = 5120 + k.val; rfl

/-! ## The result -/

/-- The reference's value. -/
def refOf : S2048x1024.Idx → EReal := Cert.Reference6Ideal.Read.val_main_v2 (F := Ideal) (H0 m c) (W1 m c)

theorem ref_at (i : Fin 2048) (k : Fin 1024) :
    refOf m c (ix2 i k) = ∑ q : Fin 2048, H0 m c (ix2 i q) * W1 m c (ix2 q (⟨5120 + k.val, by omega⟩ : Fin 10248)) := by
  unfold refOf
  rw [Cert.Reference6Ideal.Read.val_main_v2_apply, Cert.Reference6Ideal.Read.val_main_v1_apply]
  refine Finset.sum_congr rfl fun q _ => congr (congrArg HMul.hMul ?_) ?_
  · refine (show _ = H0 m c _ from rfl).trans (congrArg (H0 m c) (funext fun a => Fin.ext ?_))
    match a with
    | ⟨0, _⟩ => rfl
    | ⟨1, _⟩ => rfl
  · refine congrArg (W1 m c) (funext fun a => Fin.ext ?_)
    match a with
    | ⟨0, _⟩ => rfl
    | ⟨1, _⟩ => rfl

theorem block_at (r : Fin 1024) (k : Fin 1024) :
    out0_2 (F := Ideal) (iblk m c 0 t) (iblk m c 1 t) (ix2 r k)
      = refOf m c (ix2 (⟨1024 * t.val + r.val, by have := lt_2 t; omega⟩ : Fin 2048) k) := by
  refine (out_at _ _ r k).trans (Eq.trans ?_ (ref_at m c _ k).symm)
  unfold rowCol
  exact Finset.sum_congr rfl fun q _ => congr (congrArg HMul.hMul (blk0_at m c t r q)) (blk1_at m c t q k)

/-- What a written block holds is the reference's value at the places it goes to. -/
theorem after_at (y : S1024x1024.Idx) :
    (dats m 0 c).after 2 t y = refOf m c (((cfg0.win 2).blk t).view.emb y) := by
  rw [after0_2]
  have hy : y = ix2 (y 0) (y 1) := eq_ix2 y
  refine (congrArg (out0_2 (F := Ideal) (iblk m c 0 t) (iblk m c 1 t)) hy).trans ((block_at m c t (y 0) (y 1)).trans ?_)
  refine congrArg (refOf m c) (funext fun a => Fin.ext ?_)
  match a with
  | ⟨0, hk⟩ => exact ((show _ = (cfg0.win 2).index t ⟨0, hk⟩ * 1024 + 1 * (y 0).val from rfl).trans ((congrArg (fun z => z * 1024 + 1 * (y 0).val) (congrFun (index2 t) ⟨0, hk⟩)).trans (by show t.val * 1024 + 1 * (y 0).val = 1024 * t.val + (y 0).val; omega))).symm
  | ⟨1, hk⟩ => exact ((show _ = (cfg0.win 2).index t ⟨1, hk⟩ * 1024 + 1 * (y 1).val from rfl).trans ((congrArg (fun z => z * 1024 + 1 * (y 1).val) (congrFun (index2 t) ⟨1, hk⟩)).trans (by show 0 * 1024 + 1 * (y 1).val = (y 1).val; omega))).symm

/-- Every place of the result lies in a block. -/
theorem cover (i : S2048x1024.Idx) : ∃ t, (cfg0.win 2).flush t = true ∧ i ∈ ((cfg0.win 2).blk t).view.set := by
  have h0 : (i 0).val < 2048 := (i 0).isLt
  have h1 : (i 1).val < 1024 := (i 1).isLt
  have hN : (i 0).val / 1024 < cfg0.N := (show (i 0).val / 1024 < 2 by omega)
  refine ⟨⟨(i 0).val / 1024, hN⟩, flush0_2 _, ?_⟩
  refine (Window.emb_mem_blk_iff (cfg0.win 2) _ i rfl).2 fun a => ?_
  have hi := congrFun (index2 ⟨(i 0).val / 1024, hN⟩) a
  rw [hi]
  match a with
  | ⟨0, hk⟩ => show (i 0).val / 1024 * 1024 ≤ (i 0).val ∧ (i 0).val < (i 0).val / 1024 * 1024 + 1024; omega
  | ⟨1, hk⟩ => show 0 * 1024 ≤ (i 1).val ∧ (i 1).val < 0 * 1024 + 1024; omega

/-- The result is the reference's. -/
theorem result_eq : (dats m 0 c).arrAt 2 cfg0.N = refOf m c :=
  (dats m 0 c).arrAt_eq_of_emb 2 (refOf m c) (fun t _ y => after_at m c t y) (fun i => cover i)

end Cert.Kernel6Ideal.Hand

end
-- ==== Proof.lean ====
/-
  The claims, for each of the calls: the frames from the launch, the reference's from its run, and the equality of the
  two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_laid_out
public import proofs.«01_k».proof.Proof.Gen.Kernel2
public import proofs.«01_k».proof.Proof.Gen.Kernel2Ideal
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_blocks_named
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Run
public import proofs.«01_k».proof.Proof.Laid
public import proofs.«01_k».proof.Proof.Value
public import proofs.«01_k».proof.Proof.Same
public import proofs.«01_k».proof.Proof.FfnSame
public import proofs.«01_k».proof.Proof.FfnLaunch
public import proofs.«01_k».proof.Proof.FfnValue
public import proofs.«01_k».proof.Proof.ProjValue
public import proofs.«01_k».proof.Proof.ProjValue4
public import proofs.«01_k».proof.Proof.ProjValue5
public import proofs.«01_k».proof.Proof.ProjValue6
public import Idealize.ShloMosaic.Lib.Claim

@[expose] public section

noncomputable section

namespace Cert.Proof

open Idealize.ShloMosaic Idealize.ShloMosaic.TcCoe Idealize.SL.Sem
open Cert.KernelIdeal.Hand (Good Covered fillOf destOf)
open Cert.Kernel2Ideal.Hand (Named pfm)

/-- The precondition, read at the ideal values. -/
theorem laid (m : (ℓ : Loc Cert.KernelIdeal.nD Cert.KernelIdeal.τ Cert.KernelIdeal.sig) → Buf (Elt Ideal) ℓ) (h : Cert.Pre_KernelIdeal m)
    (c : Dev Cert.KernelIdeal.nD) : Good (fillOf m c) (destOf m c) ∧ Covered (fillOf m c) (destOf m c) :=
  Cert.KernelIdeal.Hand.laid_out (h c)

theorem frame_ideal : Cert.quiescent_KernelIdeal := fun m ρ h =>
  (θ_run Cert.KernelIdeal.defs _ _).mono (fun _ q => ⟨fun c => (q.1 c).2, q.2⟩)
    (Cert.KernelIdeal.Hand.run_main (F := Ideal) m ρ fun c => (laid m h c).1)

theorem laid_bits (m : (ℓ : Loc Cert.Kernel.nD Cert.Kernel.τ Cert.Kernel.sig) → Buf (Elt Bits) ℓ) (h : Cert.Pre_Kernel m)
    (c : Dev Cert.KernelIdeal.nD) : Good (fillOf (F := Bits) m c) (destOf (F := Bits) m c) :=
  (Cert.KernelIdeal.Hand.laid_out (h c)).1

theorem frame_kernel : Cert.quiescent_Kernel := fun m ρ h =>
  same_defs ▸ (θ_run Cert.KernelIdeal.defs _ _).mono (fun _ q => ⟨fun c => (q.1 c).2, q.2⟩)
    (Cert.KernelIdeal.Hand.run_main (F := Bits) m ρ (laid_bits m h))

theorem frame_reference : Cert.quiescent_ReferenceIdeal := fun m ρ _ =>
  (θ_run Cert.ReferenceIdeal.defs _ _).mono (fun r q => ⟨fun c => (q c).2, sem_eq_zero_of_no_sems (by decide) r.2⟩)
    (Cert.ReferenceIdeal.Value.run (F := Ideal) m ρ)

theorem algebraic : Cert.algebraic_KernelIdeal_ReferenceIdeal := fun m ρ m' ρ' h hag =>
  ⟨fun c => Cert.KernelIdeal.Hand.resultOf m c,
    (θ_run Cert.KernelIdeal.defs _ _).mono (fun _ q c => q.1 c) (Cert.KernelIdeal.Hand.run_main (F := Ideal) m ρ fun c => (laid m h c).1),
    (θ_run Cert.ReferenceIdeal.defs _ _).mono (fun _ q c => ⟨by
      show _ = Cert.KernelIdeal.Hand.resultOf m c
      rw [Cert.KernelIdeal.Hand.result_eq m c (laid m h c).1 (laid m h c).2, ← (hag c).2.1, ← (hag c).2.2.1, ← (hag c).2.2.2.1, ← (hag c).2.2.2.2]
      exact (q c).1.trans (Cert.ReferenceIdeal.Read.val_main_v23_eq ..), (q c).2⟩) (Cert.ReferenceIdeal.Value.run (F := Ideal) m' ρ')⟩

/-! ## The experts -/

/-- The precondition, read at the ideal values. -/
theorem listed (m : (ℓ : Loc Cert.Kernel2Ideal.nD Cert.Kernel2Ideal.τ Cert.Kernel2Ideal.sig) → Buf (Elt Ideal) ℓ) (h : Cert.Pre_Kernel2Ideal m) :
    Named (pfm (F := Ideal) m) := Cert.Kernel2Ideal.Hand.named_of m (Cert.Kernel2Ideal.Hand.listed_of (h 0))

theorem frame_ideal_ffn : Cert.quiescent_Kernel2Ideal := fun m ρ h =>
  (θ_run Cert.Kernel2Ideal.defs _ _).mono (fun _ q => ⟨fun c => (q.1 c).2, q.2⟩)
    (Cert.Kernel2Ideal.Hand.run_main (F := Ideal) m ρ (listed m h))

theorem listed_bits (m : (ℓ : Loc Cert.Kernel2.nD Cert.Kernel2.τ Cert.Kernel2.sig) → Buf (Elt Bits) ℓ) (h : Cert.Pre_Kernel2 m) :
    Named (pfm (F := Bits) m) := Cert.Kernel2Ideal.Hand.named_of (F := Bits) m (Cert.Kernel2Ideal.Hand.listed_of (h 0))

set_option maxHeartbeats 4000000 in
theorem frame_kernel_ffn : Cert.quiescent_Kernel2 := fun m ρ h =>
  same_defs_ffn ▸ (θ_run Cert.Kernel2Ideal.defs _ _).mono (fun _ q => ⟨fun c => (q.1 c).2, q.2⟩)
    (Cert.Kernel2Ideal.Hand.run_main (F := Bits) m ρ (listed_bits m h))

theorem frame_reference_ffn : Cert.quiescent_Reference2Ideal := fun m ρ _ =>
  (θ_run Cert.Reference2Ideal.defs _ _).mono (fun r q => ⟨fun c => (q c).2, sem_eq_zero_of_no_sems (by decide) r.2⟩)
    (Cert.Reference2Ideal.Value.run (F := Ideal) m ρ)

theorem algebraic_ffn : Cert.algebraic_Kernel2Ideal_Reference2Ideal := fun m ρ m' ρ' h hag =>
  have l := Cert.Kernel2Ideal.Hand.listed_of (h 0)
  ⟨fun c => Cert.Kernel2Ideal.Hand.resultOf m (listed m h) c,
    (θ_run Cert.Kernel2Ideal.defs _ _).mono (fun _ q c => q.1 c) (Cert.Kernel2Ideal.Hand.run_main (F := Ideal) m ρ (listed m h)),
    (θ_run Cert.Reference2Ideal.defs _ _).mono (fun _ q c => ⟨by
      obtain rfl : c = 0 := Subsingleton.elim c 0
      refine Eq.trans ?_ (Cert.Kernel2Ideal.Hand.result_eq m l 0).symm
      unfold Cert.Kernel2Ideal.Hand.refOf Cert.Kernel2Ideal.Hand.E0 Cert.Kernel2Ideal.Hand.U1 Cert.Kernel2Ideal.Hand.X2 Cert.Kernel2Ideal.Hand.W3
        Cert.Kernel2Ideal.Hand.B4 Cert.Kernel2Ideal.Hand.D5 Cert.Kernel2Ideal.Hand.C6
      rw [← (hag 0).1, ← (hag 0).2.1, ← (hag 0).2.2.1, ← (hag 0).2.2.2.1, ← (hag 0).2.2.2.2.1, ← (hag 0).2.2.2.2.2.1, ← (hag 0).2.2.2.2.2.2]
      exact (q 0).1.trans (Cert.Reference2Ideal.Read.val_main_v73_eq ..), (q c).2⟩) (Cert.Reference2Ideal.Value.run (F := Ideal) m' ρ')⟩

/-! ## The projection of the values -/

theorem frame_reference_proj : Cert.quiescent_Reference3Ideal := fun m ρ _ =>
  (θ_run Cert.Reference3Ideal.defs _ _).mono (fun r q => ⟨fun c => (q c).2, sem_eq_zero_of_no_sems (by decide) r.2⟩)
    (Cert.Reference3Ideal.Value.run (F := Ideal) m ρ)

theorem algebraic_proj : Cert.algebraic_Kernel3Ideal_Reference3Ideal := fun m ρ m' ρ' _ hag =>
  ⟨fun c => Cert.Kernel3Ideal.Hand.refOf m c,
    (θ_run Cert.Kernel3Ideal.defs _ _).mono (fun _ q c => ⟨(q c).1.trans (Cert.Kernel3Ideal.Hand.result_eq m c), (q c).2.2⟩) (Cert.Kernel3Ideal.Value.run_blocks (F := Ideal) m ρ),
    (θ_run Cert.Reference3Ideal.defs _ _).mono (fun _ q c => ⟨by
      show _ = Cert.Kernel3Ideal.Hand.refOf m c
      unfold Cert.Kernel3Ideal.Hand.refOf Cert.Kernel3Ideal.Hand.H0 Cert.Kernel3Ideal.Hand.W1
      rw [← (hag c).1, ← (hag c).2]
      exact (q c).1.trans (Cert.Reference3Ideal.Read.val_main_v2_eq ..), (q c).2⟩) (Cert.Reference3Ideal.Value.run (F := Ideal) m' ρ')⟩

theorem frame_reference_proj4 : Cert.quiescent_Reference4Ideal := fun m ρ _ =>
  (θ_run Cert.Reference4Ideal.defs _ _).mono (fun r q => ⟨fun c => (q c).2, sem_eq_zero_of_no_sems (by decide) r.2⟩)
    (Cert.Reference4Ideal.Value.run (F := Ideal) m ρ)

theorem algebraic_proj4 : Cert.algebraic_Kernel4Ideal_Reference4Ideal := fun m ρ m' ρ' _ hag =>
  ⟨fun c => Cert.Kernel4Ideal.Hand.refOf m c,
    (θ_run Cert.Kernel4Ideal.defs _ _).mono (fun _ q c => ⟨(q c).1.trans (Cert.Kernel4Ideal.Hand.result_eq m c), (q c).2.2⟩) (Cert.Kernel4Ideal.Value.run_blocks (F := Ideal) m ρ),
    (θ_run Cert.Reference4Ideal.defs _ _).mono (fun _ q c => ⟨by
      show _ = Cert.Kernel4Ideal.Hand.refOf m c
      unfold Cert.Kernel4Ideal.Hand.refOf Cert.Kernel4Ideal.Hand.H0 Cert.Kernel4Ideal.Hand.W1
      rw [← (hag c).1, ← (hag c).2]
      exact (q c).1.trans (Cert.Reference4Ideal.Read.val_main_v2_eq ..), (q c).2⟩) (Cert.Reference4Ideal.Value.run (F := Ideal) m' ρ')⟩

theorem frame_reference_proj5 : Cert.quiescent_Reference5Ideal := fun m ρ _ =>
  (θ_run Cert.Reference5Ideal.defs _ _).mono (fun r q => ⟨fun c => (q c).2, sem_eq_zero_of_no_sems (by decide) r.2⟩)
    (Cert.Reference5Ideal.Value.run (F := Ideal) m ρ)

theorem algebraic_proj5 : Cert.algebraic_Kernel5Ideal_Reference5Ideal := fun m ρ m' ρ' _ hag =>
  ⟨fun c => Cert.Kernel5Ideal.Hand.refOf m c,
    (θ_run Cert.Kernel5Ideal.defs _ _).mono (fun _ q c => ⟨(q c).1.trans (Cert.Kernel5Ideal.Hand.result_eq m c), (q c).2.2⟩) (Cert.Kernel5Ideal.Value.run_blocks (F := Ideal) m ρ),
    (θ_run Cert.Reference5Ideal.defs _ _).mono (fun _ q c => ⟨by
      show _ = Cert.Kernel5Ideal.Hand.refOf m c
      unfold Cert.Kernel5Ideal.Hand.refOf Cert.Kernel5Ideal.Hand.H0 Cert.Kernel5Ideal.Hand.W1
      rw [← (hag c).1, ← (hag c).2]
      exact (q c).1.trans (Cert.Reference5Ideal.Read.val_main_v2_eq ..), (q c).2⟩) (Cert.Reference5Ideal.Value.run (F := Ideal) m' ρ')⟩

theorem frame_reference_proj6 : Cert.quiescent_Reference6Ideal := fun m ρ _ =>
  (θ_run Cert.Reference6Ideal.defs _ _).mono (fun r q => ⟨fun c => (q c).2, sem_eq_zero_of_no_sems (by decide) r.2⟩)
    (Cert.Reference6Ideal.Value.run (F := Ideal) m ρ)

theorem algebraic_proj6 : Cert.algebraic_Kernel6Ideal_Reference6Ideal := fun m ρ m' ρ' _ hag =>
  ⟨fun c => Cert.Kernel6Ideal.Hand.refOf m c,
    (θ_run Cert.Kernel6Ideal.defs _ _).mono (fun _ q c => ⟨(q c).1.trans (Cert.Kernel6Ideal.Hand.result_eq m c), (q c).2.2⟩) (Cert.Kernel6Ideal.Value.run_blocks (F := Ideal) m ρ),
    (θ_run Cert.Reference6Ideal.defs _ _).mono (fun _ q c => ⟨by
      show _ = Cert.Kernel6Ideal.Hand.refOf m c
      unfold Cert.Kernel6Ideal.Hand.refOf Cert.Kernel6Ideal.Hand.H0 Cert.Kernel6Ideal.Hand.W1
      rw [← (hag c).1, ← (hag c).2]
      exact (q c).1.trans (Cert.Reference6Ideal.Read.val_main_v2_eq ..), (q c).2⟩) (Cert.Reference6Ideal.Value.run (F := Ideal) m' ρ')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_rows_laid_out.Gen.facts, Cert.Pre_blocks_named.Gen.facts, frame_kernel, frame_ideal, frame_reference, frame_kernel_ffn, frame_ideal_ffn, frame_reference_ffn,
  fun m ρ _ => Cert.Kernel3.Gen.frame m ρ, fun m ρ _ => Cert.Kernel3Ideal.Gen.frame m ρ, frame_reference_proj,
  fun m ρ _ => Cert.Kernel4.Gen.frame m ρ, fun m ρ _ => Cert.Kernel4Ideal.Gen.frame m ρ, frame_reference_proj4,
  fun m ρ _ => Cert.Kernel5.Gen.frame m ρ, fun m ρ _ => Cert.Kernel5Ideal.Gen.frame m ρ, frame_reference_proj5,
  fun m ρ _ => Cert.Kernel6.Gen.frame m ρ, fun m ρ _ => Cert.Kernel6Ideal.Gen.frame m ρ, frame_reference_proj6,
  trivial, algebraic, trivial, algebraic_ffn, trivial, algebraic_proj,
  trivial, algebraic_proj4, trivial, algebraic_proj5, trivial, algebraic_proj6⟩

end Cert.Proof

end
